-- ==== Defs.lean ====
def Pre_FfnDw (m : (ℓ : Loc Cert.FfnDw.nD Cert.FfnDw.τ Cert.FfnDw.sig) → Buf (Elt Bits) ℓ) : Prop :=
  True

def Pre_FfnDwIdeal (m : (ℓ : Loc Cert.FfnDwIdeal.nD Cert.FfnDwIdeal.τ Cert.FfnDwIdeal.sig) → Buf (Elt Ideal) ℓ) : Prop :=
  True

def Pre_FfnDwRefIdeal (m : (ℓ : Loc Cert.FfnDwRefIdeal.nD Cert.FfnDwRefIdeal.τ Cert.FfnDwRefIdeal.sig) → Buf (Elt Ideal) ℓ) : Prop :=
  True

def Pre_LruBwd (m : (ℓ : Loc Cert.LruBwd.nD Cert.LruBwd.τ Cert.LruBwd.sig) → Buf (Elt Bits) ℓ) : Prop :=
  True

def Pre_LruBwdIdeal (m : (ℓ : Loc Cert.LruBwdIdeal.nD Cert.LruBwdIdeal.τ Cert.LruBwdIdeal.sig) → Buf (Elt Ideal) ℓ) : Prop :=
  True

def Pre_LruBwdIdeal_finite_lru_args [hPre_finite_lru_args : Cert.Pre_finite_lru_args.Facts] (m : (ℓ : Loc Cert.LruBwdIdeal.nD Cert.LruBwdIdeal.τ Cert.LruBwdIdeal.sig) → Buf (Elt Ideal) ℓ) : Prop :=
  ∀ c : Dev Cert.LruBwdIdeal.nD,
    (Cert.Pre_finite_lru_args.fn (F := Ideal) (m ((c.tc : Thread Cert.LruBwdIdeal.nD Cert.LruBwdIdeal.τ).loc Cert.LruBwdIdeal.main_arg0)) (m ((c.tc : Thread Cert.LruBwdIdeal.nD Cert.LruBwdIdeal.τ).loc Cert.LruBwdIdeal.main_arg1)) (m ((c.tc : Thread Cert.LruBwdIdeal.nD Cert.LruBwdIdeal.τ).loc Cert.LruBwdIdeal.main_arg2)) (m ((c.tc : Thread Cert.LruBwdIdeal.nD Cert.LruBwdIdeal.τ).loc Cert.LruBwdIdeal.main_arg3)) (m ((c.tc : Thread Cert.LruBwdIdeal.nD Cert.LruBwdIdeal.τ).loc Cert.LruBwdIdeal.main_arg4)) (m ((c.tc : Thread Cert.LruBwdIdeal.nD Cert.LruBwdIdeal.τ).loc Cert.LruBwdIdeal.main_arg5)) (m ((c.tc : Thread Cert.LruBwdIdeal.nD Cert.LruBwdIdeal.τ).loc Cert.LruBwdIdeal.main_arg6)) (m ((c.tc : Thread Cert.LruBwdIdeal.nD Cert.LruBwdIdeal.τ).loc Cert.LruBwdIdeal.main_arg7)) (m ((c.tc : Thread Cert.LruBwdIdeal.nD Cert.LruBwdIdeal.τ).loc Cert.LruBwdIdeal.main_arg8))) = (fun _ => 1#1)

def Pre_LruBwdRefIdeal (m : (ℓ : Loc Cert.LruBwdRefIdeal.nD Cert.LruBwdRefIdeal.τ Cert.LruBwdRefIdeal.sig) → Buf (Elt Ideal) ℓ) : Prop :=
  True

def Pre_LruBwdRefIdeal_finite_lru_args [hPre_finite_lru_args : Cert.Pre_finite_lru_args.Facts] (m : (ℓ : Loc Cert.LruBwdRefIdeal.nD Cert.LruBwdRefIdeal.τ Cert.LruBwdRefIdeal.sig) → Buf (Elt Ideal) ℓ) : Prop :=
  ∀ c : Dev Cert.LruBwdRefIdeal.nD,
    (Cert.Pre_finite_lru_args.fn (F := Ideal) (m ((c.tc : Thread Cert.LruBwdRefIdeal.nD Cert.LruBwdRefIdeal.τ).loc Cert.LruBwdRefIdeal.main_arg0)) (m ((c.tc : Thread Cert.LruBwdRefIdeal.nD Cert.LruBwdRefIdeal.τ).loc Cert.LruBwdRefIdeal.main_arg1)) (m ((c.tc : Thread Cert.LruBwdRefIdeal.nD Cert.LruBwdRefIdeal.τ).loc Cert.LruBwdRefIdeal.main_arg2)) (m ((c.tc : Thread Cert.LruBwdRefIdeal.nD Cert.LruBwdRefIdeal.τ).loc Cert.LruBwdRefIdeal.main_arg3)) (m ((c.tc : Thread Cert.LruBwdRefIdeal.nD Cert.LruBwdRefIdeal.τ).loc Cert.LruBwdRefIdeal.main_arg4)) (m ((c.tc : Thread Cert.LruBwdRefIdeal.nD Cert.LruBwdRefIdeal.τ).loc Cert.LruBwdRefIdeal.main_arg5)) (m ((c.tc : Thread Cert.LruBwdRefIdeal.nD Cert.LruBwdRefIdeal.τ).loc Cert.LruBwdRefIdeal.main_arg6)) (m ((c.tc : Thread Cert.LruBwdRefIdeal.nD Cert.LruBwdRefIdeal.τ).loc Cert.LruBwdRefIdeal.main_arg7)) (m ((c.tc : Thread Cert.LruBwdRefIdeal.nD Cert.LruBwdRefIdeal.τ).loc Cert.LruBwdRefIdeal.main_arg8))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn [hPre_finite_ffn : Cert.Pre_finite_ffn.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))) = (fun _ => 1#1)

def Pre_FfnDd (m : (ℓ : Loc Cert.FfnDd.nD Cert.FfnDd.τ Cert.FfnDd.sig) → Buf (Elt Bits) ℓ) : Prop :=
  True

def Pre_FfnDdIdeal (m : (ℓ : Loc Cert.FfnDdIdeal.nD Cert.FfnDdIdeal.τ Cert.FfnDdIdeal.sig) → Buf (Elt Ideal) ℓ) : Prop :=
  True

def Pre_FfnDdRefIdeal (m : (ℓ : Loc Cert.FfnDdRefIdeal.nD Cert.FfnDdRefIdeal.τ Cert.FfnDdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwd2 (m : (ℓ : Loc Cert.FfnFwd2.nD Cert.FfnFwd2.τ Cert.FfnFwd2.sig) → Buf (Elt Bits) ℓ) : Prop :=
  True

def Pre_FfnFwd2Ideal (m : (ℓ : Loc Cert.FfnFwd2Ideal.nD Cert.FfnFwd2Ideal.τ Cert.FfnFwd2Ideal.sig) → Buf (Elt Ideal) ℓ) : Prop :=
  True

def Pre_FfnFwd2RefIdeal (m : (ℓ : Loc Cert.FfnFwd2RefIdeal.nD Cert.FfnFwd2RefIdeal.τ Cert.FfnFwd2RefIdeal.sig) → Buf (Elt Ideal) ℓ) : Prop :=
  True

def quiescent_FfnDw [hFfnDw : Cert.FfnDw.Facts] : Prop :=
  ∀ (m : (ℓ : Loc Cert.FfnDw.nD Cert.FfnDw.τ Cert.FfnDw.sig) → Buf (Elt Bits) ℓ) (g : Dev Cert.FfnDw.nD → PrngReg), Pre_FfnDw m →
    θ_run (Cert.FfnDw.defs (F := Bits)) (onTc (τ := Cert.FfnDw.τ) (Cert.FfnDw.main (F := Bits))) ⟨m, fun _ => 0, g⟩ (fun r => (∀ c : Dev Cert.FfnDw.nD,
      r.2.mem ((c.tc : Thread Cert.FfnDw.nD Cert.FfnDw.τ).loc Cert.FfnDw.main_arg0) = m ((c.tc : Thread Cert.FfnDw.nD Cert.FfnDw.τ).loc Cert.FfnDw.main_arg0)
      ∧ r.2.mem ((c.tc : Thread Cert.FfnDw.nD Cert.FfnDw.τ).loc Cert.FfnDw.main_arg1) = m ((c.tc : Thread Cert.FfnDw.nD Cert.FfnDw.τ).loc Cert.FfnDw.main_arg1))
      ∧ r.2.sem = fun _ => 0)

def quiescent_FfnDwIdeal [hFfnDwIdeal : Cert.FfnDwIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg), Pre_FfnDwIdeal m →
    θ_run (Cert.FfnDwIdeal.defs (F := Ideal)) (onTc (τ := Cert.FfnDwIdeal.τ) (Cert.FfnDwIdeal.main (F := Ideal))) ⟨m, fun _ => 0, g⟩ (fun r => (∀ c : Dev Cert.FfnDwIdeal.nD,
      r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
      ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ r.2.sem = fun _ => 0)

def quiescent_FfnDwRefIdeal [hFfnDwRefIdeal : Cert.FfnDwRefIdeal.Facts] : Prop :=
  ∀ (m : (ℓ : Loc Cert.FfnDwRefIdeal.nD Cert.FfnDwRefIdeal.τ Cert.FfnDwRefIdeal.sig) → Buf (Elt Ideal) ℓ) (g : Dev Cert.FfnDwRefIdeal.nD → PrngReg), Pre_FfnDwRefIdeal m →
    θ_run (Cert.FfnDwRefIdeal.defs (F := Ideal)) (onTc (τ := Cert.FfnDwRefIdeal.τ) (Cert.FfnDwRefIdeal.main (F := Ideal))) ⟨m, fun _ => 0, g⟩ (fun r => (∀ c : Dev Cert.FfnDwRefIdeal.nD,
      r.2.mem ((c.tc : Thread Cert.FfnDwRefIdeal.nD Cert.FfnDwRefIdeal.τ).loc Cert.FfnDwRefIdeal.main_arg0) = m ((c.tc : Thread Cert.FfnDwRefIdeal.nD Cert.FfnDwRefIdeal.τ).loc Cert.FfnDwRefIdeal.main_arg0)
      ∧ r.2.mem ((c.tc : Thread Cert.FfnDwRefIdeal.nD Cert.FfnDwRefIdeal.τ).loc Cert.FfnDwRefIdeal.main_arg1) = m ((c.tc : Thread Cert.FfnDwRefIdeal.nD Cert.FfnDwRefIdeal.τ).loc Cert.FfnDwRefIdeal.main_arg1))
      ∧ r.2.sem = fun _ => 0)

def quiescent_LruBwd [hLruBwd : Cert.LruBwd.Facts] : Prop :=
  ∀ (m : (ℓ : Loc Cert.LruBwd.nD Cert.LruBwd.τ Cert.LruBwd.sig) → Buf (Elt Bits) ℓ) (g : Dev Cert.LruBwd.nD → PrngReg), Pre_LruBwd m →
    θ_run (Cert.LruBwd.defs (F := Bits)) (onTc (τ := Cert.LruBwd.τ) (Cert.LruBwd.main (F := Bits))) ⟨m, fun _ => 0, g⟩ (fun r => (∀ c : Dev Cert.LruBwd.nD,
      r.2.mem ((c.tc : Thread Cert.LruBwd.nD Cert.LruBwd.τ).loc Cert.LruBwd.main_arg0) = m ((c.tc : Thread Cert.LruBwd.nD Cert.LruBwd.τ).loc Cert.LruBwd.main_arg0)
      ∧ r.2.mem ((c.tc : Thread Cert.LruBwd.nD Cert.LruBwd.τ).loc Cert.LruBwd.main_arg1) = m ((c.tc : Thread Cert.LruBwd.nD Cert.LruBwd.τ).loc Cert.LruBwd.main_arg1)
      ∧ r.2.mem ((c.tc : Thread Cert.LruBwd.nD Cert.LruBwd.τ).loc Cert.LruBwd.main_arg2) = m ((c.tc : Thread Cert.LruBwd.nD Cert.LruBwd.τ).loc Cert.LruBwd.main_arg2)
      ∧ r.2.mem ((c.tc : Thread Cert.LruBwd.nD Cert.LruBwd.τ).loc Cert.LruBwd.main_arg3) = m ((c.tc : Thread Cert.LruBwd.nD Cert.LruBwd.τ).loc Cert.LruBwd.main_arg3)
      ∧ r.2.mem ((c.tc : Thread Cert.LruBwd.nD Cert.LruBwd.τ).loc Cert.LruBwd.main_arg4) = m ((c.tc : Thread Cert.LruBwd.nD Cert.LruBwd.τ).loc Cert.LruBwd.main_arg4)
      ∧ r.2.mem ((c.tc : Thread Cert.LruBwd.nD Cert.LruBwd.τ).loc Cert.LruBwd.main_arg5) = m ((c.tc : Thread Cert.LruBwd.nD Cert.LruBwd.τ).loc Cert.LruBwd.main_arg5)
      ∧ r.2.mem ((c.tc : Thread Cert.LruBwd.nD Cert.LruBwd.τ).loc Cert.LruBwd.main_arg6) = m ((c.tc : Thread Cert.LruBwd.nD Cert.LruBwd.τ).loc Cert.LruBwd.main_arg6)
      ∧ r.2.mem ((c.tc : Thread Cert.LruBwd.nD Cert.LruBwd.τ).loc Cert.LruBwd.main_arg7) = m ((c.tc : Thread Cert.LruBwd.nD Cert.LruBwd.τ).loc Cert.LruBwd.main_arg7)
      ∧ r.2.mem ((c.tc : Thread Cert.LruBwd.nD Cert.LruBwd.τ).loc Cert.LruBwd.main_arg8) = m ((c.tc : Thread Cert.LruBwd.nD Cert.LruBwd.τ).loc Cert.LruBwd.main_arg8))
      ∧ r.2.sem = fun _ => 0)

def quiescent_LruBwdIdeal [hLruBwdIdeal : Cert.LruBwdIdeal.Facts] : Prop :=
  ∀ (m : (ℓ : Loc Cert.LruBwdIdeal.nD Cert.LruBwdIdeal.τ Cert.LruBwdIdeal.sig) → Buf (Elt Ideal) ℓ) (g : Dev Cert.LruBwdIdeal.nD → PrngReg), Pre_LruBwdIdeal m →
    θ_run (Cert.LruBwdIdeal.defs (F := Ideal)) (onTc (τ := Cert.LruBwdIdeal.τ) (Cert.LruBwdIdeal.main (F := Ideal))) ⟨m, fun _ => 0, g⟩ (fun r => (∀ c : Dev Cert.LruBwdIdeal.nD,
      r.2.mem ((c.tc : Thread Cert.LruBwdIdeal.nD Cert.LruBwdIdeal.τ).loc Cert.LruBwdIdeal.main_arg0) = m ((c.tc : Thread Cert.LruBwdIdeal.nD Cert.LruBwdIdeal.τ).loc Cert.LruBwdIdeal.main_arg0)
      ∧ r.2.mem ((c.tc : Thread Cert.LruBwdIdeal.nD Cert.LruBwdIdeal.τ).loc Cert.LruBwdIdeal.main_arg1) = m ((c.tc : Thread Cert.LruBwdIdeal.nD Cert.LruBwdIdeal.τ).loc Cert.LruBwdIdeal.main_arg1)
      ∧ r.2.mem ((c.tc : Thread Cert.LruBwdIdeal.nD Cert.LruBwdIdeal.τ).loc Cert.LruBwdIdeal.main_arg2) = m ((c.tc : Thread Cert.LruBwdIdeal.nD Cert.LruBwdIdeal.τ).loc Cert.LruBwdIdeal.main_arg2)
      ∧ r.2.mem ((c.tc : Thread Cert.LruBwdIdeal.nD Cert.LruBwdIdeal.τ).loc Cert.LruBwdIdeal.main_arg3) = m ((c.tc : Thread Cert.LruBwdIdeal.nD Cert.LruBwdIdeal.τ).loc Cert.LruBwdIdeal.main_arg3)
      ∧ r.2.mem ((c.tc : Thread Cert.LruBwdIdeal.nD Cert.LruBwdIdeal.τ).loc Cert.LruBwdIdeal.main_arg4) = m ((c.tc : Thread Cert.LruBwdIdeal.nD Cert.LruBwdIdeal.τ).loc Cert.LruBwdIdeal.main_arg4)
      ∧ r.2.mem ((c.tc : Thread Cert.LruBwdIdeal.nD Cert.LruBwdIdeal.τ).loc Cert.LruBwdIdeal.main_arg5) = m ((c.tc : Thread Cert.LruBwdIdeal.nD Cert.LruBwdIdeal.τ).loc Cert.LruBwdIdeal.main_arg5)
      ∧ r.2.mem ((c.tc : Thread Cert.LruBwdIdeal.nD Cert.LruBwdIdeal.τ).loc Cert.LruBwdIdeal.main_arg6) = m ((c.tc : Thread Cert.LruBwdIdeal.nD Cert.LruBwdIdeal.τ).loc Cert.LruBwdIdeal.main_arg6)
      ∧ r.2.mem ((c.tc : Thread Cert.LruBwdIdeal.nD Cert.LruBwdIdeal.τ).loc Cert.LruBwdIdeal.main_arg7) = m ((c.tc : Thread Cert.LruBwdIdeal.nD Cert.LruBwdIdeal.τ).loc Cert.LruBwdIdeal.main_arg7)
      ∧ r.2.mem ((c.tc : Thread Cert.LruBwdIdeal.nD Cert.LruBwdIdeal.τ).loc Cert.LruBwdIdeal.main_arg8) = m ((c.tc : Thread Cert.LruBwdIdeal.nD Cert.LruBwdIdeal.τ).loc Cert.LruBwdIdeal.main_arg8))
      ∧ r.2.sem = fun _ => 0)

def quiescent_LruBwdIdeal_pre_finite_lru_args [hLruBwdIdeal : Cert.LruBwdIdeal.Facts] [hPre_finite_lru_args : Cert.Pre_finite_lru_args.Facts] : Prop :=
  ∀ (m : (ℓ : Loc Cert.LruBwdIdeal.nD Cert.LruBwdIdeal.τ Cert.LruBwdIdeal.sig) → Buf (Elt Ideal) ℓ) (g : Dev Cert.LruBwdIdeal.nD → PrngReg), Pre_LruBwdIdeal_finite_lru_args m →
    θ_run (Cert.LruBwdIdeal.defs (F := Ideal)) (onTc (τ := Cert.LruBwdIdeal.τ) (Cert.LruBwdIdeal.main (F := Ideal))) ⟨m, fun _ => 0, g⟩ (fun r => (∀ c : Dev Cert.LruBwdIdeal.nD,
      r.2.mem ((c.tc : Thread Cert.LruBwdIdeal.nD Cert.LruBwdIdeal.τ).loc Cert.LruBwdIdeal.main_arg0) = m ((c.tc : Thread Cert.LruBwdIdeal.nD Cert.LruBwdIdeal.τ).loc Cert.LruBwdIdeal.main_arg0)
      ∧ r.2.mem ((c.tc : Thread Cert.LruBwdIdeal.nD Cert.LruBwdIdeal.τ).loc Cert.LruBwdIdeal.main_arg1) = m ((c.tc : Thread Cert.LruBwdIdeal.nD Cert.LruBwdIdeal.τ).loc Cert.LruBwdIdeal.main_arg1)
      ∧ r.2.mem ((c.tc : Thread Cert.LruBwdIdeal.nD Cert.LruBwdIdeal.τ).loc Cert.LruBwdIdeal.main_arg2) = m ((c.tc : Thread Cert.LruBwdIdeal.nD Cert.LruBwdIdeal.τ).loc Cert.LruBwdIdeal.main_arg2)
      ∧ r.2.mem ((c.tc : Thread Cert.LruBwdIdeal.nD Cert.LruBwdIdeal.τ).loc Cert.LruBwdIdeal.main_arg3) = m ((c.tc : Thread Cert.LruBwdIdeal.nD Cert.LruBwdIdeal.τ).loc Cert.LruBwdIdeal.main_arg3)
      ∧ r.2.mem ((c.tc : Thread Cert.LruBwdIdeal.nD Cert.LruBwdIdeal.τ).loc Cert.LruBwdIdeal.main_arg4) = m ((c.tc : Thread Cert.LruBwdIdeal.nD Cert.LruBwdIdeal.τ).loc Cert.LruBwdIdeal.main_arg4)
      ∧ r.2.mem ((c.tc : Thread Cert.LruBwdIdeal.nD Cert.LruBwdIdeal.τ).loc Cert.LruBwdIdeal.main_arg5) = m ((c.tc : Thread Cert.LruBwdIdeal.nD Cert.LruBwdIdeal.τ).loc Cert.LruBwdIdeal.main_arg5)
      ∧ r.2.mem ((c.tc : Thread Cert.LruBwdIdeal.nD Cert.LruBwdIdeal.τ).loc Cert.LruBwdIdeal.main_arg6) = m ((c.tc : Thread Cert.LruBwdIdeal.nD Cert.LruBwdIdeal.τ).loc Cert.LruBwdIdeal.main_arg6)
      ∧ r.2.mem ((c.tc : Thread Cert.LruBwdIdeal.nD Cert.LruBwdIdeal.τ).loc Cert.LruBwdIdeal.main_arg7) = m ((c.tc : Thread Cert.LruBwdIdeal.nD Cert.LruBwdIdeal.τ).loc Cert.LruBwdIdeal.main_arg7)
      ∧ r.2.mem ((c.tc : Thread Cert.LruBwdIdeal.nD Cert.LruBwdIdeal.τ).loc Cert.LruBwdIdeal.main_arg8) = m ((c.tc : Thread Cert.LruBwdIdeal.nD Cert.LruBwdIdeal.τ).loc Cert.LruBwdIdeal.main_arg8))
      ∧ r.2.sem = fun _ => 0)

def quiescent_LruBwdRefIdeal [hLruBwdRefIdeal : Cert.LruBwdRefIdeal.Facts] : Prop :=
  ∀ (m : (ℓ : Loc Cert.LruBwdRefIdeal.nD Cert.LruBwdRefIdeal.τ Cert.LruBwdRefIdeal.sig) → Buf (Elt Ideal) ℓ) (g : Dev Cert.LruBwdRefIdeal.nD → PrngReg), Pre_LruBwdRefIdeal m →
    θ_run (Cert.LruBwdRefIdeal.defs (F := Ideal)) (onTc (τ := Cert.LruBwdRefIdeal.τ) (Cert.LruBwdRefIdeal.main (F := Ideal))) ⟨m, fun _ => 0, g⟩ (fun r => (∀ c : Dev Cert.LruBwdRefIdeal.nD,
      r.2.mem ((c.tc : Thread Cert.LruBwdRefIdeal.nD Cert.LruBwdRefIdeal.τ).loc Cert.LruBwdRefIdeal.main_arg0) = m ((c.tc : Thread Cert.LruBwdRefIdeal.nD Cert.LruBwdRefIdeal.τ).loc Cert.LruBwdRefIdeal.main_arg0)
      ∧ r.2.mem ((c.tc : Thread Cert.LruBwdRefIdeal.nD Cert.LruBwdRefIdeal.τ).loc Cert.LruBwdRefIdeal.main_arg1) = m ((c.tc : Thread Cert.LruBwdRefIdeal.nD Cert.LruBwdRefIdeal.τ).loc Cert.LruBwdRefIdeal.main_arg1)
      ∧ r.2.mem ((c.tc : Thread Cert.LruBwdRefIdeal.nD Cert.LruBwdRefIdeal.τ).loc Cert.LruBwdRefIdeal.main_arg2) = m ((c.tc : Thread Cert.LruBwdRefIdeal.nD Cert.LruBwdRefIdeal.τ).loc Cert.LruBwdRefIdeal.main_arg2)
      ∧ r.2.mem ((c.tc : Thread Cert.LruBwdRefIdeal.nD Cert.LruBwdRefIdeal.τ).loc Cert.LruBwdRefIdeal.main_arg3) = m ((c.tc : Thread Cert.LruBwdRefIdeal.nD Cert.LruBwdRefIdeal.τ).loc Cert.LruBwdRefIdeal.main_arg3)
      ∧ r.2.mem ((c.tc : Thread Cert.LruBwdRefIdeal.nD Cert.LruBwdRefIdeal.τ).loc Cert.LruBwdRefIdeal.main_arg4) = m ((c.tc : Thread Cert.LruBwdRefIdeal.nD Cert.LruBwdRefIdeal.τ).loc Cert.LruBwdRefIdeal.main_arg4)
      ∧ r.2.mem ((c.tc : Thread Cert.LruBwdRefIdeal.nD Cert.LruBwdRefIdeal.τ).loc Cert.LruBwdRefIdeal.main_arg5) = m ((c.tc : Thread Cert.LruBwdRefIdeal.nD Cert.LruBwdRefIdeal.τ).loc Cert.LruBwdRefIdeal.main_arg5)
      ∧ r.2.mem ((c.tc : Thread Cert.LruBwdRefIdeal.nD Cert.LruBwdRefIdeal.τ).loc Cert.LruBwdRefIdeal.main_arg6) = m ((c.tc : Thread Cert.LruBwdRefIdeal.nD Cert.LruBwdRefIdeal.τ).loc Cert.LruBwdRefIdeal.main_arg6)
      ∧ r.2.mem ((c.tc : Thread Cert.LruBwdRefIdeal.nD Cert.LruBwdRefIdeal.τ).loc Cert.LruBwdRefIdeal.main_arg7) = m ((c.tc : Thread Cert.LruBwdRefIdeal.nD Cert.LruBwdRefIdeal.τ).loc Cert.LruBwdRefIdeal.main_arg7)
      ∧ r.2.mem ((c.tc : Thread Cert.LruBwdRefIdeal.nD Cert.LruBwdRefIdeal.τ).loc Cert.LruBwdRefIdeal.main_arg8) = m ((c.tc : Thread Cert.LruBwdRefIdeal.nD Cert.LruBwdRefIdeal.τ).loc Cert.LruBwdRefIdeal.main_arg8))
      ∧ r.2.sem = fun _ => 0)

def quiescent_LruBwdRefIdeal_pre_finite_lru_args [hLruBwdRefIdeal : Cert.LruBwdRefIdeal.Facts] [hPre_finite_lru_args : Cert.Pre_finite_lru_args.Facts] : Prop :=
  ∀ (m : (ℓ : Loc Cert.LruBwdRefIdeal.nD Cert.LruBwdRefIdeal.τ Cert.LruBwdRefIdeal.sig) → Buf (Elt Ideal) ℓ) (g : Dev Cert.LruBwdRefIdeal.nD → PrngReg), Pre_LruBwdRefIdeal_finite_lru_args m →
    θ_run (Cert.LruBwdRefIdeal.defs (F := Ideal)) (onTc (τ := Cert.LruBwdRefIdeal.τ) (Cert.LruBwdRefIdeal.main (F := Ideal))) ⟨m, fun _ => 0, g⟩ (fun r => (∀ c : Dev Cert.LruBwdRefIdeal.nD,
      r.2.mem ((c.tc : Thread Cert.LruBwdRefIdeal.nD Cert.LruBwdRefIdeal.τ).loc Cert.LruBwdRefIdeal.main_arg0) = m ((c.tc : Thread Cert.LruBwdRefIdeal.nD Cert.LruBwdRefIdeal.τ).loc Cert.LruBwdRefIdeal.main_arg0)
      ∧ r.2.mem ((c.tc : Thread Cert.LruBwdRefIdeal.nD Cert.LruBwdRefIdeal.τ).loc Cert.LruBwdRefIdeal.main_arg1) = m ((c.tc : Thread Cert.LruBwdRefIdeal.nD Cert.LruBwdRefIdeal.τ).loc Cert.LruBwdRefIdeal.main_arg1)
      ∧ r.2.mem ((c.tc : Thread Cert.LruBwdRefIdeal.nD Cert.LruBwdRefIdeal.τ).loc Cert.LruBwdRefIdeal.main_arg2) = m ((c.tc : Thread Cert.LruBwdRefIdeal.nD Cert.LruBwdRefIdeal.τ).loc Cert.LruBwdRefIdeal.main_arg2)
      ∧ r.2.mem ((c.tc : Thread Cert.LruBwdRefIdeal.nD Cert.LruBwdRefIdeal.τ).loc Cert.LruBwdRefIdeal.main_arg3) = m ((c.tc : Thread Cert.LruBwdRefIdeal.nD Cert.LruBwdRefIdeal.τ).loc Cert.LruBwdRefIdeal.main_arg3)
      ∧ r.2.mem ((c.tc : Thread Cert.LruBwdRefIdeal.nD Cert.LruBwdRefIdeal.τ).loc Cert.LruBwdRefIdeal.main_arg4) = m ((c.tc : Thread Cert.LruBwdRefIdeal.nD Cert.LruBwdRefIdeal.τ).loc Cert.LruBwdRefIdeal.main_arg4)
      ∧ r.2.mem ((c.tc : Thread Cert.LruBwdRefIdeal.nD Cert.LruBwdRefIdeal.τ).loc Cert.LruBwdRefIdeal.main_arg5) = m ((c.tc : Thread Cert.LruBwdRefIdeal.nD Cert.LruBwdRefIdeal.τ).loc Cert.LruBwdRefIdeal.main_arg5)
      ∧ r.2.mem ((c.tc : Thread Cert.LruBwdRefIdeal.nD Cert.LruBwdRefIdeal.τ).loc Cert.LruBwdRefIdeal.main_arg6) = m ((c.tc : Thread Cert.LruBwdRefIdeal.nD Cert.LruBwdRefIdeal.τ).loc Cert.LruBwdRefIdeal.main_arg6)
      ∧ r.2.mem ((c.tc : Thread Cert.LruBwdRefIdeal.nD Cert.LruBwdRefIdeal.τ).loc Cert.LruBwdRefIdeal.main_arg7) = m ((c.tc : Thread Cert.LruBwdRefIdeal.nD Cert.LruBwdRefIdeal.τ).loc Cert.LruBwdRefIdeal.main_arg7)
      ∧ r.2.mem ((c.tc : Thread Cert.LruBwdRefIdeal.nD Cert.LruBwdRefIdeal.τ).loc Cert.LruBwdRefIdeal.main_arg8) = m ((c.tc : Thread Cert.LruBwdRefIdeal.nD Cert.LruBwdRefIdeal.τ).loc Cert.LruBwdRefIdeal.main_arg8))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnBwdRefIdeal_pre_finite_ffn [hFfnBwdRefIdeal : Cert.FfnBwdRefIdeal.Facts] [hPre_finite_ffn : Cert.Pre_finite_ffn.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnDd [hFfnDd : Cert.FfnDd.Facts] : Prop :=
  ∀ (m : (ℓ : Loc Cert.FfnDd.nD Cert.FfnDd.τ Cert.FfnDd.sig) → Buf (Elt Bits) ℓ) (g : Dev Cert.FfnDd.nD → PrngReg), Pre_FfnDd m →
    θ_run (Cert.FfnDd.defs (F := Bits)) (onTc (τ := Cert.FfnDd.τ) (Cert.FfnDd.main (F := Bits))) ⟨m, fun _ => 0, g⟩ (fun r => (∀ c : Dev Cert.FfnDd.nD,
      r.2.mem ((c.tc : Thread Cert.FfnDd.nD Cert.FfnDd.τ).loc Cert.FfnDd.main_arg0) = m ((c.tc : Thread Cert.FfnDd.nD Cert.FfnDd.τ).loc Cert.FfnDd.main_arg0)
      ∧ r.2.mem ((c.tc : Thread Cert.FfnDd.nD Cert.FfnDd.τ).loc Cert.FfnDd.main_arg1) = m ((c.tc : Thread Cert.FfnDd.nD Cert.FfnDd.τ).loc Cert.FfnDd.main_arg1))
      ∧ r.2.sem = fun _ => 0)

def quiescent_FfnDdIdeal [hFfnDdIdeal : Cert.FfnDdIdeal.Facts] : Prop :=
  ∀ (m : (ℓ : Loc Cert.FfnDdIdeal.nD Cert.FfnDdIdeal.τ Cert.FfnDdIdeal.sig) → Buf (Elt Ideal) ℓ) (g : Dev Cert.FfnDdIdeal.nD → PrngReg), Pre_FfnDdIdeal m →
    θ_run (Cert.FfnDdIdeal.defs (F := Ideal)) (onTc (τ := Cert.FfnDdIdeal.τ) (Cert.FfnDdIdeal.main (F := Ideal))) ⟨m, fun _ => 0, g⟩ (fun r => (∀ c : Dev Cert.FfnDdIdeal.nD,
      r.2.mem ((c.tc : Thread Cert.FfnDdIdeal.nD Cert.FfnDdIdeal.τ).loc Cert.FfnDdIdeal.main_arg0) = m ((c.tc : Thread Cert.FfnDdIdeal.nD Cert.FfnDdIdeal.τ).loc Cert.FfnDdIdeal.main_arg0)
      ∧ r.2.mem ((c.tc : Thread Cert.FfnDdIdeal.nD Cert.FfnDdIdeal.τ).loc Cert.FfnDdIdeal.main_arg1) = m ((c.tc : Thread Cert.FfnDdIdeal.nD Cert.FfnDdIdeal.τ).loc Cert.FfnDdIdeal.main_arg1))
      ∧ r.2.sem = fun _ => 0)

def quiescent_FfnDdRefIdeal [hFfnDdRefIdeal : Cert.FfnDdRefIdeal.Facts] : Prop :=
  ∀ (m : (ℓ : Loc Cert.FfnDdRefIdeal.nD Cert.FfnDdRefIdeal.τ Cert.FfnDdRefIdeal.sig) → Buf (Elt Ideal) ℓ) (g : Dev Cert.FfnDdRefIdeal.nD → PrngReg), Pre_FfnDdRefIdeal m →
    θ_run (Cert.FfnDdRefIdeal.defs (F := Ideal)) (onTc (τ := Cert.FfnDdRefIdeal.τ) (Cert.FfnDdRefIdeal.main (F := Ideal))) ⟨m, fun _ => 0, g⟩ (fun r => (∀ c : Dev Cert.FfnDdRefIdeal.nD,
      r.2.mem ((c.tc : Thread Cert.FfnDdRefIdeal.nD Cert.FfnDdRefIdeal.τ).loc Cert.FfnDdRefIdeal.main_arg0) = m ((c.tc : Thread Cert.FfnDdRefIdeal.nD Cert.FfnDdRefIdeal.τ).loc Cert.FfnDdRefIdeal.main_arg0)
      ∧ r.2.mem ((c.tc : Thread Cert.FfnDdRefIdeal.nD Cert.FfnDdRefIdeal.τ).loc Cert.FfnDdRefIdeal.main_arg1) = m ((c.tc : Thread Cert.FfnDdRefIdeal.nD Cert.FfnDdRefIdeal.τ).loc Cert.FfnDdRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5))
      ∧ r.2.sem = fun _ => 0)

def quiescent_FfnFwd2 [hFfnFwd2 : Cert.FfnFwd2.Facts] : Prop :=
  ∀ (m : (ℓ : Loc Cert.FfnFwd2.nD Cert.FfnFwd2.τ Cert.FfnFwd2.sig) → Buf (Elt Bits) ℓ) (g : Dev Cert.FfnFwd2.nD → PrngReg), Pre_FfnFwd2 m →
    θ_run (Cert.FfnFwd2.defs (F := Bits)) (onTc (τ := Cert.FfnFwd2.τ) (Cert.FfnFwd2.main (F := Bits))) ⟨m, fun _ => 0, g⟩ (fun r => (∀ c : Dev Cert.FfnFwd2.nD,
      r.2.mem ((c.tc : Thread Cert.FfnFwd2.nD Cert.FfnFwd2.τ).loc Cert.FfnFwd2.main_arg0) = m ((c.tc : Thread Cert.FfnFwd2.nD Cert.FfnFwd2.τ).loc Cert.FfnFwd2.main_arg0)
      ∧ r.2.mem ((c.tc : Thread Cert.FfnFwd2.nD Cert.FfnFwd2.τ).loc Cert.FfnFwd2.main_arg1) = m ((c.tc : Thread Cert.FfnFwd2.nD Cert.FfnFwd2.τ).loc Cert.FfnFwd2.main_arg1)
      ∧ r.2.mem ((c.tc : Thread Cert.FfnFwd2.nD Cert.FfnFwd2.τ).loc Cert.FfnFwd2.main_arg2) = m ((c.tc : Thread Cert.FfnFwd2.nD Cert.FfnFwd2.τ).loc Cert.FfnFwd2.main_arg2)
      ∧ r.2.mem ((c.tc : Thread Cert.FfnFwd2.nD Cert.FfnFwd2.τ).loc Cert.FfnFwd2.main_arg3) = m ((c.tc : Thread Cert.FfnFwd2.nD Cert.FfnFwd2.τ).loc Cert.FfnFwd2.main_arg3)
      ∧ r.2.mem ((c.tc : Thread Cert.FfnFwd2.nD Cert.FfnFwd2.τ).loc Cert.FfnFwd2.main_arg4) = m ((c.tc : Thread Cert.FfnFwd2.nD Cert.FfnFwd2.τ).loc Cert.FfnFwd2.main_arg4)
      ∧ r.2.mem ((c.tc : Thread Cert.FfnFwd2.nD Cert.FfnFwd2.τ).loc Cert.FfnFwd2.main_arg5) = m ((c.tc : Thread Cert.FfnFwd2.nD Cert.FfnFwd2.τ).loc Cert.FfnFwd2.main_arg5)
      ∧ r.2.mem ((c.tc : Thread Cert.FfnFwd2.nD Cert.FfnFwd2.τ).loc Cert.FfnFwd2.main_arg6) = m ((c.tc : Thread Cert.FfnFwd2.nD Cert.FfnFwd2.τ).loc Cert.FfnFwd2.main_arg6)
      ∧ r.2.mem ((c.tc : Thread Cert.FfnFwd2.nD Cert.FfnFwd2.τ).loc Cert.FfnFwd2.main_arg7) = m ((c.tc : Thread Cert.FfnFwd2.nD Cert.FfnFwd2.τ).loc Cert.FfnFwd2.main_arg7)
      ∧ r.2.mem ((c.tc : Thread Cert.FfnFwd2.nD Cert.FfnFwd2.τ).loc Cert.FfnFwd2.main_arg8) = m ((c.tc : Thread Cert.FfnFwd2.nD Cert.FfnFwd2.τ).loc Cert.FfnFwd2.main_arg8))
      ∧ r.2.sem = fun _ => 0)

def quiescent_FfnFwd2Ideal [hFfnFwd2Ideal : Cert.FfnFwd2Ideal.Facts] : Prop :=
  ∀ (m : (ℓ : Loc Cert.FfnFwd2Ideal.nD Cert.FfnFwd2Ideal.τ Cert.FfnFwd2Ideal.sig) → Buf (Elt Ideal) ℓ) (g : Dev Cert.FfnFwd2Ideal.nD → PrngReg), Pre_FfnFwd2Ideal m →
    θ_run (Cert.FfnFwd2Ideal.defs (F := Ideal)) (onTc (τ := Cert.FfnFwd2Ideal.τ) (Cert.FfnFwd2Ideal.main (F := Ideal))) ⟨m, fun _ => 0, g⟩ (fun r => (∀ c : Dev Cert.FfnFwd2Ideal.nD,
      r.2.mem ((c.tc : Thread Cert.FfnFwd2Ideal.nD Cert.FfnFwd2Ideal.τ).loc Cert.FfnFwd2Ideal.main_arg0) = m ((c.tc : Thread Cert.FfnFwd2Ideal.nD Cert.FfnFwd2Ideal.τ).loc Cert.FfnFwd2Ideal.main_arg0)
      ∧ r.2.mem ((c.tc : Thread Cert.FfnFwd2Ideal.nD Cert.FfnFwd2Ideal.τ).loc Cert.FfnFwd2Ideal.main_arg1) = m ((c.tc : Thread Cert.FfnFwd2Ideal.nD Cert.FfnFwd2Ideal.τ).loc Cert.FfnFwd2Ideal.main_arg1)
      ∧ r.2.mem ((c.tc : Thread Cert.FfnFwd2Ideal.nD Cert.FfnFwd2Ideal.τ).loc Cert.FfnFwd2Ideal.main_arg2) = m ((c.tc : Thread Cert.FfnFwd2Ideal.nD Cert.FfnFwd2Ideal.τ).loc Cert.FfnFwd2Ideal.main_arg2)
      ∧ r.2.mem ((c.tc : Thread Cert.FfnFwd2Ideal.nD Cert.FfnFwd2Ideal.τ).loc Cert.FfnFwd2Ideal.main_arg3) = m ((c.tc : Thread Cert.FfnFwd2Ideal.nD Cert.FfnFwd2Ideal.τ).loc Cert.FfnFwd2Ideal.main_arg3)
      ∧ r.2.mem ((c.tc : Thread Cert.FfnFwd2Ideal.nD Cert.FfnFwd2Ideal.τ).loc Cert.FfnFwd2Ideal.main_arg4) = m ((c.tc : Thread Cert.FfnFwd2Ideal.nD Cert.FfnFwd2Ideal.τ).loc Cert.FfnFwd2Ideal.main_arg4)
      ∧ r.2.mem ((c.tc : Thread Cert.FfnFwd2Ideal.nD Cert.FfnFwd2Ideal.τ).loc Cert.FfnFwd2Ideal.main_arg5) = m ((c.tc : Thread Cert.FfnFwd2Ideal.nD Cert.FfnFwd2Ideal.τ).loc Cert.FfnFwd2Ideal.main_arg5)
      ∧ r.2.mem ((c.tc : Thread Cert.FfnFwd2Ideal.nD Cert.FfnFwd2Ideal.τ).loc Cert.FfnFwd2Ideal.main_arg6) = m ((c.tc : Thread Cert.FfnFwd2Ideal.nD Cert.FfnFwd2Ideal.τ).loc Cert.FfnFwd2Ideal.main_arg6)
      ∧ r.2.mem ((c.tc : Thread Cert.FfnFwd2Ideal.nD Cert.FfnFwd2Ideal.τ).loc Cert.FfnFwd2Ideal.main_arg7) = m ((c.tc : Thread Cert.FfnFwd2Ideal.nD Cert.FfnFwd2Ideal.τ).loc Cert.FfnFwd2Ideal.main_arg7)
      ∧ r.2.mem ((c.tc : Thread Cert.FfnFwd2Ideal.nD Cert.FfnFwd2Ideal.τ).loc Cert.FfnFwd2Ideal.main_arg8) = m ((c.tc : Thread Cert.FfnFwd2Ideal.nD Cert.FfnFwd2Ideal.τ).loc Cert.FfnFwd2Ideal.main_arg8))
      ∧ r.2.sem = fun _ => 0)

def quiescent_FfnFwd2RefIdeal [hFfnFwd2RefIdeal : Cert.FfnFwd2RefIdeal.Facts] : Prop :=
  ∀ (m : (ℓ : Loc Cert.FfnFwd2RefIdeal.nD Cert.FfnFwd2RefIdeal.τ Cert.FfnFwd2RefIdeal.sig) → Buf (Elt Ideal) ℓ) (g : Dev Cert.FfnFwd2RefIdeal.nD → PrngReg), Pre_FfnFwd2RefIdeal m →
    θ_run (Cert.FfnFwd2RefIdeal.defs (F := Ideal)) (onTc (τ := Cert.FfnFwd2RefIdeal.τ) (Cert.FfnFwd2RefIdeal.main (F := Ideal))) ⟨m, fun _ => 0, g⟩ (fun r => (∀ c : Dev Cert.FfnFwd2RefIdeal.nD,
      r.2.mem ((c.tc : Thread Cert.FfnFwd2RefIdeal.nD Cert.FfnFwd2RefIdeal.τ).loc Cert.FfnFwd2RefIdeal.main_arg0) = m ((c.tc : Thread Cert.FfnFwd2RefIdeal.nD Cert.FfnFwd2RefIdeal.τ).loc Cert.FfnFwd2RefIdeal.main_arg0)
      ∧ r.2.mem ((c.tc : Thread Cert.FfnFwd2RefIdeal.nD Cert.FfnFwd2RefIdeal.τ).loc Cert.FfnFwd2RefIdeal.main_arg1) = m ((c.tc : Thread Cert.FfnFwd2RefIdeal.nD Cert.FfnFwd2RefIdeal.τ).loc Cert.FfnFwd2RefIdeal.main_arg1)
      ∧ r.2.mem ((c.tc : Thread Cert.FfnFwd2RefIdeal.nD Cert.FfnFwd2RefIdeal.τ).loc Cert.FfnFwd2RefIdeal.main_arg2) = m ((c.tc : Thread Cert.FfnFwd2RefIdeal.nD Cert.FfnFwd2RefIdeal.τ).loc Cert.FfnFwd2RefIdeal.main_arg2)
      ∧ r.2.mem ((c.tc : Thread Cert.FfnFwd2RefIdeal.nD Cert.FfnFwd2RefIdeal.τ).loc Cert.FfnFwd2RefIdeal.main_arg3) = m ((c.tc : Thread Cert.FfnFwd2RefIdeal.nD Cert.FfnFwd2RefIdeal.τ).loc Cert.FfnFwd2RefIdeal.main_arg3)
      ∧ r.2.mem ((c.tc : Thread Cert.FfnFwd2RefIdeal.nD Cert.FfnFwd2RefIdeal.τ).loc Cert.FfnFwd2RefIdeal.main_arg4) = m ((c.tc : Thread Cert.FfnFwd2RefIdeal.nD Cert.FfnFwd2RefIdeal.τ).loc Cert.FfnFwd2RefIdeal.main_arg4)
      ∧ r.2.mem ((c.tc : Thread Cert.FfnFwd2RefIdeal.nD Cert.FfnFwd2RefIdeal.τ).loc Cert.FfnFwd2RefIdeal.main_arg5) = m ((c.tc : Thread Cert.FfnFwd2RefIdeal.nD Cert.FfnFwd2RefIdeal.τ).loc Cert.FfnFwd2RefIdeal.main_arg5)
      ∧ r.2.mem ((c.tc : Thread Cert.FfnFwd2RefIdeal.nD Cert.FfnFwd2RefIdeal.τ).loc Cert.FfnFwd2RefIdeal.main_arg6) = m ((c.tc : Thread Cert.FfnFwd2RefIdeal.nD Cert.FfnFwd2RefIdeal.τ).loc Cert.FfnFwd2RefIdeal.main_arg6)
      ∧ r.2.mem ((c.tc : Thread Cert.FfnFwd2RefIdeal.nD Cert.FfnFwd2RefIdeal.τ).loc Cert.FfnFwd2RefIdeal.main_arg7) = m ((c.tc : Thread Cert.FfnFwd2RefIdeal.nD Cert.FfnFwd2RefIdeal.τ).loc Cert.FfnFwd2RefIdeal.main_arg7)
      ∧ r.2.mem ((c.tc : Thread Cert.FfnFwd2RefIdeal.nD Cert.FfnFwd2RefIdeal.τ).loc Cert.FfnFwd2RefIdeal.main_arg8) = m ((c.tc : Thread Cert.FfnFwd2RefIdeal.nD Cert.FfnFwd2RefIdeal.τ).loc Cert.FfnFwd2RefIdeal.main_arg8))
      ∧ r.2.sem = fun _ => 0)

def preserves_FfnDw_FfnDwIdeal : Prop :=
  True

def algebraic_FfnDwIdeal_FfnDwRefIdeal [hFfnDwIdeal : Cert.FfnDwIdeal.Facts] [hFfnDwRefIdeal : Cert.FfnDwRefIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.FfnDwRefIdeal.nD Cert.FfnDwRefIdeal.τ Cert.FfnDwRefIdeal.sig) → Buf (Elt Ideal) ℓ) (g' : Dev Cert.FfnDwRefIdeal.nD → PrngReg), Pre_FfnDwIdeal m →
    (∀ c : Dev Cert.FfnDwIdeal.nD,
      m' ((c.tc : Thread Cert.FfnDwRefIdeal.nD Cert.FfnDwRefIdeal.τ).loc Cert.FfnDwRefIdeal.main_arg0) = m ((c.tc : Thread Cert.FfnDwIdeal.nD Cert.FfnDwIdeal.τ).loc Cert.FfnDwIdeal.main_arg0)
      ∧ m' ((c.tc : Thread Cert.FfnDwRefIdeal.nD Cert.FfnDwRefIdeal.τ).loc Cert.FfnDwRefIdeal.main_arg1) = m ((c.tc : Thread Cert.FfnDwIdeal.nD Cert.FfnDwIdeal.τ).loc Cert.FfnDwIdeal.main_arg1)) →
    ∃ (v0 : (c : Dev Cert.FfnDwIdeal.nD) → Buf (Elt Ideal) ((c.tc : Thread Cert.FfnDwIdeal.nD Cert.FfnDwIdeal.τ).loc Cert.FfnDwIdeal.main_v4)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v4) = v0 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ θ_run (Cert.FfnDwRefIdeal.defs (F := Ideal)) (onTc (τ := Cert.FfnDwRefIdeal.τ) (Cert.FfnDwRefIdeal.main (F := Ideal))) ⟨m', fun _ => 0, g'⟩ (fun r => ∀ c : Dev Cert.FfnDwRefIdeal.nD,
          r.2.mem ((c.tc : Thread Cert.FfnDwRefIdeal.nD Cert.FfnDwRefIdeal.τ).loc Cert.FfnDwRefIdeal.main_v7) = v0 c
          ∧ r.2.mem ((c.tc : Thread Cert.FfnDwRefIdeal.nD Cert.FfnDwRefIdeal.τ).loc Cert.FfnDwRefIdeal.main_arg0) = m' ((c.tc : Thread Cert.FfnDwRefIdeal.nD Cert.FfnDwRefIdeal.τ).loc Cert.FfnDwRefIdeal.main_arg0)
          ∧ r.2.mem ((c.tc : Thread Cert.FfnDwRefIdeal.nD Cert.FfnDwRefIdeal.τ).loc Cert.FfnDwRefIdeal.main_arg1) = m' ((c.tc : Thread Cert.FfnDwRefIdeal.nD Cert.FfnDwRefIdeal.τ).loc Cert.FfnDwRefIdeal.main_arg1))

def preserves_LruBwd_LruBwdIdeal : Prop :=
  True

def algebraic_LruBwdIdeal_LruBwdRefIdeal_pre_finite_lru_args [hLruBwdIdeal : Cert.LruBwdIdeal.Facts] [hLruBwdRefIdeal : Cert.LruBwdRefIdeal.Facts] [hPre_finite_lru_args : Cert.Pre_finite_lru_args.Facts] : Prop :=
  ∀ (m : (ℓ : Loc Cert.LruBwdIdeal.nD Cert.LruBwdIdeal.τ Cert.LruBwdIdeal.sig) → Buf (Elt Ideal) ℓ) (g : Dev Cert.LruBwdIdeal.nD → PrngReg)
    (m' : (ℓ : Loc Cert.LruBwdRefIdeal.nD Cert.LruBwdRefIdeal.τ Cert.LruBwdRefIdeal.sig) → Buf (Elt Ideal) ℓ) (g' : Dev Cert.LruBwdRefIdeal.nD → PrngReg), Pre_LruBwdIdeal_finite_lru_args m →
    (∀ c : Dev Cert.LruBwdIdeal.nD,
      m' ((c.tc : Thread Cert.LruBwdRefIdeal.nD Cert.LruBwdRefIdeal.τ).loc Cert.LruBwdRefIdeal.main_arg0) = m ((c.tc : Thread Cert.LruBwdIdeal.nD Cert.LruBwdIdeal.τ).loc Cert.LruBwdIdeal.main_arg0)
      ∧ m' ((c.tc : Thread Cert.LruBwdRefIdeal.nD Cert.LruBwdRefIdeal.τ).loc Cert.LruBwdRefIdeal.main_arg1) = m ((c.tc : Thread Cert.LruBwdIdeal.nD Cert.LruBwdIdeal.τ).loc Cert.LruBwdIdeal.main_arg1)
      ∧ m' ((c.tc : Thread Cert.LruBwdRefIdeal.nD Cert.LruBwdRefIdeal.τ).loc Cert.LruBwdRefIdeal.main_arg2) = m ((c.tc : Thread Cert.LruBwdIdeal.nD Cert.LruBwdIdeal.τ).loc Cert.LruBwdIdeal.main_arg2)
      ∧ m' ((c.tc : Thread Cert.LruBwdRefIdeal.nD Cert.LruBwdRefIdeal.τ).loc Cert.LruBwdRefIdeal.main_arg3) = m ((c.tc : Thread Cert.LruBwdIdeal.nD Cert.LruBwdIdeal.τ).loc Cert.LruBwdIdeal.main_arg3)
      ∧ m' ((c.tc : Thread Cert.LruBwdRefIdeal.nD Cert.LruBwdRefIdeal.τ).loc Cert.LruBwdRefIdeal.main_arg4) = m ((c.tc : Thread Cert.LruBwdIdeal.nD Cert.LruBwdIdeal.τ).loc Cert.LruBwdIdeal.main_arg4)
      ∧ m' ((c.tc : Thread Cert.LruBwdRefIdeal.nD Cert.LruBwdRefIdeal.τ).loc Cert.LruBwdRefIdeal.main_arg5) = m ((c.tc : Thread Cert.LruBwdIdeal.nD Cert.LruBwdIdeal.τ).loc Cert.LruBwdIdeal.main_arg5)
      ∧ m' ((c.tc : Thread Cert.LruBwdRefIdeal.nD Cert.LruBwdRefIdeal.τ).loc Cert.LruBwdRefIdeal.main_arg6) = m ((c.tc : Thread Cert.LruBwdIdeal.nD Cert.LruBwdIdeal.τ).loc Cert.LruBwdIdeal.main_arg6)
      ∧ m' ((c.tc : Thread Cert.LruBwdRefIdeal.nD Cert.LruBwdRefIdeal.τ).loc Cert.LruBwdRefIdeal.main_arg7) = m ((c.tc : Thread Cert.LruBwdIdeal.nD Cert.LruBwdIdeal.τ).loc Cert.LruBwdIdeal.main_arg7)
      ∧ m' ((c.tc : Thread Cert.LruBwdRefIdeal.nD Cert.LruBwdRefIdeal.τ).loc Cert.LruBwdRefIdeal.main_arg8) = m ((c.tc : Thread Cert.LruBwdIdeal.nD Cert.LruBwdIdeal.τ).loc Cert.LruBwdIdeal.main_arg8)) →
    ∃ (v0 : (c : Dev Cert.LruBwdIdeal.nD) → Buf (Elt Ideal) ((c.tc : Thread Cert.LruBwdIdeal.nD Cert.LruBwdIdeal.τ).loc Cert.LruBwdIdeal.main_v92_0)) (v1 : (c : Dev Cert.LruBwdIdeal.nD) → Buf (Elt Ideal) ((c.tc : Thread Cert.LruBwdIdeal.nD Cert.LruBwdIdeal.τ).loc Cert.LruBwdIdeal.main_v92_1)) (v2 : (c : Dev Cert.LruBwdIdeal.nD) → Buf (Elt Ideal) ((c.tc : Thread Cert.LruBwdIdeal.nD Cert.LruBwdIdeal.τ).loc Cert.LruBwdIdeal.main_v92_2)) (v3 : (c : Dev Cert.LruBwdIdeal.nD) → Buf (Elt Ideal) ((c.tc : Thread Cert.LruBwdIdeal.nD Cert.LruBwdIdeal.τ).loc Cert.LruBwdIdeal.main_v92_3)) (v4 : (c : Dev Cert.LruBwdIdeal.nD) → Buf (Elt Ideal) ((c.tc : Thread Cert.LruBwdIdeal.nD Cert.LruBwdIdeal.τ).loc Cert.LruBwdIdeal.main_v92_4)) (v5 : (c : Dev Cert.LruBwdIdeal.nD) → Buf (Elt Ideal) ((c.tc : Thread Cert.LruBwdIdeal.nD Cert.LruBwdIdeal.τ).loc Cert.LruBwdIdeal.main_v92_5)) (v6 : (c : Dev Cert.LruBwdIdeal.nD) → Buf (Elt Ideal) ((c.tc : Thread Cert.LruBwdIdeal.nD Cert.LruBwdIdeal.τ).loc Cert.LruBwdIdeal.main_v92_6)) (v7 : (c : Dev Cert.LruBwdIdeal.nD) → Buf (Elt Ideal) ((c.tc : Thread Cert.LruBwdIdeal.nD Cert.LruBwdIdeal.τ).loc Cert.LruBwdIdeal.main_v92_7)),
      θ_run (Cert.LruBwdIdeal.defs (F := Ideal)) (onTc (τ := Cert.LruBwdIdeal.τ) (Cert.LruBwdIdeal.main (F := Ideal))) ⟨m, fun _ => 0, g⟩ (fun r => ∀ c : Dev Cert.LruBwdIdeal.nD,
          r.2.mem ((c.tc : Thread Cert.LruBwdIdeal.nD Cert.LruBwdIdeal.τ).loc Cert.LruBwdIdeal.main_v92_0) = v0 c
          ∧ r.2.mem ((c.tc : Thread Cert.LruBwdIdeal.nD Cert.LruBwdIdeal.τ).loc Cert.LruBwdIdeal.main_v92_1) = v1 c
          ∧ r.2.mem ((c.tc : Thread Cert.LruBwdIdeal.nD Cert.LruBwdIdeal.τ).loc Cert.LruBwdIdeal.main_v92_2) = v2 c
          ∧ r.2.mem ((c.tc : Thread Cert.LruBwdIdeal.nD Cert.LruBwdIdeal.τ).loc Cert.LruBwdIdeal.main_v92_3) = v3 c
          ∧ r.2.mem ((c.tc : Thread Cert.LruBwdIdeal.nD Cert.LruBwdIdeal.τ).loc Cert.LruBwdIdeal.main_v92_4) = v4 c
          ∧ r.2.mem ((c.tc : Thread Cert.LruBwdIdeal.nD Cert.LruBwdIdeal.τ).loc Cert.LruBwdIdeal.main_v92_5) = v5 c
          ∧ r.2.mem ((c.tc : Thread Cert.LruBwdIdeal.nD Cert.LruBwdIdeal.τ).loc Cert.LruBwdIdeal.main_v92_6) = v6 c
          ∧ r.2.mem ((c.tc : Thread Cert.LruBwdIdeal.nD Cert.LruBwdIdeal.τ).loc Cert.LruBwdIdeal.main_v92_7) = v7 c
          ∧ r.2.mem ((c.tc : Thread Cert.LruBwdIdeal.nD Cert.LruBwdIdeal.τ).loc Cert.LruBwdIdeal.main_arg0) = m ((c.tc : Thread Cert.LruBwdIdeal.nD Cert.LruBwdIdeal.τ).loc Cert.LruBwdIdeal.main_arg0)
          ∧ r.2.mem ((c.tc : Thread Cert.LruBwdIdeal.nD Cert.LruBwdIdeal.τ).loc Cert.LruBwdIdeal.main_arg1) = m ((c.tc : Thread Cert.LruBwdIdeal.nD Cert.LruBwdIdeal.τ).loc Cert.LruBwdIdeal.main_arg1)
          ∧ r.2.mem ((c.tc : Thread Cert.LruBwdIdeal.nD Cert.LruBwdIdeal.τ).loc Cert.LruBwdIdeal.main_arg2) = m ((c.tc : Thread Cert.LruBwdIdeal.nD Cert.LruBwdIdeal.τ).loc Cert.LruBwdIdeal.main_arg2)
          ∧ r.2.mem ((c.tc : Thread Cert.LruBwdIdeal.nD Cert.LruBwdIdeal.τ).loc Cert.LruBwdIdeal.main_arg3) = m ((c.tc : Thread Cert.LruBwdIdeal.nD Cert.LruBwdIdeal.τ).loc Cert.LruBwdIdeal.main_arg3)
          ∧ r.2.mem ((c.tc : Thread Cert.LruBwdIdeal.nD Cert.LruBwdIdeal.τ).loc Cert.LruBwdIdeal.main_arg4) = m ((c.tc : Thread Cert.LruBwdIdeal.nD Cert.LruBwdIdeal.τ).loc Cert.LruBwdIdeal.main_arg4)
          ∧ r.2.mem ((c.tc : Thread Cert.LruBwdIdeal.nD Cert.LruBwdIdeal.τ).loc Cert.LruBwdIdeal.main_arg5) = m ((c.tc : Thread Cert.LruBwdIdeal.nD Cert.LruBwdIdeal.τ).loc Cert.LruBwdIdeal.main_arg5)
          ∧ r.2.mem ((c.tc : Thread Cert.LruBwdIdeal.nD Cert.LruBwdIdeal.τ).loc Cert.LruBwdIdeal.main_arg6) = m ((c.tc : Thread Cert.LruBwdIdeal.nD Cert.LruBwdIdeal.τ).loc Cert.LruBwdIdeal.main_arg6)
          ∧ r.2.mem ((c.tc : Thread Cert.LruBwdIdeal.nD Cert.LruBwdIdeal.τ).loc Cert.LruBwdIdeal.main_arg7) = m ((c.tc : Thread Cert.LruBwdIdeal.nD Cert.LruBwdIdeal.τ).loc Cert.LruBwdIdeal.main_arg7)
          ∧ r.2.mem ((c.tc : Thread Cert.LruBwdIdeal.nD Cert.LruBwdIdeal.τ).loc Cert.LruBwdIdeal.main_arg8) = m ((c.tc : Thread Cert.LruBwdIdeal.nD Cert.LruBwdIdeal.τ).loc Cert.LruBwdIdeal.main_arg8))
      ∧ θ_run (Cert.LruBwdRefIdeal.defs (F := Ideal)) (onTc (τ := Cert.LruBwdRefIdeal.τ) (Cert.LruBwdRefIdeal.main (F := Ideal))) ⟨m', fun _ => 0, g'⟩ (fun r => ∀ c : Dev Cert.LruBwdRefIdeal.nD,
          r.2.mem ((c.tc : Thread Cert.LruBwdRefIdeal.nD Cert.LruBwdRefIdeal.τ).loc Cert.LruBwdRefIdeal.main_v239) = v0 c
          ∧ r.2.mem ((c.tc : Thread Cert.LruBwdRefIdeal.nD Cert.LruBwdRefIdeal.τ).loc Cert.LruBwdRefIdeal.main_v234) = v1 c
          ∧ r.2.mem ((c.tc : Thread Cert.LruBwdRefIdeal.nD Cert.LruBwdRefIdeal.τ).loc Cert.LruBwdRefIdeal.main_v240) = v2 c
          ∧ r.2.mem ((c.tc : Thread Cert.LruBwdRefIdeal.nD Cert.LruBwdRefIdeal.τ).loc Cert.LruBwdRefIdeal.main_v187) = v3 c
          ∧ r.2.mem ((c.tc : Thread Cert.LruBwdRefIdeal.nD Cert.LruBwdRefIdeal.τ).loc Cert.LruBwdRefIdeal.main_v241) = v4 c
          ∧ r.2.mem ((c.tc : Thread Cert.LruBwdRefIdeal.nD Cert.LruBwdRefIdeal.τ).loc Cert.LruBwdRefIdeal.main_v179) = v5 c
          ∧ r.2.mem ((c.tc : Thread Cert.LruBwdRefIdeal.nD Cert.LruBwdRefIdeal.τ).loc Cert.LruBwdRefIdeal.main_v242) = v6 c
          ∧ r.2.mem ((c.tc : Thread Cert.LruBwdRefIdeal.nD Cert.LruBwdRefIdeal.τ).loc Cert.LruBwdRefIdeal.main_v243) = v7 c
          ∧ r.2.mem ((c.tc : Thread Cert.LruBwdRefIdeal.nD Cert.LruBwdRefIdeal.τ).loc Cert.LruBwdRefIdeal.main_arg0) = m' ((c.tc : Thread Cert.LruBwdRefIdeal.nD Cert.LruBwdRefIdeal.τ).loc Cert.LruBwdRefIdeal.main_arg0)
          ∧ r.2.mem ((c.tc : Thread Cert.LruBwdRefIdeal.nD Cert.LruBwdRefIdeal.τ).loc Cert.LruBwdRefIdeal.main_arg1) = m' ((c.tc : Thread Cert.LruBwdRefIdeal.nD Cert.LruBwdRefIdeal.τ).loc Cert.LruBwdRefIdeal.main_arg1)
          ∧ r.2.mem ((c.tc : Thread Cert.LruBwdRefIdeal.nD Cert.LruBwdRefIdeal.τ).loc Cert.LruBwdRefIdeal.main_arg2) = m' ((c.tc : Thread Cert.LruBwdRefIdeal.nD Cert.LruBwdRefIdeal.τ).loc Cert.LruBwdRefIdeal.main_arg2)
          ∧ r.2.mem ((c.tc : Thread Cert.LruBwdRefIdeal.nD Cert.LruBwdRefIdeal.τ).loc Cert.LruBwdRefIdeal.main_arg3) = m' ((c.tc : Thread Cert.LruBwdRefIdeal.nD Cert.LruBwdRefIdeal.τ).loc Cert.LruBwdRefIdeal.main_arg3)
          ∧ r.2.mem ((c.tc : Thread Cert.LruBwdRefIdeal.nD Cert.LruBwdRefIdeal.τ).loc Cert.LruBwdRefIdeal.main_arg4) = m' ((c.tc : Thread Cert.LruBwdRefIdeal.nD Cert.LruBwdRefIdeal.τ).loc Cert.LruBwdRefIdeal.main_arg4)
          ∧ r.2.mem ((c.tc : Thread Cert.LruBwdRefIdeal.nD Cert.LruBwdRefIdeal.τ).loc Cert.LruBwdRefIdeal.main_arg5) = m' ((c.tc : Thread Cert.LruBwdRefIdeal.nD Cert.LruBwdRefIdeal.τ).loc Cert.LruBwdRefIdeal.main_arg5)
          ∧ r.2.mem ((c.tc : Thread Cert.LruBwdRefIdeal.nD Cert.LruBwdRefIdeal.τ).loc Cert.LruBwdRefIdeal.main_arg6) = m' ((c.tc : Thread Cert.LruBwdRefIdeal.nD Cert.LruBwdRefIdeal.τ).loc Cert.LruBwdRefIdeal.main_arg6)
          ∧ r.2.mem ((c.tc : Thread Cert.LruBwdRefIdeal.nD Cert.LruBwdRefIdeal.τ).loc Cert.LruBwdRefIdeal.main_arg7) = m' ((c.tc : Thread Cert.LruBwdRefIdeal.nD Cert.LruBwdRefIdeal.τ).loc Cert.LruBwdRefIdeal.main_arg7)
          ∧ r.2.mem ((c.tc : Thread Cert.LruBwdRefIdeal.nD Cert.LruBwdRefIdeal.τ).loc Cert.LruBwdRefIdeal.main_arg8) = m' ((c.tc : Thread Cert.LruBwdRefIdeal.nD Cert.LruBwdRefIdeal.τ).loc Cert.LruBwdRefIdeal.main_arg8))

def preserves_FfnBwd_FfnBwdIdeal : Prop :=
  True

def algebraic_FfnBwdIdeal_FfnBwdRefIdeal_pre_finite_ffn [hFfnBwdIdeal : Cert.FfnBwdIdeal.Facts] [hFfnBwdRefIdeal : Cert.FfnBwdRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v34_0)) (v1 : (c : Dev Cert.FfnBwdIdeal.nD) → Buf (Elt Ideal) ((c.tc : Thread Cert.FfnBwdIdeal.nD Cert.FfnBwdIdeal.τ).loc Cert.FfnBwdIdeal.main_v34_1)) (v2 : (c : Dev Cert.FfnBwdIdeal.nD) → Buf (Elt Ideal) ((c.tc : Thread Cert.FfnBwdIdeal.nD Cert.FfnBwdIdeal.τ).loc Cert.FfnBwdIdeal.main_v34_2)) (v3 : (c : Dev Cert.FfnBwdIdeal.nD) → Buf (Elt Ideal) ((c.tc : Thread Cert.FfnBwdIdeal.nD Cert.FfnBwdIdeal.τ).loc Cert.FfnBwdIdeal.main_v34_3)) (v4 : (c : Dev Cert.FfnBwdIdeal.nD) → Buf (Elt Ideal) ((c.tc : Thread Cert.FfnBwdIdeal.nD Cert.FfnBwdIdeal.τ).loc Cert.FfnBwdIdeal.main_v34_4)) (v5 : (c : Dev Cert.FfnBwdIdeal.nD) → Buf (Elt Ideal) ((c.tc : Thread Cert.FfnBwdIdeal.nD Cert.FfnBwdIdeal.τ).loc Cert.FfnBwdIdeal.main_v34_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v34_0) = v0 c
          ∧ r.2.mem ((c.tc : Thread Cert.FfnBwdIdeal.nD Cert.FfnBwdIdeal.τ).loc Cert.FfnBwdIdeal.main_v34_1) = v1 c
          ∧ r.2.mem ((c.tc : Thread Cert.FfnBwdIdeal.nD Cert.FfnBwdIdeal.τ).loc Cert.FfnBwdIdeal.main_v34_2) = v2 c
          ∧ r.2.mem ((c.tc : Thread Cert.FfnBwdIdeal.nD Cert.FfnBwdIdeal.τ).loc Cert.FfnBwdIdeal.main_v34_3) = v3 c
          ∧ r.2.mem ((c.tc : Thread Cert.FfnBwdIdeal.nD Cert.FfnBwdIdeal.τ).loc Cert.FfnBwdIdeal.main_v34_4) = v4 c
          ∧ r.2.mem ((c.tc : Thread Cert.FfnBwdIdeal.nD Cert.FfnBwdIdeal.τ).loc Cert.FfnBwdIdeal.main_v34_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v86) = v0 c
          ∧ r.2.mem ((c.tc : Thread Cert.FfnBwdRefIdeal.nD Cert.FfnBwdRefIdeal.τ).loc Cert.FfnBwdRefIdeal.main_v90) = v1 c
          ∧ r.2.mem ((c.tc : Thread Cert.FfnBwdRefIdeal.nD Cert.FfnBwdRefIdeal.τ).loc Cert.FfnBwdRefIdeal.main_v94) = v2 c
          ∧ r.2.mem ((c.tc : Thread Cert.FfnBwdRefIdeal.nD Cert.FfnBwdRefIdeal.τ).loc Cert.FfnBwdRefIdeal.main_v95) = v3 c
          ∧ r.2.mem ((c.tc : Thread Cert.FfnBwdRefIdeal.nD Cert.FfnBwdRefIdeal.τ).loc Cert.FfnBwdRefIdeal.main_v48) = v4 c
          ∧ r.2.mem ((c.tc : Thread Cert.FfnBwdRefIdeal.nD Cert.FfnBwdRefIdeal.τ).loc Cert.FfnBwdRefIdeal.main_v45) = v5 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5))

def preserves_FfnDd_FfnDdIdeal : Prop :=
  True

def algebraic_FfnDdIdeal_FfnDdRefIdeal [hFfnDdIdeal : Cert.FfnDdIdeal.Facts] [hFfnDdRefIdeal : Cert.FfnDdRefIdeal.Facts] : Prop :=
  ∀ (m : (ℓ : Loc Cert.FfnDdIdeal.nD Cert.FfnDdIdeal.τ Cert.FfnDdIdeal.sig) → Buf (Elt Ideal) ℓ) (g : Dev Cert.FfnDdIdeal.nD → PrngReg)
    (m' : (ℓ : Loc Cert.FfnDdRefIdeal.nD Cert.FfnDdRefIdeal.τ Cert.FfnDdRefIdeal.sig) → Buf (Elt Ideal) ℓ) (g' : Dev Cert.FfnDdRefIdeal.nD → PrngReg), Pre_FfnDdIdeal m →
    (∀ c : Dev Cert.FfnDdIdeal.nD,
      m' ((c.tc : Thread Cert.FfnDdRefIdeal.nD Cert.FfnDdRefIdeal.τ).loc Cert.FfnDdRefIdeal.main_arg0) = m ((c.tc : Thread Cert.FfnDdIdeal.nD Cert.FfnDdIdeal.τ).loc Cert.FfnDdIdeal.main_arg0)
      ∧ m' ((c.tc : Thread Cert.FfnDdRefIdeal.nD Cert.FfnDdRefIdeal.τ).loc Cert.FfnDdRefIdeal.main_arg1) = m ((c.tc : Thread Cert.FfnDdIdeal.nD Cert.FfnDdIdeal.τ).loc Cert.FfnDdIdeal.main_arg1)) →
    ∃ (v0 : (c : Dev Cert.FfnDdIdeal.nD) → Buf (Elt Ideal) ((c.tc : Thread Cert.FfnDdIdeal.nD Cert.FfnDdIdeal.τ).loc Cert.FfnDdIdeal.main_v5)),
      θ_run (Cert.FfnDdIdeal.defs (F := Ideal)) (onTc (τ := Cert.FfnDdIdeal.τ) (Cert.FfnDdIdeal.main (F := Ideal))) ⟨m, fun _ => 0, g⟩ (fun r => ∀ c : Dev Cert.FfnDdIdeal.nD,
          r.2.mem ((c.tc : Thread Cert.FfnDdIdeal.nD Cert.FfnDdIdeal.τ).loc Cert.FfnDdIdeal.main_v5) = v0 c
          ∧ r.2.mem ((c.tc : Thread Cert.FfnDdIdeal.nD Cert.FfnDdIdeal.τ).loc Cert.FfnDdIdeal.main_arg0) = m ((c.tc : Thread Cert.FfnDdIdeal.nD Cert.FfnDdIdeal.τ).loc Cert.FfnDdIdeal.main_arg0)
          ∧ r.2.mem ((c.tc : Thread Cert.FfnDdIdeal.nD Cert.FfnDdIdeal.τ).loc Cert.FfnDdIdeal.main_arg1) = m ((c.tc : Thread Cert.FfnDdIdeal.nD Cert.FfnDdIdeal.τ).loc Cert.FfnDdIdeal.main_arg1))
      ∧ θ_run (Cert.FfnDdRefIdeal.defs (F := Ideal)) (onTc (τ := Cert.FfnDdRefIdeal.τ) (Cert.FfnDdRefIdeal.main (F := Ideal))) ⟨m', fun _ => 0, g'⟩ (fun r => ∀ c : Dev Cert.FfnDdRefIdeal.nD,
          r.2.mem ((c.tc : Thread Cert.FfnDdRefIdeal.nD Cert.FfnDdRefIdeal.τ).loc Cert.FfnDdRefIdeal.main_v7) = v0 c
          ∧ r.2.mem ((c.tc : Thread Cert.FfnDdRefIdeal.nD Cert.FfnDdRefIdeal.τ).loc Cert.FfnDdRefIdeal.main_arg0) = m' ((c.tc : Thread Cert.FfnDdRefIdeal.nD Cert.FfnDdRefIdeal.τ).loc Cert.FfnDdRefIdeal.main_arg0)
          ∧ r.2.mem ((c.tc : Thread Cert.FfnDdRefIdeal.nD Cert.FfnDdRefIdeal.τ).loc Cert.FfnDdRefIdeal.main_arg1) = m' ((c.tc : Thread Cert.FfnDdRefIdeal.nD Cert.FfnDdRefIdeal.τ).loc Cert.FfnDdRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)) →
    ∃ (v0 : (c : Dev Cert.FfnFwdIdeal.nD) → Buf (Elt Ideal) ((c.tc : Thread Cert.FfnFwdIdeal.nD Cert.FfnFwdIdeal.τ).loc Cert.FfnFwdIdeal.main_v16_0)) (v1 : (c : Dev Cert.FfnFwdIdeal.nD) → Buf (Elt Ideal) ((c.tc : Thread Cert.FfnFwdIdeal.nD Cert.FfnFwdIdeal.τ).loc Cert.FfnFwdIdeal.main_v16_1)) (v2 : (c : Dev Cert.FfnFwdIdeal.nD) → Buf (Elt Ideal) ((c.tc : Thread Cert.FfnFwdIdeal.nD Cert.FfnFwdIdeal.τ).loc Cert.FfnFwdIdeal.main_v16_2)) (v3 : (c : Dev Cert.FfnFwdIdeal.nD) → Buf (Elt Ideal) ((c.tc : Thread Cert.FfnFwdIdeal.nD Cert.FfnFwdIdeal.τ).loc Cert.FfnFwdIdeal.main_v16_3)) (v4 : (c : Dev Cert.FfnFwdIdeal.nD) → Buf (Elt Ideal) ((c.tc : Thread Cert.FfnFwdIdeal.nD Cert.FfnFwdIdeal.τ).loc Cert.FfnFwdIdeal.main_v16_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v16_0) = v0 c
          ∧ r.2.mem ((c.tc : Thread Cert.FfnFwdIdeal.nD Cert.FfnFwdIdeal.τ).loc Cert.FfnFwdIdeal.main_v16_1) = v1 c
          ∧ r.2.mem ((c.tc : Thread Cert.FfnFwdIdeal.nD Cert.FfnFwdIdeal.τ).loc Cert.FfnFwdIdeal.main_v16_2) = v2 c
          ∧ r.2.mem ((c.tc : Thread Cert.FfnFwdIdeal.nD Cert.FfnFwdIdeal.τ).loc Cert.FfnFwdIdeal.main_v16_3) = v3 c
          ∧ r.2.mem ((c.tc : Thread Cert.FfnFwdIdeal.nD Cert.FfnFwdIdeal.τ).loc Cert.FfnFwdIdeal.main_v16_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v9) = v0 c
          ∧ r.2.mem ((c.tc : Thread Cert.FfnFwdRefIdeal.nD Cert.FfnFwdRefIdeal.τ).loc Cert.FfnFwdRefIdeal.main_v31) = v1 c
          ∧ r.2.mem ((c.tc : Thread Cert.FfnFwdRefIdeal.nD Cert.FfnFwdRefIdeal.τ).loc Cert.FfnFwdRefIdeal.main_v35) = v2 c
          ∧ r.2.mem ((c.tc : Thread Cert.FfnFwdRefIdeal.nD Cert.FfnFwdRefIdeal.τ).loc Cert.FfnFwdRefIdeal.main_v39) = v3 c
          ∧ r.2.mem ((c.tc : Thread Cert.FfnFwdRefIdeal.nD Cert.FfnFwdRefIdeal.τ).loc Cert.FfnFwdRefIdeal.main_v43) = v4 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5))

def preserves_FfnFwd2_FfnFwd2Ideal : Prop :=
  True

def algebraic_FfnFwd2Ideal_FfnFwd2RefIdeal [hFfnFwd2Ideal : Cert.FfnFwd2Ideal.Facts] [hFfnFwd2RefIdeal : Cert.FfnFwd2RefIdeal.Facts] : Prop :=
  ∀ (m : (ℓ : Loc Cert.FfnFwd2Ideal.nD Cert.FfnFwd2Ideal.τ Cert.FfnFwd2Ideal.sig) → Buf (Elt Ideal) ℓ) (g : Dev Cert.FfnFwd2Ideal.nD → PrngReg)
    (m' : (ℓ : Loc Cert.FfnFwd2RefIdeal.nD Cert.FfnFwd2RefIdeal.τ Cert.FfnFwd2RefIdeal.sig) → Buf (Elt Ideal) ℓ) (g' : Dev Cert.FfnFwd2RefIdeal.nD → PrngReg), Pre_FfnFwd2Ideal m →
    (∀ c : Dev Cert.FfnFwd2Ideal.nD,
      m' ((c.tc : Thread Cert.FfnFwd2RefIdeal.nD Cert.FfnFwd2RefIdeal.τ).loc Cert.FfnFwd2RefIdeal.main_arg0) = m ((c.tc : Thread Cert.FfnFwd2Ideal.nD Cert.FfnFwd2Ideal.τ).loc Cert.FfnFwd2Ideal.main_arg0)
      ∧ m' ((c.tc : Thread Cert.FfnFwd2RefIdeal.nD Cert.FfnFwd2RefIdeal.τ).loc Cert.FfnFwd2RefIdeal.main_arg1) = m ((c.tc : Thread Cert.FfnFwd2Ideal.nD Cert.FfnFwd2Ideal.τ).loc Cert.FfnFwd2Ideal.main_arg1)
      ∧ m' ((c.tc : Thread Cert.FfnFwd2RefIdeal.nD Cert.FfnFwd2RefIdeal.τ).loc Cert.FfnFwd2RefIdeal.main_arg2) = m ((c.tc : Thread Cert.FfnFwd2Ideal.nD Cert.FfnFwd2Ideal.τ).loc Cert.FfnFwd2Ideal.main_arg2)
      ∧ m' ((c.tc : Thread Cert.FfnFwd2RefIdeal.nD Cert.FfnFwd2RefIdeal.τ).loc Cert.FfnFwd2RefIdeal.main_arg3) = m ((c.tc : Thread Cert.FfnFwd2Ideal.nD Cert.FfnFwd2Ideal.τ).loc Cert.FfnFwd2Ideal.main_arg3)
      ∧ m' ((c.tc : Thread Cert.FfnFwd2RefIdeal.nD Cert.FfnFwd2RefIdeal.τ).loc Cert.FfnFwd2RefIdeal.main_arg4) = m ((c.tc : Thread Cert.FfnFwd2Ideal.nD Cert.FfnFwd2Ideal.τ).loc Cert.FfnFwd2Ideal.main_arg4)
      ∧ m' ((c.tc : Thread Cert.FfnFwd2RefIdeal.nD Cert.FfnFwd2RefIdeal.τ).loc Cert.FfnFwd2RefIdeal.main_arg5) = m ((c.tc : Thread Cert.FfnFwd2Ideal.nD Cert.FfnFwd2Ideal.τ).loc Cert.FfnFwd2Ideal.main_arg5)
      ∧ m' ((c.tc : Thread Cert.FfnFwd2RefIdeal.nD Cert.FfnFwd2RefIdeal.τ).loc Cert.FfnFwd2RefIdeal.main_arg6) = m ((c.tc : Thread Cert.FfnFwd2Ideal.nD Cert.FfnFwd2Ideal.τ).loc Cert.FfnFwd2Ideal.main_arg6)
      ∧ m' ((c.tc : Thread Cert.FfnFwd2RefIdeal.nD Cert.FfnFwd2RefIdeal.τ).loc Cert.FfnFwd2RefIdeal.main_arg7) = m ((c.tc : Thread Cert.FfnFwd2Ideal.nD Cert.FfnFwd2Ideal.τ).loc Cert.FfnFwd2Ideal.main_arg7)
      ∧ m' ((c.tc : Thread Cert.FfnFwd2RefIdeal.nD Cert.FfnFwd2RefIdeal.τ).loc Cert.FfnFwd2RefIdeal.main_arg8) = m ((c.tc : Thread Cert.FfnFwd2Ideal.nD Cert.FfnFwd2Ideal.τ).loc Cert.FfnFwd2Ideal.main_arg8)) →
    ∃ (v0 : (c : Dev Cert.FfnFwd2Ideal.nD) → Buf (Elt Ideal) ((c.tc : Thread Cert.FfnFwd2Ideal.nD Cert.FfnFwd2Ideal.τ).loc Cert.FfnFwd2Ideal.main_v20_0)) (v1 : (c : Dev Cert.FfnFwd2Ideal.nD) → Buf (Elt Ideal) ((c.tc : Thread Cert.FfnFwd2Ideal.nD Cert.FfnFwd2Ideal.τ).loc Cert.FfnFwd2Ideal.main_v20_1)) (v2 : (c : Dev Cert.FfnFwd2Ideal.nD) → Buf (Elt Ideal) ((c.tc : Thread Cert.FfnFwd2Ideal.nD Cert.FfnFwd2Ideal.τ).loc Cert.FfnFwd2Ideal.main_v20_2)) (v3 : (c : Dev Cert.FfnFwd2Ideal.nD) → Buf (Elt Ideal) ((c.tc : Thread Cert.FfnFwd2Ideal.nD Cert.FfnFwd2Ideal.τ).loc Cert.FfnFwd2Ideal.main_v20_3)) (v4 : (c : Dev Cert.FfnFwd2Ideal.nD) → Buf (Elt Ideal) ((c.tc : Thread Cert.FfnFwd2Ideal.nD Cert.FfnFwd2Ideal.τ).loc Cert.FfnFwd2Ideal.main_v20_4)),
      θ_run (Cert.FfnFwd2Ideal.defs (F := Ideal)) (onTc (τ := Cert.FfnFwd2Ideal.τ) (Cert.FfnFwd2Ideal.main (F := Ideal))) ⟨m, fun _ => 0, g⟩ (fun r => ∀ c : Dev Cert.FfnFwd2Ideal.nD,
          r.2.mem ((c.tc : Thread Cert.FfnFwd2Ideal.nD Cert.FfnFwd2Ideal.τ).loc Cert.FfnFwd2Ideal.main_v20_0) = v0 c
          ∧ r.2.mem ((c.tc : Thread Cert.FfnFwd2Ideal.nD Cert.FfnFwd2Ideal.τ).loc Cert.FfnFwd2Ideal.main_v20_1) = v1 c
          ∧ r.2.mem ((c.tc : Thread Cert.FfnFwd2Ideal.nD Cert.FfnFwd2Ideal.τ).loc Cert.FfnFwd2Ideal.main_v20_2) = v2 c
          ∧ r.2.mem ((c.tc : Thread Cert.FfnFwd2Ideal.nD Cert.FfnFwd2Ideal.τ).loc Cert.FfnFwd2Ideal.main_v20_3) = v3 c
          ∧ r.2.mem ((c.tc : Thread Cert.FfnFwd2Ideal.nD Cert.FfnFwd2Ideal.τ).loc Cert.FfnFwd2Ideal.main_v20_4) = v4 c
          ∧ r.2.mem ((c.tc : Thread Cert.FfnFwd2Ideal.nD Cert.FfnFwd2Ideal.τ).loc Cert.FfnFwd2Ideal.main_arg0) = m ((c.tc : Thread Cert.FfnFwd2Ideal.nD Cert.FfnFwd2Ideal.τ).loc Cert.FfnFwd2Ideal.main_arg0)
          ∧ r.2.mem ((c.tc : Thread Cert.FfnFwd2Ideal.nD Cert.FfnFwd2Ideal.τ).loc Cert.FfnFwd2Ideal.main_arg1) = m ((c.tc : Thread Cert.FfnFwd2Ideal.nD Cert.FfnFwd2Ideal.τ).loc Cert.FfnFwd2Ideal.main_arg1)
          ∧ r.2.mem ((c.tc : Thread Cert.FfnFwd2Ideal.nD Cert.FfnFwd2Ideal.τ).loc Cert.FfnFwd2Ideal.main_arg2) = m ((c.tc : Thread Cert.FfnFwd2Ideal.nD Cert.FfnFwd2Ideal.τ).loc Cert.FfnFwd2Ideal.main_arg2)
          ∧ r.2.mem ((c.tc : Thread Cert.FfnFwd2Ideal.nD Cert.FfnFwd2Ideal.τ).loc Cert.FfnFwd2Ideal.main_arg3) = m ((c.tc : Thread Cert.FfnFwd2Ideal.nD Cert.FfnFwd2Ideal.τ).loc Cert.FfnFwd2Ideal.main_arg3)
          ∧ r.2.mem ((c.tc : Thread Cert.FfnFwd2Ideal.nD Cert.FfnFwd2Ideal.τ).loc Cert.FfnFwd2Ideal.main_arg4) = m ((c.tc : Thread Cert.FfnFwd2Ideal.nD Cert.FfnFwd2Ideal.τ).loc Cert.FfnFwd2Ideal.main_arg4)
          ∧ r.2.mem ((c.tc : Thread Cert.FfnFwd2Ideal.nD Cert.FfnFwd2Ideal.τ).loc Cert.FfnFwd2Ideal.main_arg5) = m ((c.tc : Thread Cert.FfnFwd2Ideal.nD Cert.FfnFwd2Ideal.τ).loc Cert.FfnFwd2Ideal.main_arg5)
          ∧ r.2.mem ((c.tc : Thread Cert.FfnFwd2Ideal.nD Cert.FfnFwd2Ideal.τ).loc Cert.FfnFwd2Ideal.main_arg6) = m ((c.tc : Thread Cert.FfnFwd2Ideal.nD Cert.FfnFwd2Ideal.τ).loc Cert.FfnFwd2Ideal.main_arg6)
          ∧ r.2.mem ((c.tc : Thread Cert.FfnFwd2Ideal.nD Cert.FfnFwd2Ideal.τ).loc Cert.FfnFwd2Ideal.main_arg7) = m ((c.tc : Thread Cert.FfnFwd2Ideal.nD Cert.FfnFwd2Ideal.τ).loc Cert.FfnFwd2Ideal.main_arg7)
          ∧ r.2.mem ((c.tc : Thread Cert.FfnFwd2Ideal.nD Cert.FfnFwd2Ideal.τ).loc Cert.FfnFwd2Ideal.main_arg8) = m ((c.tc : Thread Cert.FfnFwd2Ideal.nD Cert.FfnFwd2Ideal.τ).loc Cert.FfnFwd2Ideal.main_arg8))
      ∧ θ_run (Cert.FfnFwd2RefIdeal.defs (F := Ideal)) (onTc (τ := Cert.FfnFwd2RefIdeal.τ) (Cert.FfnFwd2RefIdeal.main (F := Ideal))) ⟨m', fun _ => 0, g'⟩ (fun r => ∀ c : Dev Cert.FfnFwd2RefIdeal.nD,
          r.2.mem ((c.tc : Thread Cert.FfnFwd2RefIdeal.nD Cert.FfnFwd2RefIdeal.τ).loc Cert.FfnFwd2RefIdeal.main_v19) = v0 c
          ∧ r.2.mem ((c.tc : Thread Cert.FfnFwd2RefIdeal.nD Cert.FfnFwd2RefIdeal.τ).loc Cert.FfnFwd2RefIdeal.main_v41) = v1 c
          ∧ r.2.mem ((c.tc : Thread Cert.FfnFwd2RefIdeal.nD Cert.FfnFwd2RefIdeal.τ).loc Cert.FfnFwd2RefIdeal.main_v45) = v2 c
          ∧ r.2.mem ((c.tc : Thread Cert.FfnFwd2RefIdeal.nD Cert.FfnFwd2RefIdeal.τ).loc Cert.FfnFwd2RefIdeal.main_v49) = v3 c
          ∧ r.2.mem ((c.tc : Thread Cert.FfnFwd2RefIdeal.nD Cert.FfnFwd2RefIdeal.τ).loc Cert.FfnFwd2RefIdeal.main_v53) = v4 c
          ∧ r.2.mem ((c.tc : Thread Cert.FfnFwd2RefIdeal.nD Cert.FfnFwd2RefIdeal.τ).loc Cert.FfnFwd2RefIdeal.main_arg0) = m' ((c.tc : Thread Cert.FfnFwd2RefIdeal.nD Cert.FfnFwd2RefIdeal.τ).loc Cert.FfnFwd2RefIdeal.main_arg0)
          ∧ r.2.mem ((c.tc : Thread Cert.FfnFwd2RefIdeal.nD Cert.FfnFwd2RefIdeal.τ).loc Cert.FfnFwd2RefIdeal.main_arg1) = m' ((c.tc : Thread Cert.FfnFwd2RefIdeal.nD Cert.FfnFwd2RefIdeal.τ).loc Cert.FfnFwd2RefIdeal.main_arg1)
          ∧ r.2.mem ((c.tc : Thread Cert.FfnFwd2RefIdeal.nD Cert.FfnFwd2RefIdeal.τ).loc Cert.FfnFwd2RefIdeal.main_arg2) = m' ((c.tc : Thread Cert.FfnFwd2RefIdeal.nD Cert.FfnFwd2RefIdeal.τ).loc Cert.FfnFwd2RefIdeal.main_arg2)
          ∧ r.2.mem ((c.tc : Thread Cert.FfnFwd2RefIdeal.nD Cert.FfnFwd2RefIdeal.τ).loc Cert.FfnFwd2RefIdeal.main_arg3) = m' ((c.tc : Thread Cert.FfnFwd2RefIdeal.nD Cert.FfnFwd2RefIdeal.τ).loc Cert.FfnFwd2RefIdeal.main_arg3)
          ∧ r.2.mem ((c.tc : Thread Cert.FfnFwd2RefIdeal.nD Cert.FfnFwd2RefIdeal.τ).loc Cert.FfnFwd2RefIdeal.main_arg4) = m' ((c.tc : Thread Cert.FfnFwd2RefIdeal.nD Cert.FfnFwd2RefIdeal.τ).loc Cert.FfnFwd2RefIdeal.main_arg4)
          ∧ r.2.mem ((c.tc : Thread Cert.FfnFwd2RefIdeal.nD Cert.FfnFwd2RefIdeal.τ).loc Cert.FfnFwd2RefIdeal.main_arg5) = m' ((c.tc : Thread Cert.FfnFwd2RefIdeal.nD Cert.FfnFwd2RefIdeal.τ).loc Cert.FfnFwd2RefIdeal.main_arg5)
          ∧ r.2.mem ((c.tc : Thread Cert.FfnFwd2RefIdeal.nD Cert.FfnFwd2RefIdeal.τ).loc Cert.FfnFwd2RefIdeal.main_arg6) = m' ((c.tc : Thread Cert.FfnFwd2RefIdeal.nD Cert.FfnFwd2RefIdeal.τ).loc Cert.FfnFwd2RefIdeal.main_arg6)
          ∧ r.2.mem ((c.tc : Thread Cert.FfnFwd2RefIdeal.nD Cert.FfnFwd2RefIdeal.τ).loc Cert.FfnFwd2RefIdeal.main_arg7) = m' ((c.tc : Thread Cert.FfnFwd2RefIdeal.nD Cert.FfnFwd2RefIdeal.τ).loc Cert.FfnFwd2RefIdeal.main_arg7)
          ∧ r.2.mem ((c.tc : Thread Cert.FfnFwd2RefIdeal.nD Cert.FfnFwd2RefIdeal.τ).loc Cert.FfnFwd2RefIdeal.main_arg8) = m' ((c.tc : Thread Cert.FfnFwd2RefIdeal.nD Cert.FfnFwd2RefIdeal.τ).loc Cert.FfnFwd2RefIdeal.main_arg8))

def Claim : Prop :=
  ∃ (hFfnDw : Cert.FfnDw.Facts) (hFfnDwIdeal : Cert.FfnDwIdeal.Facts) (hFfnDwRefIdeal : Cert.FfnDwRefIdeal.Facts) (hLruBwd : Cert.LruBwd.Facts) (hLruBwdIdeal : Cert.LruBwdIdeal.Facts) (hLruBwdRefIdeal : Cert.LruBwdRefIdeal.Facts) (hFfnBwd : Cert.FfnBwd.Facts) (hFfnBwdIdeal : Cert.FfnBwdIdeal.Facts) (hFfnBwdRefIdeal : Cert.FfnBwdRefIdeal.Facts) (hFfnDd : Cert.FfnDd.Facts) (hFfnDdIdeal : Cert.FfnDdIdeal.Facts) (hFfnDdRefIdeal : Cert.FfnDdRefIdeal.Facts) (hFfnFwd : Cert.FfnFwd.Facts) (hFfnFwdIdeal : Cert.FfnFwdIdeal.Facts) (hFfnFwdRefIdeal : Cert.FfnFwdRefIdeal.Facts) (hFfnFwd2 : Cert.FfnFwd2.Facts) (hFfnFwd2Ideal : Cert.FfnFwd2Ideal.Facts) (hFfnFwd2RefIdeal : Cert.FfnFwd2RefIdeal.Facts) (hPre_finite_lru_args : Cert.Pre_finite_lru_args.Facts) (hPre_finite_ffn : Cert.Pre_finite_ffn.Facts),
    quiescent_FfnDw (hFfnDw := hFfnDw)
    ∧ quiescent_FfnDwIdeal (hFfnDwIdeal := hFfnDwIdeal)
    ∧ quiescent_FfnDwRefIdeal (hFfnDwRefIdeal := hFfnDwRefIdeal)
    ∧ quiescent_LruBwd (hLruBwd := hLruBwd)
    ∧ quiescent_LruBwdIdeal (hLruBwdIdeal := hLruBwdIdeal)
    ∧ quiescent_LruBwdIdeal_pre_finite_lru_args (hLruBwdIdeal := hLruBwdIdeal) (hPre_finite_lru_args := hPre_finite_lru_args)
    ∧ quiescent_LruBwdRefIdeal (hLruBwdRefIdeal := hLruBwdRefIdeal)
    ∧ quiescent_LruBwdRefIdeal_pre_finite_lru_args (hLruBwdRefIdeal := hLruBwdRefIdeal) (hPre_finite_lru_args := hPre_finite_lru_args)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnBwdRefIdeal (hFfnBwdRefIdeal := hFfnBwdRefIdeal)
    ∧ quiescent_FfnBwdRefIdeal_pre_finite_ffn (hFfnBwdRefIdeal := hFfnBwdRefIdeal) (hPre_finite_ffn := hPre_finite_ffn)
    ∧ quiescent_FfnDd (hFfnDd := hFfnDd)
    ∧ quiescent_FfnDdIdeal (hFfnDdIdeal := hFfnDdIdeal)
    ∧ quiescent_FfnDdRefIdeal (hFfnDdRefIdeal := hFfnDdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_FfnFwd2 (hFfnFwd2 := hFfnFwd2)
    ∧ quiescent_FfnFwd2Ideal (hFfnFwd2Ideal := hFfnFwd2Ideal)
    ∧ quiescent_FfnFwd2RefIdeal (hFfnFwd2RefIdeal := hFfnFwd2RefIdeal)
    ∧ preserves_FfnDw_FfnDwIdeal
    ∧ algebraic_FfnDwIdeal_FfnDwRefIdeal (hFfnDwIdeal := hFfnDwIdeal) (hFfnDwRefIdeal := hFfnDwRefIdeal)
    ∧ preserves_LruBwd_LruBwdIdeal
    ∧ algebraic_LruBwdIdeal_LruBwdRefIdeal_pre_finite_lru_args (hLruBwdIdeal := hLruBwdIdeal) (hLruBwdRefIdeal := hLruBwdRefIdeal) (hPre_finite_lru_args := hPre_finite_lru_args)
    ∧ preserves_FfnBwd_FfnBwdIdeal
    ∧ algebraic_FfnBwdIdeal_FfnBwdRefIdeal_pre_finite_ffn (hFfnBwdIdeal := hFfnBwdIdeal) (hFfnBwdRefIdeal := hFfnBwdRefIdeal) (hPre_finite_ffn := hPre_finite_ffn)
    ∧ preserves_FfnDd_FfnDdIdeal
    ∧ algebraic_FfnDdIdeal_FfnDdRefIdeal (hFfnDdIdeal := hFfnDdIdeal) (hFfnDdRefIdeal := hFfnDdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_FfnFwd2_FfnFwd2Ideal
    ∧ algebraic_FfnFwd2Ideal_FfnFwd2RefIdeal (hFfnFwd2Ideal := hFfnFwd2Ideal) (hFfnFwd2RefIdeal := hFfnFwd2RefIdeal)
-- ==== Pre_finite_ffn.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S8192x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S1024x2816 .f32) (main_arg2 : FVec F S1024x2816 .f32) (main_arg3 : FVec F S2816x1024 .f32) (main_arg4 : FVec F S1x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg5 main_v13 main_v16
-- ==== Pre_finite_lru_args.lean ====
abbrev S8192x768 : Shape := ⟨2, ![8192, 768]⟩
abbrev S4x384 : Shape := ⟨2, ![4, 384]⟩
abbrev S384 : Shape := ⟨1, ![384]⟩
abbrev S384x384 : Shape := ⟨2, ![384, 384]⟩
abbrev S8192x384 : Shape := ⟨2, ![8192, 384]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S8192x384 : S_.BroadcastsInDim S8192x384 (![] : Fin 0 → Fin S8192x384.rank)
  reducesTo_S8192x384_S_d0_1 : S8192x384.ReducesTo [0, 1] S_
  bcast_S_S4x384 : S_.BroadcastsInDim S4x384 (![] : Fin 0 → Fin S4x384.rank)
  reducesTo_S4x384_S_d0_1 : S4x384.ReducesTo [0, 1] S_
  bcast_S_S384 : S_.BroadcastsInDim S384 (![] : Fin 0 → Fin S384.rank)
  reducesTo_S384_S_d0 : S384.ReducesTo [0] S_
  bcast_S_S384x384 : S_.BroadcastsInDim S384x384 (![] : Fin 0 → Fin S384x384.rank)
  reducesTo_S384x384_S_d0_1 : S384x384.ReducesTo [0, 1] S_

variable [Facts]

def fn_part2 {F : FTy → Type} [FloatOps F] (main_arg6 : FVec F S384 .f32) (main_arg7 : FVec F S384 .f32) (main_v33 : IVec S_ 1) : IVec S_ 1 :=
  let main_v34 : FVec F S384 .f32 := Host.absf main_arg6
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S384 .f32 := Host.absf main_arg7
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S384 .f32 := Host.absf main_arg7
  let main_cst_16 : FVec F S_ .f32 := constant S_ .f32 0x00000000#32
  let main_v45 : FVec F S384 .f32 := broadcastInDim S384 ![] bcast_S_S384 main_cst_16
  let main_v46 : IVec S384 1 := cmpf .ogt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  main_v48

def fn_part1 {F : FTy → Type} [FloatOps F] (main_arg3 : FVec F S384x384 .f32) (main_arg4 : FVec F S384 .f32) (main_arg5 : FVec F S384x384 .f32) (main_arg6 : FVec F S384 .f32) (main_arg7 : FVec F S384 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S384x384 .f32 := Host.absf main_arg3
  let main_cst_6 : FVec F S_ .f32 := constant S_ .f32 0x7F800000#32
  let main_v20 : FVec F S384x384 .f32 := broadcastInDim S384x384 ![] bcast_S_S384x384 main_cst_6
  let main_v21 : IVec S384x384 1 := cmpf .olt main_v19 main_v20
  let main_c_7 : IVec S_ 1 := constantI S_ 1 1#1
  let main_v22 : IVec S_ 1 := (fun x v => Host.reduce IntOp.andi x v reducesTo_S384x384_S_d0_1 h_S_) main_v21 main_c_7
  let main_v23 : IVec S_ 1 := andi main_v18 main_v22
  let main_v24 : FVec F S384 .f32 := Host.absf main_arg4
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384x384 .f32 := Host.absf main_arg5
  let main_cst_10 : FVec F S_ .f32 := constant S_ .f32 0x7F800000#32
  let main_v30 : FVec F S384x384 .f32 := broadcastInDim S384x384 ![] bcast_S_S384x384 main_cst_10
  let main_v31 : IVec S384x384 1 := cmpf .olt main_v29 main_v30
  let main_c_11 : IVec S_ 1 := constantI S_ 1 1#1
  let main_v32 : IVec S_ 1 := (fun x v => Host.reduce IntOp.andi x v reducesTo_S384x384_S_d0_1 h_S_) main_v31 main_c_11
  let main_v33 : IVec S_ 1 := andi main_v28 main_v32
  fn_part2 (F := F) main_arg6 main_arg7 main_v33

def fn {F : FTy → Type} [FloatOps F] (main_arg0 : FVec F S8192x768 .f32) (main_arg1 : FVec F S4x384 .f32) (main_arg2 : FVec F S384 .f32) (main_arg3 : FVec F S384x384 .f32) (main_arg4 : FVec F S384 .f32) (main_arg5 : FVec F S384x384 .f32) (main_arg6 : FVec F S384 .f32) (main_arg7 : FVec F S384 .f32) (main_arg8 : FVec F S8192x384 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x384 .f32 := Host.absf main_arg8
  let main_cst_0 : FVec F S_ .f32 := constant S_ .f32 0x7F800000#32
  let main_v5 : FVec F S8192x384 .f32 := broadcastInDim S8192x384 ![] bcast_S_S8192x384 main_cst_0
  let main_v6 : IVec S8192x384 1 := cmpf .olt main_v4 main_v5
  let main_c_1 : IVec S_ 1 := constantI S_ 1 1#1
  let main_v7 : IVec S_ 1 := (fun x v => Host.reduce IntOp.andi x v reducesTo_S8192x384_S_d0_1 h_S_) main_v6 main_c_1
  let main_v8 : IVec S_ 1 := andi main_v3 main_v7
  let main_v9 : FVec F S4x384 .f32 := Host.absf main_arg1
  let main_cst_2 : FVec F S_ .f32 := constant S_ .f32 0x7F800000#32
  let main_v10 : FVec F S4x384 .f32 := broadcastInDim S4x384 ![] bcast_S_S4x384 main_cst_2
  let main_v11 : IVec S4x384 1 := cmpf .olt main_v9 main_v10
  let main_c_3 : IVec S_ 1 := constantI S_ 1 1#1
  let main_v12 : IVec S_ 1 := (fun x v => Host.reduce IntOp.andi x v reducesTo_S4x384_S_d0_1 h_S_) main_v11 main_c_3
  let main_v13 : IVec S_ 1 := andi main_v8 main_v12
  let main_v14 : FVec F S384 .f32 := Host.absf main_arg2
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg3 main_arg4 main_arg5 main_arg6 main_arg7 main_v13 main_v16
-- ==== FfnDw.lean ====
abbrev S8192x1024 : Shape := ⟨2, ![8192, 1024]⟩
abbrev S8192x2816 : Shape := ⟨2, ![8192, 2816]⟩
abbrev S8192x8x352 : Shape := ⟨3, ![8192, 8, 352]⟩
abbrev S_ : Shape := ⟨0, ![]⟩
abbrev S8192x8x384 : Shape := ⟨3, ![8192, 8, 384]⟩
abbrev S8192x3072 : Shape := ⟨2, ![8192, 3072]⟩
abbrev S8x1024x384 : Shape := ⟨3, ![8, 1024, 384]⟩
abbrev S512x1024 : Shape := ⟨2, ![512, 1024]⟩
abbrev S512x3072 : Shape := ⟨2, ![512, 3072]⟩
abbrev S1024x3072 : Shape := ⟨2, ![1024, 3072]⟩
abbrev S1024x384 : Shape := ⟨2, ![1024, 384]⟩
abbrev S1x1024x384 : Shape := ⟨3, ![1, 1024, 384]⟩

abbrev nBuf : Space → Nat
  | .hbm => 9
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x8x352, .f32⟩
  | .hbm, ⟨3, _⟩ => ⟨S_, .i32⟩
  | .hbm, ⟨4, _⟩ => ⟨S_, .f32⟩
  | .hbm, ⟨5, _⟩ => ⟨S8192x8x384, .f32⟩
  | .hbm, ⟨6, _⟩ => ⟨S8192x3072, .f32⟩
  | .hbm, ⟨7, _⟩ => ⟨S8192x3072, .bf16⟩
  | .hbm, ⟨8, _⟩ => ⟨S8x1024x384, .bf16⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S8x1024x384, .bf16⟩
  | .local _ .vmem, ⟨5, _⟩ => ⟨S1024x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== FfnDwRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S1024x8x352 : Shape := ⟨3, ![1024, 8, 352]⟩
abbrev S8x1024x352 : Shape := ⟨3, ![8, 1024, 352]⟩
abbrev S8x1024x384 : Shape := ⟨3, ![8, 1024, 384]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S1024x8x352, .f32⟩
  | .hbm, ⟨8, _⟩ => ⟨S8x1024x352, .f32⟩
  | .hbm, ⟨9, _⟩ => ⟨S_, .i32⟩
  | .hbm, ⟨10, _⟩ => ⟨S_, .f32⟩
  | .hbm, ⟨11, _⟩ => ⟨S8x1024x384, .f32⟩
  | .hbm, ⟨12, _⟩ => ⟨S8x1024x384, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== LruBwd.lean ====
abbrev S8192x768 : Shape := ⟨2, ![8192, 768]⟩
abbrev S4x384 : Shape := ⟨2, ![4, 384]⟩
abbrev S384 : Shape := ⟨1, ![384]⟩
abbrev S384x384 : Shape := ⟨2, ![384, 384]⟩
abbrev S8192x384 : Shape := ⟨2, ![8192, 384]⟩
abbrev S_ : Shape := ⟨0, ![]⟩
abbrev S3x384 : Shape := ⟨2, ![3, 384]⟩
abbrev S8195x384 : Shape := ⟨2, ![8195, 384]⟩
abbrev S1x384 : Shape := ⟨2, ![1, 384]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S8192x8192x384 : Shape := ⟨3, ![8192, 8192, 384]⟩
abbrev S8192x1x384 : Shape := ⟨3, ![8192, 1, 384]⟩
abbrev S1x8192x384 : Shape := ⟨3, ![1, 8192, 384]⟩
abbrev S512x768 : Shape := ⟨2, ![512, 768]⟩
abbrev S8x768 : Shape := ⟨2, ![8, 768]⟩
abbrev S512x384 : Shape := ⟨2, ![512, 384]⟩
abbrev S8x384 : Shape := ⟨2, ![8, 384]⟩
abbrev S520x384 : Shape := ⟨2, ![520, 384]⟩
abbrev S504x384 : Shape := ⟨2, ![504, 384]⟩

abbrev nBuf : Space → Nat
  | .hbm => 143
  | .vmem => 29
  | .smem => 0
  | _ => 0

abbrev hbmTy0_0 (i : Nat) : BufTy := match i % 128 with
  | 0 => ⟨S8192x768, .f32⟩
  | 1 => ⟨S4x384, .f32⟩
  | 2 => ⟨S384, .f32⟩
  | 3 => ⟨S384x384, .f32⟩
  | 4 => ⟨S384, .f32⟩
  | 5 => ⟨S384x384, .f32⟩
  | 6 => ⟨S384, .f32⟩
  | 7 => ⟨S384, .f32⟩
  | 8 => ⟨S8192x384, .f32⟩
  | 9 => ⟨S8192x384, .f32⟩
  | 10 => ⟨S_, .f32⟩
  | 11 => ⟨S3x384, .f32⟩
  | 12 => ⟨S8195x384, .f32⟩
  | 13 => ⟨S1x384, .f32⟩
  | 14 => ⟨S384, .f32⟩
  | 15 => ⟨S8192x384, .f32⟩
  | 16 => ⟨S1x384, .f32⟩
  | 17 => ⟨S8192x384, .f32⟩
  | 18 => ⟨S8192x384, .f32⟩
  | 19 => ⟨S_, .f32⟩
  | 20 => ⟨S8192x384, .f32⟩
  | 21 => ⟨S8192x384, .f32⟩
  | 22 => ⟨S1x384, .f32⟩
  | 23 => ⟨S384, .f32⟩
  | 24 => ⟨S8192x384, .f32⟩
  | 25 => ⟨S1x384, .f32⟩
  | 26 => ⟨S8192x384, .f32⟩
  | 27 => ⟨S8192x384, .f32⟩
  | 28 => ⟨S8192x384, .f32⟩
  | 29 => ⟨S1x384, .f32⟩
  | 30 => ⟨S384, .f32⟩
  | 31 => ⟨S8192x384, .f32⟩
  | 32 => ⟨S1x384, .f32⟩
  | 33 => ⟨S8192x384, .f32⟩
  | 34 => ⟨S8192x384, .f32⟩
  | 35 => ⟨S8192x384, .f32⟩
  | 36 => ⟨S1x384, .f32⟩
  | 37 => ⟨S384, .f32⟩
  | 38 => ⟨S8192x384, .f32⟩
  | 39 => ⟨S1x384, .f32⟩
  | 40 => ⟨S8192x384, .f32⟩
  | 41 => ⟨S8192x384, .f32⟩
  | 42 => ⟨S8192x384, .f32⟩
  | 43 => ⟨S1x384, .f32⟩
  | 44 => ⟨S8192x384, .f32⟩
  | 45 => ⟨S8192x384, .f32⟩
  | 46 => ⟨S8192x384, .f32⟩
  | 47 => ⟨S1x384, .f32⟩
  | 48 => ⟨S8192x384, .f32⟩
  | 49 => ⟨S8192x384, .f32⟩
  | 50 => ⟨S8192x384, .f32⟩
  | 51 => ⟨S8192x384, .f32⟩
  | 52 => ⟨S_, .f32⟩
  | 53 => ⟨S8192x384, .f32⟩
  | 54 => ⟨S8192x384, .f32⟩
  | 55 => ⟨S_, .f32⟩
  | 56 => ⟨S8192x384, .f32⟩
  | 57 => ⟨S8192x384, .f32⟩
  | 58 => ⟨S8192x384, .f32⟩
  | 59 => ⟨S1x384, .f32⟩
  | 60 => ⟨S8192x384, .f32⟩
  | 61 => ⟨S8192x384, .f32⟩
  | 62 => ⟨S8192x384, .f32⟩
  | 63 => ⟨S8192x384, .f32⟩
  | 64 => ⟨S_, .f32⟩
  | 65 => ⟨S8192x384, .f32⟩
  | 66 => ⟨S8192x384, .f32⟩
  | 67 => ⟨S_, .f32⟩
  | 68 => ⟨S8192x384, .f32⟩
  | 69 => ⟨S8192x384, .f32⟩
  | 70 => ⟨S_, .f32⟩
  | 71 => ⟨S8192x384, .f32⟩
  | 72 => ⟨S8192x384, .f32⟩
  | 73 => ⟨S384, .f32⟩
  | 74 => ⟨S_, .f32⟩
  | 75 => ⟨S384, .f32⟩
  | 76 => ⟨S384, .f32⟩
  | 77 => ⟨S384, .f32⟩
  | 78 => ⟨S384, .f32⟩
  | 79 => ⟨S384, .i1⟩
  | 80 => ⟨S384, .f32⟩
  | 81 => ⟨S384, .f32⟩
  | 82 => ⟨S384, .f32⟩
  | 83 => ⟨S384, .f32⟩
  | 84 => ⟨S384, .f32⟩
  | 85 => ⟨S384, .f32⟩
  | 86 => ⟨S384, .f32⟩
  | 87 => ⟨S384, .f32⟩
  | 88 => ⟨S384, .f32⟩
  | 89 => ⟨S1x384, .f32⟩
  | 90 => ⟨S8192x384, .f32⟩
  | 91 => ⟨S8192x384, .f32⟩
  | 92 => ⟨S_, .f32⟩
  | 93 => ⟨S8192x384, .f32⟩
  | 94 => ⟨S8192x384, .f32⟩
  | 95 => ⟨S8192x384, .f32⟩
  | 96 => ⟨S8192x384, .f32⟩
  | 97 => ⟨S8192x384, .f32⟩
  | 98 => ⟨S8192x384, .f32⟩
  | 99 => ⟨S8192x384, .f32⟩
  | 100 => ⟨S8192, .i32⟩
  | 101 => ⟨S8192x1, .i32⟩
  | 102 => ⟨S1x8192, .i32⟩
  | 103 => ⟨S8192x8192, .i32⟩
  | 104 => ⟨S8192x8192, .i32⟩
  | 105 => ⟨S8192x8192, .i1⟩
  | 106 => ⟨S8192x8192x1, .i1⟩
  | 107 => ⟨S_, .f32⟩
  | 108 => ⟨S_, .f32⟩
  | 109 => ⟨S8192x8192x384, .i1⟩
  | 110 => ⟨S8192x8192x384, .f32⟩
  | 111 => ⟨S8192x8192x384, .f32⟩
  | 112 => ⟨S8192x8192x384, .f32⟩
  | 113 => ⟨S_, .f32⟩
  | 114 => ⟨S8192x384, .f32⟩
  | 115 => ⟨S8192x1x384, .f32⟩
  | 116 => ⟨S1x8192x384, .f32⟩
  | 117 => ⟨S8192x8192x384, .f32⟩
  | 118 => ⟨S8192x8192x384, .f32⟩
  | 119 => ⟨S8192x8192x384, .f32⟩
  | 120 => ⟨S8192x8192x384, .f32⟩
  | 121 => ⟨S_, .f32⟩
  | 122 => ⟨S_, .f32⟩
  | 123 => ⟨S8192x8192x384, .i1⟩
  | 124 => ⟨S8192x8192x384, .f32⟩
  | 125 => ⟨S8192x8192x384, .f32⟩
  | 126 => ⟨S1x8192x384, .f32⟩
  | 127 => ⟨S8192x8192x384, .f32⟩
  | _ => ⟨S8192x768, .f32⟩

abbrev hbmTy0_1 (i : Nat) : BufTy := match i % 128 with
  | 0 => ⟨S8192x8192x384, .f32⟩
  | 1 => ⟨S_, .f32⟩
  | 2 => ⟨S8192x384, .f32⟩
  | 3 => ⟨S1x384, .f32⟩
  | 4 => ⟨S1x384, .f32⟩
  | 5 => ⟨S1x384, .f32⟩
  | 6 => ⟨S1x384, .f32⟩
  | 7 => ⟨S8192x768, .bf16⟩
  | 8 => ⟨S4x384, .f32⟩
  | 9 => ⟨S1x384, .f32⟩
  | 10 => ⟨S384x384, .f32⟩
  | 11 => ⟨S1x384, .f32⟩
  | 12 => ⟨S384x384, .f32⟩
  | 13 => ⟨S1x384, .f32⟩
  | 14 => ⟨S1x384, .f32⟩
  | _ => ⟨S8192x768, .f32⟩

abbrev hbmTy (i : Nat) : BufTy := match i / 128 with
  | 0 => hbmTy0_0 i
  | 1 => hbmTy0_1 i
  | _ => ⟨S8192x768, .f32⟩

abbrev bufTy : (tb : Table) → Fin (tcTables nBuf tb) → BufTy
  | .hbm, ⟨i, _⟩ => hbmTy i
  | .local _ .vmem, ⟨0, _⟩ => ⟨S512x768, .f32⟩
  | .local _ .vmem, ⟨1, _⟩ => ⟨S512x768, .f32⟩
  | .local _ .vmem, ⟨2, _⟩ => ⟨S8x768, .f32⟩
  | .local _ .vmem, ⟨3, _⟩ => ⟨S8x768, .f32⟩
  | .local _ .vmem, ⟨4, _⟩ => ⟨S512x384, .f32⟩
  | .local _ .vmem, ⟨5, _⟩ => ⟨S512x384, .f32⟩
  | .local _ .vmem, ⟨6, _⟩ => ⟨S8x384, .f32⟩
  | .local _ .vmem, ⟨7, _⟩ => ⟨S8x384, .f32⟩
  | .local _ .vmem, ⟨8, _⟩ => ⟨S4x384, .f32⟩
  | .local _ .vmem, ⟨9, _⟩ => ⟨S1x384, .f32⟩
  | .local _ .vmem, ⟨10, _⟩ => ⟨S384x384, .f32⟩
  | .local _ .vmem, ⟨11, _⟩ => ⟨S1x384, .f32⟩
  | .local _ .vmem, ⟨12, _⟩ => ⟨S384x384, .f32⟩
  | .local _ .vmem, ⟨13, _⟩ => ⟨S1x384, .f32⟩
  | .local _ .vmem, ⟨14, _⟩ => ⟨S1x384, .f32⟩
  | .local _ .vmem, ⟨15, _⟩ => ⟨S512x384, .f32⟩
  | .local _ .vmem, ⟨16, _⟩ => ⟨S512x384, .f32⟩
  | .local _ .vmem, ⟨17, _⟩ => ⟨S512x768, .bf16⟩
  | .local _ .vmem, ⟨18, _⟩ => ⟨S512x768, .bf16⟩
  | .local _ .vmem, ⟨19, _⟩ => ⟨S4x384, .f32⟩
  | .local _ .vmem, ⟨20, _⟩ => ⟨S1x384, .f32⟩
  | .local _ .vmem, ⟨21, _⟩ => ⟨S384x384, .f32⟩
  | .local _ .vmem, ⟨22, _⟩ => ⟨S1x384, .f32⟩
  | .local _ .vmem, ⟨23, _⟩ => ⟨S384x384, .f32⟩
  | .local _ .vmem, ⟨24, _⟩ => ⟨S1x384, .f32⟩
  | .local _ .vmem, ⟨25, _⟩ => ⟨S1x384, .f32⟩
  | .local _ .vmem, ⟨26, _⟩ => ⟨S8x384, .f32⟩
  | .local _ .vmem, ⟨27, _⟩ => ⟨S8x384, .f32⟩
  | .local _ .vmem, ⟨28, _⟩ => ⟨S520x384, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_1 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_3 : Ref sig .tc := ⟨.hbm, 64, rfl⟩
abbrev main_v51 : Ref sig .tc := ⟨.hbm, 65, rfl⟩
abbrev main_v52 : Ref sig .tc := ⟨.hbm, 66, rfl⟩
abbrev main_cst_4 : Ref sig .tc := ⟨.hbm, 67, rfl⟩
abbrev main_v53 : Ref sig .tc := ⟨.hbm, 68, rfl⟩
abbrev main_v54 : Ref sig .tc := ⟨.hbm, 69, rfl⟩
abbrev main_cst_5 : Ref sig .tc := ⟨.hbm, 70, rfl⟩
abbrev main_v55 : Ref sig .tc := ⟨.hbm, 71, rfl⟩
abbrev main_v56 : Ref sig .tc := ⟨.hbm, 72, rfl⟩
abbrev main_call0_v0 : Ref sig .tc := ⟨.hbm, 73, rfl⟩
abbrev main_call0_call0_cst : Ref sig .tc := ⟨.hbm, 74, rfl⟩
abbrev main_call0_call0_v0 : Ref sig .tc := ⟨.hbm, 75, rfl⟩
abbrev main_call0_call0_v1 : Ref sig .tc := ⟨.hbm, 76, rfl⟩
abbrev main_call0_call0_v2 : Ref sig .tc := ⟨.hbm, 77, rfl⟩
abbrev main_call0_call0_v3 : Ref sig .tc := ⟨.hbm, 78, rfl⟩
abbrev main_call0_call0_v4 : Ref sig .tc := ⟨.hbm, 79, rfl⟩
abbrev main_call0_call0_v5 : Ref sig .tc := ⟨.hbm, 80, rfl⟩
abbrev main_call0_call0_v6 : Ref sig .tc := ⟨.hbm, 81, rfl⟩
abbrev main_call0_call0_v7 : Ref sig .tc := ⟨.hbm, 82, rfl⟩
abbrev main_call0_call0_v8 : Ref sig .tc := ⟨.hbm, 83, rfl⟩
abbrev main_call0_call0_v9 : Ref sig .tc := ⟨.hbm, 84, rfl⟩
abbrev main_call0_call0_v10 : Ref sig .tc := ⟨.hbm, 85, rfl⟩
abbrev main_call0_call0_v11 : Ref sig .tc := ⟨.hbm, 86, rfl⟩
abbrev main_call0_v1 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_6 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_7 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_call1_v3 : Ref sig .tc := ⟨.hbm, 111, rfl⟩
abbrev main_v75 : Ref sig .tc := ⟨.hbm, 112, rfl⟩
abbrev main_cst_8 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_9 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_10 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92_0 : Ref sig .tc := ⟨.hbm, 135, rfl⟩
abbrev main_v92_1 : Ref sig .tc := ⟨.hbm, 136, rfl⟩
abbrev main_v92_2 : Ref sig .tc := ⟨.hbm, 137, rfl⟩
abbrev main_v92_3 : Ref sig .tc := ⟨.hbm, 138, rfl⟩
abbrev main_v92_4 : Ref sig .tc := ⟨.hbm, 139, rfl⟩
abbrev main_v92_5 : Ref sig .tc := ⟨.hbm, 140, rfl⟩
abbrev main_v92_6 : Ref sig .tc := ⟨.hbm, 141, rfl⟩
abbrev main_v92_7 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S384x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S384x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x384 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== LruBwdRefIdeal.lean ====
abbrev S8192x768 : Shape := ⟨2, ![8192, 768]⟩
abbrev S4x384 : Shape := ⟨2, ![4, 384]⟩
abbrev S384 : Shape := ⟨1, ![384]⟩
abbrev S384x384 : Shape := ⟨2, ![384, 384]⟩
abbrev S8192x384 : Shape := ⟨2, ![8192, 384]⟩
abbrev S_ : Shape := ⟨0, ![]⟩
abbrev S3x384 : Shape := ⟨2, ![3, 384]⟩
abbrev S8195x384 : Shape := ⟨2, ![8195, 384]⟩
abbrev S1x384 : Shape := ⟨2, ![1, 384]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S8192x8192x384 : Shape := ⟨3, ![8192, 8192, 384]⟩
abbrev S8192x1x384 : Shape := ⟨3, ![8192, 1, 384]⟩
abbrev S1x8192x384 : Shape := ⟨3, ![1, 8192, 384]⟩

abbrev nBuf : Space → Nat
  | .hbm => 379
  | .vmem => 0
  | .smem => 0
  | _ => 0

abbrev hbmTy0_0 (i : Nat) : BufTy := match i % 128 with
  | 0 => ⟨S8192x768, .f32⟩
  | 1 => ⟨S4x384, .f32⟩
  | 2 => ⟨S384, .f32⟩
  | 3 => ⟨S384x384, .f32⟩
  | 4 => ⟨S384, .f32⟩
  | 5 => ⟨S384x384, .f32⟩
  | 6 => ⟨S384, .f32⟩
  | 7 => ⟨S384, .f32⟩
  | 8 => ⟨S8192x384, .f32⟩
  | 9 => ⟨S8192x384, .f32⟩
  | 10 => ⟨S_, .f32⟩
  | 11 => ⟨S3x384, .f32⟩
  | 12 => ⟨S8195x384, .f32⟩
  | 13 => ⟨S_, .f32⟩
  | 14 => ⟨S3x384, .f32⟩
  | 15 => ⟨S1x384, .f32⟩
  | 16 => ⟨S384, .f32⟩
  | 17 => ⟨S8192x384, .f32⟩
  | 18 => ⟨S1x384, .f32⟩
  | 19 => ⟨S8192x384, .f32⟩
  | 20 => ⟨S8192x384, .f32⟩
  | 21 => ⟨S_, .f32⟩
  | 22 => ⟨S8192x384, .f32⟩
  | 23 => ⟨S8192x384, .f32⟩
  | 24 => ⟨S1x384, .f32⟩
  | 25 => ⟨S384, .f32⟩
  | 26 => ⟨S8192x384, .f32⟩
  | 27 => ⟨S1x384, .f32⟩
  | 28 => ⟨S8192x384, .f32⟩
  | 29 => ⟨S8192x384, .f32⟩
  | 30 => ⟨S8192x384, .f32⟩
  | 31 => ⟨S1x384, .f32⟩
  | 32 => ⟨S384, .f32⟩
  | 33 => ⟨S8192x384, .f32⟩
  | 34 => ⟨S1x384, .f32⟩
  | 35 => ⟨S8192x384, .f32⟩
  | 36 => ⟨S8192x384, .f32⟩
  | 37 => ⟨S8192x384, .f32⟩
  | 38 => ⟨S1x384, .f32⟩
  | 39 => ⟨S384, .f32⟩
  | 40 => ⟨S8192x384, .f32⟩
  | 41 => ⟨S1x384, .f32⟩
  | 42 => ⟨S8192x384, .f32⟩
  | 43 => ⟨S8192x384, .f32⟩
  | 44 => ⟨S8192x384, .f32⟩
  | 45 => ⟨S1x384, .f32⟩
  | 46 => ⟨S8192x384, .f32⟩
  | 47 => ⟨S8192x384, .f32⟩
  | 48 => ⟨S8192x384, .f32⟩
  | 49 => ⟨S1x384, .f32⟩
  | 50 => ⟨S8192x384, .f32⟩
  | 51 => ⟨S8192x384, .f32⟩
  | 52 => ⟨S8192x384, .f32⟩
  | 53 => ⟨S8192x384, .f32⟩
  | 54 => ⟨S_, .f32⟩
  | 55 => ⟨S8192x384, .f32⟩
  | 56 => ⟨S8192x384, .f32⟩
  | 57 => ⟨S_, .f32⟩
  | 58 => ⟨S8192x384, .f32⟩
  | 59 => ⟨S8192x384, .f32⟩
  | 60 => ⟨S_, .f32⟩
  | 61 => ⟨S8192x384, .f32⟩
  | 62 => ⟨S8192x384, .f32⟩
  | 63 => ⟨S8192x384, .f32⟩
  | 64 => ⟨S8192x384, .f32⟩
  | 65 => ⟨S1x384, .f32⟩
  | 66 => ⟨S8192x384, .f32⟩
  | 67 => ⟨S8192x384, .f32⟩
  | 68 => ⟨S8192x384, .f32⟩
  | 69 => ⟨S8192x384, .f32⟩
  | 70 => ⟨S_, .f32⟩
  | 71 => ⟨S8192x384, .f32⟩
  | 72 => ⟨S8192x384, .f32⟩
  | 73 => ⟨S_, .f32⟩
  | 74 => ⟨S8192x384, .f32⟩
  | 75 => ⟨S8192x384, .f32⟩
  | 76 => ⟨S_, .f32⟩
  | 77 => ⟨S8192x384, .f32⟩
  | 78 => ⟨S8192x384, .f32⟩
  | 79 => ⟨S8192x384, .f32⟩
  | 80 => ⟨S_, .f32⟩
  | 81 => ⟨S8192x384, .f32⟩
  | 82 => ⟨S8192x384, .f32⟩
  | 83 => ⟨S384, .f32⟩
  | 84 => ⟨S_, .f32⟩
  | 85 => ⟨S384, .f32⟩
  | 86 => ⟨S384, .f32⟩
  | 87 => ⟨S384, .f32⟩
  | 88 => ⟨S384, .f32⟩
  | 89 => ⟨S384, .i1⟩
  | 90 => ⟨S384, .f32⟩
  | 91 => ⟨S384, .f32⟩
  | 92 => ⟨S384, .f32⟩
  | 93 => ⟨S384, .f32⟩
  | 94 => ⟨S384, .f32⟩
  | 95 => ⟨S384, .f32⟩
  | 96 => ⟨S384, .f32⟩
  | 97 => ⟨S384, .f32⟩
  | 98 => ⟨S_, .f32⟩
  | 99 => ⟨S384, .f32⟩
  | 100 => ⟨S384, .i1⟩
  | 101 => ⟨S_, .f32⟩
  | 102 => ⟨S384, .f32⟩
  | 103 => ⟨S384, .f32⟩
  | 104 => ⟨S_, .f32⟩
  | 105 => ⟨S384, .f32⟩
  | 106 => ⟨S384, .i1⟩
  | 107 => ⟨S_, .f32⟩
  | 108 => ⟨S384, .f32⟩
  | 109 => ⟨S384, .f32⟩
  | 110 => ⟨S384, .f32⟩
  | 111 => ⟨S384, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S_, .f32⟩
  | 119 => ⟨S384, .f32⟩
  | 120 => ⟨S384, .i1⟩
  | 121 => ⟨S_, .f32⟩
  | 122 => ⟨S384, .f32⟩
  | 123 => ⟨S384, .f32⟩
  | 124 => ⟨S384, .f32⟩
  | 125 => ⟨S384, .f32⟩
  | 126 => ⟨S384, .f32⟩
  | 127 => ⟨S_, .f32⟩
  | _ => ⟨S8192x768, .f32⟩

abbrev hbmTy0_1 (i : Nat) : BufTy := match i % 128 with
  | 0 => ⟨S384, .f32⟩
  | 1 => ⟨S384, .f32⟩
  | 2 => ⟨S384, .f32⟩
  | 3 => ⟨S1x384, .f32⟩
  | 4 => ⟨S8192x384, .f32⟩
  | 5 => ⟨S8192x384, .f32⟩
  | 6 => ⟨S_, .f32⟩
  | 7 => ⟨S8192x384, .f32⟩
  | 8 => ⟨S8192x384, .f32⟩
  | 9 => ⟨S8192x384, .f32⟩
  | 10 => ⟨S8192x384, .f32⟩
  | 11 => ⟨S8192x384, .f32⟩
  | 12 => ⟨S8192x384, .f32⟩
  | 13 => ⟨S_, .f32⟩
  | 14 => ⟨S8192x384, .f32⟩
  | 15 => ⟨S8192x384, .f32⟩
  | 16 => ⟨S8192x384, .f32⟩
  | 17 => ⟨S8192x384, .f32⟩
  | 18 => ⟨S8192, .i32⟩
  | 19 => ⟨S8192x1, .i32⟩
  | 20 => ⟨S1x8192, .i32⟩
  | 21 => ⟨S8192x8192, .i32⟩
  | 22 => ⟨S8192x8192, .i32⟩
  | 23 => ⟨S8192x8192, .i1⟩
  | 24 => ⟨S8192x8192x1, .i1⟩
  | 25 => ⟨S_, .f32⟩
  | 26 => ⟨S_, .f32⟩
  | 27 => ⟨S8192x8192x384, .i1⟩
  | 28 => ⟨S8192x8192x384, .f32⟩
  | 29 => ⟨S8192x8192x384, .f32⟩
  | 30 => ⟨S8192x8192x384, .f32⟩
  | 31 => ⟨S_, .f32⟩
  | 32 => ⟨S8192x8192x384, .f32⟩
  | 33 => ⟨S_, .f32⟩
  | 34 => ⟨S8192x384, .f32⟩
  | 35 => ⟨S8192x1x384, .f32⟩
  | 36 => ⟨S1x8192x384, .f32⟩
  | 37 => ⟨S8192x8192x384, .f32⟩
  | 38 => ⟨S8192x8192x384, .f32⟩
  | 39 => ⟨S8192x8192x384, .f32⟩
  | 40 => ⟨S8192x8192x384, .f32⟩
  | 41 => ⟨S_, .f32⟩
  | 42 => ⟨S_, .f32⟩
  | 43 => ⟨S8192x8192x384, .i1⟩
  | 44 => ⟨S8192x8192x384, .f32⟩
  | 45 => ⟨S8192x8192x384, .f32⟩
  | 46 => ⟨S_, .f32⟩
  | 47 => ⟨S8192x8192x384, .f32⟩
  | 48 => ⟨S1x8192x384, .f32⟩
  | 49 => ⟨S8192x8192x384, .f32⟩
  | 50 => ⟨S8192x8192x384, .f32⟩
  | 51 => ⟨S_, .f32⟩
  | 52 => ⟨S8192x384, .f32⟩
  | 53 => ⟨S8192x384, .f32⟩
  | 54 => ⟨S8192x384, .f32⟩
  | 55 => ⟨S8192x384, .f32⟩
  | 56 => ⟨S8192x384, .f32⟩
  | 57 => ⟨S_, .f32⟩
  | 58 => ⟨S8192x384, .f32⟩
  | 59 => ⟨S8192x384, .f32⟩
  | 60 => ⟨S_, .f32⟩
  | 61 => ⟨S8192x384, .f32⟩
  | 62 => ⟨S8192x384, .f32⟩
  | 63 => ⟨S8192x384, .f32⟩
  | 64 => ⟨S_, .f32⟩
  | 65 => ⟨S8192x384, .f32⟩
  | 66 => ⟨S8192x384, .f32⟩
  | 67 => ⟨S8192x384, .f32⟩
  | 68 => ⟨S_, .f32⟩
  | 69 => ⟨S8192x384, .f32⟩
  | 70 => ⟨S8192x384, .f32⟩
  | 71 => ⟨S_, .f32⟩
  | 72 => ⟨S8192x384, .f32⟩
  | 73 => ⟨S8192x384, .f32⟩
  | 74 => ⟨S8192x384, .f32⟩
  | 75 => ⟨S_, .f32⟩
  | 76 => ⟨S8192x384, .f32⟩
  | 77 => ⟨S8192x384, .f32⟩
  | 78 => ⟨S_, .f32⟩
  | 79 => ⟨S8192x384, .f32⟩
  | 80 => ⟨S8192x384, .f32⟩
  | 81 => ⟨S8192x384, .f32⟩
  | 82 => ⟨S8192x384, .f32⟩
  | 83 => ⟨S8192x384, .f32⟩
  | 84 => ⟨S8192x384, .f32⟩
  | 85 => ⟨S8192x384, .f32⟩
  | 86 => ⟨S8192x384, .f32⟩
  | 87 => ⟨S_, .f32⟩
  | 88 => ⟨S8192x384, .f32⟩
  | 89 => ⟨S8192x384, .f32⟩
  | 90 => ⟨S8192x384, .f32⟩
  | 91 => ⟨S_, .f32⟩
  | 92 => ⟨S8192x384, .f32⟩
  | 93 => ⟨S8192x384, .f32⟩
  | 94 => ⟨S8192x384, .f32⟩
  | 95 => ⟨S_, .f32⟩
  | 96 => ⟨S8192x384, .f32⟩
  | 97 => ⟨S8192x384, .f32⟩
  | 98 => ⟨S8192x384, .f32⟩
  | 99 => ⟨S8192x384, .f32⟩
  | 100 => ⟨S_, .f32⟩
  | 101 => ⟨S8192x768, .f32⟩
  | 102 => ⟨S8192x8192x384, .f32⟩
  | 103 => ⟨S8192x8192x384, .f32⟩
  | 104 => ⟨S_, .f32⟩
  | 105 => ⟨S8192x384, .f32⟩
  | 106 => ⟨S1x8192x384, .f32⟩
  | 107 => ⟨S8192x8192x384, .f32⟩
  | 108 => ⟨S8192x8192x384, .f32⟩
  | 109 => ⟨S_, .f32⟩
  | 110 => ⟨S8192x384, .f32⟩
  | 111 => ⟨S_, .f32⟩
  | 112 => ⟨S8192x8192x384, .f32⟩
  | 113 => ⟨S8192x8192x384, .f32⟩
  | 114 => ⟨S8192x8192x384, .f32⟩
  | 115 => ⟨S_, .f32⟩
  | 116 => ⟨S8192x384, .f32⟩
  | 117 => ⟨S8192x1x384, .f32⟩
  | 118 => ⟨S8192x8192x384, .f32⟩
  | 119 => ⟨S_, .f32⟩
  | 120 => ⟨S8192x384, .f32⟩
  | 121 => ⟨S1x8192x384, .f32⟩
  | 122 => ⟨S_, .f32⟩
  | 123 => ⟨S8192x384, .f32⟩
  | 124 => ⟨S_, .f32⟩
  | 125 => ⟨S8192x384, .f32⟩
  | 126 => ⟨S8192x384, .f32⟩
  | 127 => ⟨S8192x8192x384, .f32⟩
  | _ => ⟨S8192x768, .f32⟩

abbrev hbmTy0_2 (i : Nat) : BufTy := match i % 128 with
  | 0 => ⟨S_, .f32⟩
  | 1 => ⟨S8192x8192x384, .f32⟩
  | 2 => ⟨S8192x8192x384, .f32⟩
  | 3 => ⟨S_, .f32⟩
  | 4 => ⟨S8192x384, .f32⟩
  | 5 => ⟨S8192x384, .f32⟩
  | 6 => ⟨S8192x384, .f32⟩
  | 7 => ⟨S8192x384, .f32⟩
  | 8 => ⟨S8192x384, .f32⟩
  | 9 => ⟨S8192x384, .f32⟩
  | 10 => ⟨S8192x384, .f32⟩
  | 11 => ⟨S8192x384, .f32⟩
  | 12 => ⟨S_, .f32⟩
  | 13 => ⟨S8192x384, .f32⟩
  | 14 => ⟨S8192x384, .f32⟩
  | 15 => ⟨S8192x384, .f32⟩
  | 16 => ⟨S8192x384, .f32⟩
  | 17 => ⟨S_, .f32⟩
  | 18 => ⟨S384, .f32⟩
  | 19 => ⟨S1x384, .f32⟩
  | 20 => ⟨S8192x384, .f32⟩
  | 21 => ⟨S8192x384, .f32⟩
  | 22 => ⟨S_, .f32⟩
  | 23 => ⟨S384, .f32⟩
  | 24 => ⟨S384, .f32⟩
  | 25 => ⟨S384, .f32⟩
  | 26 => ⟨S384, .f32⟩
  | 27 => ⟨S_, .f32⟩
  | 28 => ⟨S8192x384, .f32⟩
  | 29 => ⟨S8192x384, .f32⟩
  | 30 => ⟨S8192x384, .f32⟩
  | 31 => ⟨S_, .f32⟩
  | 32 => ⟨S384, .f32⟩
  | 33 => ⟨S1x384, .f32⟩
  | 34 => ⟨S_, .f32⟩
  | 35 => ⟨S384, .f32⟩
  | 36 => ⟨S384x384, .f32⟩
  | 37 => ⟨S384x384, .f32⟩
  | 38 => ⟨S8192x384, .f32⟩
  | 39 => ⟨S8192x384, .f32⟩
  | 40 => ⟨S8192x384, .f32⟩
  | 41 => ⟨S_, .f32⟩
  | 42 => ⟨S384, .f32⟩
  | 43 => ⟨S1x384, .f32⟩
  | 44 => ⟨S_, .f32⟩
  | 45 => ⟨S384, .f32⟩
  | 46 => ⟨S384x384, .f32⟩
  | 47 => ⟨S384x384, .f32⟩
  | 48 => ⟨S8192x384, .f32⟩
  | 49 => ⟨S8192x384, .f32⟩
  | 50 => ⟨S_, .f32⟩
  | 51 => ⟨S384, .f32⟩
  | 52 => ⟨S1x384, .f32⟩
  | 53 => ⟨S_, .f32⟩
  | 54 => ⟨S384, .f32⟩
  | 55 => ⟨S8192x384, .f32⟩
  | 56 => ⟨S8192x384, .f32⟩
  | 57 => ⟨S8192x384, .f32⟩
  | 58 => ⟨S_, .f32⟩
  | 59 => ⟨S384, .f32⟩
  | 60 => ⟨S1x384, .f32⟩
  | 61 => ⟨S_, .f32⟩
  | 62 => ⟨S384, .f32⟩
  | 63 => ⟨S_, .f32⟩
  | 64 => ⟨S8195x384, .f32⟩
  | 65 => ⟨S1x384, .f32⟩
  | 66 => ⟨S_, .f32⟩
  | 67 => ⟨S4x384, .f32⟩
  | 68 => ⟨S8192x384, .f32⟩
  | 69 => ⟨S8192x384, .f32⟩
  | 70 => ⟨S8192x384, .f32⟩
  | 71 => ⟨S_, .f32⟩
  | 72 => ⟨S384, .f32⟩
  | 73 => ⟨S1x384, .f32⟩
  | 74 => ⟨S_, .f32⟩
  | 75 => ⟨S384, .f32⟩
  | 76 => ⟨S_, .f32⟩
  | 77 => ⟨S8195x384, .f32⟩
  | 78 => ⟨S8195x384, .f32⟩
  | 79 => ⟨S1x384, .f32⟩
  | 80 => ⟨S_, .f32⟩
  | 81 => ⟨S4x384, .f32⟩
  | 82 => ⟨S4x384, .f32⟩
  | 83 => ⟨S8192x384, .f32⟩
  | 84 => ⟨S8192x384, .f32⟩
  | 85 => ⟨S8192x384, .f32⟩
  | 86 => ⟨S_, .f32⟩
  | 87 => ⟨S384, .f32⟩
  | 88 => ⟨S1x384, .f32⟩
  | 89 => ⟨S_, .f32⟩
  | 90 => ⟨S384, .f32⟩
  | 91 => ⟨S_, .f32⟩
  | 92 => ⟨S8195x384, .f32⟩
  | 93 => ⟨S8195x384, .f32⟩
  | 94 => ⟨S1x384, .f32⟩
  | 95 => ⟨S_, .f32⟩
  | 96 => ⟨S4x384, .f32⟩
  | 97 => ⟨S4x384, .f32⟩
  | 98 => ⟨S8192x384, .f32⟩
  | 99 => ⟨S8192x384, .f32⟩
  | 100 => ⟨S8192x384, .f32⟩
  | 101 => ⟨S_, .f32⟩
  | 102 => ⟨S384, .f32⟩
  | 103 => ⟨S1x384, .f32⟩
  | 104 => ⟨S_, .f32⟩
  | 105 => ⟨S384, .f32⟩
  | 106 => ⟨S_, .f32⟩
  | 107 => ⟨S8195x384, .f32⟩
  | 108 => ⟨S8195x384, .f32⟩
  | 109 => ⟨S1x384, .f32⟩
  | 110 => ⟨S_, .f32⟩
  | 111 => ⟨S4x384, .f32⟩
  | 112 => ⟨S4x384, .f32⟩
  | 113 => ⟨S3x384, .f32⟩
  | 114 => ⟨S8192x384, .f32⟩
  | 115 => ⟨S_, .f32⟩
  | 116 => ⟨S8192x768, .f32⟩
  | 117 => ⟨S8192x768, .f32⟩
  | 118 => ⟨S8192x768, .bf16⟩
  | 119 => ⟨S1x384, .f32⟩
  | 120 => ⟨S1x384, .f32⟩
  | 121 => ⟨S1x384, .f32⟩
  | 122 => ⟨S1x384, .f32⟩
  | _ => ⟨S8192x768, .f32⟩

abbrev hbmTy (i : Nat) : BufTy := match i / 128 with
  | 0 => hbmTy0_0 i
  | 1 => hbmTy0_1 i
  | 2 => hbmTy0_2 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_5 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_call0_v0 : Ref sig .tc := ⟨.hbm, 83, rfl⟩
abbrev main_call0_call0_cst : Ref sig .tc := ⟨.hbm, 84, rfl⟩
abbrev main_call0_call0_v0 : Ref sig .tc := ⟨.hbm, 85, rfl⟩
abbrev main_call0_call0_v1 : Ref sig .tc := ⟨.hbm, 86, rfl⟩
abbrev main_call0_call0_v2 : Ref sig .tc := ⟨.hbm, 87, rfl⟩
abbrev main_call0_call0_v3 : Ref sig .tc := ⟨.hbm, 88, rfl⟩
abbrev main_call0_call0_v4 : Ref sig .tc := ⟨.hbm, 89, rfl⟩
abbrev main_call0_call0_v5 : Ref sig .tc := ⟨.hbm, 90, rfl⟩
abbrev main_call0_call0_v6 : Ref sig .tc := ⟨.hbm, 91, rfl⟩
abbrev main_call0_call0_v7 : Ref sig .tc := ⟨.hbm, 92, rfl⟩
abbrev main_call0_call0_v8 : Ref sig .tc := ⟨.hbm, 93, rfl⟩
abbrev main_call0_call0_v9 : Ref sig .tc := ⟨.hbm, 94, rfl⟩
abbrev main_call0_call0_v10 : Ref sig .tc := ⟨.hbm, 95, rfl⟩
abbrev main_call0_call0_v11 : Ref sig .tc := ⟨.hbm, 96, rfl⟩
abbrev main_call0_v1_0 : Ref sig .tc := ⟨.hbm, 97, rfl⟩
abbrev main_call0_call0_cst_0 : Ref sig .tc := ⟨.hbm, 98, rfl⟩
abbrev main_call0_call0_v13 : Ref sig .tc := ⟨.hbm, 99, rfl⟩
abbrev main_call0_call0_v14 : Ref sig .tc := ⟨.hbm, 100, rfl⟩
abbrev main_call0_call0_cst_1 : Ref sig .tc := ⟨.hbm, 101, rfl⟩
abbrev main_call0_call0_v15 : Ref sig .tc := ⟨.hbm, 102, rfl⟩
abbrev main_call0_call0_v16 : Ref sig .tc := ⟨.hbm, 103, rfl⟩
abbrev main_call0_call0_cst_2 : Ref sig .tc := ⟨.hbm, 104, rfl⟩
abbrev main_call0_call0_v17 : Ref sig .tc := ⟨.hbm, 105, rfl⟩
abbrev main_call0_call0_v18 : Ref sig .tc := ⟨.hbm, 106, rfl⟩
abbrev main_call0_call0_cst_3 : Ref sig .tc := ⟨.hbm, 107, rfl⟩
abbrev main_call0_call0_v19 : Ref sig .tc := ⟨.hbm, 108, rfl⟩
abbrev main_call0_call0_v20 : Ref sig .tc := ⟨.hbm, 109, rfl⟩
abbrev main_call0_call0_v21 : Ref sig .tc := ⟨.hbm, 110, rfl⟩
abbrev main_v64_1 : Ref sig .tc := ⟨.hbm, 111, rfl⟩
abbrev main_call0_call0_cst_4 : Ref sig .tc := ⟨.hbm, 112, rfl⟩
abbrev main_call0_call0_cst_5 : Ref sig .tc := ⟨.hbm, 113, rfl⟩
abbrev main_call0_call0_v23 : Ref sig .tc := ⟨.hbm, 114, rfl⟩
abbrev main_call0_call0_cst_6 : Ref sig .tc := ⟨.hbm, 115, rfl⟩
abbrev main_call0_call0_cst_7 : Ref sig .tc := ⟨.hbm, 116, rfl⟩
abbrev main_call0_call0_v24 : Ref sig .tc := ⟨.hbm, 117, rfl⟩
abbrev main_call0_call0_cst_8 : Ref sig .tc := ⟨.hbm, 118, rfl⟩
abbrev main_call0_call0_v25 : Ref sig .tc := ⟨.hbm, 119, rfl⟩
abbrev main_call0_call0_v26 : Ref sig .tc := ⟨.hbm, 120, rfl⟩
abbrev main_call0_call0_cst_9 : Ref sig .tc := ⟨.hbm, 121, rfl⟩
abbrev main_call0_call0_v27 : Ref sig .tc := ⟨.hbm, 122, rfl⟩
abbrev main_call0_call0_v28 : Ref sig .tc := ⟨.hbm, 123, rfl⟩
abbrev main_call0_call0_v29 : Ref sig .tc := ⟨.hbm, 124, rfl⟩
abbrev main_call0_call0_v30 : Ref sig .tc := ⟨.hbm, 125, rfl⟩
abbrev main_call0_call0_v31 : Ref sig .tc := ⟨.hbm, 126, rfl⟩
abbrev main_call0_call0_cst_10 : Ref sig .tc := ⟨.hbm, 127, rfl⟩
abbrev main_call0_call0_v32 : Ref sig .tc := ⟨.hbm, 128, rfl⟩
abbrev main_v64_2 : Ref sig .tc := ⟨.hbm, 129, rfl⟩
abbrev main_v64_0 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_cst_9 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_cst_10 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_cst_11 : Ref sig .tc := ⟨.hbm, 153, rfl⟩
abbrev main_call1_v0 : Ref sig .tc := ⟨.hbm, 154, rfl⟩
abbrev main_v85_1 : Ref sig .tc := ⟨.hbm, 155, rfl⟩
abbrev main_call1_v2 : Ref sig .tc := ⟨.hbm, 156, rfl⟩
abbrev main_call1_v3 : Ref sig .tc := ⟨.hbm, 157, rfl⟩
abbrev main_v85_0 : Ref sig .tc := ⟨.hbm, 158, rfl⟩
abbrev main_call1_cst : Ref sig .tc := ⟨.hbm, 159, rfl⟩
abbrev main_v85_2 : Ref sig .tc := ⟨.hbm, 160, rfl⟩
abbrev main_cst_12 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_cst_13 : Ref sig .tc := ⟨.hbm, 169, rfl⟩
abbrev main_call2_v0 : Ref sig .tc := ⟨.hbm, 170, rfl⟩
abbrev main_v93_1 : Ref sig .tc := ⟨.hbm, 171, rfl⟩
abbrev main_call2_v2 : Ref sig .tc := ⟨.hbm, 172, rfl⟩
abbrev main_v93_0 : Ref sig .tc := ⟨.hbm, 173, rfl⟩
abbrev main_call2_cst : Ref sig .tc := ⟨.hbm, 174, rfl⟩
abbrev main_v93_2 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_cst_14 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_cst_15 : Ref sig .tc := ⟨.hbm, 185, rfl⟩
abbrev main_v102 : Ref sig .tc := ⟨.hbm, 186, rfl⟩
abbrev main_v103 : Ref sig .tc := ⟨.hbm, 187, rfl⟩
abbrev main_cst_16 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_cst_17 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_cst_18 : Ref sig .tc := ⟨.hbm, 196, rfl⟩
abbrev main_v110 : Ref sig .tc := ⟨.hbm, 197, rfl⟩
abbrev main_v111 : Ref sig .tc := ⟨.hbm, 198, rfl⟩
abbrev main_cst_19 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_cst_20 : Ref sig .tc := ⟨.hbm, 203, rfl⟩
abbrev main_v115 : Ref sig .tc := ⟨.hbm, 204, rfl⟩
abbrev main_v116 : Ref sig .tc := ⟨.hbm, 205, rfl⟩
abbrev main_cst_21 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_cst_22 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_cst_23 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_cst_24 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_cst_25 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_cst_26 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_cst_27 : Ref sig .tc := ⟨.hbm, 237, rfl⟩
abbrev main_v142 : Ref sig .tc := ⟨.hbm, 238, rfl⟩
abbrev main_call3_cst : Ref sig .tc := ⟨.hbm, 239, rfl⟩
abbrev main_call3_v0 : Ref sig .tc := ⟨.hbm, 240, rfl⟩
abbrev main_v143 : Ref sig .tc := ⟨.hbm, 241, rfl⟩
abbrev main_v144 : Ref sig .tc := ⟨.hbm, 242, rfl⟩
abbrev main_cst_28 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_cst_29 : Ref sig .tc := ⟨.hbm, 247, rfl⟩
abbrev main_v148 : Ref sig .tc := ⟨.hbm, 248, rfl⟩
abbrev main_v149 : Ref sig .tc := ⟨.hbm, 249, rfl⟩
abbrev main_cst_30 : Ref sig .tc := ⟨.hbm, 250, rfl⟩
abbrev main_v150 : Ref sig .tc := ⟨.hbm, 251, rfl⟩
abbrev main_cst_31 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_call4_cst : Ref sig .tc := ⟨.hbm, 256, rfl⟩
abbrev main_call4_v0 : Ref sig .tc := ⟨.hbm, 257, rfl⟩
abbrev main_call4_v1 : Ref sig .tc := ⟨.hbm, 258, rfl⟩
abbrev main_call4_cst_0 : Ref sig .tc := ⟨.hbm, 259, rfl⟩
abbrev main_v154 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_cst_32 : Ref sig .tc := ⟨.hbm, 268, rfl⟩
abbrev main_v162 : Ref sig .tc := ⟨.hbm, 269, rfl⟩
abbrev main_v163 : Ref sig .tc := ⟨.hbm, 270, rfl⟩
abbrev main_v164 : Ref sig .tc := ⟨.hbm, 271, rfl⟩
abbrev main_v165 : Ref sig .tc := ⟨.hbm, 272, rfl⟩
abbrev main_cst_33 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_cst_34 : Ref sig .tc := ⟨.hbm, 278, rfl⟩
abbrev main_v170 : Ref sig .tc := ⟨.hbm, 279, rfl⟩
abbrev main_call5_v0 : Ref sig .tc := ⟨.hbm, 280, rfl⟩
abbrev main_call5_v1 : Ref sig .tc := ⟨.hbm, 281, rfl⟩
abbrev main_v171 : Ref sig .tc := ⟨.hbm, 282, rfl⟩
abbrev main_cst_35 : Ref sig .tc := ⟨.hbm, 283, rfl⟩
abbrev main_v172 : Ref sig .tc := ⟨.hbm, 284, rfl⟩
abbrev main_v173 : Ref sig .tc := ⟨.hbm, 285, rfl⟩
abbrev main_v174 : Ref sig .tc := ⟨.hbm, 286, rfl⟩
abbrev main_cst_36 : Ref sig .tc := ⟨.hbm, 287, rfl⟩
abbrev main_v175 : Ref sig .tc := ⟨.hbm, 288, rfl⟩
abbrev main_v176 : Ref sig .tc := ⟨.hbm, 289, rfl⟩
abbrev main_cst_37 : Ref sig .tc := ⟨.hbm, 290, rfl⟩
abbrev main_v177 : Ref sig .tc := ⟨.hbm, 291, rfl⟩
abbrev main_v178 : Ref sig .tc := ⟨.hbm, 292, rfl⟩
abbrev main_v179 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_cst_38 : Ref sig .tc := ⟨.hbm, 297, rfl⟩
abbrev main_v183 : Ref sig .tc := ⟨.hbm, 298, rfl⟩
abbrev main_v184 : Ref sig .tc := ⟨.hbm, 299, rfl⟩
abbrev main_cst_39 : Ref sig .tc := ⟨.hbm, 300, rfl⟩
abbrev main_v185 : Ref sig .tc := ⟨.hbm, 301, rfl⟩
abbrev main_v186 : Ref sig .tc := ⟨.hbm, 302, rfl⟩
abbrev main_v187 : Ref sig .tc := ⟨.hbm, 303, rfl⟩
abbrev main_v188 : Ref sig .tc := ⟨.hbm, 304, rfl⟩
abbrev main_v189 : Ref sig .tc := ⟨.hbm, 305, rfl⟩
abbrev main_cst_40 : Ref sig .tc := ⟨.hbm, 306, rfl⟩
abbrev main_v190 : Ref sig .tc := ⟨.hbm, 307, rfl⟩
abbrev main_v191 : Ref sig .tc := ⟨.hbm, 308, rfl⟩
abbrev main_cst_41 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_v195 : Ref sig .tc := ⟨.hbm, 313, rfl⟩
abbrev main_cst_42 : Ref sig .tc := ⟨.hbm, 314, rfl⟩
abbrev main_v196 : Ref sig .tc := ⟨.hbm, 315, rfl⟩
abbrev main_v197 : Ref sig .tc := ⟨.hbm, 316, rfl⟩
abbrev main_cst_43 : Ref sig .tc := ⟨.hbm, 317, rfl⟩
abbrev main_v198 : Ref sig .tc := ⟨.hbm, 318, rfl⟩
abbrev main_cst_44 : Ref sig .tc := ⟨.hbm, 319, rfl⟩
abbrev main_v199 : Ref sig .tc := ⟨.hbm, 320, rfl⟩
abbrev main_v200 : Ref sig .tc := ⟨.hbm, 321, rfl⟩
abbrev main_cst_45 : Ref sig .tc := ⟨.hbm, 322, rfl⟩
abbrev main_v201 : Ref sig .tc := ⟨.hbm, 323, rfl⟩
abbrev main_v202 : Ref sig .tc := ⟨.hbm, 324, rfl⟩
abbrev main_v203 : Ref sig .tc := ⟨.hbm, 325, rfl⟩
abbrev main_v204 : Ref sig .tc := ⟨.hbm, 326, rfl⟩
abbrev main_cst_46 : Ref sig .tc := ⟨.hbm, 327, rfl⟩
abbrev main_v205 : Ref sig .tc := ⟨.hbm, 328, rfl⟩
abbrev main_v206 : Ref sig .tc := ⟨.hbm, 329, rfl⟩
abbrev main_cst_47 : Ref sig .tc := ⟨.hbm, 330, rfl⟩
abbrev main_v207 : Ref sig .tc := ⟨.hbm, 331, rfl⟩
abbrev main_cst_48 : Ref sig .tc := ⟨.hbm, 332, rfl⟩
abbrev main_v208 : Ref sig .tc := ⟨.hbm, 333, rfl⟩
abbrev main_v209 : Ref sig .tc := ⟨.hbm, 334, rfl⟩
abbrev main_v210 : Ref sig .tc := ⟨.hbm, 335, rfl⟩
abbrev main_cst_49 : Ref sig .tc := ⟨.hbm, 336, rfl⟩
abbrev main_v211 : Ref sig .tc := ⟨.hbm, 337, rfl⟩
abbrev main_v212 : Ref sig .tc := ⟨.hbm, 338, rfl⟩
abbrev main_v213 : Ref sig .tc := ⟨.hbm, 339, rfl⟩
abbrev main_v214 : Ref sig .tc := ⟨.hbm, 340, rfl⟩
abbrev main_v215 : Ref sig .tc := ⟨.hbm, 341, rfl⟩
abbrev main_cst_50 : Ref sig .tc := ⟨.hbm, 342, rfl⟩
abbrev main_v216 : Ref sig .tc := ⟨.hbm, 343, rfl⟩
abbrev main_v217 : Ref sig .tc := ⟨.hbm, 344, rfl⟩
abbrev main_cst_51 : Ref sig .tc := ⟨.hbm, 345, rfl⟩
abbrev main_v218 : Ref sig .tc := ⟨.hbm, 346, rfl⟩
abbrev main_cst_52 : Ref sig .tc := ⟨.hbm, 347, rfl⟩
abbrev main_v219 : Ref sig .tc := ⟨.hbm, 348, rfl⟩
abbrev main_v220 : Ref sig .tc := ⟨.hbm, 349, rfl⟩
abbrev main_v221 : Ref sig .tc := ⟨.hbm, 350, rfl⟩
abbrev main_cst_53 : Ref sig .tc := ⟨.hbm, 351, rfl⟩
abbrev main_v222 : Ref sig .tc := ⟨.hbm, 352, rfl⟩
abbrev main_v223 : Ref sig .tc := ⟨.hbm, 353, rfl⟩
abbrev main_v224 : Ref sig .tc := ⟨.hbm, 354, rfl⟩
abbrev main_v225 : Ref sig .tc := ⟨.hbm, 355, rfl⟩
abbrev main_v226 : Ref sig .tc := ⟨.hbm, 356, rfl⟩
abbrev main_cst_54 : Ref sig .tc := ⟨.hbm, 357, rfl⟩
abbrev main_v227 : Ref sig .tc := ⟨.hbm, 358, rfl⟩
abbrev main_v228 : Ref sig .tc := ⟨.hbm, 359, rfl⟩
abbrev main_cst_55 : Ref sig .tc := ⟨.hbm, 360, rfl⟩
abbrev main_v229 : Ref sig .tc := ⟨.hbm, 361, rfl⟩
abbrev main_cst_56 : Ref sig .tc := ⟨.hbm, 362, rfl⟩
abbrev main_v230 : Ref sig .tc := ⟨.hbm, 363, rfl⟩
abbrev main_v231 : Ref sig .tc := ⟨.hbm, 364, rfl⟩
abbrev main_v232 : Ref sig .tc := ⟨.hbm, 365, rfl⟩
abbrev main_cst_57 : Ref sig .tc := ⟨.hbm, 366, rfl⟩
abbrev main_v233 : Ref sig .tc := ⟨.hbm, 367, rfl⟩
abbrev main_v234 : Ref sig .tc := ⟨.hbm, 368, rfl⟩
abbrev main_v235 : Ref sig .tc := ⟨.hbm, 369, rfl⟩
abbrev main_v236 : Ref sig .tc := ⟨.hbm, 370, rfl⟩
abbrev main_cst_58 : Ref sig .tc := ⟨.hbm, 371, rfl⟩
abbrev main_v237 : Ref sig .tc := ⟨.hbm, 372, rfl⟩
abbrev main_v238 : Ref sig .tc := ⟨.hbm, 373, rfl⟩
abbrev main_v239 : Ref sig .tc := ⟨.hbm, 374, rfl⟩
abbrev main_v240 : Ref sig .tc := ⟨.hbm, 375, rfl⟩
abbrev main_v241 : Ref sig .tc := ⟨.hbm, 376, rfl⟩
abbrev main_v242 : Ref sig .tc := ⟨.hbm, 377, rfl⟩
abbrev main_v243 : Ref sig .tc := ⟨.hbm, 378, rfl⟩

abbrev nD : Nat := 1
abbrev τ : Topo := Topo.v7x

variable {F : FTy → Type} [FloatOps F]
-- ==== FfnBwd.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S1024x8x352 : Shape := ⟨3, ![1024, 8, 352]⟩
abbrev S8x1024x352 : Shape := ⟨3, ![8, 1024, 352]⟩
abbrev S_ : Shape := ⟨0, ![]⟩
abbrev S8x1024x384 : Shape := ⟨3, ![8, 1024, 384]⟩
abbrev S8x1x1024x384 : Shape := ⟨4, ![8, 1, 1024, 384]⟩
abbrev S8x2x1024x384 : Shape := ⟨4, ![8, 2, 1024, 384]⟩
abbrev S2x1024x8x384 : Shape := ⟨4, ![2, 1024, 8, 384]⟩
abbrev S2x1024x3072 : Shape := ⟨3, ![2, 1024, 3072]⟩
abbrev S8x352x1024 : Shape := ⟨3, ![8, 352, 1024]⟩
abbrev S8x384x1024 : Shape := ⟨3, ![8, 384, 1024]⟩
abbrev S8x1x384x1024 : Shape := ⟨4, ![8, 1, 384, 1024]⟩
abbrev S8192x2816 : Shape := ⟨2, ![8192, 2816]⟩
abbrev S8192x8x352 : Shape := ⟨3, ![8192, 8, 352]⟩
abbrev S8192x8x384 : Shape := ⟨3, ![8192, 8, 384]⟩
abbrev S8192x3072 : Shape := ⟨2, ![8192, 3072]⟩
abbrev S512x1024 : Shape := ⟨2, ![512, 1024]⟩
abbrev S512x768 : Shape := ⟨2, ![512, 768]⟩
abbrev S1x1024x768 : Shape := ⟨3, ![1, 1024, 768]⟩
abbrev S2x1x384x1024 : Shape := ⟨4, ![2, 1, 384, 1024]⟩
abbrev S512 : Shape := ⟨1, ![512]⟩
abbrev S512x1 : Shape := ⟨2, ![512, 1]⟩
abbrev S1024 : Shape := ⟨1, ![1024]⟩
abbrev S2x384x1024 : Shape := ⟨3, ![2, 384, 1024]⟩
abbrev S768x1024 : Shape := ⟨2, ![768, 1024]⟩
abbrev S1024x768 : Shape := ⟨2, ![1024, 768]⟩

abbrev nBuf : Space → Nat
  | .hbm => 66
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S8192x1024, .f32⟩
  | .hbm, ⟨6, _⟩ => ⟨S1024x8x352, .f32⟩
  | .hbm, ⟨7, _⟩ => ⟨S8x1024x352, .f32⟩
  | .hbm, ⟨8, _⟩ => ⟨S_, .i32⟩
  | .hbm, ⟨9, _⟩ => ⟨S_, .f32⟩
  | .hbm, ⟨10, _⟩ => ⟨S8x1024x384, .f32⟩
  | .hbm, ⟨11, _⟩ => ⟨S1024x8x352, .f32⟩
  | .hbm, ⟨12, _⟩ => ⟨S8x1024x352, .f32⟩
  | .hbm, ⟨13, _⟩ => ⟨S_, .i32⟩
  | .hbm, ⟨14, _⟩ => ⟨S_, .f32⟩
  | .hbm, ⟨15, _⟩ => ⟨S8x1024x384, .f32⟩
  | .hbm, ⟨16, _⟩ => ⟨S8x1x1024x384, .f32⟩
  | .hbm, ⟨17, _⟩ => ⟨S8x1x1024x384, .f32⟩
  | .hbm, ⟨18, _⟩ => ⟨S8x2x1024x384, .f32⟩
  | .hbm, ⟨19, _⟩ => ⟨S8x2x1024x384, .bf16⟩
  | .hbm, ⟨20, _⟩ => ⟨S2x1024x8x384, .bf16⟩
  | .hbm, ⟨21, _⟩ => ⟨S2x1024x3072, .bf16⟩
  | .hbm, ⟨22, _⟩ => ⟨S8x352x1024, .f32⟩
  | .hbm, ⟨23, _⟩ => ⟨S_, .i32⟩
  | .hbm, ⟨24, _⟩ => ⟨S_, .f32⟩
  | .hbm, ⟨25, _⟩ => ⟨S8x384x1024, .f32⟩
  | .hbm, ⟨26, _⟩ => ⟨S8x1x384x1024, .f32⟩
  | .hbm, ⟨27, _⟩ => ⟨S8x1x384x1024, .bf16⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x8x352, .f32⟩
  | .hbm, ⟨49, _⟩ => ⟨S_, .i32⟩
  | .hbm, ⟨50, _⟩ => ⟨S_, .f32⟩
  | .hbm, ⟨51, _⟩ => ⟨S8192x8x384, .f32⟩
  | .hbm, ⟨52, _⟩ => ⟨S8192x3072, .f32⟩
  | .hbm, ⟨53, _⟩ => ⟨S8192x3072, .bf16⟩
  | .hbm, ⟨54, _⟩ => ⟨S8192x8x352, .f32⟩
  | .hbm, ⟨55, _⟩ => ⟨S_, .i32⟩
  | .hbm, ⟨56, _⟩ => ⟨S_, .f32⟩
  | .hbm, ⟨57, _⟩ => ⟨S8192x8x384, .f32⟩
  | .hbm, ⟨58, _⟩ => ⟨S8192x3072, .f32⟩
  | .hbm, ⟨59, _⟩ => ⟨S8192x3072, .bf16⟩
  | .hbm, ⟨60, _⟩ => ⟨S8192x1024, .f32⟩
  | .hbm, ⟨61, _⟩ => ⟨S8192x3072, .bf16⟩
  | .hbm, ⟨62, _⟩ => ⟨S8192x3072, .bf16⟩
  | .hbm, ⟨63, _⟩ => ⟨S8192x1024, .bf16⟩
  | .hbm, ⟨64, _⟩ => ⟨S1x1024, .f32⟩
  | .hbm, ⟨65, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S1x1024x768, .bf16⟩
  | .local _ .vmem, ⟨9, _⟩ => ⟨S1x1024x768, .bf16⟩
  | .local _ .vmem, ⟨10, _⟩ => ⟨S1x1024x768, .bf16⟩
  | .local _ .vmem, ⟨11, _⟩ => ⟨S1x1024x768, .bf16⟩
  | .local _ .vmem, ⟨12, _⟩ => ⟨S2x1x384x1024, .bf16⟩
  | .local _ .vmem, ⟨13, _⟩ => ⟨S2x1x384x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x768, .bf16⟩
  | .local _ .vmem, ⟨18, _⟩ => ⟨S512x768, .bf16⟩
  | .local _ .vmem, ⟨19, _⟩ => ⟨S512x768, .bf16⟩
  | .local _ .vmem, ⟨20, _⟩ => ⟨S512x768, .bf16⟩
  | .local _ .vmem, ⟨21, _⟩ => ⟨S512x1024, .bf16⟩
  | .local _ .vmem, ⟨22, _⟩ => ⟨S512x1024, .bf16⟩
  | .local _ .vmem, ⟨23, _⟩ => ⟨S1x1024, .f32⟩
  | .local _ .vmem, ⟨24, _⟩ => ⟨S1x1024, .f32⟩
  | .local _ .vmem, ⟨25, _⟩ => ⟨S512x1024, .f32⟩
  | .local _ .vmem, ⟨26, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_call2_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_call3_v0 : Ref sig .tc := ⟨.hbm, 33, rfl⟩
abbrev main_call3_v1 : Ref sig .tc := ⟨.hbm, 34, rfl⟩
abbrev main_call3_cst : Ref sig .tc := ⟨.hbm, 35, rfl⟩
abbrev main_call3_v2 : Ref sig .tc := ⟨.hbm, 36, rfl⟩
abbrev main_call3_v3 : Ref sig .tc := ⟨.hbm, 37, rfl⟩
abbrev main_call3_cst_0 : Ref sig .tc := ⟨.hbm, 38, rfl⟩
abbrev main_call3_v4 : Ref sig .tc := ⟨.hbm, 39, rfl⟩
abbrev main_call3_v5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_call4_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_4 : Ref sig .tc := ⟨.hbm, 55, rfl⟩
abbrev main_call5_v0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34_0 : Ref sig .tc := ⟨.hbm, 60, rfl⟩
abbrev main_v34_1 : Ref sig .tc := ⟨.hbm, 61, rfl⟩
abbrev main_v34_2 : Ref sig .tc := ⟨.hbm, 62, rfl⟩
abbrev main_v34_3 : Ref sig .tc := ⟨.hbm, 63, rfl⟩
abbrev main_v34_4 : Ref sig .tc := ⟨.hbm, 64, rfl⟩
abbrev main_v34_5 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v52 : BitVec 1 := Scalar.cmpi .eq arg1 c3_i32
  let v53 : BitVec 32 := Scalar.extui v52
  let c0_i32_34 : BitVec 32 := 0#32
  let v54 : BitVec 1 := Scalar.cmpi .ne v53 c0_i32_34
  v54

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x1x384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== FfnBwdRefIdeal.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1024 : Shape := ⟨1, ![1024]⟩
abbrev S8192x8x352 : Shape := ⟨3, ![8192, 8, 352]⟩
abbrev S8192x8x384 : Shape := ⟨3, ![8192, 8, 384]⟩
abbrev S8192x3072 : Shape := ⟨2, ![8192, 3072]⟩

abbrev nBuf : Space → Nat
  | .hbm => 144
  | .vmem => 0
  | .smem => 0
  | _ => 0

abbrev hbmTy0_0 (i : Nat) : BufTy := match i % 128 with
  | 0 => ⟨S8192x1024, .f32⟩
  | 1 => ⟨S1024x2816, .f32⟩
  | 2 => ⟨S1024x2816, .f32⟩
  | 3 => ⟨S2816x1024, .f32⟩
  | 4 => ⟨S1x1024, .f32⟩
  | 5 => ⟨S8192x1024, .f32⟩
  | 6 => ⟨S_, .f32⟩
  | 7 => ⟨S8192x2816, .f32⟩
  | 8 => ⟨S_, .f32⟩
  | 9 => ⟨S1x1024, .f32⟩
  | 10 => ⟨S_, .f32⟩
  | 11 => ⟨S8192x1024, .f32⟩
  | 12 => ⟨S8192x2816, .f32⟩
  | 13 => ⟨S8192x2816, .f32⟩
  | 14 => ⟨S8192x2816, .f32⟩
  | 15 => ⟨S8192x2816, .f32⟩
  | 16 => ⟨S_, .f32⟩
  | 17 => ⟨S8192x2816, .f32⟩
  | 18 => ⟨S8192x2816, .f32⟩
  | 19 => ⟨S_, .f32⟩
  | 20 => ⟨S8192x2816, .f32⟩
  | 21 => ⟨S8192x2816, .f32⟩
  | 22 => ⟨S_, .f32⟩
  | 23 => ⟨S8192x2816, .f32⟩
  | 24 => ⟨S8192x2816, .f32⟩
  | 25 => ⟨S8192x2816, .f32⟩
  | 26 => ⟨S8192x2816, .f32⟩
  | 27 => ⟨S8192x2816, .f32⟩
  | 28 => ⟨S8192x2816, .f32⟩
  | 29 => ⟨S8192x2816, .f32⟩
  | 30 => ⟨S_, .f32⟩
  | 31 => ⟨S8192x1024, .f32⟩
  | 32 => ⟨S8192x1024, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S8192x1024, .f32⟩
  | 39 => ⟨S_, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S8192x1024, .f32⟩
  | 58 => ⟨S8192x1024, .f32⟩
  | 59 => ⟨S_, .f32⟩
  | 60 => ⟨S8192x1, .f32⟩
  | 61 => ⟨S8192x1, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S_, .f32⟩
  | 75 => ⟨S1024, .f32⟩
  | 76 => ⟨S1x1024, .f32⟩
  | 77 => ⟨S8192x1024, .f32⟩
  | 78 => ⟨S_, .f32⟩
  | 79 => ⟨S1024, .f32⟩
  | 80 => ⟨S1x1024, .f32⟩
  | 81 => ⟨S8192x1024, .f32⟩
  | 82 => ⟨S8192x1024, .f32⟩
  | 83 => ⟨S8192x1024, .f32⟩
  | 84 => ⟨S_, .f32⟩
  | 85 => ⟨S8192, .f32⟩
  | 86 => ⟨S8192x1, .f32⟩
  | 87 => ⟨S8192x1024, .f32⟩
  | 88 => ⟨S8192x1024, .f32⟩
  | 89 => ⟨S8192x1, .f32⟩
  | 90 => ⟨S8192x1024, .f32⟩
  | 91 => ⟨S_, .f32⟩
  | 92 => ⟨S8192, .f32⟩
  | 93 => ⟨S8192x1, .f32⟩
  | 94 => ⟨S_, .f32⟩
  | 95 => ⟨S8192x1, .f32⟩
  | 96 => ⟨S8192x1, .f32⟩
  | 97 => ⟨S_, .f32⟩
  | 98 => ⟨S8192, .f32⟩
  | 99 => ⟨S8192x1024, .f32⟩
  | 100 => ⟨S8192x1024, .f32⟩
  | 101 => ⟨S8192x1024, .f32⟩
  | 102 => ⟨S_, .f32⟩
  | 103 => ⟨S8192, .f32⟩
  | 104 => ⟨S8192x1, .f32⟩
  | 105 => ⟨S8192x1024, .f32⟩
  | 106 => ⟨S8192x1, .f32⟩
  | 107 => ⟨S_, .f32⟩
  | 108 => ⟨S8192x1, .f32⟩
  | 109 => ⟨S8192x1, .f32⟩
  | 110 => ⟨S_, .f32⟩
  | 111 => ⟨S8192, .f32⟩
  | 112 => ⟨S8192x1024, .f32⟩
  | 113 => ⟨S8192x1024, .f32⟩
  | 114 => ⟨S_, .f32⟩
  | 115 => ⟨S8192x1024, .f32⟩
  | 116 => ⟨S8192x1024, .f32⟩
  | 117 => ⟨S8192x2816, .f32⟩
  | 118 => ⟨S_, .f32⟩
  | 119 => ⟨S8192x1024, .f32⟩
  | 120 => ⟨S8192x1024, .f32⟩
  | 121 => ⟨S8192x2816, .f32⟩
  | 122 => ⟨S8192x2816, .f32⟩
  | 123 => ⟨S8192x1024, .f32⟩
  | 124 => ⟨S8192x1024, .f32⟩
  | 125 => ⟨S8192x2816, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x2816, .f32⟩
  | 1 => ⟨S8192x1024, .f32⟩
  | 2 => ⟨S8192x1024, .f32⟩
  | 3 => ⟨S8192x8x352, .f32⟩
  | 4 => ⟨S_, .i32⟩
  | 5 => ⟨S_, .f32⟩
  | 6 => ⟨S8192x8x384, .f32⟩
  | 7 => ⟨S8192x3072, .f32⟩
  | 8 => ⟨S8192x3072, .bf16⟩
  | 9 => ⟨S8192x8x352, .f32⟩
  | 10 => ⟨S_, .i32⟩
  | 11 => ⟨S_, .f32⟩
  | 12 => ⟨S8192x8x384, .f32⟩
  | 13 => ⟨S8192x3072, .f32⟩
  | 14 => ⟨S8192x3072, .bf16⟩
  | 15 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v5_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v5_1 : Ref sig .tc := ⟨.hbm, 25, rfl⟩
abbrev main_v5_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_4 : Ref sig .tc := ⟨.hbm, 39, rfl⟩
abbrev main_v16 : Ref sig .tc := ⟨.hbm, 40, rfl⟩
abbrev main_v17 : Ref sig .tc := ⟨.hbm, 41, rfl⟩
abbrev main_cst_5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_6 : Ref sig .tc := ⟨.hbm, 48, rfl⟩
abbrev main_v23 : Ref sig .tc := ⟨.hbm, 49, rfl⟩
abbrev main_v24 : Ref sig .tc := ⟨.hbm, 50, rfl⟩
abbrev main_cst_7 : Ref sig .tc := ⟨.hbm, 51, rfl⟩
abbrev main_v25 : Ref sig .tc := ⟨.hbm, 52, rfl⟩
abbrev main_v26 : Ref sig .tc := ⟨.hbm, 53, rfl⟩
abbrev main_cst_8 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_9 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_10 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_12 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_13 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_14 : Ref sig .tc := ⟨.hbm, 91, rfl⟩
abbrev main_v58 : Ref sig .tc := ⟨.hbm, 92, rfl⟩
abbrev main_v59 : Ref sig .tc := ⟨.hbm, 93, rfl⟩
abbrev main_cst_15 : Ref sig .tc := ⟨.hbm, 94, rfl⟩
abbrev main_v60 : Ref sig .tc := ⟨.hbm, 95, rfl⟩
abbrev main_v61 : Ref sig .tc := ⟨.hbm, 96, rfl⟩
abbrev main_cst_16 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_17 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_18 : Ref sig .tc := ⟨.hbm, 107, rfl⟩
abbrev main_v70 : Ref sig .tc := ⟨.hbm, 108, rfl⟩
abbrev main_v71 : Ref sig .tc := ⟨.hbm, 109, rfl⟩
abbrev main_cst_19 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_20 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_21 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_call1_v0 : Ref sig .tc := ⟨.hbm, 125, rfl⟩
abbrev main_call1_v1 : Ref sig .tc := ⟨.hbm, 126, rfl⟩
abbrev main_call1_v2 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_c : Ref sig .tc := ⟨.hbm, 132, rfl⟩
abbrev main_call2_v0 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_c_22 : Ref sig .tc := ⟨.hbm, 138, rfl⟩
abbrev main_call3_v0 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩

abbrev nD : Nat := 1
abbrev τ : Topo := Topo.v7x

variable {F : FTy → Type} [FloatOps F]
-- ==== FfnDd.lean ====
abbrev S8192x2816 : Shape := ⟨2, ![8192, 2816]⟩
abbrev S8192x1024 : Shape := ⟨2, ![8192, 1024]⟩
abbrev S8192x8x352 : Shape := ⟨3, ![8192, 8, 352]⟩
abbrev S_ : Shape := ⟨0, ![]⟩
abbrev S8192x8x384 : Shape := ⟨3, ![8192, 8, 384]⟩
abbrev S8192x3072 : Shape := ⟨2, ![8192, 3072]⟩
abbrev S1x3072x1024 : Shape := ⟨3, ![1, 3072, 1024]⟩
abbrev S1024x3072 : Shape := ⟨2, ![1024, 3072]⟩
abbrev S1024x1024 : Shape := ⟨2, ![1024, 1024]⟩
abbrev S3072x1024 : Shape := ⟨2, ![3072, 1024]⟩

abbrev nBuf : Space → Nat
  | .hbm => 10
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x8x352, .f32⟩
  | .hbm, ⟨3, _⟩ => ⟨S_, .i32⟩
  | .hbm, ⟨4, _⟩ => ⟨S_, .f32⟩
  | .hbm, ⟨5, _⟩ => ⟨S8192x8x384, .f32⟩
  | .hbm, ⟨6, _⟩ => ⟨S8192x3072, .f32⟩
  | .hbm, ⟨7, _⟩ => ⟨S8192x3072, .bf16⟩
  | .hbm, ⟨8, _⟩ => ⟨S8192x1024, .bf16⟩
  | .hbm, ⟨9, _⟩ => ⟨S1x3072x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S1x3072x1024, .bf16⟩
  | .local _ .vmem, ⟨5, _⟩ => ⟨S3072x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== FfnDdRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S8x352x1024 : Shape := ⟨3, ![8, 352, 1024]⟩
abbrev S8x384x1024 : Shape := ⟨3, ![8, 384, 1024]⟩
abbrev S1x3072x1024 : Shape := ⟨3, ![1, 3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S8x352x1024, .f32⟩
  | .hbm, ⟨8, _⟩ => ⟨S_, .i32⟩
  | .hbm, ⟨9, _⟩ => ⟨S_, .f32⟩
  | .hbm, ⟨10, _⟩ => ⟨S8x384x1024, .f32⟩
  | .hbm, ⟨11, _⟩ => ⟨S1x3072x1024, .f32⟩
  | .hbm, ⟨12, _⟩ => ⟨S1x3072x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== FfnFwd.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S1024x8x352 : Shape := ⟨3, ![1024, 8, 352]⟩
abbrev S8x1024x352 : Shape := ⟨3, ![8, 1024, 352]⟩
abbrev S_ : Shape := ⟨0, ![]⟩
abbrev S8x1024x384 : Shape := ⟨3, ![8, 1024, 384]⟩
abbrev S8x1x1024x384 : Shape := ⟨4, ![8, 1, 1024, 384]⟩
abbrev S8x2x1024x384 : Shape := ⟨4, ![8, 2, 1024, 384]⟩
abbrev S2x1024x8x384 : Shape := ⟨4, ![2, 1024, 8, 384]⟩
abbrev S2x1024x3072 : Shape := ⟨3, ![2, 1024, 3072]⟩
abbrev S8x352x1024 : Shape := ⟨3, ![8, 352, 1024]⟩
abbrev S8x384x1024 : Shape := ⟨3, ![8, 384, 1024]⟩
abbrev S8x1x384x1024 : Shape := ⟨4, ![8, 1, 384, 1024]⟩
abbrev S8192x3072 : Shape := ⟨2, ![8192, 3072]⟩
abbrev S512x1024 : Shape := ⟨2, ![512, 1024]⟩
abbrev S1x1024x768 : Shape := ⟨3, ![1, 1024, 768]⟩
abbrev S2x1x384x1024 : Shape := ⟨4, ![2, 1, 384, 1024]⟩
abbrev S512x768 : Shape := ⟨2, ![512, 768]⟩
abbrev S1024x768 : Shape := ⟨2, ![1024, 768]⟩
abbrev S2x384x1024 : Shape := ⟨3, ![2, 384, 1024]⟩
abbrev S768x1024 : Shape := ⟨2, ![768, 1024]⟩
abbrev S512 : Shape := ⟨1, ![512]⟩
abbrev S512x1 : Shape := ⟨2, ![512, 1]⟩

abbrev nBuf : Space → Nat
  | .hbm => 33
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S1x1024, .f32⟩
  | .hbm, ⟨6, _⟩ => ⟨S1024x8x352, .f32⟩
  | .hbm, ⟨7, _⟩ => ⟨S8x1024x352, .f32⟩
  | .hbm, ⟨8, _⟩ => ⟨S_, .i32⟩
  | .hbm, ⟨9, _⟩ => ⟨S_, .f32⟩
  | .hbm, ⟨10, _⟩ => ⟨S8x1024x384, .f32⟩
  | .hbm, ⟨11, _⟩ => ⟨S1024x8x352, .f32⟩
  | .hbm, ⟨12, _⟩ => ⟨S8x1024x352, .f32⟩
  | .hbm, ⟨13, _⟩ => ⟨S_, .i32⟩
  | .hbm, ⟨14, _⟩ => ⟨S_, .f32⟩
  | .hbm, ⟨15, _⟩ => ⟨S8x1024x384, .f32⟩
  | .hbm, ⟨16, _⟩ => ⟨S8x1x1024x384, .f32⟩
  | .hbm, ⟨17, _⟩ => ⟨S8x1x1024x384, .f32⟩
  | .hbm, ⟨18, _⟩ => ⟨S8x2x1024x384, .f32⟩
  | .hbm, ⟨19, _⟩ => ⟨S8x2x1024x384, .bf16⟩
  | .hbm, ⟨20, _⟩ => ⟨S2x1024x8x384, .bf16⟩
  | .hbm, ⟨21, _⟩ => ⟨S2x1024x3072, .bf16⟩
  | .hbm, ⟨22, _⟩ => ⟨S8x352x1024, .f32⟩
  | .hbm, ⟨23, _⟩ => ⟨S_, .i32⟩
  | .hbm, ⟨24, _⟩ => ⟨S_, .f32⟩
  | .hbm, ⟨25, _⟩ => ⟨S8x384x1024, .f32⟩
  | .hbm, ⟨26, _⟩ => ⟨S8x1x384x1024, .f32⟩
  | .hbm, ⟨27, _⟩ => ⟨S8x1x384x1024, .bf16⟩
  | .hbm, ⟨28, _⟩ => ⟨S8192x1024, .f32⟩
  | .hbm, ⟨29, _⟩ => ⟨S8192x1024, .f32⟩
  | .hbm, ⟨30, _⟩ => ⟨S8192x3072, .bf16⟩
  | .hbm, ⟨31, _⟩ => ⟨S8192x3072, .bf16⟩
  | .hbm, ⟨32, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1x1024x768, .bf16⟩
  | .local _ .vmem, ⟨3, _⟩ => ⟨S1x1024x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S2x1x384x1024, .bf16⟩
  | .local _ .vmem, ⟨7, _⟩ => ⟨S2x1x384x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x768, .bf16⟩
  | .local _ .vmem, ⟨15, _⟩ => ⟨S512x768, .bf16⟩
  | .local _ .vmem, ⟨16, _⟩ => ⟨S512x768, .bf16⟩
  | .local _ .vmem, ⟨17, _⟩ => ⟨S512x768, .bf16⟩
  | .local _ .vmem, ⟨18, _⟩ => ⟨S512x768, .bf16⟩
  | .local _ .vmem, ⟨19, _⟩ => ⟨S512x768, .bf16⟩
  | .local _ .vmem, ⟨20, _⟩ => ⟨S512x1024, .f32⟩
  | .local _ .vmem, ⟨21, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_call2_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev main_v16_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_28 : BitVec 32 := 0#32
  let v38 : BitVec 1 := Scalar.cmpi .ne v37 c0_i32_28
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnFwdRefIdeal.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S8192x8x352 : Shape := ⟨3, ![8192, 8, 352]⟩
abbrev S8192x8x384 : Shape := ⟨3, ![8192, 8, 384]⟩
abbrev S8192x3072 : Shape := ⟨2, ![8192, 3072]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S1x1024, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x8x352, .f32⟩
  | .hbm, ⟨54, _⟩ => ⟨S_, .i32⟩
  | .hbm, ⟨55, _⟩ => ⟨S_, .f32⟩
  | .hbm, ⟨56, _⟩ => ⟨S8192x8x384, .f32⟩
  | .hbm, ⟨57, _⟩ => ⟨S8192x3072, .f32⟩
  | .hbm, ⟨58, _⟩ => ⟨S8192x3072, .bf16⟩
  | .hbm, ⟨59, _⟩ => ⟨S8192x8x352, .f32⟩
  | .hbm, ⟨60, _⟩ => ⟨S_, .i32⟩
  | .hbm, ⟨61, _⟩ => ⟨S_, .f32⟩
  | .hbm, ⟨62, _⟩ => ⟨S8192x8x384, .f32⟩
  | .hbm, ⟨63, _⟩ => ⟨S8192x3072, .f32⟩
  | .hbm, ⟨64, _⟩ => ⟨S8192x3072, .bf16⟩
  | .hbm, ⟨65, _⟩ => ⟨S8192x8x352, .f32⟩
  | .hbm, ⟨66, _⟩ => ⟨S_, .i32⟩
  | .hbm, ⟨67, _⟩ => ⟨S_, .f32⟩
  | .hbm, ⟨68, _⟩ => ⟨S8192x8x384, .f32⟩
  | .hbm, ⟨69, _⟩ => ⟨S8192x3072, .f32⟩
  | .hbm, ⟨70, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c : Ref sig .tc := ⟨.hbm, 54, rfl⟩
abbrev main_call1_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_6 : Ref sig .tc := ⟨.hbm, 60, rfl⟩
abbrev main_call2_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_7 : Ref sig .tc := ⟨.hbm, 66, rfl⟩
abbrev main_call3_v0 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩

abbrev nD : Nat := 1
abbrev τ : Topo := Topo.v7x

variable {F : FTy → Type} [FloatOps F]
-- ==== FfnFwd2.lean ====
abbrev S8192x1024 : Shape := ⟨2, ![8192, 1024]⟩
abbrev S8192x256 : Shape := ⟨2, ![8192, 256]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S1x1024 : Shape := ⟨2, ![1, 1024]⟩
abbrev S1024x8x352 : Shape := ⟨3, ![1024, 8, 352]⟩
abbrev S8x1024x352 : Shape := ⟨3, ![8, 1024, 352]⟩
abbrev S_ : Shape := ⟨0, ![]⟩
abbrev S8x1024x384 : Shape := ⟨3, ![8, 1024, 384]⟩
abbrev S8x1x1024x384 : Shape := ⟨4, ![8, 1, 1024, 384]⟩
abbrev S8x2x1024x384 : Shape := ⟨4, ![8, 2, 1024, 384]⟩
abbrev S2x1024x8x384 : Shape := ⟨4, ![2, 1024, 8, 384]⟩
abbrev S2x1024x3072 : Shape := ⟨3, ![2, 1024, 3072]⟩
abbrev S8x352x1024 : Shape := ⟨3, ![8, 352, 1024]⟩
abbrev S8x384x1024 : Shape := ⟨3, ![8, 384, 1024]⟩
abbrev S8x1x384x1024 : Shape := ⟨4, ![8, 1, 384, 1024]⟩
abbrev S8x1x128x1024 : Shape := ⟨4, ![8, 1, 128, 1024]⟩
abbrev S8x3x128x1024 : Shape := ⟨4, ![8, 3, 128, 1024]⟩
abbrev S8192x3072 : Shape := ⟨2, ![8192, 3072]⟩
abbrev S512x1024 : Shape := ⟨2, ![512, 1024]⟩
abbrev S1x1024x768 : Shape := ⟨3, ![1, 1024, 768]⟩
abbrev S2x1x384x1024 : Shape := ⟨4, ![2, 1, 384, 1024]⟩
abbrev S512x256 : Shape := ⟨2, ![512, 256]⟩
abbrev S512x768 : Shape := ⟨2, ![512, 768]⟩
abbrev S8x128x1024 : Shape := ⟨3, ![8, 128, 1024]⟩
abbrev S1024x768 : Shape := ⟨2, ![1024, 768]⟩
abbrev S2x384x1024 : Shape := ⟨3, ![2, 384, 1024]⟩
abbrev S768x1024 : Shape := ⟨2, ![768, 1024]⟩
abbrev S512 : Shape := ⟨1, ![512]⟩
abbrev S512x1 : Shape := ⟨2, ![512, 1]⟩

abbrev nBuf : Space → Nat
  | .hbm => 42
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x1024, .f32⟩
  | .hbm, ⟨6, _⟩ => ⟨S256x1024, .f32⟩
  | .hbm, ⟨7, _⟩ => ⟨S1x1024, .f32⟩
  | .hbm, ⟨8, _⟩ => ⟨S1x1024, .f32⟩
  | .hbm, ⟨9, _⟩ => ⟨S1024x8x352, .f32⟩
  | .hbm, ⟨10, _⟩ => ⟨S8x1024x352, .f32⟩
  | .hbm, ⟨11, _⟩ => ⟨S_, .i32⟩
  | .hbm, ⟨12, _⟩ => ⟨S_, .f32⟩
  | .hbm, ⟨13, _⟩ => ⟨S8x1024x384, .f32⟩
  | .hbm, ⟨14, _⟩ => ⟨S1024x8x352, .f32⟩
  | .hbm, ⟨15, _⟩ => ⟨S8x1024x352, .f32⟩
  | .hbm, ⟨16, _⟩ => ⟨S_, .i32⟩
  | .hbm, ⟨17, _⟩ => ⟨S_, .f32⟩
  | .hbm, ⟨18, _⟩ => ⟨S8x1024x384, .f32⟩
  | .hbm, ⟨19, _⟩ => ⟨S8x1x1024x384, .f32⟩
  | .hbm, ⟨20, _⟩ => ⟨S8x1x1024x384, .f32⟩
  | .hbm, ⟨21, _⟩ => ⟨S8x2x1024x384, .f32⟩
  | .hbm, ⟨22, _⟩ => ⟨S8x2x1024x384, .bf16⟩
  | .hbm, ⟨23, _⟩ => ⟨S2x1024x8x384, .bf16⟩
  | .hbm, ⟨24, _⟩ => ⟨S2x1024x3072, .bf16⟩
  | .hbm, ⟨25, _⟩ => ⟨S8x352x1024, .f32⟩
  | .hbm, ⟨26, _⟩ => ⟨S_, .i32⟩
  | .hbm, ⟨27, _⟩ => ⟨S_, .f32⟩
  | .hbm, ⟨28, _⟩ => ⟨S8x384x1024, .f32⟩
  | .hbm, ⟨29, _⟩ => ⟨S8x1x384x1024, .f32⟩
  | .hbm, ⟨30, _⟩ => ⟨S8x1x384x1024, .bf16⟩
  | .hbm, ⟨31, _⟩ => ⟨S8x1x128x1024, .f32⟩
  | .hbm, ⟨32, _⟩ => ⟨S_, .i32⟩
  | .hbm, ⟨33, _⟩ => ⟨S_, .f32⟩
  | .hbm, ⟨34, _⟩ => ⟨S8x3x128x1024, .f32⟩
  | .hbm, ⟨35, _⟩ => ⟨S8x3x128x1024, .bf16⟩
  | .hbm, ⟨36, _⟩ => ⟨S256x1024, .bf16⟩
  | .hbm, ⟨37, _⟩ => ⟨S8192x1024, .f32⟩
  | .hbm, ⟨38, _⟩ => ⟨S8192x1024, .f32⟩
  | .hbm, ⟨39, _⟩ => ⟨S8192x3072, .bf16⟩
  | .hbm, ⟨40, _⟩ => ⟨S8192x3072, .bf16⟩
  | .hbm, ⟨41, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1x1024x768, .bf16⟩
  | .local _ .vmem, ⟨3, _⟩ => ⟨S1x1024x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S2x1x384x1024, .bf16⟩
  | .local _ .vmem, ⟨7, _⟩ => ⟨S2x1x384x1024, .bf16⟩
  | .local _ .vmem, ⟨8, _⟩ => ⟨S1x1024, .f32⟩
  | .local _ .vmem, ⟨9, _⟩ => ⟨S1x1024, .f32⟩
  | .local _ .vmem, ⟨10, _⟩ => ⟨S512x256, .f32⟩
  | .local _ .vmem, ⟨11, _⟩ => ⟨S512x256, .f32⟩
  | .local _ .vmem, ⟨12, _⟩ => ⟨S8x1x128x1024, .bf16⟩
  | .local _ .vmem, ⟨13, _⟩ => ⟨S256x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x768, .bf16⟩
  | .local _ .vmem, ⟨19, _⟩ => ⟨S512x768, .bf16⟩
  | .local _ .vmem, ⟨20, _⟩ => ⟨S512x768, .bf16⟩
  | .local _ .vmem, ⟨21, _⟩ => ⟨S512x768, .bf16⟩
  | .local _ .vmem, ⟨22, _⟩ => ⟨S512x768, .bf16⟩
  | .local _ .vmem, ⟨23, _⟩ => ⟨S512x768, .bf16⟩
  | .local _ .vmem, ⟨24, _⟩ => ⟨S512x1024, .f32⟩
  | .local _ .vmem, ⟨25, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_call2_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_call3_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v20_2 : Ref sig .tc := ⟨.hbm, 39, rfl⟩
abbrev main_v20_3 : Ref sig .tc := ⟨.hbm, 40, rfl⟩
abbrev main_v20_4 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_28 : BitVec 32 := 0#32
  let v38 : BitVec 1 := Scalar.cmpi .ne v37 c0_i32_28
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== FfnFwd2RefIdeal.lean ====
abbrev S8192x1024 : Shape := ⟨2, ![8192, 1024]⟩
abbrev S8192x256 : Shape := ⟨2, ![8192, 256]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S1x1024 : Shape := ⟨2, ![1, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S8192x8x352 : Shape := ⟨3, ![8192, 8, 352]⟩
abbrev S8192x8x384 : Shape := ⟨3, ![8192, 8, 384]⟩
abbrev S8192x3072 : Shape := ⟨2, ![8192, 3072]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x1024, .f32⟩
  | .hbm, ⟨6, _⟩ => ⟨S256x1024, .f32⟩
  | .hbm, ⟨7, _⟩ => ⟨S1x1024, .f32⟩
  | .hbm, ⟨8, _⟩ => ⟨S1x1024, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x8x352, .f32⟩
  | .hbm, ⟨69, _⟩ => ⟨S_, .i32⟩
  | .hbm, ⟨70, _⟩ => ⟨S_, .f32⟩
  | .hbm, ⟨71, _⟩ => ⟨S8192x8x384, .f32⟩
  | .hbm, ⟨72, _⟩ => ⟨S8192x3072, .f32⟩
  | .hbm, ⟨73, _⟩ => ⟨S8192x3072, .bf16⟩
  | .hbm, ⟨74, _⟩ => ⟨S8192x8x352, .f32⟩
  | .hbm, ⟨75, _⟩ => ⟨S_, .i32⟩
  | .hbm, ⟨76, _⟩ => ⟨S_, .f32⟩
  | .hbm, ⟨77, _⟩ => ⟨S8192x8x384, .f32⟩
  | .hbm, ⟨78, _⟩ => ⟨S8192x3072, .f32⟩
  | .hbm, ⟨79, _⟩ => ⟨S8192x3072, .bf16⟩
  | .hbm, ⟨80, _⟩ => ⟨S8192x8x352, .f32⟩
  | .hbm, ⟨81, _⟩ => ⟨S_, .i32⟩
  | .hbm, ⟨82, _⟩ => ⟨S_, .f32⟩
  | .hbm, ⟨83, _⟩ => ⟨S8192x8x384, .f32⟩
  | .hbm, ⟨84, _⟩ => ⟨S8192x3072, .f32⟩
  | .hbm, ⟨85, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c : Ref sig .tc := ⟨.hbm, 69, rfl⟩
abbrev main_call1_v0 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_8 : Ref sig .tc := ⟨.hbm, 75, rfl⟩
abbrev main_call2_v0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_9 : Ref sig .tc := ⟨.hbm, 81, rfl⟩
abbrev main_call3_v0 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩

abbrev nD : Nat := 1
abbrev τ : Topo := Topo.v7x

variable {F : FTy → Type} [FloatOps F]
-- ==== Proof.FfnDw.lean ====
module

public import proofs.«01_k».proof.Proof.Gen.FfnDwIdeal.Frame
public import proofs.«01_k».proof.Proof.Gen.FfnDwRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnDwIdeal.Value

open Idealize.ShloMosaic Idealize.ShloMosaic.TcCoe Idealize.SL.Sem
open Idealize.ShloMosaic.Pipeline (Dat)
open Cert.FfnDwIdeal Cert.FfnDwIdeal.Gen

variable (m : (ℓ : Loc nD τ sig) → Buf (Elt Ideal) ℓ)

theorem hzero (j) : k0_pay1 (F := Ideal) j = 0 := by pointwise [k0_pay1]

theorem hpay (acc : FVec Ideal S1024x3072 .f32) (x : FVec Ideal S512x1024 .f32) (y : FVec Ideal S512x3072 .bf16) (j) :
    k0_pay2 (F := Ideal) acc x y j = acc j + ∑ k : Fin 512, x (ix2 k (j 0)) * y (ix2 k (j 1)) := by
  pointwise [k0_pay2]

theorem idx : ∀ t : Fin cfg0.N, win0_0.index t = ![t.val, 0] ∧ win0_1.index t = ![t.val, 0] ∧ win0_2.index t = ![0, 0, 0] :=
  (by decide +kernel : ∀ t : Fin grid0.N, _)

/-- The reference's result as a term over its two arguments. -/
abbrev REF (x : FVec Ideal Cert.FfnDwRefIdeal.S8192x1024 .f32) (dh : FVec Ideal Cert.FfnDwRefIdeal.S8192x2816 .f32) :
    FVec Ideal Cert.FfnDwRefIdeal.S8x1024x384 .bf16 :=
  truncf .bf16 (pad Cert.FfnDwRefIdeal.S8x1024x384 ![0, 0, 0] ![0, 0, 32] ![0, 0, 0] (transpose Cert.FfnDwRefIdeal.S8x1024x352 [1, 0, 2] (shapeCast _ (transpose Cert.FfnDwRefIdeal.S1024x2816 [1, 0] (Host.dotGeneral Cert.FfnDwRefIdeal.dot_S8192x2816_S8192x1024_S2816x1024_0_0_1_1_n_n none dh x) Cert.FfnDwRefIdeal.Gen.transposes_S2816x1024_S1024x2816_1_0) Cert.FfnDwRefIdeal.Gen.shapeCasts_S1024x2816_S1024x8x352) Cert.FfnDwRefIdeal.Gen.transposes_S1024x8x352_S8x1024x352_1_0_2) (sitofp .f32 (constantI Cert.FfnDwRefIdeal.S_ 32 0#32)) Cert.FfnDwRefIdeal.Gen.pads_S8x1024x352_S8x1024x384_000_000_0320 Cert.FfnDwRefIdeal.Gen.h_S_) Cert.FfnDwRefIdeal.Gen.bitsLt_bf16_f32

/-- The columns of the second operand, on the layout that the kernel is given. -/
theorem ref_at (x : FVec Ideal Cert.FfnDwRefIdeal.S8192x1024 .f32) (dh : FVec Ideal Cert.FfnDwRefIdeal.S8192x2816 .f32) (d : Fin 8) (p : Fin 1024) (q : Fin 384) :
    REF x dh (ix3 d p q) = if h : q.val < 352 then ∑ l : Fin 8192, x (ix2 l p) * dh (ix2 l ⟨352 * d.val + q.val, by omega⟩) else 0 := by
  pointwise [REF]
  rcases Nat.lt_or_ge q.val 352 with h | h
  · rw [dif_pos h, dif_pos h]
    refine Finset.sum_congr rfl fun l _ => ?_
    rw [mul_comm]
    simp only [Nat.mul_comm 352]
  · rw [dif_neg (by omega), dif_neg (by omega)]
    show ((((0 : ℤ) : ℝ)) : EReal) = 0
    simp

/-- The layer's input, the output's derivative, and the latter as the kernel is given it. -/
abbrev X (c : Dev nD) : FVec Ideal S8192x1024 .f32 := m ((c : Thread nD τ).loc main_arg0)
@[inherit_doc X] abbrev DH (c : Dev nD) : FVec Ideal S8192x2816 .f32 := m ((c : Thread nD τ).loc main_arg1)
@[inherit_doc X] abbrev DP (c : Dev nD) : FVec Ideal S8192x3072 .bf16 := V m c main_v3

/-- The columns padded on the host: a device's 352 columns become 384. -/
theorem dp_eq (c : Dev nD) : DP m c = truncf .bf16 (shapeCast S8192x3072 (pad S8192x8x384 ![0, 0, 0] ![0, 0, 32] ![0, 0, 0]
    (shapeCast S8192x8x352 (DH m c) shapeCasts_S8192x2816_S8192x8x352) (sitofp .f32 (constantI S_ 32 0#32))
    pads_S8192x8x352_S8192x8x384_000_000_0320 h_S_) shapeCasts_S8192x8x384_S8192x3072) bitsLt_bf16_f32 := by
  simp only [DP, V, hostOps0, hostOps0_1, hostOps0_2, List.flatten_cons, List.flatten_nil, List.cons_append, List.nil_append, List.append_nil,
    StableHlo.TRef.binary, StableHlo.TRef.unary, StableHlo.TRef.toBuf, StableHlo.TRef.ofBuf, cast_eq]
  after_results <;> rfl

/-- The second operand as the kernel is given it, at an index. -/
theorem v_at (c : Dev nD) (l : Fin 8192) (d : Fin 8) (q : Fin 384) :
    DP m c (ix2 l ⟨384 * d.val + q.val, by omega⟩) = if h : q.val < 352 then DH m c (ix2 l ⟨352 * d.val + q.val, by omega⟩) else 0 := by
  rw [dp_eq]
  pointwise []
  rcases Nat.lt_or_ge q.val 352 with h | h
  · rw [dif_pos h, dif_pos h]
    simp only [Nat.mul_comm 352]
  · rw [dif_neg (by omega), dif_neg (by omega)]
    show ((((0 : ℤ) : ℝ)) : EReal) = 0
    simp

/-- The accumulator after the last point is the whole product. -/
theorem acc_eq (c : Dev nD) (j) : (outsAt0 m c t0_15.val t0_15.isLt).2 j = ∑ l : Fin 8192, X m c (ix2 l (j 0)) * DP m c (ix2 l (j 1)) := by
  rw [Pipeline.eq_sum_fin_of_reset_step_apply_last (fun n h => (outsAt0 m c n h).2) 16 (fun _ => 0) _
    (fun t h j => by rw [outsAt0_A m c t h (by omega)]; frame_out; rw [hpay, hzero])
    (fun t h j => by
      by_cases h1 : t.val % 16 = 15
      · rw [outsAt0_C m c t h h1]; frame_out; rw [hpay]; rw [read_unread_whole]
      · rw [outsAt0_B m c t h h1]; frame_out; rw [hpay]; rw [read_unread_whole])
    (le_of_eq N_0) t0_15 rfl j, zero_add]
  refine Fin.sum_mul_add_congr (L := 8192) (S := 16) (n := 512) fun s k hl => ?_
  have e0 : win0_0.index s = _ := (idx ⟨s.val, lt_of_lt_of_eq s.isLt N_0.symm⟩).1
  have e1 : win0_1.index s = _ := (idx ⟨s.val, lt_of_lt_of_eq s.isLt N_0.symm⟩).2.1
  idx_vars j
  blk_point [iblk, V, e0, e1]

/-- The accumulator stored at the last point. -/
theorem acc_succ (c : Dev nD) : k0_pay2
                    ((outsAt0 m c (t0_15.val - 1) (by decide)).2)
                    (iblk m c 0 t0_15) (iblk m c 1 t0_15) = (outsAt0 m c t0_15.val t0_15.isLt).2 := by
  rw [outsAt0_C m c t0_15 (by decide) (by decide)]
  frame_out; rw [read_unread_whole]

/-- The eight blocks of the result are the accumulator's columns, 384 each. -/
theorem out_eq (c : Dev nD) (d : Fin 8) (p : Fin 1024) (q : Fin 384) : (outsAt0 m c t0_15.val t0_15.isLt).1 (ix3 d p q) = (outsAt0 m c t0_15.val t0_15.isLt).2 (ix2 p ⟨384 * d.val + q.val, by omega⟩) := by
  generalize hA : (outsAt0 m c t0_15.val t0_15.isLt).2 = A
  rw [← acc_succ] at hA
  rw [outsAt0_C m c t0_15 (by decide) (by decide)]
  frame_out
  rw [read_unread_whole, hA]
  simp only [View.readCov_eq_canon', View.canon_unit_zero (S := S1024x3072) (off := ![0, 0]) (by funext a; fin_cases a <;> rfl)]
  clear hA
  canon_tiles x h
  all_goals (open_payloads; pointwise)
  all_goals blk_ext
  all_goals (change d.val = _ at h0; change p.val = _ at h1; change q.val = _ at h2; omega)

/-- What the last point leaves in the result's block is the reference's result. -/
theorem point (c : Dev nD) (d : Fin 8) (p : Fin 1024) (q : Fin 384) :
    (outsAt0 m c t0_15.val t0_15.isLt).1 (ix3 d p q) = REF (X m c) (DH m c) (ix3 d p q) := by
  rw [out_eq, acc_eq, ref_at]
  rcases Nat.lt_or_ge q.val 352 with h | h
  · rw [dif_pos h]
    refine Finset.sum_congr rfl fun l _ => ?_
    exact congrArg (X m c (ix2 l p) * ·) ((v_at m c l d q).trans (dif_pos h))
  · rw [dif_neg (by omega)]
    refine Finset.sum_eq_zero fun l _ => ?_
    exact (congrArg (X m c (ix2 l p) * ·) ((v_at m c l d q).trans (dif_neg (by omega)))).trans (mul_zero _)

/-- The result's array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have ht : t = t0_15 := Fin.ext (by have h := (flush0_2 t).mp hf; have := t.isLt; have := (show cfg0.N = 16 from N_0); show t.val = 15; omega)
  subst ht
  blk_simp; rw [after0_2]
  obtain ⟨d, hd⟩ : ∃ d : Fin 8, d.val = (y 0 : ℕ) := ⟨⟨(y 0 : ℕ), (y 0).isLt⟩, rfl⟩
  obtain ⟨p, hp⟩ : ∃ p : Fin 1024, p.val = (y 1 : ℕ) := ⟨⟨(y 1 : ℕ), (y 1).isLt⟩, rfl⟩
  obtain ⟨q, hq⟩ : ∃ q : Fin 384, q.val = (y 2 : ℕ) := ⟨⟨(y 2 : ℕ), (y 2).isLt⟩, rfl⟩
  have hy : y = ix3 d p q := by blk_ext
  have he : (win0_2.blk t0_15).view.emb y = ix3 d p q := by blk_ext [idx t0_15]
  rw [he, hy]
  exact point m c d p q

end Cert.FfnDwIdeal.Value

end
-- ==== Proof.LruOuts.lean ====
/- What one grid point of the recurrence's gradient kernel leaves in each output's staging buffer and in the two
   scratch buffers carried between points, in the two cases of its conditional: the first point (case A, which zero-fills
   the accumulators) and a later one (case B). -/
module

public import proofs.«01_k».proof.Proof.Gen.LruBwdIdeal.Frame.RunB
public import Idealize.ShloMosaic.Lib.Claim

@[expose] public section

set_option maxRecDepth 16384

noncomputable section

namespace Cert.LruBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Cases

variable (c : Dev nD) (i : grid0.Coords)
  (arg1 : Memref sig .tc .vmem S512x768 .f32) (harg1 : arg1.IsWhole)
  (arg2 : Memref sig .tc .vmem S8x768 .f32) (harg2 : arg2.IsWhole)
  (arg3 : Memref sig .tc .vmem S512x384 .f32) (harg3 : arg3.IsWhole)
  (arg4 : Memref sig .tc .vmem S8x384 .f32) (harg4 : arg4.IsWhole)
  (arg5 : Memref sig .tc .vmem S4x384 .f32) (harg5 : arg5.IsWhole)
  (arg6 : Memref sig .tc .vmem S1x384 .f32) (harg6 : arg6.IsWhole)
  (arg7 : Memref sig .tc .vmem S384x384 .f32) (harg7 : arg7.IsWhole)
  (arg8 : Memref sig .tc .vmem S1x384 .f32) (harg8 : arg8.IsWhole)
  (arg9 : Memref sig .tc .vmem S384x384 .f32) (harg9 : arg9.IsWhole)
  (arg10 : Memref sig .tc .vmem S1x384 .f32) (harg10 : arg10.IsWhole)
  (arg11 : Memref sig .tc .vmem S1x384 .f32) (harg11 : arg11.IsWhole)
  (arg12 : Memref sig .tc .vmem S512x384 .f32) (harg12 : arg12.IsWhole)
  (arg13 : Memref sig .tc .vmem S512x768 .bf16) (harg13 : arg13.IsWhole)
  (arg14 : Memref sig .tc .vmem S4x384 .f32) (harg14 : arg14.IsWhole)
  (arg15 : Memref sig .tc .vmem S1x384 .f32) (harg15 : arg15.IsWhole)
  (arg16 : Memref sig .tc .vmem S384x384 .f32) (harg16 : arg16.IsWhole)
  (arg17 : Memref sig .tc .vmem S1x384 .f32) (harg17 : arg17.IsWhole)
  (arg18 : Memref sig .tc .vmem S384x384 .f32) (harg18 : arg18.IsWhole)
  (arg19 : Memref sig .tc .vmem S1x384 .f32) (harg19 : arg19.IsWhole)
  (arg20 : Memref sig .tc .vmem S1x384 .f32) (harg20 : arg20.IsWhole)
  (arg21 : Memref sig .tc .vmem S8x384 .f32) (harg21 : arg21.IsWhole)
  (arg22 : Memref sig .tc .vmem S8x384 .f32) (harg22 : arg22.IsWhole)
  (arg23 : Memref sig .tc .vmem S520x384 .f32) (harg23 : arg23.IsWhole)

section CaseA

variable (hc0 : cond0_0 i)
  (x0 : Vec F S512x768 .f32) (x1 : Vec F S8x768 .f32) (x2 : Vec F S512x384 .f32) (x3 : Vec F S8x384 .f32) (x4 : Vec F S4x384 .f32) (x5 : Vec F S1x384 .f32) (x6 : Vec F S384x384 .f32) (x7 : Vec F S1x384 .f32) (x8 : Vec F S384x384 .f32) (x9 : Vec F S1x384 .f32) (x10 : Vec F S1x384 .f32) (x11 : Vec F S512x384 .f32)

/-- The stores of case A cover output 12. -/
theorem cover0_A_12 (y : S512x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).1 S512x384.size (by sl_kernel_rfl) y

/-- What case A leaves in output 12. -/
def out0_A_12 : Vec F S512x768 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).1)

/-- The stores of case A cover output 13. -/
theorem cover0_A_13 (y : S4x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.1 S4x384.size (by sl_kernel_rfl) y

/-- What case A leaves in output 13. -/
def out0_A_13 : Vec F S4x384 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.1)

/-- The stores of case A cover output 14. -/
theorem cover0_A_14 (y : S1x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.1 S1x384.size (by sl_kernel_rfl) y

/-- What case A leaves in output 14. -/
def out0_A_14 : Vec F S1x384 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.1)

/-- The stores of case A cover output 15. -/
theorem cover0_A_15 (y : S384x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.1 S384x384.size (by sl_kernel_rfl) y

/-- What case A leaves in output 15. -/
def out0_A_15 : Vec F S384x384 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.1)

/-- The stores of case A cover output 16. -/
theorem cover0_A_16 (y : S1x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.1 S1x384.size (by sl_kernel_rfl) y

/-- What case A leaves in output 16. -/
def out0_A_16 : Vec F S1x384 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.1)

/-- The stores of case A cover output 17. -/
theorem cover0_A_17 (y : S384x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.1 S384x384.size (by sl_kernel_rfl) y

/-- What case A leaves in output 17. -/
def out0_A_17 : Vec F S384x384 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.1)

/-- The stores of case A cover output 18. -/
theorem cover0_A_18 (y : S1x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.1 S1x384.size (by sl_kernel_rfl) y

/-- What case A leaves in output 18. -/
def out0_A_18 : Vec F S1x384 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.1)

/-- The stores of case A cover output 19. -/
theorem cover0_A_19 (y : S1x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.1 S1x384.size (by sl_kernel_rfl) y

/-- What case A leaves in output 19. -/
def out0_A_19 : Vec F S1x384 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.1)

/-- The stores of case A cover scratch 0. -/
theorem scover0_A_0 (y : S8x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.1 S8x384.size (by sl_kernel_rfl) y

/-- What case A leaves in scratch 0. -/
def sout0_A_0 : Vec F S8x384 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.1)

/-- The stores of case A cover scratch 1. -/
theorem scover0_A_1 (y : S8x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.2.1 S8x384.size (by sl_kernel_rfl) y

/-- What case A leaves in scratch 1. -/
def sout0_A_1 : Vec F S8x384 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.2.1)

end CaseA

section CaseB

variable (hc0 : ¬cond0_0 i)
  (x0 : Vec F S512x768 .f32) (x1 : Vec F S8x768 .f32) (x2 : Vec F S512x384 .f32) (x3 : Vec F S8x384 .f32) (x4 : Vec F S4x384 .f32) (x5 : Vec F S1x384 .f32) (x6 : Vec F S384x384 .f32) (x7 : Vec F S1x384 .f32) (x8 : Vec F S384x384 .f32) (x9 : Vec F S1x384 .f32) (x10 : Vec F S1x384 .f32) (x11 : Vec F S512x384 .f32) (xo13 : Vec F S4x384 .f32) (xo14 : Vec F S1x384 .f32) (xo15 : Vec F S384x384 .f32) (xo16 : Vec F S1x384 .f32) (xo17 : Vec F S384x384 .f32) (xo18 : Vec F S1x384 .f32) (xo19 : Vec F S1x384 .f32) (xs0 : Vec F S8x384 .f32) (xs1 : Vec F S8x384 .f32)

/-- The stores of case B cover output 12. -/
theorem cover0_B_12 (y : S512x768.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).1 S512x384.size (by sl_kernel_rfl) y

/-- What case B leaves in output 12. -/
def out0_B_12 : Vec F S512x768 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).1)

/-- The stores of case B cover output 13. -/
theorem cover0_B_13 (y : S4x384.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.1 S4x384.size (by sl_kernel_rfl) y

/-- What case B leaves in output 13. -/
def out0_B_13 : Vec F S4x384 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.1)

/-- The stores of case B cover output 14. -/
theorem cover0_B_14 (y : S1x384.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.1 S1x384.size (by sl_kernel_rfl) y

/-- What case B leaves in output 14. -/
def out0_B_14 : Vec F S1x384 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.1)

/-- The stores of case B cover output 15. -/
theorem cover0_B_15 (y : S384x384.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.1 S384x384.size (by sl_kernel_rfl) y

/-- What case B leaves in output 15. -/
def out0_B_15 : Vec F S384x384 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.1)

/-- The stores of case B cover output 16. -/
theorem cover0_B_16 (y : S1x384.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.1 S1x384.size (by sl_kernel_rfl) y

/-- What case B leaves in output 16. -/
def out0_B_16 : Vec F S1x384 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.1)

/-- The stores of case B cover output 17. -/
theorem cover0_B_17 (y : S384x384.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.2.1 S384x384.size (by sl_kernel_rfl) y

/-- What case B leaves in output 17. -/
def out0_B_17 : Vec F S384x384 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.2.1)

/-- The stores of case B cover output 18. -/
theorem cover0_B_18 (y : S1x384.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.2.2.1 S1x384.size (by sl_kernel_rfl) y

/-- What case B leaves in output 18. -/
def out0_B_18 : Vec F S1x384 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.2.2.1)

/-- The stores of case B cover output 19. -/
theorem cover0_B_19 (y : S1x384.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.2.2.2.1 S1x384.size (by sl_kernel_rfl) y

/-- What case B leaves in output 19. -/
def out0_B_19 : Vec F S1x384 .f32 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.2.2.2.1)

/-- The stores of case B cover scratch 0. -/
theorem scover0_B_0 (y : S8x384.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.2.2.2.2.1 S8x384.size (by sl_kernel_rfl) y

/-- What case B leaves in scratch 0. -/
def sout0_B_0 : Vec F S8x384 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.2.2.2.2.1)

/-- The stores of case B cover scratch 1. -/
theorem scover0_B_1 (y : S8x384.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.2.2.2.2.2.1 S8x384.size (by sl_kernel_rfl) y

/-- What case B leaves in scratch 1. -/
def sout0_B_1 : Vec F S8x384 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19 xs0 xs1).2.2.2.2.2.2.2.2.2.1)

end CaseB

end Cases

/-- What a point leaves: the eight outputs in window order, then the two carried scratch buffers. -/
abbrev Left (F : FTy → Type) : Type := Vec F S512x768 .bf16 × Vec F S4x384 .f32 × Vec F S1x384 .f32 × Vec F S384x384 .f32 × Vec F S1x384 .f32 × Vec F S384x384 .f32 × Vec F S1x384 .f32 × Vec F S1x384 .f32 × Vec F S8x384 .f32 × Vec F S8x384 .f32

/-- What a point of case A leaves. -/
def leftA (c : Dev nD) (t : Fin cfg0.N) (h0 : t.val % 16 = 0) : Left F :=
  (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- What a point of case B leaves, over what the point before left. -/
def leftB (c : Dev nD) (t : Fin cfg0.N) (h0 : ¬t.val % 16 = 0) (p : Left F) : Left F :=
  (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2)

/-- What each point leaves, point by point. -/
def outsAt0 (c : Dev nD) : (n : ℕ) → n < cfg0.N → Left F
  | 0, hn => leftA m c ⟨0, hn⟩ (Nat.zero_mod _)
  | n + 1, hn =>
    if h0 : (n + 1) % 16 = 0 then leftA m c ⟨n + 1, hn⟩ h0
    else leftB m c ⟨n + 1, hn⟩ h0 (outsAt0 c n (Nat.lt_of_succ_lt hn))

/-- A point of case A. -/
theorem outsAt0_A (c : Dev nD) (t : Fin cfg0.N) (h0 : t.val % 16 = 0) :
    outsAt0 m c t.val t.isLt = leftA m c t h0 := by
  obtain ⟨n, hn⟩ := t
  cases n with
  | zero => rw [outsAt0]
  | succ n => rw [outsAt0]; exact dif_pos h0

/-- A point of case B. -/
theorem outsAt0_B (c : Dev nD) (t : Fin cfg0.N) (h0 : ¬t.val % 16 = 0) :
    outsAt0 m c t.val t.isLt
      = leftB m c t h0 (outsAt0 m c (t.val - 1) (Nat.lt_of_le_of_lt (Nat.sub_le _ _) t.isLt)) := by
  obtain ⟨n, hn⟩ := t
  cases n with
  | zero => exact absurd (Nat.zero_mod _) h0
  | succ n => rw [outsAt0]; exact dif_neg h0

end Cert.LruBwdIdeal.Gen

end
-- ==== Proof.LruMath.lean ====
module

public import Idealize.ShloMosaic.Lib.Pointwise

@[expose] public section

noncomputable section

/-! The mathematics of the gated linear recurrence, over the reals: the recurrence, its adjoint, the gradient of
    the log-gates, and what doubling steps compute. Nothing here mentions a program. -/
namespace Cert.Lru

open Finset

section Column

variable (la b dh : ℕ → ℝ)

/-- The sum of the log-gates up to row `t`. -/
def Ls (t : ℕ) : ℝ := ∑ k ∈ range (t + 1), la k

/-- The recurrence, solved. -/
def Hs (t : ℕ) : ℝ := ∑ s ∈ range (t + 1), Real.exp (Ls la t - Ls la s) * b s

/-- The adjoint recurrence, solved, over `N` rows. -/
def Gs (N s : ℕ) : ℝ := ∑ t ∈ Ico s N, Real.exp (Ls la t - Ls la s) * dh t

/-- The state of the row before. -/
def Hp (t : ℕ) : ℝ := if t = 0 then 0 else Hs la b (t - 1)

theorem Ls_succ (t : ℕ) : Ls la (t + 1) = Ls la t + la (t + 1) := by
  rw [Ls, sum_range_succ, ← Ls]

theorem Hs_step (t : ℕ) : Hs la b t = Real.exp (la t) * Hp la b t + b t := by
  cases t with
  | zero => simp [Hs, Hp, Ls]
  | succ t =>
    rw [Hs, sum_range_succ, sub_self, Real.exp_zero, one_mul, Hp, if_neg (Nat.succ_ne_zero t), Nat.add_sub_cancel, Hs, mul_sum]
    congr 1
    refine sum_congr rfl fun s _ => ?_
    rw [← mul_assoc, ← Real.exp_add, Ls_succ]
    congr 2; ring

theorem Gs_end (N : ℕ) : Gs la dh N N = 0 := by simp [Gs]

theorem Gs_step (N s : ℕ) (h : s < N) : Gs la dh N s = dh s + Real.exp (la (s + 1)) * Gs la dh N (s + 1) := by
  rw [Gs, sum_eq_sum_Ico_succ_bot h, sub_self, Real.exp_zero, one_mul, Gs, mul_sum]
  congr 1
  refine sum_congr rfl fun t _ => ?_
  rw [← mul_assoc, ← Real.exp_add, Ls_succ]
  congr 2; ring

/-- The gradient of the log-gate of row `s`: the sum over the later rows of the gradients of their totals is
    the adjoint state times the decayed state before. -/
theorem dla_sum (N s : ℕ) (h : s ≤ N) :
    ∑ t ∈ Ico s N, (dh t * Hs la b t - b t * Gs la dh N t) = Real.exp (la s) * Gs la dh N s * Hp la b s := by
  induction h using Nat.decreasingInduction with
  | self => simp [Gs_end]
  | of_succ k hk ih =>
    rw [sum_eq_sum_Ico_succ_bot hk, ih]
    have e : Hp la b (k + 1) = Hs la b k := by simp [Hp]
    rw [e, Gs_step la dh N k hk, Hs_step la b k]
    ring

/-! The same sums as a program over all `N` rows has them: masked. -/

theorem Ls_fin (N t : ℕ) (h : t < N) : ∑ k : Fin N, (if k.val ≤ t then la k.val else 0) = Ls la t := by
  rw [Fin.sum_univ_eq_sum_range (fun k => if k ≤ t then la k else 0) N, ← sum_filter, Ls]
  refine sum_congr (Finset.ext fun k => ?_) fun _ _ => rfl
  simp only [mem_filter, mem_range]; omega

theorem Hs_fin (N t : ℕ) (h : t < N) :
    ∑ s : Fin N, (if s.val ≤ t then Real.exp (Ls la t - Ls la s.val) else 0) * b s.val = Hs la b t := by
  rw [Fin.sum_univ_eq_sum_range (fun s => (if s ≤ t then Real.exp (Ls la t - Ls la s) else 0) * b s) N, Hs]
  simp only [ite_mul, zero_mul]
  rw [← sum_filter]
  refine sum_congr (Finset.ext fun k => ?_) fun _ _ => rfl
  simp only [mem_filter, mem_range]; omega

theorem Gs_fin (N s : ℕ) :
    ∑ t : Fin N, (if s ≤ t.val then Real.exp (Ls la t.val - Ls la s) else 0) * dh t.val = Gs la dh N s := by
  rw [Fin.sum_univ_eq_sum_range (fun t => (if s ≤ t then Real.exp (Ls la t - Ls la s) else 0) * dh t) N, Gs]
  simp only [ite_mul, zero_mul]
  rw [← sum_filter]
  refine sum_congr (Finset.ext fun k => ?_) fun _ _ => rfl
  simp only [mem_filter, mem_range, mem_Ico]; omega

/-- The terms of the pairs of rows, summed over the earlier row. -/
theorem row_fin (N t : ℕ) (h : t < N) :
    ∑ s : Fin N, (if s.val ≤ t then dh t * b s.val else 0) * Real.exp (Ls la t - Ls la s.val) = dh t * Hs la b t := by
  rw [← Hs_fin la b N t h, mul_sum]
  refine sum_congr rfl fun s _ => ?_
  by_cases hs : s.val ≤ t
  · simp only [if_pos hs]; ring
  · simp only [if_neg hs]; ring

/-- The terms of the pairs of rows, summed over the later row. -/
theorem col_fin (N s : ℕ) :
    ∑ t : Fin N, (if s ≤ t.val then dh t.val * b s else 0) * Real.exp (Ls la t.val - Ls la s) = b s * Gs la dh N s := by
  rw [← Gs_fin la dh N s, mul_sum]
  refine sum_congr rfl fun t _ => ?_
  by_cases hs : s ≤ t.val
  · simp only [if_pos hs]; ring
  · simp only [if_neg hs]; ring

theorem dla_fin (N s : ℕ) (h : s < N) :
    ∑ t : Fin N, (if s ≤ t.val then -(b t.val * Gs la dh N t.val) + dh t.val * Hs la b t.val else 0) =
      Real.exp (la s) * Gs la dh N s * Hp la b s := by
  rw [← dla_sum la b dh N s h.le,
    Fin.sum_univ_eq_sum_range (fun t => if s ≤ t then -(b t * Gs la dh N t) + dh t * Hs la b t else 0) N, ← sum_filter]
  refine sum_congr (Finset.ext fun k => ?_) fun _ _ => by ring
  simp only [mem_filter, mem_range, mem_Ico]; omega

end Column

/-! ## The doubling steps of the kernel's scan over a block of 512 rows -/

/-- One doubling of the products of the gates: row `r` takes the row `d` below, where there is one. -/
def stA (d : ℕ) (α : ℕ → ℝ) (r : ℕ) : ℝ := if r < 512 - d then α r * α (r + d) else α r
/-- One doubling of the partial sums. -/
def stB (d : ℕ) (α β : ℕ → ℝ) (r : ℕ) : ℝ := if r < 512 - d then α r * β (r + d) + β r else β r

/-- Where `β` holds the sums of `d` rows and `α` the products of `d` gates, a doubling gives `2 d` rows. The sums are
    said by a solution `g` of the recurrence: `β r = g r − α r * g (r + d)`. -/
theorem double (d : ℕ) (g α β : ℕ → ℝ) (hg : ∀ r, 512 ≤ r → g r = 0)
    (h : ∀ r, r < 512 → β r = g r - α r * g (r + d)) :
    ∀ r, r < 512 → stB d α β r = g r - stA d α r * g (r + (d + d)) := by
  intro r hr
  rw [stA, stB]
  by_cases hd : r < 512 - d
  · rw [if_pos hd, if_pos hd, h r hr, h (r + d) (by omega), ← Nat.add_assoc]; ring
  · rw [if_neg hd, if_neg hd, h r hr, hg (r + d) (by omega), hg (r + (d + d)) (by omega)]

/-- Nine doublings solve the recurrence over the block. -/
theorem scan (a β g : ℕ → ℝ) (hg : ∀ r, 512 ≤ r → g r = 0) (h : ∀ r, r < 512 → g r = β r + a r * g (r + 1)) :
    let a1 := stA 1 a;      let b1 := stB 1 a β
    let a2 := stA 2 a1;     let b2 := stB 2 a1 b1
    let a3 := stA 4 a2;     let b3 := stB 4 a2 b2
    let a4 := stA 8 a3;     let b4 := stB 8 a3 b3
    let a5 := stA 16 a4;    let b5 := stB 16 a4 b4
    let a6 := stA 32 a5;    let b6 := stB 32 a5 b5
    let a7 := stA 64 a6;    let b7 := stB 64 a6 b6
    let a8 := stA 128 a7;   let b8 := stB 128 a7 b7
    ∀ r, r < 512 → stB 256 a8 b8 r = g r := by
  intro a1 b1 a2 b2 a3 b3 a4 b4 a5 b5 a6 b6 a7 b7 a8 b8 r hr
  have h0 : ∀ r, r < 512 → β r = g r - a r * g (r + 1) := fun r hr => by rw [h r hr]; ring
  have h1 := double 1 g a β hg h0
  have h2 := double 2 g _ _ hg h1
  have h3 := double 4 g _ _ hg h2
  have h4 := double 8 g _ _ hg h3
  have h5 := double 16 g _ _ hg h4
  have h6 := double 32 g _ _ hg h5
  have h7 := double 64 g _ _ hg h6
  have h8 := double 128 g _ _ hg h7
  have h9 := double 256 g _ _ hg h8 r hr
  rw [h9, hg (r + (256 + 256)) (by omega), mul_zero, sub_zero]

/-! ## The whole layer, over real arrays -/

/-- The layer's arguments over the reals; a row beyond the last holds anything. -/
structure Args where
  x : ℕ → Fin 384 → ℝ
  gate : ℕ → Fin 384 → ℝ
  dO : ℕ → Fin 384 → ℝ
  cw : Fin 4 → Fin 384 → ℝ
  cb : Fin 384 → ℝ
  wa : Fin 384 → Fin 384 → ℝ
  ba : Fin 384 → ℝ
  wx : Fin 384 → Fin 384 → ℝ
  bx : Fin 384 → ℝ
  lam : Fin 384 → ℝ
  c1 : ℝ
  c2 : ℝ

namespace Args

variable (P : Args)

/-- The convolution's input with three rows of zeros before it. -/
def xp (t : ℕ) (w : Fin 384) : ℝ := if t < 3 then 0 else P.x (t - 3) w
def xc (t : ℕ) (w : Fin 384) : ℝ :=
  P.cw 0 w * P.xp t w + P.cw 1 w * P.xp (t + 1) w + P.cw 2 w * P.xp (t + 2) w + P.cw 3 w * P.xp (t + 3) w + P.cb w
def za (t : ℕ) (w : Fin 384) : ℝ := ∑ k, P.xc t k * P.wa k w + P.ba w
def zx (t : ℕ) (w : Fin 384) : ℝ := ∑ k, P.xc t k * P.wx k w + P.bx w
def ra (t : ℕ) (w : Fin 384) : ℝ := (1 + Real.exp (-P.za t w))⁻¹
def ia (t : ℕ) (w : Fin 384) : ℝ := (1 + Real.exp (-P.zx t w))⁻¹
/-- The logarithm of the sigmoid of `lam`. -/
def sp (w : Fin 384) : ℝ := -Real.log (1 + Real.exp (-P.lam w))
def la (t : ℕ) (w : Fin 384) : ℝ := 8 * P.ra t w * P.sp w
/-- The square of the gate. -/
def ee (t : ℕ) (w : Fin 384) : ℝ := Real.exp (2 * P.la t w)
def sq (t : ℕ) (w : Fin 384) : ℝ := Real.sqrt (1 - P.ee t w)
def b (t : ℕ) (w : Fin 384) : ℝ := P.sq t w * (P.ia t w * P.xc t w)
def h (t : ℕ) (w : Fin 384) : ℝ := Hs (fun t => P.la t w) (fun t => P.b t w) t
/-- The state of the row before. -/
def hp (t : ℕ) (w : Fin 384) : ℝ := Hp (fun t => P.la t w) (fun t => P.b t w) t
def th (t : ℕ) (w : Fin 384) : ℝ := Real.tanh (P.c2 * (P.gate t w + P.c1 * (P.gate t w * P.gate t w * P.gate t w)))
def gel (t : ℕ) (w : Fin 384) : ℝ := P.gate t w * (2⁻¹ * (1 + P.th t w))
def dh (t : ℕ) (w : Fin 384) : ℝ := P.dO t w * P.gel t w
def g (t : ℕ) (w : Fin 384) : ℝ := Gs (fun t => P.la t w) (fun t => P.dh t w) 8192 t
/-- The derivative with respect to the gate's input. -/
def dgate (t : ℕ) (w : Fin 384) : ℝ :=
  P.h t w * P.dO t w * (2⁻¹ * (1 + P.th t w)) +
    P.c2 * (2⁻¹ * (P.gate t w * (P.h t w * P.dO t w)) * ((1 + P.th t w) * (1 - P.th t w))) *
      (1 + P.c1 * (3 * (P.gate t w * P.gate t w)))
def dla (t : ℕ) (w : Fin 384) : ℝ :=
  Real.exp (P.la t w) * P.g t w * P.hp t w - P.g t w * (P.ia t w * P.xc t w) * (P.sq t w)⁻¹ * P.ee t w
def dzx (t : ℕ) (w : Fin 384) : ℝ := P.sq t w * P.g t w * P.xc t w * (P.ia t w * (1 - P.ia t w))
def dza (t : ℕ) (w : Fin 384) : ℝ := 8 * (P.dla t w * P.sp w) * (P.ra t w * (1 - P.ra t w))
def dxc (t : ℕ) (w : Fin 384) : ℝ :=
  if t < 8192 then P.ia t w * (P.sq t w * P.g t w) + ∑ k, P.dzx t k * P.wx w k + ∑ k, P.dza t k * P.wa w k else 0
def dx (t : ℕ) (w : Fin 384) : ℝ :=
  P.cw 3 w * P.dxc t w + P.cw 2 w * P.dxc (t + 1) w + P.cw 1 w * P.dxc (t + 2) w + P.cw 0 w * P.dxc (t + 3) w
def dhl (t : ℕ) (w : Fin 768) : ℝ :=
  if hw : w.val < 384 then P.dx t ⟨w.val, hw⟩ else P.dgate t ⟨w.val - 384, by omega⟩
def dcw (k : Fin 4) (w : Fin 384) : ℝ := ∑ t : Fin 8192, P.dxc t w * P.xp (t + k) w
def dcb (w : Fin 384) : ℝ := ∑ t : Fin 8192, P.dxc t w
def dwa (k w : Fin 384) : ℝ := ∑ t : Fin 8192, P.dza t w * P.xc t k
def dba (w : Fin 384) : ℝ := ∑ t : Fin 8192, P.dza t w
def dwx (k w : Fin 384) : ℝ := ∑ t : Fin 8192, P.dzx t w * P.xc t k
def dbx (w : Fin 384) : ℝ := ∑ t : Fin 8192, P.dzx t w
/-- The derivative of the log-sigmoid of `lam`. -/
def dsp (w : Fin 384) : ℝ := Real.exp (-P.lam w) * (1 + Real.exp (-P.lam w))⁻¹
def dlam (w : Fin 384) : ℝ := (∑ t : Fin 8192, 8 * P.ra t w * P.dla t w) * P.dsp w

theorem ra_pos (t w) : 0 < P.ra t w := inv_pos.mpr (by positivity)
theorem sp_neg (w) : P.sp w < 0 := by
  have : 0 < Real.log (1 + Real.exp (-P.lam w)) := Real.log_pos (by linarith [Real.exp_pos (-P.lam w)])
  rw [sp]; linarith
theorem la_neg (t w) : P.la t w < 0 := by
  have := mul_pos (P.ra_pos t w) (neg_pos.mpr (P.sp_neg w))
  rw [la]; nlinarith
theorem ee_lt (t w) : P.ee t w < 1 := by
  rw [ee, Real.exp_lt_one_iff]; linarith [P.la_neg t w]
theorem ee_pos (t w) : 0 < P.ee t w := Real.exp_pos _
theorem sq_pos (t w) : 0 < P.sq t w := Real.sqrt_pos.mpr (by linarith [P.ee_lt t w])

theorem h_step (t w) : P.h t w = Real.exp (P.la t w) * P.hp t w + P.b t w := Hs_step _ _ t
theorem g_end (w) : P.g 8192 w = 0 := Gs_end _ _ _
theorem g_step (t w) (h : t < 8192) : P.g t w = P.dh t w + Real.exp (P.la (t + 1) w) * P.g (t + 1) w := Gs_step _ _ _ t h

end Args

/-! ## Scalar identities between the kernel's way of writing a value and the definition -/

/-- A sigmoid's derivative. -/
theorem sig_deriv (z : ℝ) : ((1 + Real.exp (-z)) * (1 + Real.exp (-z)))⁻¹ * Real.exp (-z) =
    (1 + Real.exp (-z))⁻¹ * (1 - (1 + Real.exp (-z))⁻¹) := by
  have h : (1 + Real.exp (-z)) ≠ 0 := by positivity
  field_simp
  ring

/-- Twice the hyperbolic tangent's product with `e^{2x} + 1`: how the kernel writes `e^{2x} − 1`. -/
theorem tanh_mul (x : ℝ) : Real.tanh x * (Real.exp (2 * x) + 1) = Real.exp (2 * x) - 1 := by
  rw [Real.tanh_eq_sinh_div_cosh, Real.sinh_eq, Real.cosh_eq, Real.exp_neg, two_mul, Real.exp_add]
  have h := Real.exp_pos x
  field_simp

end Cert.Lru

end
-- ==== Proof.LruLift.lean ====
module

public import proofs.«01_k».proof.Proof.LruMath
public import Idealize.ShloMosaic.Lib.Pointwise
public import Idealize.ShloMosaic.Lib.IdealHost

@[expose] public section

set_option maxRecDepth 16384

noncomputable section

/-! Extended-real operations on reals. -/
namespace Cert.Lru

open Idealize.ShloMosaic

theorem div_real {a b : ℝ} (h : b ≠ 0) : Ideal.div (a : EReal) (b : EReal) = ((a * b⁻¹ : ℝ) : EReal) := by
  rw [Ideal.div_coe h, one_div, ← EReal.coe_mul]

theorem sqrt_real {a : ℝ} (h : 0 ≤ a) : Ideal.sqrt (a : EReal) = ((Real.sqrt a : ℝ) : EReal) := by
  rw [Ideal.sqrt_coe, if_neg (not_lt.mpr h)]

theorem log_real {a : ℝ} (h : 0 < a) : Ideal.log (a : EReal) = ((Real.log a : ℝ) : EReal) := by
  rw [Ideal.log_coe, if_neg (not_le.mpr h)]

theorem coe_sum {n : ℕ} (f : Fin n → ℝ) : ∑ i, ((f i : ℝ) : EReal) = ((∑ i, f i : ℝ) : EReal) := by
  let g : ℝ →+ EReal := ⟨⟨fun x => (x : EReal), EReal.coe_zero⟩, EReal.coe_add⟩
  exact (map_sum g f Finset.univ).symm

theorem coe_ite {p : Prop} [Decidable p] (a b : ℝ) : (if p then (a : EReal) else (b : EReal)) = ((if p then a else b : ℝ) : EReal) := by
  split <;> rfl

theorem abs_real (a : ℝ) : FloatOps.absf (F := Ideal) (φ := .f32) (a : EReal) = ((|a| : ℝ) : EReal) := by
  show max (a : EReal) (-(a : EReal)) = _
  rw [← EReal.coe_neg, abs_eq_max_neg]
  exact (EReal.coe_strictMono.monotone.map_max).symm

theorem max_real (a b : ℝ) : max (a : EReal) (b : EReal) = ((max a b : ℝ) : EReal) :=
  (EReal.coe_strictMono.monotone.map_max).symm

theorem bits_one : Ideal.ofBits .f32 0x3F800000#32 = ((1 : ℝ) : EReal) := by rw [Ideal.ofBits_one_f32, EReal.coe_one]
theorem bits_zero : Ideal.ofBits .f32 0x00000000#32 = ((0 : ℝ) : EReal) := by rw [Ideal.ofBits_zero_f32, EReal.coe_zero]
theorem bits_half : Ideal.ofBits .f32 0x3F000000#32 = ((2⁻¹ : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_eight : Ideal.ofBits .f32 0x41000000#32 = ((8 : ℝ) : EReal) := by
  simp [Ideal.ofBits, Ideal.ieee, -EReal.coe_mul]; norm_num
theorem bits_top : Ideal.ofBits .f32 0x7F800000#32 = ⊤ := by
  simp [Ideal.ofBits, Ideal.ieee]

/-- The two constants of the gelu, as the reals that their words are. -/
def k1 : ℝ := (Ideal.ofBits .f32 0x3D372713#32).toReal
@[inherit_doc k1] def k2 : ℝ := (Ideal.ofBits .f32 0x3F4C422A#32).toReal

theorem bits_k1 : Ideal.ofBits .f32 0x3D372713#32 = ((k1 : ℝ) : EReal) := by
  rw [k1]; simp [Ideal.ofBits, Ideal.ieee, -EReal.coe_mul]
theorem bits_k2 : Ideal.ofBits .f32 0x3F4C422A#32 = ((k2 : ℝ) : EReal) := by
  rw [k2]; simp [Ideal.ofBits, Ideal.ieee, -EReal.coe_mul]

end Cert.Lru

end
-- ==== Proof.LruShift.lean ====
module

public import proofs.«01_k».proof.Proof.LruLift
public import Idealize.ShloMosaic.Lib.WordCmp
public import Idealize.ShloMosaic.Lib.WordCmp
public import proofs.«01_k».proof.Proof.Gen.LruBwdIdeal.Skeleton

@[expose] public section

set_option maxRecDepth 16384

noncomputable section

/-! The kernel's shifts of a block of rows, with the rows beyond its end taken from a neighbour. -/
namespace Cert.LruBwdIdeal.Value

open Idealize.ShloMosaic Idealize.ShloMosaic.TcCoe
open Cert.LruBwdIdeal Cert.LruBwdIdeal.Gen Cert.Lru

/-- The array holds the real function. -/
abbrev Is {n k : ℕ} {φ : FTy} (x : FVec Ideal ⟨2, ![n, k]⟩ φ) (f : ℕ → Fin k → ℝ) : Prop :=
  ∀ (r : Fin n) (w : Fin k), x (ix2 r w) = ((f r.val w : ℝ) : EReal)

/-- A selection by a comparison of small numbers. -/
theorem sel_slt {α : Type} (r k : ℕ) (hr : r < 2 ^ 31) (hk : k < 2 ^ 31) (a b : α) :
    Scalar.select (IntOp.cmpi .slt (BitVec.ofNat 32 r) (BitVec.ofNat 32 k)) a b = if r < k then a else b := by
  rw [WordCmp.cmpi_slt_ofNat (by simpa using hr) (by simpa using hk)]
  by_cases h : r < k <;> simp [Scalar.select, h]
@[inherit_doc sel_slt] theorem sel_sge {α : Type} (r k : ℕ) (hr : r < 2 ^ 31) (hk : k < 2 ^ 31) (a b : α) :
    Scalar.select (IntOp.cmpi .sge (BitVec.ofNat 32 r) (BitVec.ofNat 32 k)) a b = if k ≤ r then a else b := by
  rw [WordCmp.cmpi_sge_ofNat (by simpa using hr) (by simpa using hk)]
  by_cases h : k ≤ r <;> simp [Scalar.select, h]
@[inherit_doc sel_slt] theorem sel_eq {α : Type} (r k : ℕ) (hr : r < 2 ^ 31) (hk : k < 2 ^ 31) (a b : α) :
    Scalar.select (IntOp.cmpi .eq (BitVec.ofNat 32 r) (BitVec.ofNat 32 k)) a b = if r = k then a else b := by
  rw [WordCmp.cmpi_eq_eq]
  by_cases h : r = k
  · subst h; simp [Scalar.select]
  · have hne : BitVec.ofNat 32 r ≠ BitVec.ofNat 32 k := fun e => h ((WordCmp.ofNat_eq_ofNat_iff (by omega) (by omega)).mp e)
    simp [Scalar.select, h, hne]

/-- A block shifted down by `k` rows, the first rows taken from the end of the eight rows before. -/
def shiftUp (k : BitVec 32) (tail : FVec Ideal S8x384 .f32) (x : FVec Ideal S512x384 .f32) : FVec Ideal S512x384 .f32 :=
  concatenate S512x384 0 [⟨S8x384, select (cmpi .slt (iota .tc S8x384 32 [0] iota_S8x384_d0_w32) (broadcast S8x384 k))
      (dynamicRotate 0 k none tail rotates_S8x384_d0)
      (dynamicRotate 0 k none (extractStridedSlice S8x384 ![0, 0] x slices_S512x384_o0_0_S8x384) rotates_S8x384_d0)⟩,
    ⟨S504x384, extractStridedSlice S504x384 ![8, 0] (dynamicRotate 0 k none x rotates_S512x384_d0) slices_S512x384_o8_0_S504x384⟩]
    concatenates_S8x384_S504x384_S512x384_d0

/-- A block shifted up by `512 - u` rows, `8 - d` of them, the last rows taken from the start of the eight rows after. -/
def shiftDown (d u : BitVec 32) (head : FVec Ideal S8x384 .f32) (x : FVec Ideal S512x384 .f32) : FVec Ideal S512x384 .f32 :=
  concatenate S512x384 0 [⟨S504x384, extractStridedSlice S504x384 ![0, 0] (dynamicRotate 0 u none x rotates_S512x384_d0) slices_S512x384_o0_0_S504x384⟩,
    ⟨S8x384, select (cmpi .sge (iota .tc S8x384 32 [0] iota_S8x384_d0_w32) (broadcast S8x384 d))
      (dynamicRotate 0 d none head rotates_S8x384_d0)
      (dynamicRotate 0 d none (extractStridedSlice S8x384 ![504, 0] x slices_S512x384_o504_0_S8x384) rotates_S8x384_d0)⟩]
    concatenates_S504x384_S8x384_S512x384_d0

theorem shiftUp_1 {tail : FVec Ideal S8x384 .f32} {x : FVec Ideal S512x384 .f32} {τ ξ : ℕ → Fin 384 → ℝ} (ht : Is tail τ) (hx : Is x ξ) :
    Is (shiftUp 1#32 tail x) (fun r w => if r < 1 then τ (r + 8 - 1) w else ξ (r - 1) w) := by
  intro r w
  pointwise [shiftUp]
  by_cases h : r.val < 8
  · rw [dif_pos h, sel_slt r.val 1 (by omega) (by omega)]
    by_cases h1 : r.val < 1
    · rw [if_pos h1]
      refine (ht _ w).trans ?_
      show ((τ ((r.val + 8 - 1) % 8) w : ℝ) : EReal) = _
      rw [Nat.mod_eq_of_lt (by omega), if_pos h1]
    · rw [if_neg h1]
      refine (hx _ w).trans ?_
      show ((ξ ((r.val + 8 - 1) % 8) w : ℝ) : EReal) = _
      rw [if_neg h1, show (r.val + 8 - 1) % 8 = r.val - 1 by omega]
  · rw [dif_neg h]
    refine (hx _ w).trans ?_
    show ((ξ ((8 + (r.val - 8) + 512 - 1) % 512) w : ℝ) : EReal) = _
    rw [if_neg (by omega), show (8 + (r.val - 8) + 512 - 1) % 512 = r.val - 1 by omega]

theorem shiftDown_1 {head : FVec Ideal S8x384 .f32} {x : FVec Ideal S512x384 .f32} {τ ξ : ℕ → Fin 384 → ℝ} (ht : Is head τ) (hx : Is x ξ) :
    Is (shiftDown 7#32 511#32 head x) (fun r w => if r + 1 < 512 then ξ (r + 1) w else τ (r + 1 - 512) w) := by
  intro r w
  pointwise [shiftDown]
  by_cases h : r.val < 504
  · rw [dif_pos h]
    refine (hx _ w).trans ?_
    show ((ξ ((r.val + 512 - 511) % 512) w : ℝ) : EReal) = _
    rw [if_pos (by omega), show (r.val + 512 - 511) % 512 = r.val + 1 by omega]
  · rw [dif_neg h, sel_sge (r.val - 504) 7 (by omega) (by omega)]
    by_cases h1 : 7 ≤ r.val - 504
    · rw [if_pos h1]
      refine (ht _ w).trans ?_
      show ((τ ((r.val - 504 + 8 - 7) % 8) w : ℝ) : EReal) = _
      rw [if_neg (by omega), show (r.val - 504 + 8 - 7) % 8 = r.val + 1 - 512 by omega]
    · rw [if_neg h1]
      refine (hx _ w).trans ?_
      show ((ξ (504 + (r.val - 504 + 8 - 7) % 8) w : ℝ) : EReal) = _
      rw [if_pos (by omega), show 504 + (r.val - 504 + 8 - 7) % 8 = r.val + 1 by omega]

theorem shiftUp_2 {tail : FVec Ideal S8x384 .f32} {x : FVec Ideal S512x384 .f32} {τ ξ : ℕ → Fin 384 → ℝ} (ht : Is tail τ) (hx : Is x ξ) :
    Is (shiftUp 2#32 tail x) (fun r w => if r < 2 then τ (r + 8 - 2) w else ξ (r - 2) w) := by
  intro r w
  pointwise [shiftUp]
  by_cases h : r.val < 8
  · rw [dif_pos h, sel_slt r.val 2 (by omega) (by omega)]
    by_cases h1 : r.val < 2
    · rw [if_pos h1]
      refine (ht _ w).trans ?_
      show ((τ ((r.val + 8 - 2) % 8) w : ℝ) : EReal) = _
      rw [Nat.mod_eq_of_lt (by omega), if_pos h1]
    · rw [if_neg h1]
      refine (hx _ w).trans ?_
      show ((ξ ((r.val + 8 - 2) % 8) w : ℝ) : EReal) = _
      rw [if_neg h1, show (r.val + 8 - 2) % 8 = r.val - 2 by omega]
  · rw [dif_neg h]
    refine (hx _ w).trans ?_
    show ((ξ ((8 + (r.val - 8) + 512 - 2) % 512) w : ℝ) : EReal) = _
    rw [if_neg (by omega), show (8 + (r.val - 8) + 512 - 2) % 512 = r.val - 2 by omega]

theorem shiftDown_2 {head : FVec Ideal S8x384 .f32} {x : FVec Ideal S512x384 .f32} {τ ξ : ℕ → Fin 384 → ℝ} (ht : Is head τ) (hx : Is x ξ) :
    Is (shiftDown 6#32 510#32 head x) (fun r w => if r + 2 < 512 then ξ (r + 2) w else τ (r + 2 - 512) w) := by
  intro r w
  pointwise [shiftDown]
  by_cases h : r.val < 504
  · rw [dif_pos h]
    refine (hx _ w).trans ?_
    show ((ξ ((r.val + 512 - 510) % 512) w : ℝ) : EReal) = _
    rw [if_pos (by omega), show (r.val + 512 - 510) % 512 = r.val + 2 by omega]
  · rw [dif_neg h, sel_sge (r.val - 504) 6 (by omega) (by omega)]
    by_cases h1 : 6 ≤ r.val - 504
    · rw [if_pos h1]
      refine (ht _ w).trans ?_
      show ((τ ((r.val - 504 + 8 - 6) % 8) w : ℝ) : EReal) = _
      rw [if_neg (by omega), show (r.val - 504 + 8 - 6) % 8 = r.val + 2 - 512 by omega]
    · rw [if_neg h1]
      refine (hx _ w).trans ?_
      show ((ξ (504 + (r.val - 504 + 8 - 6) % 8) w : ℝ) : EReal) = _
      rw [if_pos (by omega), show 504 + (r.val - 504 + 8 - 6) % 8 = r.val + 2 by omega]

theorem shiftUp_3 {tail : FVec Ideal S8x384 .f32} {x : FVec Ideal S512x384 .f32} {τ ξ : ℕ → Fin 384 → ℝ} (ht : Is tail τ) (hx : Is x ξ) :
    Is (shiftUp 3#32 tail x) (fun r w => if r < 3 then τ (r + 8 - 3) w else ξ (r - 3) w) := by
  intro r w
  pointwise [shiftUp]
  by_cases h : r.val < 8
  · rw [dif_pos h, sel_slt r.val 3 (by omega) (by omega)]
    by_cases h1 : r.val < 3
    · rw [if_pos h1]
      refine (ht _ w).trans ?_
      show ((τ ((r.val + 8 - 3) % 8) w : ℝ) : EReal) = _
      rw [Nat.mod_eq_of_lt (by omega), if_pos h1]
    · rw [if_neg h1]
      refine (hx _ w).trans ?_
      show ((ξ ((r.val + 8 - 3) % 8) w : ℝ) : EReal) = _
      rw [if_neg h1, show (r.val + 8 - 3) % 8 = r.val - 3 by omega]
  · rw [dif_neg h]
    refine (hx _ w).trans ?_
    show ((ξ ((8 + (r.val - 8) + 512 - 3) % 512) w : ℝ) : EReal) = _
    rw [if_neg (by omega), show (8 + (r.val - 8) + 512 - 3) % 512 = r.val - 3 by omega]

theorem shiftDown_3 {head : FVec Ideal S8x384 .f32} {x : FVec Ideal S512x384 .f32} {τ ξ : ℕ → Fin 384 → ℝ} (ht : Is head τ) (hx : Is x ξ) :
    Is (shiftDown 5#32 509#32 head x) (fun r w => if r + 3 < 512 then ξ (r + 3) w else τ (r + 3 - 512) w) := by
  intro r w
  pointwise [shiftDown]
  by_cases h : r.val < 504
  · rw [dif_pos h]
    refine (hx _ w).trans ?_
    show ((ξ ((r.val + 512 - 509) % 512) w : ℝ) : EReal) = _
    rw [if_pos (by omega), show (r.val + 512 - 509) % 512 = r.val + 3 by omega]
  · rw [dif_neg h, sel_sge (r.val - 504) 5 (by omega) (by omega)]
    by_cases h1 : 5 ≤ r.val - 504
    · rw [if_pos h1]
      refine (ht _ w).trans ?_
      show ((τ ((r.val - 504 + 8 - 5) % 8) w : ℝ) : EReal) = _
      rw [if_neg (by omega), show (r.val - 504 + 8 - 5) % 8 = r.val + 3 - 512 by omega]
    · rw [if_neg h1]
      refine (hx _ w).trans ?_
      show ((ξ (504 + (r.val - 504 + 8 - 5) % 8) w : ℝ) : EReal) = _
      rw [if_pos (by omega), show 504 + (r.val - 504 + 8 - 5) % 8 = r.val + 3 by omega]

/-- A doubling step of the scan: the sums, and the products. -/
def lvB (n : BitVec 32) (A B : FVec Ideal S512x384 .f32) : FVec Ideal S512x384 .f32 :=
  select (cmpi .slt (iota .tc S512x384 32 [0] iota_S512x384_d0_w32) (broadcast S512x384 n))
    (addf (mulf A (dynamicRotate 0 n none B rotates_S512x384_d0)) B) B
@[inherit_doc lvB] def lvA (n : BitVec 32) (A : FVec Ideal S512x384 .f32) : FVec Ideal S512x384 .f32 :=
  select (cmpi .slt (iota .tc S512x384 32 [0] iota_S512x384_d0_w32) (broadcast S512x384 n))
    (mulf A (dynamicRotate 0 n none A rotates_S512x384_d0)) A

theorem lvA_1 {A : FVec Ideal S512x384 .f32} {α : ℕ → Fin 384 → ℝ} (ha : Is A α) :
    Is (lvA 511#32 A) (fun r w => stA 1 (fun r => α r w) r) := by
  intro r w
  pointwise [lvA]
  rw [sel_slt r.val 511 (by omega) (by omega), stA]
  by_cases h : r.val < 511
  · rw [if_pos h, if_pos h, ha r w, ha _ w, ← EReal.coe_mul]
    show ((α r.val w * α ((r.val + 512 - 511) % 512) w : ℝ) : EReal) = _
    rw [show (r.val + 512 - 511) % 512 = r.val + 1 by omega]
  · rw [if_neg h, if_neg h, ha r w]
theorem lvB_1 {A B : FVec Ideal S512x384 .f32} {α β : ℕ → Fin 384 → ℝ} (ha : Is A α) (hb : Is B β) :
    Is (lvB 511#32 A B) (fun r w => stB 1 (fun r => α r w) (fun r => β r w) r) := by
  intro r w
  pointwise [lvB]
  rw [sel_slt r.val 511 (by omega) (by omega), stB]
  by_cases h : r.val < 511
  · rw [if_pos h, if_pos h, ha r w, hb r w, hb _ w, ← EReal.coe_mul, ← EReal.coe_add]
    show ((α r.val w * β ((r.val + 512 - 511) % 512) w + β r.val w : ℝ) : EReal) = _
    rw [show (r.val + 512 - 511) % 512 = r.val + 1 by omega]
  · rw [if_neg h, if_neg h, hb r w]

theorem lvA_2 {A : FVec Ideal S512x384 .f32} {α : ℕ → Fin 384 → ℝ} (ha : Is A α) :
    Is (lvA 510#32 A) (fun r w => stA 2 (fun r => α r w) r) := by
  intro r w
  pointwise [lvA]
  rw [sel_slt r.val 510 (by omega) (by omega), stA]
  by_cases h : r.val < 510
  · rw [if_pos h, if_pos h, ha r w, ha _ w, ← EReal.coe_mul]
    show ((α r.val w * α ((r.val + 512 - 510) % 512) w : ℝ) : EReal) = _
    rw [show (r.val + 512 - 510) % 512 = r.val + 2 by omega]
  · rw [if_neg h, if_neg h, ha r w]
theorem lvB_2 {A B : FVec Ideal S512x384 .f32} {α β : ℕ → Fin 384 → ℝ} (ha : Is A α) (hb : Is B β) :
    Is (lvB 510#32 A B) (fun r w => stB 2 (fun r => α r w) (fun r => β r w) r) := by
  intro r w
  pointwise [lvB]
  rw [sel_slt r.val 510 (by omega) (by omega), stB]
  by_cases h : r.val < 510
  · rw [if_pos h, if_pos h, ha r w, hb r w, hb _ w, ← EReal.coe_mul, ← EReal.coe_add]
    show ((α r.val w * β ((r.val + 512 - 510) % 512) w + β r.val w : ℝ) : EReal) = _
    rw [show (r.val + 512 - 510) % 512 = r.val + 2 by omega]
  · rw [if_neg h, if_neg h, hb r w]

theorem lvA_4 {A : FVec Ideal S512x384 .f32} {α : ℕ → Fin 384 → ℝ} (ha : Is A α) :
    Is (lvA 508#32 A) (fun r w => stA 4 (fun r => α r w) r) := by
  intro r w
  pointwise [lvA]
  rw [sel_slt r.val 508 (by omega) (by omega), stA]
  by_cases h : r.val < 508
  · rw [if_pos h, if_pos h, ha r w, ha _ w, ← EReal.coe_mul]
    show ((α r.val w * α ((r.val + 512 - 508) % 512) w : ℝ) : EReal) = _
    rw [show (r.val + 512 - 508) % 512 = r.val + 4 by omega]
  · rw [if_neg h, if_neg h, ha r w]
theorem lvB_4 {A B : FVec Ideal S512x384 .f32} {α β : ℕ → Fin 384 → ℝ} (ha : Is A α) (hb : Is B β) :
    Is (lvB 508#32 A B) (fun r w => stB 4 (fun r => α r w) (fun r => β r w) r) := by
  intro r w
  pointwise [lvB]
  rw [sel_slt r.val 508 (by omega) (by omega), stB]
  by_cases h : r.val < 508
  · rw [if_pos h, if_pos h, ha r w, hb r w, hb _ w, ← EReal.coe_mul, ← EReal.coe_add]
    show ((α r.val w * β ((r.val + 512 - 508) % 512) w + β r.val w : ℝ) : EReal) = _
    rw [show (r.val + 512 - 508) % 512 = r.val + 4 by omega]
  · rw [if_neg h, if_neg h, hb r w]

theorem lvA_8 {A : FVec Ideal S512x384 .f32} {α : ℕ → Fin 384 → ℝ} (ha : Is A α) :
    Is (lvA 504#32 A) (fun r w => stA 8 (fun r => α r w) r) := by
  intro r w
  pointwise [lvA]
  rw [sel_slt r.val 504 (by omega) (by omega), stA]
  by_cases h : r.val < 504
  · rw [if_pos h, if_pos h, ha r w, ha _ w, ← EReal.coe_mul]
    show ((α r.val w * α ((r.val + 512 - 504) % 512) w : ℝ) : EReal) = _
    rw [show (r.val + 512 - 504) % 512 = r.val + 8 by omega]
  · rw [if_neg h, if_neg h, ha r w]
theorem lvB_8 {A B : FVec Ideal S512x384 .f32} {α β : ℕ → Fin 384 → ℝ} (ha : Is A α) (hb : Is B β) :
    Is (lvB 504#32 A B) (fun r w => stB 8 (fun r => α r w) (fun r => β r w) r) := by
  intro r w
  pointwise [lvB]
  rw [sel_slt r.val 504 (by omega) (by omega), stB]
  by_cases h : r.val < 504
  · rw [if_pos h, if_pos h, ha r w, hb r w, hb _ w, ← EReal.coe_mul, ← EReal.coe_add]
    show ((α r.val w * β ((r.val + 512 - 504) % 512) w + β r.val w : ℝ) : EReal) = _
    rw [show (r.val + 512 - 504) % 512 = r.val + 8 by omega]
  · rw [if_neg h, if_neg h, hb r w]

theorem lvA_16 {A : FVec Ideal S512x384 .f32} {α : ℕ → Fin 384 → ℝ} (ha : Is A α) :
    Is (lvA 496#32 A) (fun r w => stA 16 (fun r => α r w) r) := by
  intro r w
  pointwise [lvA]
  rw [sel_slt r.val 496 (by omega) (by omega), stA]
  by_cases h : r.val < 496
  · rw [if_pos h, if_pos h, ha r w, ha _ w, ← EReal.coe_mul]
    show ((α r.val w * α ((r.val + 512 - 496) % 512) w : ℝ) : EReal) = _
    rw [show (r.val + 512 - 496) % 512 = r.val + 16 by omega]
  · rw [if_neg h, if_neg h, ha r w]
theorem lvB_16 {A B : FVec Ideal S512x384 .f32} {α β : ℕ → Fin 384 → ℝ} (ha : Is A α) (hb : Is B β) :
    Is (lvB 496#32 A B) (fun r w => stB 16 (fun r => α r w) (fun r => β r w) r) := by
  intro r w
  pointwise [lvB]
  rw [sel_slt r.val 496 (by omega) (by omega), stB]
  by_cases h : r.val < 496
  · rw [if_pos h, if_pos h, ha r w, hb r w, hb _ w, ← EReal.coe_mul, ← EReal.coe_add]
    show ((α r.val w * β ((r.val + 512 - 496) % 512) w + β r.val w : ℝ) : EReal) = _
    rw [show (r.val + 512 - 496) % 512 = r.val + 16 by omega]
  · rw [if_neg h, if_neg h, hb r w]

theorem lvA_32 {A : FVec Ideal S512x384 .f32} {α : ℕ → Fin 384 → ℝ} (ha : Is A α) :
    Is (lvA 480#32 A) (fun r w => stA 32 (fun r => α r w) r) := by
  intro r w
  pointwise [lvA]
  rw [sel_slt r.val 480 (by omega) (by omega), stA]
  by_cases h : r.val < 480
  · rw [if_pos h, if_pos h, ha r w, ha _ w, ← EReal.coe_mul]
    show ((α r.val w * α ((r.val + 512 - 480) % 512) w : ℝ) : EReal) = _
    rw [show (r.val + 512 - 480) % 512 = r.val + 32 by omega]
  · rw [if_neg h, if_neg h, ha r w]
theorem lvB_32 {A B : FVec Ideal S512x384 .f32} {α β : ℕ → Fin 384 → ℝ} (ha : Is A α) (hb : Is B β) :
    Is (lvB 480#32 A B) (fun r w => stB 32 (fun r => α r w) (fun r => β r w) r) := by
  intro r w
  pointwise [lvB]
  rw [sel_slt r.val 480 (by omega) (by omega), stB]
  by_cases h : r.val < 480
  · rw [if_pos h, if_pos h, ha r w, hb r w, hb _ w, ← EReal.coe_mul, ← EReal.coe_add]
    show ((α r.val w * β ((r.val + 512 - 480) % 512) w + β r.val w : ℝ) : EReal) = _
    rw [show (r.val + 512 - 480) % 512 = r.val + 32 by omega]
  · rw [if_neg h, if_neg h, hb r w]

theorem lvA_64 {A : FVec Ideal S512x384 .f32} {α : ℕ → Fin 384 → ℝ} (ha : Is A α) :
    Is (lvA 448#32 A) (fun r w => stA 64 (fun r => α r w) r) := by
  intro r w
  pointwise [lvA]
  rw [sel_slt r.val 448 (by omega) (by omega), stA]
  by_cases h : r.val < 448
  · rw [if_pos h, if_pos h, ha r w, ha _ w, ← EReal.coe_mul]
    show ((α r.val w * α ((r.val + 512 - 448) % 512) w : ℝ) : EReal) = _
    rw [show (r.val + 512 - 448) % 512 = r.val + 64 by omega]
  · rw [if_neg h, if_neg h, ha r w]
theorem lvB_64 {A B : FVec Ideal S512x384 .f32} {α β : ℕ → Fin 384 → ℝ} (ha : Is A α) (hb : Is B β) :
    Is (lvB 448#32 A B) (fun r w => stB 64 (fun r => α r w) (fun r => β r w) r) := by
  intro r w
  pointwise [lvB]
  rw [sel_slt r.val 448 (by omega) (by omega), stB]
  by_cases h : r.val < 448
  · rw [if_pos h, if_pos h, ha r w, hb r w, hb _ w, ← EReal.coe_mul, ← EReal.coe_add]
    show ((α r.val w * β ((r.val + 512 - 448) % 512) w + β r.val w : ℝ) : EReal) = _
    rw [show (r.val + 512 - 448) % 512 = r.val + 64 by omega]
  · rw [if_neg h, if_neg h, hb r w]

theorem lvA_128 {A : FVec Ideal S512x384 .f32} {α : ℕ → Fin 384 → ℝ} (ha : Is A α) :
    Is (lvA 384#32 A) (fun r w => stA 128 (fun r => α r w) r) := by
  intro r w
  pointwise [lvA]
  rw [sel_slt r.val 384 (by omega) (by omega), stA]
  by_cases h : r.val < 384
  · rw [if_pos h, if_pos h, ha r w, ha _ w, ← EReal.coe_mul]
    show ((α r.val w * α ((r.val + 512 - 384) % 512) w : ℝ) : EReal) = _
    rw [show (r.val + 512 - 384) % 512 = r.val + 128 by omega]
  · rw [if_neg h, if_neg h, ha r w]
theorem lvB_128 {A B : FVec Ideal S512x384 .f32} {α β : ℕ → Fin 384 → ℝ} (ha : Is A α) (hb : Is B β) :
    Is (lvB 384#32 A B) (fun r w => stB 128 (fun r => α r w) (fun r => β r w) r) := by
  intro r w
  pointwise [lvB]
  rw [sel_slt r.val 384 (by omega) (by omega), stB]
  by_cases h : r.val < 384
  · rw [if_pos h, if_pos h, ha r w, hb r w, hb _ w, ← EReal.coe_mul, ← EReal.coe_add]
    show ((α r.val w * β ((r.val + 512 - 384) % 512) w + β r.val w : ℝ) : EReal) = _
    rw [show (r.val + 512 - 384) % 512 = r.val + 128 by omega]
  · rw [if_neg h, if_neg h, hb r w]

theorem lvA_256 {A : FVec Ideal S512x384 .f32} {α : ℕ → Fin 384 → ℝ} (ha : Is A α) :
    Is (lvA 256#32 A) (fun r w => stA 256 (fun r => α r w) r) := by
  intro r w
  pointwise [lvA]
  rw [sel_slt r.val 256 (by omega) (by omega), stA]
  by_cases h : r.val < 256
  · rw [if_pos h, if_pos h, ha r w, ha _ w, ← EReal.coe_mul]
    show ((α r.val w * α ((r.val + 512 - 256) % 512) w : ℝ) : EReal) = _
    rw [show (r.val + 512 - 256) % 512 = r.val + 256 by omega]
  · rw [if_neg h, if_neg h, ha r w]
theorem lvB_256 {A B : FVec Ideal S512x384 .f32} {α β : ℕ → Fin 384 → ℝ} (ha : Is A α) (hb : Is B β) :
    Is (lvB 256#32 A B) (fun r w => stB 256 (fun r => α r w) (fun r => β r w) r) := by
  intro r w
  pointwise [lvB]
  rw [sel_slt r.val 256 (by omega) (by omega), stB]
  by_cases h : r.val < 256
  · rw [if_pos h, if_pos h, ha r w, hb r w, hb _ w, ← EReal.coe_mul, ← EReal.coe_add]
    show ((α r.val w * β ((r.val + 512 - 256) % 512) w + β r.val w : ℝ) : EReal) = _
    rw [show (r.val + 512 - 256) % 512 = r.val + 256 by omega]
  · rw [if_neg h, if_neg h, hb r w]

end Cert.LruBwdIdeal.Value

end
-- ==== Proof.LruPay.lean ====
module

public import proofs.«01_k».proof.Proof.LruShift

@[expose] public section

set_option maxRecDepth 16384

noncomputable section

/-! The values of a block before the scan: the convolution, the gates, the log-gate and what is taken of it. -/
namespace Cert.LruBwdIdeal.Value

open Idealize.ShloMosaic Idealize.ShloMosaic.TcCoe
open Cert.LruBwdIdeal Cert.LruBwdIdeal.Gen Cert.Lru

/-- The row holds the real function. -/
abbrev Row {n k : ℕ} {φ : FTy} (x : FVec Ideal ⟨2, ![n, k]⟩ φ) (f : Fin k → ℝ) : Prop :=
  ∀ (z : Fin n) (w : Fin k), x (ix2 z w) = ((f w : ℝ) : EReal)
/-- The matrix holds the real one. -/
abbrev Mat {n k : ℕ} {φ : FTy} (x : FVec Ideal ⟨2, ![n, k]⟩ φ) (f : Fin n → Fin k → ℝ) : Prop :=
  ∀ (z : Fin n) (w : Fin k), x (ix2 z w) = ((f z w : ℝ) : EReal)

variable {P : Args} {R : ℕ}

theorem p12 {i : grid0.Coords} {v4 : FVec Ideal S8x384 .f32}
    (h : (i 0).val = 15 ∧ R = 0 ∨ (i 0).val < 15 ∧ 8 ≤ R ∧ Is v4 (fun r w => P.x (R - 8 + r) w)) :
    Is (k0_pay12 i v4) (fun r w => P.xp (R + r - 5) w) := by
  intro r w
  pointwise [k0_pay12]
  rcases h with ⟨h, rfl⟩ | ⟨h, hR, hv⟩
  · rw [h]
    refine (sel_eq 15 15 (by omega) (by omega) _ _).trans ?_
    rw [if_pos rfl, Args.xp, if_pos (by omega), EReal.coe_zero]
  · refine (sel_eq (i 0).val 15 (by omega) (by omega) _ _).trans ?_
    rw [if_neg (by omega), hv]
    dsimp only
    rw [Args.xp, if_neg (by omega)]
    congr 2; omega

/-- The convolution's input at a block's rows shifted down by `k`. -/
theorem shx_1 {t : FVec Ideal S8x384 .f32} {x : FVec Ideal S512x384 .f32} (ht : Is t (fun r w => P.xp (R + r - 5) w)) (hx : Is x (fun r w => P.x (R + r) w)) :
    Is (shiftUp 1#32 t x) (fun r w => P.xp (R + r + 2) w) := by
  intro r w
  rw [shiftUp_1 ht hx r w]
  dsimp only
  split
  · congr 2
  · rw [Args.xp, if_neg (by omega)]; congr 2; omega
@[inherit_doc shx_1] theorem shx_2 {t : FVec Ideal S8x384 .f32} {x : FVec Ideal S512x384 .f32} (ht : Is t (fun r w => P.xp (R + r - 5) w)) (hx : Is x (fun r w => P.x (R + r) w)) :
    Is (shiftUp 2#32 t x) (fun r w => P.xp (R + r + 1) w) := by
  intro r w
  rw [shiftUp_2 ht hx r w]
  dsimp only
  split
  · congr 2
  · rw [Args.xp, if_neg (by omega)]; congr 2; omega
@[inherit_doc shx_1] theorem shx_3 {t : FVec Ideal S8x384 .f32} {x : FVec Ideal S512x384 .f32} (ht : Is t (fun r w => P.xp (R + r - 5) w)) (hx : Is x (fun r w => P.x (R + r) w)) :
    Is (shiftUp 3#32 t x) (fun r w => P.xp (R + r) w) := by
  intro r w
  rw [shiftUp_3 ht hx r w]
  dsimp only
  split
  · congr 2
  · rw [Args.xp, if_neg (by omega)]; congr 2; omega
theorem shx_0 {x : FVec Ideal S512x384 .f32} (hx : Is x (fun r w => P.x (R + r) w)) : Is x (fun r w => P.xp (R + r + 3) w) := by
  intro r w
  rw [hx r w]; dsimp only; rw [Args.xp, if_neg (by omega)]; congr 2

theorem p15 {i : grid0.Coords} {v4 : FVec Ideal S8x384 .f32} {v7 : FVec Ideal S512x384 .f32} {v8 : FVec Ideal S4x384 .f32}
    (h4 : Is (k0_pay12 i v4) (fun r w => P.xp (R + r - 5) w)) (h7 : Is v7 (fun r w => P.x (R + r) w)) (h8 : Mat v8 P.cw) :
    Is (k0_pay15 i v4 v7 v8) (fun r w => P.cw 3 w * P.xp (R + r + 3) w + P.cw 0 w * P.xp (R + r) w) := by
  have e : k0_pay15 i v4 v7 v8 = addf (mulf (broadcastTo S512x384 (extractStridedSlice S1x384 ![3, 0] v8 slices_S4x384_o3_0_S1x384) broadcasts_S1x384_S512x384) v7)
    (mulf (broadcastTo S512x384 (extractStridedSlice S1x384 ![0, 0] v8 slices_S4x384_o0_0_S1x384) broadcasts_S1x384_S512x384) (shiftUp 3#32 (k0_pay12 i v4) v7)) := rfl
  intro r w
  rw [e]
  pointwise []
  simp only [h8 _ _, shx_3 h4 h7 _ _, shx_0 h7 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

theorem p16 {v8 : FVec Ideal S4x384 .f32} (h8 : Mat v8 P.cw) : Row (k0_pay16 v8) (P.cw 1) := by
  intro z w
  pointwise [k0_pay16]
  exact h8 1 w

theorem p18 {v6 : FVec Ideal S8x384 .f32} {v7 : FVec Ideal S512x384 .f32} {v8 : FVec Ideal S4x384 .f32} {v31 : FVec Ideal S512x384 .f32}
    {v32 v60 : FVec Ideal S1x384 .f32} (h6 : Is v6 (fun r w => P.xp (R + r - 5) w)) (h7 : Is v7 (fun r w => P.x (R + r) w)) (h8 : Mat v8 P.cw)
    (h31 : Is v31 (fun r w => P.cw 3 w * P.xp (R + r + 3) w + P.cw 0 w * P.xp (R + r) w)) (h32 : Row v32 (P.cw 1)) (h60 : Row v60 P.cb) :
    Is (k0_pay18 v6 v7 v8 v31 v32 k0_pay17 2#32 v60) (fun r w => P.xc (R + r) w) := by
  have e : k0_pay18 v6 v7 v8 v31 v32 k0_pay17 2#32 v60 = addf (addf (addf v31 (mulf (broadcastTo S512x384 v32 broadcasts_S1x384_S512x384) (shiftUp 2#32 v6 v7)))
    (mulf (broadcastTo S512x384 (extractStridedSlice S1x384 ![2, 0] v8 slices_S4x384_o2_0_S1x384) broadcasts_S1x384_S512x384) (shiftUp 1#32 v6 v7)))
    (broadcastTo S512x384 (shapeCast S1x384 v60 shapeCasts_S1x384_S1x384) broadcasts_S1x384_S512x384) := rfl
  intro r w
  rw [e]
  pointwise []
  simp only [h8 _ _, h31 _ _, h32 _ _, h60 _ _, shx_1 h6 h7 _ _, shx_2 h6 h7 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  congr 1
  simp only [Args.xc]; ring

theorem p19 {v : FVec Ideal S1x384 .f32} {f : Fin 384 → ℝ} (h : Row v f) : Row (k0_pay19 v) f := by
  intro z w
  pointwise [k0_pay19]
  exact h _ w
theorem p20 {v : FVec Ideal S1x384 .f32} {f : Fin 384 → ℝ} (h : Row v f) : Row (k0_pay20 v) f := by
  intro z w
  pointwise [k0_pay20]
  exact h _ w

theorem p23 {v6 : FVec Ideal S8x384 .f32} {v7 : FVec Ideal S512x384 .f32} {v8 : FVec Ideal S4x384 .f32} {v31 : FVec Ideal S512x384 .f32}
    {v32 v60 v65 : FVec Ideal S1x384 .f32} {v64 : FVec Ideal S384x384 .f32}
    (h18 : Is (k0_pay18 v6 v7 v8 v31 v32 k0_pay17 2#32 v60) (fun r w => P.xc (R + r) w)) (h64 : Mat v64 P.wa) (h65 : Row v65 P.ba) :
    Is (k0_pay23 v6 v7 v8 v31 v32 k0_pay17 2#32 v60 v64 v65) (fun r w => P.za (R + r) w) := by
  intro r w
  pointwise [k0_pay23, k0_pay22, k0_pay21]
  simp only [h18 _ _, h64 _ _, h65 _ _, coe_sum, ← EReal.coe_zero, ← EReal.coe_one, ← EReal.coe_mul, ← EReal.coe_add, ← EReal.coe_sub, ← EReal.coe_neg, Ideal.exp_coe, Ideal.tanh_coe, bits_half, bits_two, bits_eight, bits_k1, bits_k2]
  rfl

theorem p24 {v76 : FVec Ideal S512x384 .f32} (h : Is v76 (fun r w => P.za (R + r) w)) :
    Is (k0_pay24 v76) (fun r w => Real.exp (-P.za (R + r) w)) := by
  intro r w
  pointwise [k0_pay24]
  simp only [h _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  rw [zero_sub]

theorem p25 {v76 : FVec Ideal S512x384 .f32} (h : Is v76 (fun r w => P.za (R + r) w)) :
    Is (k0_pay25 v76) (fun r w => 1 + Real.exp (-P.za (R + r) w)) := by
  intro r w
  pointwise [k0_pay25]
  simp only [p24 h _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

theorem one_exp (z : ℝ) : 1 + Real.exp z ≠ 0 := by positivity

theorem p26 {v76 : FVec Ideal S512x384 .f32} (h : Is v76 (fun r w => P.za (R + r) w)) :
    Is (k0_pay26 v76) (fun r w => ((1 + Real.exp (-P.za (R + r) w)) * (1 + Real.exp (-P.za (R + r) w)))⁻¹) := by
  intro r w
  pointwise [k0_pay26]
  simp only [p25 h _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  rw [div_real (mul_ne_zero (one_exp _) (one_exp _)), one_mul]

theorem p33 {v76 : FVec Ideal S512x384 .f32} (h : Is v76 (fun r w => P.za (R + r) w)) :
    Is (k0_pay33 v76) (fun r w => 8 * P.ra (R + r) w) := by
  intro r w
  pointwise [k0_pay33]
  simp only [p25 h _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  rw [div_real (one_exp _), ← EReal.coe_mul, one_mul]; rfl

theorem p29 {v63 : FVec Ideal S512x384 .f32} {v67 : FVec Ideal S384x384 .f32} {v69 : FVec Ideal S1x384 .f32} (h63 : Is v63 (fun r w => P.xc (R + r) w)) (h67 : Mat v67 P.wx) (h69 : Row v69 P.bx) :
    Is (k0_pay29 v63 v67 v69) (fun r w => Real.exp (-P.zx (R + r) w)) := by
  intro r w
  pointwise [k0_pay29, k0_pay27, k0_pay28]
  simp only [h63 _ _, h67 _ _, h69 _ _, coe_sum, ← EReal.coe_zero, ← EReal.coe_one, ← EReal.coe_mul, ← EReal.coe_add, ← EReal.coe_sub, ← EReal.coe_neg, Ideal.exp_coe, Ideal.tanh_coe, bits_half, bits_two, bits_eight, bits_k1, bits_k2]
  rw [zero_sub]; rfl

theorem p30 {v63 : FVec Ideal S512x384 .f32} {v67 : FVec Ideal S384x384 .f32} {v69 : FVec Ideal S1x384 .f32} (h63 : Is v63 (fun r w => P.xc (R + r) w)) (h67 : Mat v67 P.wx) (h69 : Row v69 P.bx) :
    Is (k0_pay30 v63 v67 v69) (fun r w => 1 + Real.exp (-P.zx (R + r) w)) := by
  intro r w
  pointwise [k0_pay30]
  simp only [p29 h63 h67 h69 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

theorem p31 {v63 : FVec Ideal S512x384 .f32} {v67 : FVec Ideal S384x384 .f32} {v69 : FVec Ideal S1x384 .f32} (h63 : Is v63 (fun r w => P.xc (R + r) w)) (h67 : Mat v67 P.wx) (h69 : Row v69 P.bx) :
    Is (k0_pay31 v63 v67 v69) (fun r w => P.ia (R + r) w) := by
  intro r w
  pointwise [k0_pay31]
  simp only [p30 h63 h67 h69 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  rw [div_real (one_exp _), one_mul]; rfl

theorem p32 {v63 : FVec Ideal S512x384 .f32} {v67 : FVec Ideal S384x384 .f32} {v69 : FVec Ideal S1x384 .f32} (h63 : Is v63 (fun r w => P.xc (R + r) w)) (h67 : Mat v67 P.wx) (h69 : Row v69 P.bx) :
    Is (k0_pay32 v63 v67 v69) (fun r w => ((1 + Real.exp (-P.zx (R + r) w)) * (1 + Real.exp (-P.zx (R + r) w)))⁻¹) := by
  intro r w
  pointwise [k0_pay32]
  simp only [p30 h63 h67 h69 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  rw [div_real (mul_ne_zero (one_exp _) (one_exp _)), one_mul]

theorem p34 {v71 : FVec Ideal S1x384 .f32} (h : Row v71 P.lam) :
    Row (k0_pay34 v71) (fun w => -P.lam w) := by
  intro r w
  pointwise [k0_pay34]
  simp only [h _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  rw [zero_sub]

theorem p35 {v71 : FVec Ideal S1x384 .f32} (h : Row v71 P.lam) :
    Row (k0_pay35 v71) (fun w => max (-P.lam w) 0) := by
  intro r w
  pointwise [k0_pay35]
  simp only [p34 h _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  rw [max_real]

theorem p37 {v71 : FVec Ideal S1x384 .f32} (h : Row v71 P.lam) :
    Row (k0_pay37 v71) (fun w => |-P.lam w|) := by
  intro r w
  pointwise [k0_pay37]
  simp only [p34 h _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  rw [abs_real]

theorem p36 {v71 : FVec Ideal S1x384 .f32} (h : Row v71 P.lam) (hl : ∀ w, P.lam w ≠ 0) : Row (k0_pay36 v71) (fun w => if P.lam w < 0 then 1 else 0) := by
  intro r w
  pointwise [k0_pay36]
  simp only [p34 h _ _, EReal.coe_lt_coe_iff, EReal.coe_eq_coe_iff, ← EReal.coe_zero, ← EReal.coe_one, ← EReal.coe_mul, ← EReal.coe_add, ← EReal.coe_sub, ← EReal.coe_neg, Ideal.exp_coe, Ideal.tanh_coe, bits_half, bits_two, bits_eight, bits_k1, bits_k2]
  by_cases hw : P.lam w < 0
  · rw [if_pos (by linarith), if_pos hw]
  · rw [if_neg (by linarith), if_neg hw, if_neg (fun e => hl w (by linarith))]

/-- The selection by the sign of `-lam`. -/
theorem p39 {v71 v118 : FVec Ideal S1x384 .f32} (h : Row v71 P.lam) (a b : FVec Ideal S1x384 .f32) (z : Fin 1) (w : Fin 384) :
    select (k0_pay39 (k0_pay34 v71) k0_pay38) a b (ix2 z w) = if P.lam w ≤ 0 then a (ix2 z w) else b (ix2 z w) := by
  pointwise [k0_pay39, k0_pay38]
  simp only [p34 h _ _, EReal.coe_le_coe_iff, ← EReal.coe_zero, ← EReal.coe_one, ← EReal.coe_mul, ← EReal.coe_add, ← EReal.coe_sub, ← EReal.coe_neg, Ideal.exp_coe, Ideal.tanh_coe, bits_half, bits_two, bits_eight, bits_k1, bits_k2]
  by_cases hw : P.lam w ≤ 0
  · rw [if_pos (by linarith), if_pos hw]
  · rw [if_neg (by linarith), if_neg hw]

theorem p40 {v117 : FVec Ideal S1x384 .f32} (h : Row v117 (fun w => |-P.lam w|)) :
    Row (k0_pay40 v117) (fun w => Real.exp (-|-P.lam w|)) := by
  intro r w
  pointwise [k0_pay40]
  simp only [h _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  rw [zero_sub]

theorem p41 {v117 : FVec Ideal S1x384 .f32} (h : Row v117 (fun w => |-P.lam w|)) :
    Row (k0_pay41 v117) (fun w => 1 + Real.exp (-|-P.lam w|)) := by
  intro r w
  pointwise [k0_pay41]
  simp only [p40 h _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

/-- The soft maximum with zero, as it is computed. -/
theorem softplus (x : ℝ) : max x 0 + Real.log (1 + Real.exp (-|x|)) = Real.log (1 + Real.exp x) := by
  rcases le_total x 0 with h | h
  · rw [max_eq_right h, zero_add, abs_of_nonpos h, neg_neg]
  · rw [max_eq_left h, abs_of_nonneg h]
    have e : 1 + Real.exp x = Real.exp x * (1 + Real.exp (-x)) := by
      rw [mul_add, mul_one, ← Real.exp_add, add_neg_cancel, Real.exp_zero, add_comm]
    rw [e, Real.log_mul (Real.exp_pos x).ne' (one_exp _), Real.log_exp]

theorem p42 {v107 v117 : FVec Ideal S1x384 .f32} (h1 : Row v107 (fun w => max (-P.lam w) 0)) (h : Row v117 (fun w => |-P.lam w|)) :
    Row (k0_pay42 v107 v117) P.sp := by
  intro r w
  pointwise [k0_pay42]
  simp only [h1 _ _, p41 h _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  rw [log_real (by positivity), ← EReal.coe_add, softplus, ← EReal.coe_sub, zero_sub]; rfl

theorem p43 {v103 : FVec Ideal S512x384 .f32} {v107 v117 : FVec Ideal S1x384 .f32} (h0 : Is v103 (fun r w => 8 * P.ra (R + r) w)) (h1 : Row v107 (fun w => max (-P.lam w) 0)) (h2 : Row v117 (fun w => |-P.lam w|)) :
    Is (k0_pay43 v103 v107 v117) (fun r w => P.la (R + r) w) := by
  intro r w
  pointwise [k0_pay43]
  simp only [h0 _ _, p42 h1 h2 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  rfl

theorem p44 {v103 : FVec Ideal S512x384 .f32} {v107 v117 : FVec Ideal S1x384 .f32} (h0 : Is v103 (fun r w => 8 * P.ra (R + r) w)) (h1 : Row v107 (fun w => max (-P.lam w) 0)) (h2 : Row v117 (fun w => |-P.lam w|)) :
    Is (k0_pay44 v103 v107 v117) (fun r w => Real.exp (P.la (R + r) w)) := by
  intro r w
  pointwise [k0_pay44]
  simp only [p43 h0 h1 h2 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

theorem p45 {v103 : FVec Ideal S512x384 .f32} {v107 v117 : FVec Ideal S1x384 .f32} (h0 : Is v103 (fun r w => 8 * P.ra (R + r) w)) (h1 : Row v107 (fun w => max (-P.lam w) 0)) (h2 : Row v117 (fun w => |-P.lam w|)) :
    Is (k0_pay45 v103 v107 v117) (fun r w => Real.tanh (P.la (R + r) w)) := by
  intro r w
  pointwise [k0_pay45]
  simp only [p43 h0 h1 h2 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

theorem p46 {v103 : FVec Ideal S512x384 .f32} {v107 v117 : FVec Ideal S1x384 .f32} (h0 : Is v103 (fun r w => 8 * P.ra (R + r) w)) (h1 : Row v107 (fun w => max (-P.lam w) 0)) (h2 : Row v117 (fun w => |-P.lam w|)) :
    Is (k0_pay46 v103 v107 v117) (fun r w => (1 + Real.tanh (P.la (R + r) w)) * (1 - Real.tanh (P.la (R + r) w))) := by
  intro r w
  pointwise [k0_pay46]
  simp only [p45 h0 h1 h2 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

theorem p47 {v103 : FVec Ideal S512x384 .f32} {v107 v117 : FVec Ideal S1x384 .f32} (h0 : Is v103 (fun r w => 8 * P.ra (R + r) w)) (h1 : Row v107 (fun w => max (-P.lam w) 0)) (h2 : Row v117 (fun w => |-P.lam w|)) :
    Is (k0_pay47 v103 v107 v117) (fun r w => P.ee (R + r) w) := by
  intro r w
  pointwise [k0_pay47]
  simp only [p43 h0 h1 h2 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  rfl

theorem p48 {v103 : FVec Ideal S512x384 .f32} {v107 v117 : FVec Ideal S1x384 .f32} (h0 : Is v103 (fun r w => 8 * P.ra (R + r) w)) (h1 : Row v107 (fun w => max (-P.lam w) 0)) (h2 : Row v117 (fun w => |-P.lam w|)) :
    Is (k0_pay48 v103 v107 v117) (fun r w => P.ee (R + r) w + 1) := by
  intro r w
  pointwise [k0_pay48]
  simp only [p47 h0 h1 h2 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

theorem p49 {v103 : FVec Ideal S512x384 .f32} {v107 v117 : FVec Ideal S1x384 .f32} (h0 : Is v103 (fun r w => 8 * P.ra (R + r) w)) (h1 : Row v107 (fun w => max (-P.lam w) 0)) (h2 : Row v117 (fun w => |-P.lam w|)) :
    Is (k0_pay49 v103 v107 v117) (fun r w => P.sq (R + r) w) := by
  intro r w
  pointwise [k0_pay49]
  simp only [p45 h0 h1 h2 _ _, p48 h0 h1 h2 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  rw [Args.ee, tanh_mul, sqrt_real (by have := P.ee_lt (R + r) w; rw [Args.ee] at this; linarith)]
  congr 2; rw [Args.ee]; ring

theorem p50 {v103 : FVec Ideal S512x384 .f32} {v107 v117 : FVec Ideal S1x384 .f32} (h0 : Is v103 (fun r w => 8 * P.ra (R + r) w)) (h1 : Row v107 (fun w => max (-P.lam w) 0)) (h2 : Row v117 (fun w => |-P.lam w|)) :
    Is (k0_pay50 v103 v107 v117) (fun r w => 2⁻¹ * (P.sq (R + r) w)⁻¹) := by
  intro r w
  pointwise [k0_pay50]
  simp only [p49 h0 h1 h2 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  rw [div_real (P.sq_pos _ _).ne']

theorem p51 {v63 v98 : FVec Ideal S512x384 .f32} (h1 : Is v63 (fun r w => P.xc (R + r) w)) (h2 : Is v98 (fun r w => P.ia (R + r) w)) :
    Is (k0_pay51 v63 v98) (fun r w => P.ia (R + r) w * P.xc (R + r) w) := by
  intro r w
  pointwise [k0_pay51]
  simp only [h1 _ _, h2 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

theorem p52 {v150 : FVec Ideal S512x384 .f32} (h : Is v150 (fun r w => P.h (R + r) w)) :
    Is (k0_pay52 v150) (fun r w => P.h (R + r) w) := by
  intro r w
  pointwise [k0_pay52]
  simp only [h _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

theorem p53 {v152 : FVec Ideal S512x384 .f32} (h : Is v152 (fun r w => P.gate (R + r) w)) :
    Is (k0_pay53 v152) (fun r w => 2⁻¹ * P.gate (R + r) w) := by
  intro r w
  pointwise [k0_pay53]
  simp only [h _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

theorem p54 {v152 : FVec Ideal S512x384 .f32} (h : Is v152 (fun r w => P.gate (R + r) w)) :
    Is (k0_pay54 v152) (fun r w => k1 * P.gate (R + r) w) := by
  intro r w
  pointwise [k0_pay54]
  simp only [h _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

theorem p55 {v152 : FVec Ideal S512x384 .f32} (h : Is v152 (fun r w => P.gate (R + r) w)) :
    Is (k0_pay55 v152) (fun r w => k1 * P.gate (R + r) w * P.gate (R + r) w) := by
  intro r w
  pointwise [k0_pay55]
  simp only [h _ _, p54 h _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

theorem p56 {v152 : FVec Ideal S512x384 .f32} (h : Is v152 (fun r w => P.gate (R + r) w)) (hc1 : P.c1 = k1) (hc2 : P.c2 = k2) :
    Is (k0_pay56 v152) (fun r w => P.th (R + r) w) := by
  intro r w
  pointwise [k0_pay56]
  simp only [h _ _, p55 h _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  congr 1
  rw [Args.th, hc1, hc2]; congr 1; ring

theorem p57 {v162 : FVec Ideal S512x384 .f32} (h : Is v162 (fun r w => P.th (R + r) w)) :
    Is (k0_pay57 v162) (fun r w => 1 + P.th (R + r) w) := by
  intro r w
  pointwise [k0_pay57]
  simp only [h _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

theorem p58 {v151 v152 v154 v156 v157 v162 v171 : FVec Ideal S512x384 .f32} (h151 : Is v151 (fun r w => P.h (R + r) w)) (h152 : Is v152 (fun r w => P.gate (R + r) w))
    (h154 : Is v154 (fun r w => 2⁻¹ * P.gate (R + r) w)) (h156 : Is v156 (fun r w => k1 * P.gate (R + r) w))
    (h157 : Is v157 (fun r w => k1 * P.gate (R + r) w * P.gate (R + r) w)) (h162 : Is v162 (fun r w => P.th (R + r) w))
    (h171 : Is v171 (fun r w => P.dO (R + r) w)) (hc1 : P.c1 = k1) (hc2 : P.c2 = k2) :
    Is (k0_pay58 v151 v152 v154 v156 v157 v162 v171) (fun r w => P.dgate (R + r) w) := by
  intro r w
  pointwise [k0_pay58]
  simp only [h151 _ _, h152 _ _, h154 _ _, h156 _ _, h157 _ _, h162 _ _, p57 h162 _ _, h171 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  congr 1
  rw [Args.dgate, hc1, hc2]; ring

end Cert.LruBwdIdeal.Value

end
-- ==== Proof.LruScan.lean ====
module

public import proofs.«01_k».proof.Proof.LruPay

@[expose] public section

set_option maxRecDepth 16384

noncomputable section

/-! The scan of a block from its end, and the gradients of the log-gate. -/
namespace Cert.LruBwdIdeal.Value

open Idealize.ShloMosaic Idealize.ShloMosaic.TcCoe
open Cert.LruBwdIdeal Cert.LruBwdIdeal.Gen Cert.Lru

variable {P : Args} {R : ℕ}

/-- The rows' numbers. -/
abbrev rowNo : IVec S512x384 32 := iota .tc S512x384 32 [0] iota_S512x384_d0_w32

/-- What the block after hands over: the adjoint state of its first row, decayed by that row's gate. -/
def Cg (P : Args) (t : ℕ) (w : Fin 384) : ℝ := Real.exp (P.la t w) * P.g t w

theorem p59 {v154 v162 v171 : FVec Ideal S512x384 .f32} {v194 : FVec Ideal S1x384 .f32} (h154 : Is v154 (fun r w => 2⁻¹ * P.gate (R + r) w)) (h162 : Is v162 (fun r w => P.th (R + r) w))
    (h171 : Is v171 (fun r w => P.dO (R + r) w)) (h194 : Row v194 (Cg P (R + 512))) :
    Is (k0_pay59 v154 v162 v171 v194) (fun r w => P.dh (R + r) w + if r = 511 then Cg P (R + 512) w else 0) := by
  intro r w
  pointwise [k0_pay59]
  simp only [h154 _ _, h171 _ _, p57 h162 _ _, h194 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  refine (sel_eq r.val 511 (by omega) (by omega) _ _).trans ?_
  by_cases h : r.val = 511
  · rw [if_pos h, if_pos h]; congr 1; simp only [Args.dh, Args.gel]; ring
  · rw [if_neg h, if_neg h]; congr 1; simp only [Args.dh, Args.gel]; ring

theorem p60 {v131 : FVec Ideal S512x384 .f32} (h : Is v131 (fun r w => Real.exp (P.la (R + r) w))) :
    Is (k0_pay60 v131) (fun r w => if r = 511 then 0 else Real.exp (P.la (R + r + 1) w)) := by
  intro r w
  pointwise [k0_pay60]
  refine (sel_eq r.val 511 (by omega) (by omega) _ _).trans ?_
  by_cases h1 : r.val = 511
  · rw [if_pos h1, if_pos h1, EReal.coe_zero]
  · rw [if_neg h1, if_neg h1]
    refine (h _ w).trans ?_
    show ((Real.exp (P.la (R + (r.val + 512 - 511) % 512) w) : ℝ) : EReal) = _
    rw [show R + (r.val + 512 - 511) % 512 = R + r.val + 1 by omega]

/-- The nine doublings over the block, as its text has them. -/
theorem p75 {v154 v162 v171 v202 : FVec Ideal S512x384 .f32} {v194 : FVec Ideal S1x384 .f32} (hR : R + 512 ≤ 8192)
    (hB : Is (k0_pay59 v154 v162 v171 v194) (fun r w => P.dh (R + r) w + if r = 511 then Cg P (R + 512) w else 0))
    (hA : Is v202 (fun r w => if r = 511 then 0 else Real.exp (P.la (R + r + 1) w))) :
    Is (k0_pay75 rowNo (k0_pay71 (k0_pay59 v154 v162 v171 v194) v202 rowNo k0_pay61 (k0_pay62 v154 v162 v171 v194)) (k0_pay72 v202 rowNo k0_pay61)
      (k0_pay73 rowNo) (k0_pay74 (k0_pay59 v154 v162 v171 v194) v202 rowNo k0_pay61 (k0_pay62 v154 v162 v171 v194)))
      (fun r w => P.g (R + r) w) := by
  have a1 := lvA_1 hA
  have b1 := lvB_1 hA hB
  have a2 := lvA_2 a1
  have b2 := lvB_2 a1 b1
  have a3 := lvA_4 a2
  have b3 := lvB_4 a2 b2
  have a4 := lvA_8 a3
  have b4 := lvB_8 a3 b3
  have a5 := lvA_16 a4
  have b5 := lvB_16 a4 b4
  have a6 := lvA_32 a5
  have b6 := lvB_32 a5 b5
  have a7 := lvA_64 a6
  have b7 := lvB_64 a6 b6
  have a8 := lvA_128 a7
  have b8 := lvB_128 a7 b7
  have b9 := lvB_256 a8 b8
  intro r w
  refine (b9 r w).trans ?_
  have := scan (fun r => if r = 511 then 0 else Real.exp (P.la (R + r + 1) w)) (fun r => P.dh (R + r) w + if r = 511 then Cg P (R + 512) w else 0)
    (fun r => if r < 512 then P.g (R + r) w else 0) (fun r hr => if_neg (by omega)) (fun r hr => by
      rw [if_pos hr, P.g_step _ w (by omega)]
      by_cases h : r = 511
      · subst h; rw [if_pos rfl, if_pos rfl, zero_mul, add_zero]; rfl
      · rw [if_neg h, if_neg h, if_pos (by omega), add_zero]; rfl) r.val r.isLt
  rw [if_pos r.isLt] at this
  exact congrArg _ this

theorem p76 {v131 v245 v248 v251 : FVec Ideal S512x384 .f32} {v250 : IVec S512x384 1} (h131 : Is v131 (fun r w => Real.exp (P.la (R + r) w)))
    (h : Is (k0_pay75 rowNo v245 v248 v250 v251) (fun r w => P.g (R + r) w)) :
    Is (k0_pay76 v131 rowNo v245 v248 v250 v251) (fun _ w => Cg P R w) := by
  intro r w
  pointwise [k0_pay76]
  refine (congrArg₂ (· * ·) (h131 0 w) (h 0 w)).trans ?_
  rw [← EReal.coe_mul]; rfl

/-- The state of the row before the block. -/
theorem p77 {i : grid0.Coords} {v290 : FVec Ideal S1x384 .f32}
    (h : (i 0).val = 15 ∧ R = 0 ∨ (i 0).val < 15 ∧ 8 ≤ R ∧ Row v290 (P.h (R - 1))) :
    Row (k0_pay77 (Scalar.cmpi .eq (BitVec.ofNat 32 (i 0).val) 15#32) v290) (P.hp R) := by
  intro r w
  pointwise [k0_pay77]
  rcases h with ⟨h, rfl⟩ | ⟨h, hR, hv⟩
  · rw [h]
    refine (sel_eq 15 15 (by omega) (by omega) _ _).trans ?_
    rw [if_pos rfl, Args.hp, Hp, if_pos rfl, EReal.coe_zero]
  · refine (sel_eq (i 0).val 15 (by omega) (by omega) _ _).trans ?_
    rw [if_neg (by omega), hv, Args.hp, Hp, if_neg (by omega)]; rfl

theorem p79 {v146 v281 : FVec Ideal S512x384 .f32} (h146 : Is v146 (fun r w => P.sq (R + r) w)) (h281 : Is v281 (fun r w => P.g (R + r) w)) :
    Is (k0_pay79 v146 v281) (fun r w => P.sq (R + r) w * P.g (R + r) w) := by
  intro r w
  pointwise [k0_pay79]
  simp only [h146 _ _, h281 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

theorem p80 {v98 v146 v281 : FVec Ideal S512x384 .f32} (h98 : Is v98 (fun r w => P.ia (R + r) w)) (h146 : Is v146 (fun r w => P.sq (R + r) w)) (h281 : Is v281 (fun r w => P.g (R + r) w)) :
    Is (k0_pay80 v98 v146 v281) (fun r w => P.ia (R + r) w * (P.sq (R + r) w * P.g (R + r) w)) := by
  intro r w
  pointwise [k0_pay80]
  simp only [h98 _ _, p79 h146 h281 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

section Dla

variable {v103 v131 v132 v137 v140 v142 v148 v149 v151 v281 : FVec Ideal S512x384 .f32} {v293 : FVec Ideal S1x384 .f32}
  (h131 : Is v131 (fun r w => Real.exp (P.la (R + r) w))) (h132 : Is v132 (fun r w => Real.tanh (P.la (R + r) w)))
  (h137 : Is v137 (fun r w => (1 + Real.tanh (P.la (R + r) w)) * (1 - Real.tanh (P.la (R + r) w)))) (h140 : Is v140 (fun r w => P.ee (R + r) w))
  (h142 : Is v142 (fun r w => P.ee (R + r) w + 1)) (h148 : Is v148 (fun r w => 2⁻¹ * (P.sq (R + r) w)⁻¹))
  (h149 : Is v149 (fun r w => P.ia (R + r) w * P.xc (R + r) w)) (h151 : Is v151 (fun r w => P.h (R + r) w))
  (h281 : Is v281 (fun r w => P.g (R + r) w)) (h293 : Row v293 (P.hp R))
include h131 h132 h137 h140 h142 h148 h149 h151 h281 h293

theorem p81 : Is (k0_pay81 v131 v132 v137 v140 v142 v148 v149 v151 v281 v293 (k0_pay78 rowNo)) (fun r w => P.dla (R + r) w) := by
  have hs : Is (select (k0_pay78 rowNo) (broadcastTo S512x384 v293 broadcasts_S1x384_S512x384) (dynamicRotate 0 1#32 none v151 rotates_S512x384_d0)) (fun r w => P.hp (R + r) w) := by
    intro r w
    pointwise [k0_pay78]
    refine (sel_eq r.val 0 (by omega) (by omega) _ _).trans ?_
    by_cases h : r.val = 0
    · rw [if_pos h, h293, h, Nat.add_zero]
    · rw [if_neg h]
      refine (h151 _ w).trans ?_
      show ((P.h (R + (r.val + 512 - 1) % 512) w : ℝ) : EReal) = _
      rw [Args.hp, Hp, if_neg (by omega), show R + (r.val + 512 - 1) % 512 = R + r.val - 1 by omega]; rfl
  have e : k0_pay81 v131 v132 v137 v140 v142 v148 v149 v151 v281 v293 (k0_pay78 rowNo) =
    addf (addf (mulf (broadcast S512x384 (Scalar.ofBits .f32 0x40000000#32)) (mulf (mulf v132 (subf (broadcast S512x384 (Scalar.ofBits .f32 0x00000000#32)) (mulf (mulf v281 v149) v148))) v140))
      (mulf (mulf (subf (broadcast S512x384 (Scalar.ofBits .f32 0x00000000#32)) (mulf (mulf v281 v149) v148)) v142) v137))
      (mulf (mulf v281 (select (k0_pay78 rowNo) (broadcastTo S512x384 (shapeCast S1x384 v293 shapeCasts_S1x384_S1x384) broadcasts_S1x384_S512x384) (dynamicRotate 0 1#32 none v151 rotates_S512x384_d0))) v131) := rfl
  have ec : shapeCast S1x384 v293 shapeCasts_S1x384_S1x384 = v293 := by funext j; idx_vars j; pointwise []
  intro r w
  rw [e, ec]
  show ((Ideal.ofBits FTy.f32 0x40000000#32 * (v132 (ix2 r w) * (Ideal.ofBits FTy.f32 0x00000000#32 - v281 (ix2 r w) * v149 (ix2 r w) * v148 (ix2 r w)) * v140 (ix2 r w)) +
      (Ideal.ofBits FTy.f32 0x00000000#32 - v281 (ix2 r w) * v149 (ix2 r w) * v148 (ix2 r w)) * v142 (ix2 r w) * v137 (ix2 r w)) +
      v281 (ix2 r w) * (select (k0_pay78 rowNo) (broadcastTo S512x384 v293 broadcasts_S1x384_S512x384) (dynamicRotate 0 1#32 none v151 rotates_S512x384_d0)) (ix2 r w) * v131 (ix2 r w) : EReal) = _
  simp only [hs r w, h131 _ _, h132 _ _, h137 _ _, h140 _ _, h142 _ _, h148 _ _, h149 _ _, h281 _ _, bits_zero, ← EReal.coe_zero, ← EReal.coe_one, ← EReal.coe_mul, ← EReal.coe_add, ← EReal.coe_sub, ← EReal.coe_neg, Ideal.exp_coe, Ideal.tanh_coe, bits_half, bits_two, bits_eight, bits_k1, bits_k2]
  congr 1
  have ht := tanh_mul (P.la (R + r) w)
  rw [Args.dla, Args.ee]
  linear_combination (-(P.g (R + r) w * (P.ia (R + r) w * P.xc (R + r) w) * (2⁻¹ * (P.sq (R + r) w)⁻¹))) * (1 - Real.tanh (P.la (R + r) w)) * ht

/-- The block's part of the derivative of the log-sigmoid's argument. -/
theorem p82 {v71 : FVec Ideal S1x384 .f32} (h103 : Is v103 (fun r w => 8 * P.ra (R + r) w)) (hl : Row v71 P.lam) (hn : ∀ w, P.lam w ≠ 0) :
    Row (k0_pay82 v103 (k0_pay36 v71) (k0_pay39 (k0_pay34 v71) k0_pay38) (k0_pay40 (k0_pay37 v71)) (k0_pay41 (k0_pay37 v71))
      v131 v132 v137 v140 v142 v148 v149 v151 v281 v293 (k0_pay78 rowNo)) (fun w => (∑ r : Fin 512, 8 * P.ra (R + r) w * P.dla (R + r) w) * P.dsp w) := by
  intro z w
  pointwise [k0_pay82, k0_pay39, k0_pay38]
  simp only [h103 _ _, p81 h131 h132 h137 h140 h142 h148 h149 h151 h281 h293 _ _, p36 hl hn _ _, p40 (p37 hl) _ _, p41 (p37 hl) _ _, p34 hl _ _,
    coe_sum, EReal.coe_le_coe_iff, ← EReal.coe_zero, ← EReal.coe_one, ← EReal.coe_mul, ← EReal.coe_add, ← EReal.coe_sub, ← EReal.coe_neg, Ideal.exp_coe, Ideal.tanh_coe, bits_half, bits_two, bits_eight, bits_k1, bits_k2]
  rw [div_real (one_exp _)]
  simp only [← EReal.coe_zero, ← EReal.coe_one, ← EReal.coe_mul, ← EReal.coe_add, ← EReal.coe_sub, ← EReal.coe_neg, Ideal.exp_coe, Ideal.tanh_coe, bits_half, bits_two, bits_eight, bits_k1, bits_k2]
  by_cases h : P.lam w < 0
  · rw [if_pos (by linarith), if_pos (by linarith), if_pos h]
    simp only [← EReal.coe_zero, ← EReal.coe_one, ← EReal.coe_mul, ← EReal.coe_add, ← EReal.coe_sub, ← EReal.coe_neg, Ideal.exp_coe, Ideal.tanh_coe, bits_half, bits_two, bits_eight, bits_k1, bits_k2]
    congr 1
    rw [Args.dsp, abs_of_pos (by linarith), neg_neg, Real.exp_neg]
    have := Real.exp_pos (P.lam w)
    field_simp
    ring
  · have h' : 0 < P.lam w := lt_of_le_of_ne (not_lt.mp h) (Ne.symm (hn w))
    rw [if_neg (by linarith), if_neg (by linarith), if_neg h]
    simp only [← EReal.coe_zero, ← EReal.coe_one, ← EReal.coe_mul, ← EReal.coe_add, ← EReal.coe_sub, ← EReal.coe_neg, Ideal.exp_coe, Ideal.tanh_coe, bits_half, bits_two, bits_eight, bits_k1, bits_k2]
    congr 1
    rw [Args.dsp, abs_of_neg (by linarith), neg_neg]
    have := Real.exp_pos (-P.lam w)
    field_simp
    ring

end Dla

end Cert.LruBwdIdeal.Value

end
-- ==== Proof.LruGrad.lean ====
module

public import proofs.«01_k».proof.Proof.LruScan

@[expose] public section

set_option maxRecDepth 16384

noncomputable section

/-! The gradients of the gates, of the convolution and of its input, from the adjoint state of a block. -/
namespace Cert.LruBwdIdeal.Value

open Idealize.ShloMosaic Idealize.ShloMosaic.TcCoe
open Cert.LruBwdIdeal Cert.LruBwdIdeal.Gen Cert.Lru

variable {P : Args} {R : ℕ}

section Gates

theorem p83 {v128 : FVec Ideal S1x384 .f32} {v131 v132 v137 v140 v142 v148 v149 v151 v281 : FVec Ideal S512x384 .f32} {v293 : FVec Ideal S1x384 .f32} {v295 : IVec S512x384 1}
    (h : Is (k0_pay81 v131 v132 v137 v140 v142 v148 v149 v151 v281 v293 v295) (fun r w => P.dla (R + r) w)) (h128 : Row v128 P.sp) :
    Is (k0_pay83 v128 v131 v132 v137 v140 v142 v148 v149 v151 v281 v293 v295) (fun r w => 8 * (P.dla (R + r) w * P.sp w)) := by
  intro r w
  pointwise [k0_pay83]
  simp only [h _ _, h128 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

theorem p84 {v63 v101 v146 v281 : FVec Ideal S512x384 .f32} (h63 : Is v63 (fun r w => P.xc (R + r) w))
    (h101 : Is v101 (fun r w => ((1 + Real.exp (-P.zx (R + r) w)) * (1 + Real.exp (-P.zx (R + r) w)))⁻¹))
    (h146 : Is v146 (fun r w => P.sq (R + r) w)) (h281 : Is v281 (fun r w => P.g (R + r) w)) :
    Is (k0_pay84 v63 v101 v146 v281) (fun r w => P.sq (R + r) w * P.g (R + r) w * P.xc (R + r) w *
      ((1 + Real.exp (-P.zx (R + r) w)) * (1 + Real.exp (-P.zx (R + r) w)))⁻¹) := by
  intro r w
  pointwise [k0_pay84]
  simp only [h63 _ _, h101 _ _, p79 h146 h281 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]

section Zx

variable {v94 v342 : FVec Ideal S512x384 .f32} (h94 : Is v94 (fun r w => Real.exp (-P.zx (R + r) w)))
    (h342 : Is v342 (fun r w => P.sq (R + r) w * P.g (R + r) w * P.xc (R + r) w * ((1 + Real.exp (-P.zx (R + r) w)) * (1 + Real.exp (-P.zx (R + r) w)))⁻¹))
include h94 h342

theorem p86 : Is (k0_pay86 v94 v342 k0_pay85) (fun r w => P.dzx (R + r) w) := by
  intro r w
  pointwise [k0_pay86, k0_pay85]
  simp only [h94 _ _, h342 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  congr 1
  have := sig_deriv (P.zx (R + r) w)
  rw [Args.dzx, Args.ia, ← this]; ring

theorem p87 : Row (k0_pay87 v94 v342 k0_pay85) (fun w => ∑ r : Fin 512, P.dzx (R + r) w) := by
  intro z w
  pointwise [k0_pay87]
  simp only [p86 h94 h342 _ _, coe_sum]

theorem p88 {v87 : FVec Ideal S512x384 .bf16} (h87 : Is v87 (fun r w => P.xc (R + r) w)) :
    Mat (k0_pay88 v87 v94 v342 k0_pay85) (fun k w => ∑ r : Fin 512, P.dzx (R + r) w * P.xc (R + r) k) := by
  intro k w
  pointwise [k0_pay88]
  simp only [p86 h94 h342 _ _, h87 _ _, ← EReal.coe_mul, coe_sum]

end Zx

section Za

variable {v79 v86 v339 : FVec Ideal S512x384 .f32} (h79 : Is v79 (fun r w => Real.exp (-P.za (R + r) w)))
    (h86 : Is v86 (fun r w => ((1 + Real.exp (-P.za (R + r) w)) * (1 + Real.exp (-P.za (R + r) w)))⁻¹))
    (h339 : Is v339 (fun r w => 8 * (P.dla (R + r) w * P.sp w)))
include h79 h86 h339

theorem p89 : Is (k0_pay89 v79 v86 v339) (fun r w => P.dza (R + r) w) := by
  intro r w
  pointwise [k0_pay89]
  simp only [h79 _ _, h86 _ _, h339 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  congr 1
  have := sig_deriv (P.za (R + r) w)
  rw [Args.dza, Args.ra, ← this]; ring

theorem p91 {v72 : FVec Ideal S512x384 .bf16} {v376 : FVec Ideal S384x384 .f32} (h72 : Is v72 (fun r w => P.xc (R + r) w)) (k w : Fin 384) :
    k0_pay91 v72 v79 v86 v339 v376 (ix2 k w) = v376 (ix2 k w) + ((∑ r : Fin 512, P.dza (R + r) w * P.xc (R + r) k : ℝ) : EReal) := by
  pointwise [k0_pay91]
  simp only [p89 h79 h86 h339 _ _, h72 _ _, ← EReal.coe_mul, coe_sum]

theorem p92 {v380 : FVec Ideal S1x384 .f32} (z : Fin 1) (w : Fin 384) :
    k0_pay92 v79 v86 v339 v380 (ix2 z w) = v380 (ix2 z w) + ((∑ r : Fin 512, P.dza (R + r) w : ℝ) : EReal) := by
  pointwise [k0_pay92]
  simp only [p89 h79 h86 h339 _ _, coe_sum]

theorem p90 {v73 v88 : FVec Ideal S384x384 .bf16} {v94 v303 v342 : FVec Ideal S512x384 .f32} (hR : R + 512 ≤ 8192) (h73 : Mat v73 P.wa) (h88 : Mat v88 P.wx)
    (h303 : Is v303 (fun r w => P.ia (R + r) w * (P.sq (R + r) w * P.g (R + r) w)))
    (h94 : Is v94 (fun r w => Real.exp (-P.zx (R + r) w)))
    (h342 : Is v342 (fun r w => P.sq (R + r) w * P.g (R + r) w * P.xc (R + r) w * ((1 + Real.exp (-P.zx (R + r) w)) * (1 + Real.exp (-P.zx (R + r) w)))⁻¹)) :
    Is (k0_pay90 v73 v79 v86 v88 v94 v303 v339 v342 k0_pay85) (fun r w => P.dxc (R + r) w) := by
  intro r w
  pointwise [k0_pay90]
  simp only [p89 h79 h86 h339 _ _, p86 h94 h342 _ _, h73 _ _, h88 _ _, h303 _ _, ← EReal.coe_mul, coe_sum, ← EReal.coe_add]
  rw [Args.dxc, if_pos (by omega)]

end Za

end Gates

theorem p93 {v355 v384 : FVec Ideal S384x384 .f32} (k w : Fin 384) : k0_pay93 v355 v384 (ix2 k w) = v384 (ix2 k w) + v355 (ix2 k w) := by
  pointwise [k0_pay93]
theorem p94 {v349 v388 : FVec Ideal S1x384 .f32} (z : Fin 1) (w : Fin 384) : k0_pay94 v349 v388 (ix2 z w) = v388 (ix2 z w) + v349 (ix2 z w) := by
  pointwise [k0_pay94]
theorem p95 {v337 v392 : FVec Ideal S1x384 .f32} (z : Fin 1) (w : Fin 384) : k0_pay95 v337 v392 (ix2 z w) = v392 (ix2 z w) + v337 (ix2 z w) := by
  pointwise [k0_pay95]

section Conv

variable {v375 v404 : FVec Ideal S512x384 .f32} {v402 v405 : FVec Ideal S8x384 .f32} {v403 : FVec Ideal S4x384 .f32}
  (h375 : Is v375 (fun r w => P.dxc (R + r) w))
include h375

theorem p96 {v396 : FVec Ideal S1x384 .f32} (z : Fin 1) (w : Fin 384) :
    k0_pay96 v375 v396 (ix2 z w) = v396 (ix2 z w) + ((∑ r : Fin 512, P.dxc (R + r) w : ℝ) : EReal) := by
  pointwise [k0_pay96]
  simp only [h375 _ _, coe_sum]

theorem p105 : Is (k0_pay105 v375) (fun r w => P.dxc (R + r) w) := by
  intro r w
  pointwise [k0_pay105]
  exact h375 ⟨r.val, by omega⟩ w

section Dx

variable (h402 : Is v402 (fun r w => P.dxc (R + 512 + r) w))
include h402

/-- The gradient at a block's rows shifted up. -/
theorem shd_1 : Is (shiftDown 7#32 511#32 v402 v375) (fun r w => P.dxc (R + r + 1) w) := by
  intro r w
  rw [shiftDown_1 h402 h375 r w]
  dsimp only
  split
  · rw [← Nat.add_assoc]
  · rw [show R + 512 + (r.val + 1 - 512) = R + r.val + 1 by omega]
@[inherit_doc shd_1] theorem shd_2 : Is (shiftDown 6#32 510#32 v402 v375) (fun r w => P.dxc (R + r + 2) w) := by
  intro r w
  rw [shiftDown_2 h402 h375 r w]
  dsimp only
  split
  · rw [← Nat.add_assoc]
  · rw [show R + 512 + (r.val + 2 - 512) = R + r.val + 2 by omega]
@[inherit_doc shd_1] theorem shd_3 : Is (shiftDown 5#32 509#32 v402 v375) (fun r w => P.dxc (R + r + 3) w) := by
  intro r w
  rw [shiftDown_3 h402 h375 r w]
  dsimp only
  split
  · rw [← Nat.add_assoc]
  · rw [show R + 512 + (r.val + 3 - 512) = R + r.val + 3 by omega]

theorem p104 (h403 : Mat v403 P.cw) :
    Is (k0_pay104 v375 v402 v403 (k0_pay101 v375 v402 v403 (k0_pay97 v375 v403) (k0_pay98 v403) k0_pay99 5#32)) (fun r w => P.dx (R + r) w) := by
  have e : k0_pay104 v375 v402 v403 (k0_pay101 v375 v402 v403 (k0_pay97 v375 v403) (k0_pay98 v403) k0_pay99 5#32) =
    addf (addf (addf (mulf (broadcastTo S512x384 (extractStridedSlice S1x384 ![3, 0] v403 slices_S4x384_o3_0_S1x384) broadcasts_S1x384_S512x384) v375)
      (mulf (broadcastTo S512x384 (extractStridedSlice S1x384 ![0, 0] v403 slices_S4x384_o0_0_S1x384) broadcasts_S1x384_S512x384) (shiftDown 5#32 509#32 v402 v375)))
      (mulf (broadcastTo S512x384 (extractStridedSlice S1x384 ![1, 0] v403 slices_S4x384_o1_0_S1x384) broadcasts_S1x384_S512x384) (shiftDown 6#32 510#32 v402 v375)))
      (mulf (broadcastTo S512x384 (extractStridedSlice S1x384 ![2, 0] v403 slices_S4x384_o2_0_S1x384) broadcasts_S1x384_S512x384) (shiftDown 7#32 511#32 v402 v375)) := rfl
  intro r w
  rw [e]
  pointwise []
  simp only [h403 _ _, h375 _ _, shd_1 h375 h402 _ _, shd_2 h375 h402 _ _, shd_3 h375 h402 _ _, ← EReal.coe_zero, ← EReal.coe_one, ← EReal.coe_mul, ← EReal.coe_add, ← EReal.coe_sub, ← EReal.coe_neg, Ideal.exp_coe, Ideal.tanh_coe, bits_half, bits_two, bits_eight, bits_k1, bits_k2]
  congr 1
  simp only [Args.dx]; ring

end Dx

/-- The block's part of the derivative of the filter. -/
theorem p106 (h405 : Is v405 (fun r w => P.xp (R + r - 5) w)) (h404 : Is v404 (fun r w => P.x (R + r) w)) {v498 : FVec Ideal S4x384 .f32} (k : Fin 4) (w : Fin 384) :
    k0_pay106 v375 v404 v405 (k0_pay100 v375 v404 v405) (k0_pay102 v404 v405) (k0_pay103 v404) v498 (ix2 k w) =
      v498 (ix2 k w) + ((∑ r : Fin 512, P.dxc (R + r) w * P.xp (R + r + k) w : ℝ) : EReal) := by
  have e : k0_pay106 v375 v404 v405 (k0_pay100 v375 v404 v405) (k0_pay102 v404 v405) (k0_pay103 v404) v498 =
    addf (shapeCast S4x384 v498 shapeCasts_S4x384_S4x384) (concatenate S4x384 0 [
      ⟨S1x384, shapeCast S1x384 (multiReduction .add [0] S384 (mulf v375 (shiftUp 3#32 v405 v404)) 0x00000000#32 reduces_S512x384_S384 (.inl rfl) rfl) shapeCasts_S384_S1x384⟩,
      ⟨S1x384, shapeCast S1x384 (multiReduction .add [0] S384 (mulf v375 (shiftUp 2#32 v405 v404)) 0x00000000#32 reduces_S512x384_S384 (.inl rfl) rfl) shapeCasts_S384_S1x384⟩,
      ⟨S1x384, shapeCast S1x384 (multiReduction .add [0] S384 (mulf v375 (shiftUp 1#32 v405 v404)) 0x00000000#32 reduces_S512x384_S384 (.inl rfl) rfl) shapeCasts_S384_S1x384⟩,
      ⟨S1x384, shapeCast S1x384 (multiReduction .add [0] S384 (mulf v375 v404) 0x00000000#32 reduces_S512x384_S384 (.inl rfl) rfl) shapeCasts_S384_S1x384⟩]
      concatenates_S1x384_S1x384_S1x384_S1x384_S4x384_d0) := rfl
  rw [e]
  pointwise []
  simp only [h375 _ _, shx_0 h404 _ _, shx_1 h405 h404 _ _, shx_2 h405 h404 _ _, shx_3 h405 h404 _ _, ← EReal.coe_mul, coe_sum]
  fin_cases k <;> rfl

end Conv

end Cert.LruBwdIdeal.Value

end
-- ==== Proof.LruChain.lean ====
module

public import proofs.«01_k».proof.Proof.LruGrad

@[expose] public section

set_option maxRecDepth 16384

noncomputable section

/-! Every value of a grid point, from what the point loads. -/
namespace Cert.LruBwdIdeal.Value

open Idealize.ShloMosaic Idealize.ShloMosaic.TcCoe
open Cert.LruBwdIdeal Cert.LruBwdIdeal.Gen Cert.Lru

/-- What a grid point loads, by the names of the program's text. -/
structure Lds where
  i : grid0.Coords
  v4 : FVec Ideal S8x384 .f32
  v7 : FVec Ideal S512x384 .f32
  v8 : FVec Ideal S4x384 .f32
  v60 : FVec Ideal S1x384 .f32
  v64 : FVec Ideal S384x384 .f32
  v65 : FVec Ideal S1x384 .f32
  v67 : FVec Ideal S384x384 .f32
  v68 : FVec Ideal S1x384 .f32
  v70 : FVec Ideal S1x384 .f32
  v152 : FVec Ideal S512x384 .f32
  v150 : FVec Ideal S512x384 .f32
  v171 : FVec Ideal S512x384 .f32
  v194 : FVec Ideal S1x384 .f32
  v290 : FVec Ideal S1x384 .f32
  v402 : FVec Ideal S8x384 .f32
  v404 : FVec Ideal S512x384 .f32
  v405 : FVec Ideal S8x384 .f32

namespace Lds

variable (L : Lds)

abbrev v6 := k0_pay12 (F := Ideal) L.i L.v4
abbrev v31 := k0_pay15 (F := Ideal) L.i L.v4 L.v7 L.v8
abbrev v32 := k0_pay16 (F := Ideal) L.v8
abbrev v63 := k0_pay18 (F := Ideal) L.v6 L.v7 L.v8 L.v31 L.v32 k0_pay17 2#32 L.v60
abbrev v69 := k0_pay19 (F := Ideal) L.v68
abbrev v71 := k0_pay20 (F := Ideal) L.v70
abbrev v72 := k0_pay21 (F := Ideal) L.v6 L.v7 L.v8 L.v31 L.v32 k0_pay17 2#32 L.v60
abbrev v73 := k0_pay22 (F := Ideal) L.v64
abbrev v76 := k0_pay23 (F := Ideal) L.v6 L.v7 L.v8 L.v31 L.v32 k0_pay17 2#32 L.v60 L.v64 L.v65
abbrev v79 := k0_pay24 (F := Ideal) L.v76
abbrev v86 := k0_pay26 (F := Ideal) L.v76
abbrev v87 := k0_pay27 (F := Ideal) L.v63
abbrev v88 := k0_pay28 (F := Ideal) L.v67
abbrev v94 := k0_pay29 (F := Ideal) L.v63 L.v67 L.v69
abbrev v98 := k0_pay31 (F := Ideal) L.v63 L.v67 L.v69
abbrev v101 := k0_pay32 (F := Ideal) L.v63 L.v67 L.v69
abbrev v103 := k0_pay33 (F := Ideal) L.v76
abbrev v105 := k0_pay34 (F := Ideal) L.v71
abbrev v107 := k0_pay35 (F := Ideal) L.v71
abbrev v116 := k0_pay36 (F := Ideal) L.v71
abbrev v117 := k0_pay37 (F := Ideal) L.v71
abbrev v119 := k0_pay39 (F := Ideal) L.v105 k0_pay38
abbrev v122 := k0_pay40 (F := Ideal) L.v117
abbrev v124 := k0_pay41 (F := Ideal) L.v117
abbrev v128 := k0_pay42 (F := Ideal) L.v107 L.v117
abbrev v131 := k0_pay44 (F := Ideal) L.v103 L.v107 L.v117
abbrev v132 := k0_pay45 (F := Ideal) L.v103 L.v107 L.v117
abbrev v137 := k0_pay46 (F := Ideal) L.v103 L.v107 L.v117
abbrev v140 := k0_pay47 (F := Ideal) L.v103 L.v107 L.v117
abbrev v142 := k0_pay48 (F := Ideal) L.v103 L.v107 L.v117
abbrev v146 := k0_pay49 (F := Ideal) L.v103 L.v107 L.v117
abbrev v148 := k0_pay50 (F := Ideal) L.v103 L.v107 L.v117
abbrev v149 := k0_pay51 (F := Ideal) L.v63 L.v98
abbrev v151 := k0_pay52 (F := Ideal) L.v150
abbrev v154 := k0_pay53 (F := Ideal) L.v152
abbrev v156 := k0_pay54 (F := Ideal) L.v152
abbrev v157 := k0_pay55 (F := Ideal) L.v152
abbrev v162 := k0_pay56 (F := Ideal) L.v152
abbrev v190 := k0_pay58 (F := Ideal) L.v151 L.v152 L.v154 L.v156 L.v157 L.v162 L.v171
abbrev v197 := k0_pay59 (F := Ideal) L.v154 L.v162 L.v171 L.v194
abbrev v202 := k0_pay60 (F := Ideal) L.v131
abbrev v206 := k0_pay62 (F := Ideal) L.v154 L.v162 L.v171 L.v194
abbrev v245 := k0_pay71 (F := Ideal) L.v197 L.v202 rowNo k0_pay61 L.v206
abbrev v248 := k0_pay72 (F := Ideal) L.v202 rowNo k0_pay61
abbrev v251 := k0_pay74 (F := Ideal) L.v197 L.v202 rowNo k0_pay61 L.v206
abbrev v281 := k0_pay75 (F := Ideal) rowNo L.v245 L.v248 (k0_pay73 rowNo) L.v251
abbrev v293 := k0_pay77 (F := Ideal) (Scalar.cmpi .eq (BitVec.ofNat 32 (L.i 0).val) 15#32) L.v290
abbrev v303 := k0_pay80 (F := Ideal) L.v98 L.v146 L.v281
abbrev v337 := k0_pay82 (F := Ideal) L.v103 L.v116 L.v119 L.v122 L.v124 L.v131 L.v132 L.v137 L.v140 L.v142 L.v148 L.v149 L.v151 L.v281 L.v293 (k0_pay78 rowNo)
abbrev v339 := k0_pay83 (F := Ideal) L.v128 L.v131 L.v132 L.v137 L.v140 L.v142 L.v148 L.v149 L.v151 L.v281 L.v293 (k0_pay78 rowNo)
abbrev v342 := k0_pay84 (F := Ideal) L.v63 L.v101 L.v146 L.v281
abbrev v349 := k0_pay87 (F := Ideal) L.v94 L.v342 k0_pay85
abbrev v355 := k0_pay88 (F := Ideal) L.v87 L.v94 L.v342 k0_pay85
abbrev v375 := k0_pay90 (F := Ideal) L.v73 L.v79 L.v86 L.v88 L.v94 L.v303 L.v339 L.v342 k0_pay85
abbrev v408 := k0_pay97 (F := Ideal) L.v375 L.v8
abbrev v409 := k0_pay98 (F := Ideal) L.v8
abbrev v435 := k0_pay100 (F := Ideal) L.v375 L.v404 L.v405
abbrev v449 := k0_pay101 (F := Ideal) L.v375 L.v402 L.v8 L.v408 L.v409 k0_pay99 5#32
abbrev v456 := k0_pay102 (F := Ideal) L.v404 L.v405
abbrev v457 := k0_pay103 (F := Ideal) L.v404
abbrev v476 := k0_pay104 (F := Ideal) L.v375 L.v402 L.v8 L.v449

/-- The loads of the block of rows from `R`, in block `n` of 16. -/
structure At (P : Args) (R : ℕ) : Prop where
  hR : R + 512 ≤ 8192
  c1 : P.c1 = k1
  c2 : P.c2 = k2
  ln : ∀ w, P.lam w ≠ 0
  v4 : (L.i 0).val = 15 ∧ R = 0 ∨ (L.i 0).val < 15 ∧ 8 ≤ R ∧ Is L.v4 (fun r w => P.x (R - 8 + r) w)
  v7 : Is L.v7 (fun r w => P.x (R + r) w)
  v8 : Mat L.v8 P.cw
  v60 : Row L.v60 P.cb
  v64 : Mat L.v64 P.wa
  v65 : Row L.v65 P.ba
  v67 : Mat L.v67 P.wx
  v68 : Row L.v68 P.bx
  v70 : Row L.v70 P.lam
  v152 : Is L.v152 (fun r w => P.gate (R + r) w)
  v150 : Is L.v150 (fun r w => P.h (R + r) w)
  v171 : Is L.v171 (fun r w => P.dO (R + r) w)
  v194 : Row L.v194 (Cg P (R + 512))
  v290 : (L.i 0).val = 15 ∧ R = 0 ∨ (L.i 0).val < 15 ∧ 8 ≤ R ∧ Row L.v290 (P.h (R - 1))
  v402 : Is L.v402 (fun r w => P.dxc (R + 512 + r) w)
  v404 : L.v404 = L.v7
  v405 : L.v405 = k0_pay12 L.i L.v4

variable {L} {P : Args} {R : ℕ} (H : L.At P R)
include H

namespace At

theorem w6 : Is L.v6 (fun r w => P.xp (R + r - 5) w) := p12 H.v4
theorem w63 : Is L.v63 (fun r w => P.xc (R + r) w) := p18 H.w6 H.v7 H.v8 (p15 H.w6 H.v7 H.v8) (p16 H.v8) H.v60
theorem w76 : Is L.v76 (fun r w => P.za (R + r) w) := p23 H.w63 H.v64 H.v65
theorem w69 : Row L.v69 P.bx := p19 H.v68
theorem w71 : Row L.v71 P.lam := p20 H.v70
theorem w72 : Is L.v72 (fun r w => P.xc (R + r) w) := by
  intro r w
  pointwise [k0_pay21]
  exact H.w63 r w
theorem w87 : Is L.v87 (fun r w => P.xc (R + r) w) := by
  intro r w
  pointwise [k0_pay27]
  exact H.w63 r w
theorem w73 : Mat L.v73 P.wa := by
  intro r w
  pointwise [k0_pay22]
  exact H.v64 r w
theorem w88 : Mat L.v88 P.wx := by
  intro r w
  pointwise [k0_pay28]
  exact H.v67 r w
theorem w79 : Is L.v79 (fun r w => Real.exp (-P.za (R + r) w)) := p24 H.w76
theorem w86 : Is L.v86 (fun r w => ((1 + Real.exp (-P.za (R + r) w)) * (1 + Real.exp (-P.za (R + r) w)))⁻¹) := p26 H.w76
theorem w94 : Is L.v94 (fun r w => Real.exp (-P.zx (R + r) w)) := p29 H.w63 H.v67 H.w69
theorem w98 : Is L.v98 (fun r w => P.ia (R + r) w) := p31 H.w63 H.v67 H.w69
theorem w101 : Is L.v101 (fun r w => ((1 + Real.exp (-P.zx (R + r) w)) * (1 + Real.exp (-P.zx (R + r) w)))⁻¹) := p32 H.w63 H.v67 H.w69
theorem w103 : Is L.v103 (fun r w => 8 * P.ra (R + r) w) := p33 H.w76
theorem w107 : Row L.v107 (fun w => max (-P.lam w) 0) := p35 H.w71
theorem w117 : Row L.v117 (fun w => |-P.lam w|) := p37 H.w71
theorem w128 : Row L.v128 P.sp := p42 H.w107 H.w117
theorem w131 : Is L.v131 (fun r w => Real.exp (P.la (R + r) w)) := p44 H.w103 H.w107 H.w117
theorem w132 : Is L.v132 (fun r w => Real.tanh (P.la (R + r) w)) := p45 H.w103 H.w107 H.w117
theorem w137 : Is L.v137 (fun r w => (1 + Real.tanh (P.la (R + r) w)) * (1 - Real.tanh (P.la (R + r) w))) := p46 H.w103 H.w107 H.w117
theorem w140 : Is L.v140 (fun r w => P.ee (R + r) w) := p47 H.w103 H.w107 H.w117
theorem w142 : Is L.v142 (fun r w => P.ee (R + r) w + 1) := p48 H.w103 H.w107 H.w117
theorem w146 : Is L.v146 (fun r w => P.sq (R + r) w) := p49 H.w103 H.w107 H.w117
theorem w148 : Is L.v148 (fun r w => 2⁻¹ * (P.sq (R + r) w)⁻¹) := p50 H.w103 H.w107 H.w117
theorem w149 : Is L.v149 (fun r w => P.ia (R + r) w * P.xc (R + r) w) := p51 H.w63 H.w98
theorem w151 : Is L.v151 (fun r w => P.h (R + r) w) := p52 H.v150
theorem w162 : Is L.v162 (fun r w => P.th (R + r) w) := p56 H.v152 H.c1 H.c2
theorem w190 : Is L.v190 (fun r w => P.dgate (R + r) w) := p58 H.w151 H.v152 (p53 H.v152) (p54 H.v152) (p55 H.v152) H.w162 H.v171 H.c1 H.c2
theorem w281 : Is L.v281 (fun r w => P.g (R + r) w) := p75 H.hR (p59 (p53 H.v152) H.w162 H.v171 H.v194) (p60 H.w131)
/-- What the block hands on. -/
theorem carry : Is (k0_pay76 L.v131 rowNo L.v245 L.v248 (k0_pay73 rowNo) L.v251) (fun _ w => Cg P R w) := p76 H.w131 H.w281
theorem w293 : Row L.v293 (P.hp R) := p77 H.v290
theorem w337 : Row L.v337 (fun w => (∑ r : Fin 512, 8 * P.ra (R + r) w * P.dla (R + r) w) * P.dsp w) :=
  p82 H.w131 H.w132 H.w137 H.w140 H.w142 H.w148 H.w149 H.w151 H.w281 H.w293 H.w103 H.w71 H.ln
theorem w339 : Is L.v339 (fun r w => 8 * (P.dla (R + r) w * P.sp w)) :=
  p83 (p81 H.w131 H.w132 H.w137 H.w140 H.w142 H.w148 H.w149 H.w151 H.w281 H.w293) H.w128
theorem w342 : Is L.v342 (fun r w => P.sq (R + r) w * P.g (R + r) w * P.xc (R + r) w *
      ((1 + Real.exp (-P.zx (R + r) w)) * (1 + Real.exp (-P.zx (R + r) w)))⁻¹) := p84 H.w63 H.w101 H.w146 H.w281
theorem w375 : Is L.v375 (fun r w => P.dxc (R + r) w) :=
  p90 H.w79 H.w86 H.w339 H.hR H.w73 H.w88 (p80 H.w98 H.w146 H.w281) H.w94 H.w342
theorem w476 : Is L.v476 (fun r w => P.dx (R + r) w) := p104 H.w375 H.v402 H.v8
theorem head : Is (k0_pay105 L.v375) (fun r w => P.dxc (R + r) w) := p105 H.w375

theorem cw (o : FVec Ideal S4x384 .f32) (k : Fin 4) (w : Fin 384) :
    k0_pay106 L.v375 L.v404 L.v405 L.v435 L.v456 L.v457 o (ix2 k w) = o (ix2 k w) + ((∑ r : Fin 512, P.dxc (R + r) w * P.xp (R + r + k) w : ℝ) : EReal) :=
  p106 H.w375 (by rw [H.v405]; exact H.w6) (by rw [H.v404]; exact H.v7) k w
theorem cb (o : FVec Ideal S1x384 .f32) (z : Fin 1) (w : Fin 384) :
    k0_pay96 L.v375 o (ix2 z w) = o (ix2 z w) + ((∑ r : Fin 512, P.dxc (R + r) w : ℝ) : EReal) := p96 H.w375 z w
theorem wa (o : FVec Ideal S384x384 .f32) (k w : Fin 384) :
    k0_pay91 L.v72 L.v79 L.v86 L.v339 o (ix2 k w) = o (ix2 k w) + ((∑ r : Fin 512, P.dza (R + r) w * P.xc (R + r) k : ℝ) : EReal) :=
  p91 H.w79 H.w86 H.w339 H.w72 k w
theorem ba (o : FVec Ideal S1x384 .f32) (z : Fin 1) (w : Fin 384) :
    k0_pay92 L.v79 L.v86 L.v339 o (ix2 z w) = o (ix2 z w) + ((∑ r : Fin 512, P.dza (R + r) w : ℝ) : EReal) :=
  p92 H.w79 H.w86 H.w339 z w
theorem wx (o : FVec Ideal S384x384 .f32) (k w : Fin 384) :
    k0_pay93 L.v355 o (ix2 k w) = o (ix2 k w) + ((∑ r : Fin 512, P.dzx (R + r) w * P.xc (R + r) k : ℝ) : EReal) := by
  rw [p93]; exact congrArg (o (ix2 k w) + ·) (p88 H.w94 H.w342 H.w87 k w)
theorem bx (o : FVec Ideal S1x384 .f32) (z : Fin 1) (w : Fin 384) :
    k0_pay94 L.v349 o (ix2 z w) = o (ix2 z w) + ((∑ r : Fin 512, P.dzx (R + r) w : ℝ) : EReal) := by
  rw [p94]; exact congrArg (o (ix2 z w) + ·) (p87 H.w94 H.w342 z w)
theorem lam (o : FVec Ideal S1x384 .f32) (z : Fin 1) (w : Fin 384) :
    k0_pay95 L.v337 o (ix2 z w) = o (ix2 z w) + (((∑ r : Fin 512, 8 * P.ra (R + r) w * P.dla (R + r) w) * P.dsp w : ℝ) : EReal) := by
  rw [p95, H.w337 z w]

end At

end Lds

end Cert.LruBwdIdeal.Value

end
-- ==== Proof.LruPoint.lean ====
module

public import Idealize.ShloMosaic.Lib.Pipeline.ValueKit
public import Idealize.ShloMosaic.Lib.Pipeline.ReadBack
public import Idealize.ShloMosaic.Lib.Pointwise
public import proofs.«01_k».proof.Proof.LruOuts
public import proofs.«01_k».proof.Proof.LruChain

@[expose] public section

set_option maxRecDepth 16384

noncomputable section

/-! What a grid point loads, and what it leaves. -/
namespace Cert.LruBwdIdeal.Value

open Idealize.ShloMosaic Idealize.ShloMosaic.TcCoe Idealize.SL.Sem
open Cert.LruBwdIdeal Cert.LruBwdIdeal.Gen Cert.Lru

variable (m : (ℓ : Loc nD τ sig) → Buf (Elt Ideal) ℓ)

theorem idxA : ∀ t : Fin cfg0.N, win0_0.index t = ![15 - t.val, 0] ∧ win0_1.index t = ![64 * (15 - t.val) - 1, 0] ∧ win0_2.index t = ![15 - t.val, 0] ∧
    win0_3.index t = ![64 * (15 - t.val) - 1, 0] ∧ win0_11.index t = ![15 - t.val, 0] ∧ win0_12.index t = ![15 - t.val, 0] ∧ (grid0.coords t 0).val = t.val :=
  (by decide +kernel : ∀ t : Fin grid0.N, _)
theorem idxB : ∀ t : Fin cfg0.N, win0_4.index t = ![0, 0] ∧ win0_5.index t = ![0, 0] ∧ win0_6.index t = ![0, 0] ∧ win0_7.index t = ![0, 0] ∧
    win0_8.index t = ![0, 0] ∧ win0_9.index t = ![0, 0] ∧ win0_10.index t = ![0, 0] :=
  (by decide +kernel : ∀ t : Fin grid0.N, _)

theorem lt16 (t : Fin cfg0.N) : t.val < 16 := lt_of_lt_of_eq t.isLt N_0

/-- The arrays that the call is given. -/
abbrev HL (c : Dev nD) : FVec Ideal S8192x768 .f32 := V m c main_arg0
@[inherit_doc HL] abbrev HS (c : Dev nD) : FVec Ideal S8192x384 .f32 := V m c main_v87
@[inherit_doc HL] abbrev CW (c : Dev nD) : FVec Ideal S4x384 .f32 := V m c main_arg1
@[inherit_doc HL] abbrev CB (c : Dev nD) : FVec Ideal S1x384 .f32 := V m c main_v88
@[inherit_doc HL] abbrev WA (c : Dev nD) : FVec Ideal S384x384 .f32 := V m c main_arg3
@[inherit_doc HL] abbrev BA (c : Dev nD) : FVec Ideal S1x384 .f32 := V m c main_v89
@[inherit_doc HL] abbrev WX (c : Dev nD) : FVec Ideal S384x384 .f32 := V m c main_arg5
@[inherit_doc HL] abbrev BX (c : Dev nD) : FVec Ideal S1x384 .f32 := V m c main_v90
@[inherit_doc HL] abbrev LM (c : Dev nD) : FVec Ideal S1x384 .f32 := V m c main_v91
@[inherit_doc HL] abbrev DO (c : Dev nD) : FVec Ideal S8192x384 .f32 := V m c main_arg8

/-- They hold the real arrays. -/
structure Has (P : Args) (c : Dev nD) : Prop where
  c1 : P.c1 = k1
  c2 : P.c2 = k2
  ln : ∀ w, P.lam w ≠ 0
  x : ∀ (t : Fin 8192) (w : Fin 384), HL m c (ix2 t ⟨w.val, by omega⟩) = ((P.x t.val w : ℝ) : EReal)
  gate : ∀ (t : Fin 8192) (w : Fin 384), HL m c (ix2 t ⟨384 + w.val, by omega⟩) = ((P.gate t.val w : ℝ) : EReal)
  hs : Is (HS m c) P.h
  cw : Mat (CW m c) P.cw
  cb : Row (CB m c) P.cb
  wa : Mat (WA m c) P.wa
  ba : Row (BA m c) P.ba
  wx : Mat (WX m c) P.wx
  bx : Row (BX m c) P.bx
  lam : Row (LM m c) P.lam
  dO : Is (DO m c) P.dO

section Blocks

variable (c : Dev nD) (t : Fin cfg0.N)

theorem b0 (r : Fin 512) (w : Fin 768) : iblk m c 0 t (ix2 r w) = HL m c (ix2 ⟨512 * (15 - t.val) + r.val, by omega⟩ w) := by
  show HL m c ((win0_0.blk t).view.emb (ix2 r w)) = _
  have e := (idxA t).1
  congr 1
  blk_ext [e]
theorem b1 (ht : t.val < 15) (r : Fin 8) (w : Fin 768) : iblk m c 1 t (ix2 r w) = HL m c (ix2 ⟨512 * (15 - t.val) - 8 + r.val, by omega⟩ w) := by
  show HL m c ((win0_1.blk t).view.emb (ix2 r w)) = _
  have e := (idxA t).2.1
  congr 1
  blk_ext [e]
theorem b2 (r : Fin 512) (w : Fin 384) : iblk m c 2 t (ix2 r w) = HS m c (ix2 ⟨512 * (15 - t.val) + r.val, by omega⟩ w) := by
  show HS m c ((win0_2.blk t).view.emb (ix2 r w)) = _
  have e := (idxA t).2.2.1
  congr 1
  blk_ext [e]
theorem b3 (ht : t.val < 15) (r : Fin 8) (w : Fin 384) : iblk m c 3 t (ix2 r w) = HS m c (ix2 ⟨512 * (15 - t.val) - 8 + r.val, by omega⟩ w) := by
  show HS m c ((win0_3.blk t).view.emb (ix2 r w)) = _
  have e := (idxA t).2.2.2.1
  congr 1
  blk_ext [e]
theorem b11 (r : Fin 512) (w : Fin 384) : iblk m c 11 t (ix2 r w) = DO m c (ix2 ⟨512 * (15 - t.val) + r.val, by omega⟩ w) := by
  show DO m c ((win0_11.blk t).view.emb (ix2 r w)) = _
  have e := (idxA t).2.2.2.2.1
  congr 1
  blk_ext [e]
theorem b4 (r : Fin 4) (w : Fin 384) : iblk m c 4 t (ix2 r w) = CW m c (ix2 r w) := by
  show CW m c ((win0_4.blk t).view.emb (ix2 r w)) = _
  have e := (idxB t).1
  congr 1
  blk_ext [e]
theorem b5 (r : Fin 1) (w : Fin 384) : iblk m c 5 t (ix2 r w) = CB m c (ix2 r w) := by
  show CB m c ((win0_5.blk t).view.emb (ix2 r w)) = _
  have e := (idxB t).2.1
  congr 1
  blk_ext [e]
theorem b6 (r : Fin 384) (w : Fin 384) : iblk m c 6 t (ix2 r w) = WA m c (ix2 r w) := by
  show WA m c ((win0_6.blk t).view.emb (ix2 r w)) = _
  have e := (idxB t).2.2.1
  congr 1
  blk_ext [e]
theorem b7 (r : Fin 1) (w : Fin 384) : iblk m c 7 t (ix2 r w) = BA m c (ix2 r w) := by
  show BA m c ((win0_7.blk t).view.emb (ix2 r w)) = _
  have e := (idxB t).2.2.2.1
  congr 1
  blk_ext [e]
theorem b8 (r : Fin 384) (w : Fin 384) : iblk m c 8 t (ix2 r w) = WX m c (ix2 r w) := by
  show WX m c ((win0_8.blk t).view.emb (ix2 r w)) = _
  have e := (idxB t).2.2.2.2.1
  congr 1
  blk_ext [e]
theorem b9 (r : Fin 1) (w : Fin 384) : iblk m c 9 t (ix2 r w) = BX m c (ix2 r w) := by
  show BX m c ((win0_9.blk t).view.emb (ix2 r w)) = _
  have e := (idxB t).2.2.2.2.2.1
  congr 1
  blk_ext [e]
theorem b10 (r : Fin 1) (w : Fin 384) : iblk m c 10 t (ix2 r w) = LM m c (ix2 r w) := by
  show LM m c ((win0_10.blk t).view.emb (ix2 r w)) = _
  have e := (idxB t).2.2.2.2.2.2
  congr 1
  blk_ext [e]

/-- The block's own rows, read back from the scratch array that also holds the eight rows before them. -/
theorem ext_rows (i : grid0.Coords) (x4 : FVec Ideal S8x384 .f32) (x7 : FVec Ideal S512x384 .f32) :
    (View.whole cc0_scratch2).readCov (Val := Elt Ideal) [⟨Rect.unit ![8, 0] ![512, 384] inb_S520x384_S512x384_8_0, k0_pay14 (F := Ideal) x7⟩,
      ⟨Rect.unit ![0, 0] ![8, 384] inb_S520x384_S8x384_0_0, k0_pay13 (F := Ideal) i x4⟩] (Rect.unit ![8, 0] ![512, 384] inb_S520x384_S512x384_8_0).toLoadRect = x7 := by
  rw [View.readCov_eq_canon']
  funext j
  refine (View.canon_cons_emb _ _ _ j).trans ?_
  idx_vars j
  pointwise [k0_pay14]

/-- The eight rows before them. -/
theorem ext_tail (i : grid0.Coords) (x4 : FVec Ideal S8x384 .f32) (x7 : FVec Ideal S512x384 .f32) :
    (View.whole cc0_scratch2).readCov (Val := Elt Ideal) [⟨Rect.unit ![8, 0] ![512, 384] inb_S520x384_S512x384_8_0, k0_pay14 (F := Ideal) x7⟩,
      ⟨Rect.unit ![0, 0] ![8, 384] inb_S520x384_S8x384_0_0, k0_pay13 (F := Ideal) i x4⟩] (Rect.unit ![0, 0] ![8, 384] inb_S520x384_S8x384_0_0).toLoadRect = k0_pay12 (F := Ideal) i x4 := by
  rw [View.readCov_eq_canon']
  funext j
  refine (View.canon_cons_of_not_mem _ _ ?_).trans ((View.canon_cons_emb _ _ _ j).trans ?_)
  · rw [Rect.mem_set_unit]
    intro h
    have h0 := (h 0).1
    have hj := (j 0).isLt
    simp at h0
    have hj' : (j 0).val < 8 := hj
    omega
  · idx_vars j
    pointwise [k0_pay13]

/-- What a point loads, given what the block after it handed over. -/
def lds (a : FVec Ideal S1x384 .f32) (b : FVec Ideal S8x384 .f32) : Lds where
  i := grid0.coords t
  v4 := View.ld (iblk m c 1 t) (Rect.unit ![0, 0] ![8, 384] inb_S8x768_S8x384_0_0)
  v7 := View.ld (iblk m c 0 t) (Rect.unit ![0, 0] ![512, 384] inb_S512x768_S512x384_0_0)
  v8 := iblk m c 4 t
  v60 := iblk m c 5 t
  v64 := iblk m c 6 t
  v65 := iblk m c 7 t
  v67 := iblk m c 8 t
  v68 := iblk m c 9 t
  v70 := iblk m c 10 t
  v152 := View.ld (iblk m c 0 t) (Rect.unit ![0, 384] ![512, 384] inb_S512x768_S512x384_0_384)
  v150 := iblk m c 2 t
  v171 := iblk m c 11 t
  v194 := a
  v290 := View.ld (iblk m c 3 t) (Rect.unit ![7, 0] ![1, 384] inb_S8x384_S1x384_7_0)
  v402 := b
  v404 := View.ld (iblk m c 0 t) (Rect.unit ![0, 0] ![512, 384] inb_S512x768_S512x384_0_0)
  v405 := k0_pay12 (grid0.coords t) (View.ld (iblk m c 1 t) (Rect.unit ![0, 0] ![8, 384] inb_S8x768_S8x384_0_0))

theorem ld_x {P : Args} (Q : Has m P c) (r : Fin 512) (w : Fin 384) :
    View.ld (iblk m c 0 t) (Rect.unit ![0, 0] ![512, 384] inb_S512x768_S512x384_0_0) (ix2 r w) = ((P.x (512 * (15 - t.val) + r.val) w : ℝ) : EReal) := by
  refine (View.ld_unit_apply_of (iblk m c 0 t) ![0, 0] ![512, 384] inb_S512x768_S512x384_0_0 (ix2 r w) (ix2 r ⟨w.val, by omega⟩) (fun a => by fin_cases a <;> simp)).trans ?_
  exact (b0 m c t _ _).trans (Q.x _ _)
theorem ld_gate {P : Args} (Q : Has m P c) (r : Fin 512) (w : Fin 384) :
    View.ld (iblk m c 0 t) (Rect.unit ![0, 384] ![512, 384] inb_S512x768_S512x384_0_384) (ix2 r w) = ((P.gate (512 * (15 - t.val) + r.val) w : ℝ) : EReal) := by
  refine (View.ld_unit_apply_of (iblk m c 0 t) ![0, 384] ![512, 384] inb_S512x768_S512x384_0_384 (ix2 r w) (ix2 r ⟨384 + w.val, by omega⟩) (fun a => by fin_cases a <;> simp)).trans ?_
  exact (b0 m c t _ _).trans (Q.gate _ _)
theorem ld_tail {P : Args} (Q : Has m P c) (ht : t.val < 15) (r : Fin 8) (w : Fin 384) :
    View.ld (iblk m c 1 t) (Rect.unit ![0, 0] ![8, 384] inb_S8x768_S8x384_0_0) (ix2 r w) = ((P.x (512 * (15 - t.val) - 8 + r.val) w : ℝ) : EReal) := by
  refine (View.ld_unit_apply_of (iblk m c 1 t) ![0, 0] ![8, 384] inb_S8x768_S8x384_0_0 (ix2 r w) (ix2 r ⟨w.val, by omega⟩) (fun a => by fin_cases a <;> simp)).trans ?_
  exact (b1 m c t ht _ _).trans (Q.x _ _)
theorem ld_prev {P : Args} (Q : Has m P c) (ht : t.val < 15) (z : Fin 1) (w : Fin 384) :
    View.ld (iblk m c 3 t) (Rect.unit ![7, 0] ![1, 384] inb_S8x384_S1x384_7_0) (ix2 z w) = ((P.h (512 * (15 - t.val) - 1) w : ℝ) : EReal) := by
  refine (View.ld_unit_apply_of (iblk m c 3 t) ![7, 0] ![1, 384] inb_S8x384_S1x384_7_0 (ix2 z w) (ix2 7 w) (fun a => by fin_cases a <;> simp)).trans ?_
  refine (b3 m c t ht _ _).trans ((Q.hs _ _).trans ?_)
  show ((P.h (512 * (15 - t.val) - 8 + 7) w : ℝ) : EReal) = _
  rw [show 512 * (15 - t.val) - 8 + 7 = 512 * (15 - t.val) - 1 by omega]

theorem at_last (h : t.val = 15) : (grid0.coords t 0).val = 15 ∧ 512 * (15 - t.val) = 0 :=
  ⟨(idxA t).2.2.2.2.2.2.trans h, by omega⟩
theorem at_other (h : ¬ t.val = 15) : t.val < 15 ∧ (grid0.coords t 0).val < 15 ∧ 8 ≤ 512 * (15 - t.val) := by
  have := lt16 t
  have h15 : t.val < 15 := by omega
  exact ⟨h15, lt_of_eq_of_lt (idxA t).2.2.2.2.2.2 h15, by omega⟩
theorem at_room : 512 * (15 - t.val) + 512 ≤ 8192 := by omega

variable {m c t}

theorem lds_i (a : FVec Ideal S1x384 .f32) (b : FVec Ideal S8x384 .f32) : (lds m c t a b).i = grid0.coords t := by unfold lds; rfl
theorem lds_v4 (a : FVec Ideal S1x384 .f32) (b : FVec Ideal S8x384 .f32) : (lds m c t a b).v4 = View.ld (iblk m c 1 t) (Rect.unit ![0, 0] ![8, 384] inb_S8x768_S8x384_0_0) := by unfold lds; rfl
theorem lds_v7 (a : FVec Ideal S1x384 .f32) (b : FVec Ideal S8x384 .f32) : (lds m c t a b).v7 = View.ld (iblk m c 0 t) (Rect.unit ![0, 0] ![512, 384] inb_S512x768_S512x384_0_0) := by unfold lds; rfl
theorem lds_v8 (a : FVec Ideal S1x384 .f32) (b : FVec Ideal S8x384 .f32) : (lds m c t a b).v8 = iblk m c 4 t := by unfold lds; rfl
theorem lds_v60 (a : FVec Ideal S1x384 .f32) (b : FVec Ideal S8x384 .f32) : (lds m c t a b).v60 = iblk m c 5 t := by unfold lds; rfl
theorem lds_v64 (a : FVec Ideal S1x384 .f32) (b : FVec Ideal S8x384 .f32) : (lds m c t a b).v64 = iblk m c 6 t := by unfold lds; rfl
theorem lds_v65 (a : FVec Ideal S1x384 .f32) (b : FVec Ideal S8x384 .f32) : (lds m c t a b).v65 = iblk m c 7 t := by unfold lds; rfl
theorem lds_v67 (a : FVec Ideal S1x384 .f32) (b : FVec Ideal S8x384 .f32) : (lds m c t a b).v67 = iblk m c 8 t := by unfold lds; rfl
theorem lds_v68 (a : FVec Ideal S1x384 .f32) (b : FVec Ideal S8x384 .f32) : (lds m c t a b).v68 = iblk m c 9 t := by unfold lds; rfl
theorem lds_v70 (a : FVec Ideal S1x384 .f32) (b : FVec Ideal S8x384 .f32) : (lds m c t a b).v70 = iblk m c 10 t := by unfold lds; rfl
theorem lds_v152 (a : FVec Ideal S1x384 .f32) (b : FVec Ideal S8x384 .f32) : (lds m c t a b).v152 = View.ld (iblk m c 0 t) (Rect.unit ![0, 384] ![512, 384] inb_S512x768_S512x384_0_384) := by unfold lds; rfl
theorem lds_v150 (a : FVec Ideal S1x384 .f32) (b : FVec Ideal S8x384 .f32) : (lds m c t a b).v150 = iblk m c 2 t := by unfold lds; rfl
theorem lds_v171 (a : FVec Ideal S1x384 .f32) (b : FVec Ideal S8x384 .f32) : (lds m c t a b).v171 = iblk m c 11 t := by unfold lds; rfl
theorem lds_v194 (a : FVec Ideal S1x384 .f32) (b : FVec Ideal S8x384 .f32) : (lds m c t a b).v194 = a := by unfold lds; rfl
theorem lds_v290 (a : FVec Ideal S1x384 .f32) (b : FVec Ideal S8x384 .f32) : (lds m c t a b).v290 = View.ld (iblk m c 3 t) (Rect.unit ![7, 0] ![1, 384] inb_S8x384_S1x384_7_0) := by unfold lds; rfl
theorem lds_v402 (a : FVec Ideal S1x384 .f32) (b : FVec Ideal S8x384 .f32) : (lds m c t a b).v402 = b := by unfold lds; rfl
theorem lds_v404 (a : FVec Ideal S1x384 .f32) (b : FVec Ideal S8x384 .f32) : (lds m c t a b).v404 = View.ld (iblk m c 0 t) (Rect.unit ![0, 0] ![512, 384] inb_S512x768_S512x384_0_0) := by unfold lds; rfl
theorem lds_v405 (a : FVec Ideal S1x384 .f32) (b : FVec Ideal S8x384 .f32) : (lds m c t a b).v405 = k0_pay12 (grid0.coords t) (View.ld (iblk m c 1 t) (Rect.unit ![0, 0] ![8, 384] inb_S8x768_S8x384_0_0)) := by unfold lds; rfl
theorem lds_at {P : Args} (Q : Has m P c) {a : FVec Ideal S1x384 .f32} {b : FVec Ideal S8x384 .f32}
    (ha : Row a (Cg P (512 * (15 - t.val) + 512))) (hb : Is b (fun r w => P.dxc (512 * (15 - t.val) + 512 + r) w)) :
    (lds m c t a b).At P (512 * (15 - t.val)) := by
  have hl := at_last t
  have hn := at_other t
  refine Lds.At.mk (at_room t) Q.c1 Q.c2 Q.ln ?v4 ?v7 ?v8 ?v60 ?v64 ?v65 ?v67 ?v68 ?v70 ?v152 ?v150 ?v171 ?v194 ?v290 ?v402 ?v404 ?v405
  case v4 =>
    rw [lds_i, lds_v4]
    by_cases h : t.val = 15
    · exact .inl (hl h)
    · exact .inr ⟨(hn h).2.1, (hn h).2.2, ld_tail m c t Q (hn h).1⟩
  case v7 => rw [lds_v7]; exact ld_x m c t Q
  case v8 => rw [lds_v8]; exact fun r w => (b4 m c t r w).trans (Q.cw r w)
  case v60 => rw [lds_v60]; exact fun r w => (b5 m c t r w).trans (Q.cb r w)
  case v64 => rw [lds_v64]; exact fun r w => (b6 m c t r w).trans (Q.wa r w)
  case v65 => rw [lds_v65]; exact fun r w => (b7 m c t r w).trans (Q.ba r w)
  case v67 => rw [lds_v67]; exact fun r w => (b8 m c t r w).trans (Q.wx r w)
  case v68 => rw [lds_v68]; exact fun r w => (b9 m c t r w).trans (Q.bx r w)
  case v70 => rw [lds_v70]; exact fun r w => (b10 m c t r w).trans (Q.lam r w)
  case v152 => rw [lds_v152]; exact ld_gate m c t Q
  case v150 => rw [lds_v150]; exact fun r w => (b2 m c t r w).trans (Q.hs _ _)
  case v171 => rw [lds_v171]; exact fun r w => (b11 m c t r w).trans (Q.dO _ _)
  case v194 => rw [lds_v194]; exact ha
  case v290 =>
    rw [lds_i, lds_v290]
    by_cases h : t.val = 15
    · exact .inl (hl h)
    · exact .inr ⟨(hn h).2.1, (hn h).2.2, ld_prev m c t Q (hn h).1⟩
  case v402 => rw [lds_v402]; exact hb
  case v404 => rw [lds_v404, lds_v7]
  case v405 => rw [lds_i, lds_v405, lds_v4]

end Blocks

end Cert.LruBwdIdeal.Value

end
-- ==== Proof.LruHost.lean ====
module

public import proofs.«01_k».proof.Proof.LruPoint
public import proofs.«01_k».proof.Proof.Gen.LruBwdRefIdeal.Run
public import Idealize.ShloMosaic.Lib.StableHlo.ReadAt

@[expose] public section

set_option maxRecDepth 16384
set_option maxHeartbeats 1000000

noncomputable section

/-! What the kernel program's host lines leave for the call: the state by the reference's own lines, and four rows. -/
namespace Cert.LruBwdIdeal.Value

open Idealize.ShloMosaic Idealize.ShloMosaic.TcCoe
open Cert.LruBwdIdeal Cert.LruBwdIdeal.Gen Cert.Lru

variable {m : (ℓ : Loc nD τ sig) → Buf (Elt Ideal) ℓ} {c : Dev nD}

theorem host_v88 : CB m c = broadcastInDim S1x384 ![1] bcast_S384_S1x384_1 (m ((c : Thread nD τ).loc main_arg2)) := by
  simp only [CB, V, hostOps0, hostOps0_1, hostOps0_2, hostOps0_3, hostOps0_4, hostOps0_5, hostOps0_6, List.flatten_cons, List.flatten_nil, List.cons_append, List.nil_append, List.append_nil, StableHlo.TRef.nullary, StableHlo.TRef.ternary, StableHlo.TRef.binary, StableHlo.TRef.unary, StableHlo.TRef.toBuf, StableHlo.TRef.ofBuf, cast_eq]
  after_reads_simp

theorem host_v89 : BA m c = broadcastInDim S1x384 ![1] bcast_S384_S1x384_1 (m ((c : Thread nD τ).loc main_arg4)) := by
  simp only [BA, V, hostOps0, hostOps0_1, hostOps0_2, hostOps0_3, hostOps0_4, hostOps0_5, hostOps0_6, List.flatten_cons, List.flatten_nil, List.cons_append, List.nil_append, List.append_nil, StableHlo.TRef.nullary, StableHlo.TRef.ternary, StableHlo.TRef.binary, StableHlo.TRef.unary, StableHlo.TRef.toBuf, StableHlo.TRef.ofBuf, cast_eq]
  after_reads_simp

theorem host_v90 : BX m c = broadcastInDim S1x384 ![1] bcast_S384_S1x384_1 (m ((c : Thread nD τ).loc main_arg6)) := by
  simp only [BX, V, hostOps0, hostOps0_1, hostOps0_2, hostOps0_3, hostOps0_4, hostOps0_5, hostOps0_6, List.flatten_cons, List.flatten_nil, List.cons_append, List.nil_append, List.append_nil, StableHlo.TRef.nullary, StableHlo.TRef.ternary, StableHlo.TRef.binary, StableHlo.TRef.unary, StableHlo.TRef.toBuf, StableHlo.TRef.ofBuf, cast_eq]
  after_reads_simp

theorem host_v91 : LM m c = broadcastInDim S1x384 ![1] bcast_S384_S1x384_1 (m ((c : Thread nD τ).loc main_arg7)) := by
  simp only [LM, V, hostOps0, hostOps0_1, hostOps0_2, hostOps0_3, hostOps0_4, hostOps0_5, hostOps0_6, List.flatten_cons, List.flatten_nil, List.cons_append, List.nil_append, List.append_nil, StableHlo.TRef.nullary, StableHlo.TRef.ternary, StableHlo.TRef.binary, StableHlo.TRef.unary, StableHlo.TRef.toBuf, StableHlo.TRef.ofBuf, cast_eq]
  after_reads_simp

/-- The three rows of zeros before the input. -/
def cat (a : FVec Ideal S3x384 .f32) (b : FVec Ideal S8192x384 .f32) : FVec Ideal S8195x384 .f32 :=
  concatenate S8195x384 0 [⟨S3x384, a⟩, ⟨S8192x384, b⟩] concatenates_S3x384_S8192x384_S8195x384_d0
theorem cat_eq : (fun (a : FVec Ideal S3x384 .f32) (b : FVec Ideal S8192x384 .f32) =>
    concatenate S8195x384 0 [⟨S3x384, a⟩, ⟨S8192x384, b⟩] concatenates_S3x384_S8192x384_S8195x384_d0) = cat := rfl

/-- The state that the host lines compute is the reference's. -/
theorem host_v87 {V0 : Valuation Cert.LruBwdRefIdeal.τ Cert.LruBwdRefIdeal.sig (Elt Ideal)}
    (h0 : V0 (Proc.devRef .tc Cert.LruBwdRefIdeal.main_arg0) = m ((c : Thread nD τ).loc main_arg0))
    (h1 : V0 (Proc.devRef .tc Cert.LruBwdRefIdeal.main_arg1) = m ((c : Thread nD τ).loc main_arg1))
    (h2 : V0 (Proc.devRef .tc Cert.LruBwdRefIdeal.main_arg2) = m ((c : Thread nD τ).loc main_arg2))
    (h3 : V0 (Proc.devRef .tc Cert.LruBwdRefIdeal.main_arg3) = m ((c : Thread nD τ).loc main_arg3))
    (h4 : V0 (Proc.devRef .tc Cert.LruBwdRefIdeal.main_arg4) = m ((c : Thread nD τ).loc main_arg4))
    (h5 : V0 (Proc.devRef .tc Cert.LruBwdRefIdeal.main_arg5) = m ((c : Thread nD τ).loc main_arg5))
    (h6 : V0 (Proc.devRef .tc Cert.LruBwdRefIdeal.main_arg6) = m ((c : Thread nD τ).loc main_arg6))
    (h7 : V0 (Proc.devRef .tc Cert.LruBwdRefIdeal.main_arg7) = m ((c : Thread nD τ).loc main_arg7))
    : HS m c = Cert.LruBwdRefIdeal.Value.res_main_v97 V0 := by
  simp only [HS, cat_eq, V, hostOps0, hostOps0_1, hostOps0_2, hostOps0_3, hostOps0_4, hostOps0_5, hostOps0_6, List.flatten_cons, List.flatten_nil, List.cons_append, List.nil_append, List.append_nil, StableHlo.TRef.nullary, StableHlo.TRef.ternary, StableHlo.TRef.binary, StableHlo.TRef.unary, StableHlo.TRef.toBuf, StableHlo.TRef.ofBuf, cast_eq]
  after_reads_simp
  rw [← h0, ← h1, ← h2, ← h3, ← h4, ← h5, ← h6, ← h7]
  exact rfl

end Cert.LruBwdIdeal.Value
-- ==== Proof.LruRef.lean ====
module

public import proofs.«01_k».proof.Proof.LruPay
public import proofs.«01_k».proof.Proof.Gen.LruBwdRefIdeal.Run

@[expose] public section

set_option maxRecDepth 16384

noncomputable section

/-! The reference's arrays as the real functions of `Cert.Lru`. -/
namespace Cert.LruBwdRefIdeal.Value

open Idealize.ShloMosaic Idealize.ShloMosaic.TcCoe
open Cert.LruBwdRefIdeal Cert.LruBwdRefIdeal.Gen Cert.Lru
open Cert.LruBwdIdeal.Value (Is Row Mat)

variable (V0 : Valuation τ sig (Elt Ideal))

/-- The reference's arguments. -/
abbrev A0 : FVec Ideal S8192x768 .f32 := V0 (Proc.devRef .tc main_arg0)
@[inherit_doc A0] abbrev A1 : FVec Ideal S4x384 .f32 := V0 (Proc.devRef .tc main_arg1)
@[inherit_doc A0] abbrev A2 : FVec Ideal S384 .f32 := V0 (Proc.devRef .tc main_arg2)
@[inherit_doc A0] abbrev A3 : FVec Ideal S384x384 .f32 := V0 (Proc.devRef .tc main_arg3)
@[inherit_doc A0] abbrev A4 : FVec Ideal S384 .f32 := V0 (Proc.devRef .tc main_arg4)
@[inherit_doc A0] abbrev A5 : FVec Ideal S384x384 .f32 := V0 (Proc.devRef .tc main_arg5)
@[inherit_doc A0] abbrev A6 : FVec Ideal S384 .f32 := V0 (Proc.devRef .tc main_arg6)
@[inherit_doc A0] abbrev A7 : FVec Ideal S384 .f32 := V0 (Proc.devRef .tc main_arg7)
@[inherit_doc A0] abbrev A8 : FVec Ideal S8192x384 .f32 := V0 (Proc.devRef .tc main_arg8)

/-- The reference's arguments are the real ones. -/
structure HasR (P : Args) : Prop where
  c1 : P.c1 = k1
  c2 : P.c2 = k2
  ln : ∀ w, P.lam w ≠ 0
  x : ∀ (t : Fin 8192) (w : Fin 384), A0 V0 (ix2 t ⟨w.val, by omega⟩) = ((P.x t.val w : ℝ) : EReal)
  gate : ∀ (t : Fin 8192) (w : Fin 384), A0 V0 (ix2 t ⟨384 + w.val, by omega⟩) = ((P.gate t.val w : ℝ) : EReal)
  cw : Mat (A1 V0) P.cw
  cb : ∀ w, A2 V0 (ix1 w) = ((P.cb w : ℝ) : EReal)
  wa : Mat (A3 V0) P.wa
  ba : ∀ w, A4 V0 (ix1 w) = ((P.ba w : ℝ) : EReal)
  wx : Mat (A5 V0) P.wx
  bx : ∀ w, A6 V0 (ix1 w) = ((P.bx w : ℝ) : EReal)
  lam : ∀ w, A7 V0 (ix1 w) = ((P.lam w : ℝ) : EReal)
  dO : Is (A8 V0) P.dO

variable {V0} {P : Args}

/-- The mask of the rows that are not after a row. -/
theorem sel_ge {α : Type} (r x : Fin 8192) (a b : α) :
    Scalar.select (IntOp.cmpi .sge (BitVec.ofNat 32 r.val) (BitVec.ofNat 32 x.val)) a b = if x.val ≤ r.val then a else b :=
  Cert.LruBwdIdeal.Value.sel_sge r.val x.val (by omega) (by omega) a b

theorem zero_at : (id (constant (F := Ideal) S_ .f32 0x00000000#32) : FVec Ideal S_ .f32) ix0 = ((0 : ℝ) : EReal) := bits_zero

theorem pad_pick (P : Args) (n k : ℕ) (a : ℝ) (w : Fin 384) :
    (if k ≤ n ∧ n - k < 8192 then a * P.dxc (n - k) w else 0) = a * (if k ≤ n then P.dxc (n - k) w else 0) := by
  by_cases h : k ≤ n
  · by_cases h' : n - k < 8192
    · rw [if_pos ⟨h, h'⟩, if_pos h]
    · rw [if_neg (fun e => h' e.2), if_pos h, Args.dxc, if_neg h', mul_zero]
  · rw [if_neg (fun e => h e.1), if_neg h, mul_zero]

/-- The convolution's input. -/
theorem r2 (Q : HasR V0 P) : Is (n := 8195) (φ := .f32) (res_main_v2 V0) P.xp := by
  intro r w
  pointwise [res_main_v2]
  rw [← EReal.coe_zero]
  split
  · rename_i h; rw [Args.xp, if_pos h]
  · rename_i h; rw [Args.xp, if_neg h]; exact Q.x ⟨r.val - 3, by omega⟩ w

theorem r6 (Q : HasR V0 P) : Is (n := 8192) (φ := .f32) (res_main_v6 V0) (fun t w => P.xp (t + 0) w) := by
  intro r w
  pointwise [res_main_v6]
  refine (r2 Q _ w).trans ?_
  congr 2

theorem r14 (Q : HasR V0 P) : Is (n := 8192) (φ := .f32) (res_main_v14 V0) (fun t w => P.xp (t + 1) w) := by
  intro r w
  pointwise [res_main_v14]
  refine (r2 Q _ w).trans ?_
  congr 2; exact Nat.add_comm _ _

theorem r21 (Q : HasR V0 P) : Is (n := 8192) (φ := .f32) (res_main_v21 V0) (fun t w => P.xp (t + 2) w) := by
  intro r w
  pointwise [res_main_v21]
  refine (r2 Q _ w).trans ?_
  congr 2; exact Nat.add_comm _ _

theorem r28 (Q : HasR V0 P) : Is (n := 8192) (φ := .f32) (res_main_v28 V0) (fun t w => P.xp (t + 3) w) := by
  intro r w
  pointwise [res_main_v28]
  refine (r2 Q _ w).trans ?_
  congr 2; exact Nat.add_comm _ _

theorem r7 (Q : HasR V0 P) : Row (n := 1) (φ := .f32) (res_main_v7 V0) (P.cw 0) := by
  intro r w
  pointwise [res_main_v7]
  exact Q.cw _ w

theorem r15 (Q : HasR V0 P) : Row (n := 1) (φ := .f32) (res_main_v15 V0) (P.cw 1) := by
  intro r w
  pointwise [res_main_v15]
  exact Q.cw _ w

theorem r22 (Q : HasR V0 P) : Row (n := 1) (φ := .f32) (res_main_v22 V0) (P.cw 2) := by
  intro r w
  pointwise [res_main_v22]
  exact Q.cw _ w

theorem r29 (Q : HasR V0 P) : Row (n := 1) (φ := .f32) (res_main_v29 V0) (P.cw 3) := by
  intro r w
  pointwise [res_main_v29]
  exact Q.cw _ w

/-- The convolution. -/
theorem r35 (Q : HasR V0 P) : Is (n := 8192) (φ := .f32) (res_main_v35 V0) P.xc := by
  intro r w
  pointwise [res_main_v35]
  simp only [r6 Q _ _, r7 Q _ _, r14 Q _ _, r15 Q _ _, r21 Q _ _, r22 Q _ _, r28 Q _ _, r29 Q _ _, Q.cb _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rfl

/-- The recurrence gate. -/
theorem r45 (Q : HasR V0 P) : Is (n := 8192) (φ := .f32) (res_main_v45 V0) P.ra := by
  intro r w
  pointwise [res_main_v45]
  simp only [r35 Q _ _, Q.wa _ _, Q.ba _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rw [div_real (Cert.LruBwdIdeal.Value.one_exp _), one_mul]; rfl

/-- The input gate. -/
theorem r58 (Q : HasR V0 P) : Is (n := 8192) (φ := .f32) (res_main_v58 V0) P.ia := by
  intro r w
  pointwise [res_main_v58]
  simp only [r35 Q _ _, Q.wx _ _, Q.bx _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rw [div_real (Cert.LruBwdIdeal.Value.one_exp _), one_mul]; rfl

theorem r63 (Q : HasR V0 P) : Is (n := 8192) (φ := .f32) (res_main_v63 V0) (fun t w => 8 * P.ra t w) := by
  intro r w
  pointwise [res_main_v63]
  simp only [r45 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]

/-- The soft maximum of `-lam` with zero. -/
theorem rsoft (Q : HasR V0 P) (w : Fin 384) : (res_main_call0_v1_0 V0 : FVec Ideal S384 .f32) (ix1 w) = ((Real.log (1 + Real.exp (-P.lam w)) : ℝ) : EReal) := by
  pointwise [res_main_call0_v1_0, res_main_call0_call0_v3, res_main_call0_v0, res_main_call0_call0_cst]
  rw [if_neg (fun h => h rfl)]
  simp only [Q.lam _, Ideal.log1p, abs_real, max_real, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rw [log_real (by positivity), ← EReal.coe_add, Cert.LruBwdIdeal.Value.softplus]

theorem r65 (Q : HasR V0 P) : Row (n := 1) (φ := .f32) (res_main_v65 V0) P.sp := by
  intro r w
  pointwise [res_main_v65]
  simp only [rsoft Q _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rfl

/-- The log-gate. -/
theorem r67 (Q : HasR V0 P) : Is (n := 8192) (φ := .f32) (res_main_v67 V0) P.la := by
  intro r w
  pointwise [res_main_v67]
  simp only [r63 Q _ _, r65 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rfl

theorem r69 (Q : HasR V0 P) : Is (n := 8192) (φ := .f32) (res_main_v69 V0) (fun t w => 2 * P.la t w) := by
  intro r w
  pointwise [res_main_v69]
  simp only [r67 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]

/-- The input's scale. -/
theorem r73 (Q : HasR V0 P) : Is (n := 8192) (φ := .f32) (res_main_v73 V0) P.sq := by
  intro r w
  pointwise [res_main_v73]
  simp only [r69 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  have h := P.ee_lt r.val w
  rw [Args.ee] at h
  rw [sqrt_real (by linarith), neg_sub]; rfl

theorem r76 (Q : HasR V0 P) : Is (n := 8192) (φ := .f32) (res_main_v76 V0) (fun t w => P.ia t w * P.xc t w) := by
  intro r w
  pointwise [res_main_v76]
  simp only [r58 Q _ _, r35 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]

theorem r94 (Q : HasR V0 P) (z : Fin 1) (s : Fin 8192) (w : Fin 384) : (res_main_v94 V0 : FVec Ideal S1x8192x384 .f32) (ix3 z s w) = ((P.b s.val w : ℝ) : EReal) := by
  pointwise [res_main_v94]
  simp only [r73 Q _ _, r76 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rfl

/-- The sums of the log-gates. -/
theorem r86 (Q : HasR V0 P) : Is (n := 8192) (φ := .f32) (res_main_v86 V0) (fun t w => Ls (fun t => P.la t w) t) := by
  intro r w
  pointwise [res_main_v86, res_main_v85_1, res_main_v84, res_main_v78]
  simp only [r67 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  exact congrArg _ (Ls_fin (fun t => P.la t w) 8192 r.val r.isLt)

theorem r92 (Q : HasR V0 P) (t s : Fin 8192) (w : Fin 384) : (res_main_v92 V0 : FVec Ideal S8192x8192x384 .f32) (ix3 t s w) = ((Real.exp (Ls (fun t => P.la t w) t.val - Ls (fun t => P.la t w) s.val) : ℝ) : EReal) := by
  pointwise [res_main_v92]
  simp only [r86 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]

theorem r93 (Q : HasR V0 P) (t s : Fin 8192) (w : Fin 384) : (res_main_v93_0 V0 : FVec Ideal S8192x8192x384 .f32) (ix3 t s w) = ((if s.val ≤ t.val then Real.exp (Ls (fun t => P.la t w) t.val - Ls (fun t => P.la t w) s.val) else 0 : ℝ) : EReal) := by
  pointwise [res_main_v93_0, res_main_v93_1, res_main_v84, res_main_v78]
  simp only [r92 Q _ _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  exact coe_ite _ _

/-- The state. -/
theorem r97 (Q : HasR V0 P) : Is (n := 8192) (φ := .f32) (res_main_v97 V0) P.h := by
  intro r w
  pointwise [res_main_v97]
  simp only [r93 Q _ _ _, r94 Q _ _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  exact congrArg _ (Hs_fin (fun t => P.la t w) (fun t => P.b t w) 8192 r.val r.isLt)

theorem r98 (Q : HasR V0 P) : Is (n := 8192) (φ := .f32) (res_main_v98 V0) P.gate := by
  intro r w
  pointwise [res_main_v98]
  exact Q.gate r w

/-- The hyperbolic tangent of the gelu. -/
theorem r109 (Q : HasR V0 P) : Is (n := 8192) (φ := .f32) (res_main_v109 V0) P.th := by
  intro r w
  pointwise [res_main_v109]
  simp only [r98 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rw [Args.th, Q.c1, Q.c2]

theorem r118 (Q : HasR V0 P) : Is (n := 8192) (φ := .f32) (res_main_v118 V0) (fun t w => 2⁻¹ * (1 + P.th t w)) := by
  intro r w
  pointwise [res_main_v118]
  simp only [r109 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]

theorem r119 (Q : HasR V0 P) : Is (n := 8192) (φ := .f32) (res_main_v119 V0) P.gel := by
  intro r w
  pointwise [res_main_v119]
  simp only [r98 Q _ _, r118 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rfl

theorem r121 (Q : HasR V0 P) : Is (n := 8192) (φ := .f32) (res_main_v121 V0) (fun t w => P.h t w * P.dO t w) := by
  intro r w
  pointwise [res_main_v121]
  simp only [r97 Q _ _, Q.dO _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]

theorem r129 (Q : HasR V0 P) : Is (n := 8192) (φ := .f32) (res_main_v129 V0) (fun t w => P.c2 * (2⁻¹ * (P.gate t w * (P.h t w * P.dO t w)) * ((1 + P.th t w) * (1 - P.th t w)))) := by
  intro r w
  pointwise [res_main_v129]
  simp only [r98 Q _ _, r121 Q _ _, r109 Q _ _, Q.c2, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]

theorem r136 (Q : HasR V0 P) (t s : Fin 8192) (w : Fin 384) : (res_main_v136 V0 : FVec Ideal S8192x8192x384 .f32) (ix3 t s w) = ((P.dh t.val w : ℝ) : EReal) := by
  pointwise [res_main_v136]
  simp only [r119 Q _ _, Q.dO _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rfl

/-- The gradient of the state. -/
theorem r142 (Q : HasR V0 P) : Is (n := 8192) (φ := .f32) (res_main_v142 V0) P.g := by
  intro r w
  pointwise [res_main_v142]
  simp only [r93 Q _ _ _, r136 Q _ _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  exact congrArg _ (Gs_fin (fun t => P.la t w) (fun t => P.dh t w) 8192 r.val)

theorem r144 (Q : HasR V0 P) (t s : Fin 8192) (w : Fin 384) : (res_main_v144 V0 : FVec Ideal S8192x8192x384 .f32) (ix3 t s w) = (((if s.val ≤ t.val then P.dh t.val w * P.b s.val w else 0) * Real.exp (Ls (fun t => P.la t w) t.val - Ls (fun t => P.la t w) s.val) : ℝ) : EReal) := by
  pointwise [res_main_v144, res_main_v93_1, res_main_v84, res_main_v78]
  simp only [r92 Q _ _ _, r94 Q _ _ _, r136 Q _ _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rw [ite_mul, zero_mul]

theorem r155 (Q : HasR V0 P) : Is (n := 8192) (φ := .f32) (res_main_v155 V0) (fun t w => P.sq t w * P.g t w) := by
  intro r w
  pointwise [res_main_v155]
  simp only [r73 Q _ _, r142 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]

/-- The gradient of the log-gate. -/
theorem r164 (Q : HasR V0 P) : Is (n := 8192) (φ := .f32) (res_main_v164 V0) P.dla := by
  intro r w
  pointwise [res_main_v164, res_main_v85_1, res_main_v84, res_main_v78]
  simp only [r144 Q _ _ _, r142 Q _ _, r76 Q _ _, r73 Q _ _, r69 Q _ _, div_real (P.sq_pos _ _).ne', sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  have col : ∀ s : Fin 8192, ∑ t : Fin 8192, (if s.val ≤ t.val then P.dh t.val w * P.b s.val w else 0) * Real.exp (Ls (fun t => P.la t w) t.val - Ls (fun t => P.la t w) s.val) =
      P.b s.val w * P.g s.val w := fun s => col_fin (fun t => P.la t w) (fun t => P.b t w) (fun t => P.dh t w) 8192 s.val
  have row : ∀ t : Fin 8192, ∑ s : Fin 8192, (if s.val ≤ t.val then P.dh t.val w * P.b s.val w else 0) * Real.exp (Ls (fun t => P.la t w) t.val - Ls (fun t => P.la t w) s.val) =
      P.dh t.val w * P.h t.val w := fun t => row_fin (fun t => P.la t w) (fun t => P.b t w) (fun t => P.dh t w) 8192 t.val t.isLt
  have all : ∑ t : Fin 8192, (if r.val ≤ t.val then -(P.b t.val w * P.g t.val w) + P.dh t.val w * P.h t.val w else 0) =
      Real.exp (P.la r.val w) * P.g r.val w * P.hp r.val w := dla_fin (fun t => P.la t w) (fun t => P.b t w) (fun t => P.dh t w) 8192 r.val r.isLt
  simp only [Finset.sum_neg_distrib, col, row, all]
  rw [Args.dla, Args.ee]
  congr 1; ring

theorem r174 (Q : HasR V0 P) : Is (n := 8192) (φ := .f32) (res_main_v174 V0) P.dzx := by
  intro r w
  pointwise [res_main_v174]
  simp only [r155 Q _ _, r35 Q _ _, r58 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rfl

theorem r182 (Q : HasR V0 P) : Is (n := 8192) (φ := .f32) (res_main_v182 V0) P.dza := by
  intro r w
  pointwise [res_main_v182]
  simp only [r164 Q _ _, r65 Q _ _, r45 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rfl

/-- The gradient of the convolution. -/
theorem r189 (Q : HasR V0 P) : Is (n := 8192) (φ := .f32) (res_main_v189 V0) P.dxc := by
  intro r w
  pointwise [res_main_v189]
  simp only [r58 Q _ _, r155 Q _ _, r174 Q _ _, r182 Q _ _, Q.wa _ _, Q.wx _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rw [Args.dxc, if_pos r.isLt]

theorem r231 (Q : HasR V0 P) : Is (n := 8195) (φ := .f32) (res_main_v231 V0) (fun t w => P.cw 3 w * (if 3 ≤ t then P.dxc (t - 3) w else 0) + P.cw 2 w * (if 2 ≤ t then P.dxc (t - 2) w else 0) +
      P.cw 1 w * (if 1 ≤ t then P.dxc (t - 1) w else 0) + P.cw 0 w * P.dxc t w) := by
  intro r w
  pointwise [res_main_v231]
  simp only [r29 Q _ _, r22 Q _ _, r15 Q _ _, r7 Q _ _, r189 Q _ _, dite_eq_ite, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  have h0 := pad_pick P r.val 0 (P.cw 0 w) w
  simp only [Nat.zero_le, true_and, Nat.sub_zero, if_true] at h0
  simp only [pad_pick, h0]

theorem s239 (Q : HasR V0 P) : (truncf .bf16 (addf (pad S8192x768 ![0, 384] ![0, 0] ![0, 0] (addf (addf (mulf (s := S8192x384) (φ := .f32) (res_main_v121 V0) (res_main_v118 V0)) (res_main_v129 V0)) (mulf (mulf (broadcastInDim S8192x384 ![] bcast_S_S8192x384 (constant S_ .f32 0x3D372713#32)) (res_main_v129 V0)) (mulf (broadcastInDim S8192x384 ![] bcast_S_S8192x384 (constant S_ .f32 0x40400000#32)) (mulf (res_main_v98 V0) (res_main_v98 V0))))) (constant S_ .f32 0x00000000#32) pads_S8192x384_S8192x768_000_38400 h_S_) (pad S8192x768 ![0, 0] ![0, 384] ![0, 0] (extractStridedSlice S8192x384 ![3, 0] (res_main_v231 V0) slices_S8195x384_S8192x384_3_0) (constant S_ .f32 0x00000000#32) pads_S8192x384_S8192x768_000_03840 h_S_)) bitsLt_bf16_f32) = fun j : (S8192x768 : Shape).Idx => ((P.dhl (j 0).val (j 1) : ℝ) : EReal) := by
  funext j
  idx_vars j
  pointwise []
  have e : ∀ w : Fin 384, P.dx j0.val w = P.cw 3 w * P.dxc (3 + j0.val - 3) w + P.cw 2 w * P.dxc (3 + j0.val - 2) w +
      P.cw 1 w * P.dxc (3 + j0.val - 1) w + P.cw 0 w * P.dxc (3 + j0.val) w := fun w => by
    rw [Args.dx, show 3 + j0.val - 3 = j0.val by omega, show 3 + j0.val - 2 = j0.val + 1 by omega,
      show 3 + j0.val - 1 = j0.val + 2 by omega, Nat.add_comm 3]
  by_cases h : j1.val < 384
  · rw [dif_neg (by omega), dif_pos h, zero_add]
    refine (r231 Q _ _).trans ?_
    dsimp only
    rw [if_pos (by omega), if_pos (by omega), if_pos (by omega), Args.dhl, dif_pos h, ← e]
  · rw [dif_neg h, dif_pos (by omega), add_zero]
    simp only [r121 Q _ _, r118 Q _ _, r129 Q _ _, r98 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
    rw [Args.dhl, dif_neg h, Args.dgate, Q.c1]
    congr 1; ring

theorem s234 (Q : HasR V0 P) : (addf (addf (addf (pad S4x384 ![3, 0] ![0, 0] ![0, 0] (broadcastInDim S1x384 ![1] bcast_S384_S1x384_1 (Host.reduceAdd (shapeCast S1x384 (Host.reduceAdd (mulf (res_main_v189 V0) (res_main_v28 V0)) (constant S_ .f32 0x00000000#32) reducesTo_S8192x384_S384_d0 h_S_) shapeCasts_S384_S1x384) (constant S_ .f32 0x00000000#32) reducesTo_S1x384_S384_d0 h_S_)) (constant S_ .f32 0x00000000#32) pads_S1x384_S4x384_300_000 h_S_) (pad S4x384 ![2, 0] ![1, 0] ![0, 0] (broadcastInDim S1x384 ![1] bcast_S384_S1x384_1 (Host.reduceAdd (shapeCast S1x384 (Host.reduceAdd (mulf (res_main_v189 V0) (res_main_v21 V0)) (constant S_ .f32 0x00000000#32) reducesTo_S8192x384_S384_d0 h_S_) shapeCasts_S384_S1x384) (constant S_ .f32 0x00000000#32) reducesTo_S1x384_S384_d0 h_S_)) (constant S_ .f32 0x00000000#32) pads_S1x384_S4x384_210_000 h_S_)) (pad S4x384 ![1, 0] ![2, 0] ![0, 0] (broadcastInDim S1x384 ![1] bcast_S384_S1x384_1 (Host.reduceAdd (shapeCast S1x384 (Host.reduceAdd (mulf (res_main_v189 V0) (res_main_v14 V0)) (constant S_ .f32 0x00000000#32) reducesTo_S8192x384_S384_d0 h_S_) shapeCasts_S384_S1x384) (constant S_ .f32 0x00000000#32) reducesTo_S1x384_S384_d0 h_S_)) (constant S_ .f32 0x00000000#32) pads_S1x384_S4x384_120_000 h_S_)) (pad S4x384 ![0, 0] ![3, 0] ![0, 0] (broadcastInDim S1x384 ![1] bcast_S384_S1x384_1 (Host.reduceAdd (shapeCast S1x384 (Host.reduceAdd (mulf (res_main_v189 V0) (res_main_v6 V0)) (constant S_ .f32 0x00000000#32) reducesTo_S8192x384_S384_d0 h_S_) shapeCasts_S384_S1x384) (constant S_ .f32 0x00000000#32) reducesTo_S1x384_S384_d0 h_S_)) (constant S_ .f32 0x00000000#32) pads_S1x384_S4x384_030_000 h_S_)) = fun j : (S4x384 : Shape).Idx => ((P.dcw (j 0) (j 1) : ℝ) : EReal) := by
  funext j
  idx_vars j
  pointwise []
  simp only [r189 Q _ _, r28 Q _ _, r21 Q _ _, r14 Q _ _, r6 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  fin_cases j0 <;> simp [Args.dcw]

theorem s240 (Q : HasR V0 P) : (broadcastInDim S1x384 ![1] bcast_S384_S1x384_1 (Host.reduceAdd (shapeCast S1x384 (Host.reduceAdd (res_main_v189 V0) (constant S_ .f32 0x00000000#32) reducesTo_S8192x384_S384_d0 h_S_) shapeCasts_S384_S1x384) (constant S_ .f32 0x00000000#32) reducesTo_S1x384_S384_d0 h_S_)) = fun j : (S1x384 : Shape).Idx => ((P.dcb (j 1) : ℝ) : EReal) := by
  funext j
  idx_vars j
  pointwise []
  simp only [r189 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rfl

theorem s241 (Q : HasR V0 P) : (broadcastInDim S1x384 ![1] bcast_S384_S1x384_1 (Host.reduceAdd (shapeCast S1x384 (Host.reduceAdd (res_main_v182 V0) (constant S_ .f32 0x00000000#32) reducesTo_S8192x384_S384_d0 h_S_) shapeCasts_S384_S1x384) (constant S_ .f32 0x00000000#32) reducesTo_S1x384_S384_d0 h_S_)) = fun j : (S1x384 : Shape).Idx => ((P.dba (j 1) : ℝ) : EReal) := by
  funext j
  idx_vars j
  pointwise []
  simp only [r182 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rfl

theorem s242 (Q : HasR V0 P) : (broadcastInDim S1x384 ![1] bcast_S384_S1x384_1 (Host.reduceAdd (shapeCast S1x384 (Host.reduceAdd (res_main_v174 V0) (constant S_ .f32 0x00000000#32) reducesTo_S8192x384_S384_d0 h_S_) shapeCasts_S384_S1x384) (constant S_ .f32 0x00000000#32) reducesTo_S1x384_S384_d0 h_S_)) = fun j : (S1x384 : Shape).Idx => ((P.dbx (j 1) : ℝ) : EReal) := by
  funext j
  idx_vars j
  pointwise []
  simp only [r174 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rfl

theorem s187 (Q : HasR V0 P) : (transpose S384x384 [1, 0] (Host.dotGeneral (F := Ideal) (φ₁ := .f32) (φ₂ := .f32) dot_S8192x384_S8192x384_S384x384_0_0_1_1_n_n none (res_main_v182 V0 : FVec Ideal S8192x384 .f32) (res_main_v35 V0 : FVec Ideal S8192x384 .f32)) transposes_S384x384_S384x384_1_0) = fun j : (S384x384 : Shape).Idx => ((P.dwa (j 0) (j 1) : ℝ) : EReal) := by
  funext j
  idx_vars j
  pointwise []
  simp only [r182 Q _ _, r35 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rfl

theorem s179 (Q : HasR V0 P) : (transpose S384x384 [1, 0] (Host.dotGeneral (F := Ideal) (φ₁ := .f32) (φ₂ := .f32) dot_S8192x384_S8192x384_S384x384_0_0_1_1_n_n none (res_main_v174 V0 : FVec Ideal S8192x384 .f32) (res_main_v35 V0 : FVec Ideal S8192x384 .f32)) transposes_S384x384_S384x384_1_0) = fun j : (S384x384 : Shape).Idx => ((P.dwx (j 0) (j 1) : ℝ) : EReal) := by
  funext j
  idx_vars j
  pointwise []
  simp only [r174 Q _ _, r35 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rfl

theorem s243 (Q : HasR V0 P) : (broadcastInDim S1x384 ![1] bcast_S384_S1x384_1 (Host.negf (mulf (Host.negf (Host.reduceAdd (shapeCast S1x384 (Host.reduceAdd (mulf (res_main_v63 V0) (res_main_v164 V0)) (constant S_ .f32 0x00000000#32) reducesTo_S8192x384_S384_d0 h_S_) shapeCasts_S384_S1x384) (constant S_ .f32 0x00000000#32) reducesTo_S1x384_S384_d0 h_S_)) (Host.exp (subf (select (cmpf .oeq (res_main_call0_v0 V0) (broadcastInDim S384 ![] bcast_S_S384 (constant S_ .f32 0x7F800000#32))) (broadcastInDim S384 ![] bcast_S_S384 (constant S_ .f32 0x00000000#32)) (res_main_call0_v0 V0)) (select (cmpf .oeq (res_main_call0_v1_0 V0) (broadcastInDim S384 ![] bcast_S_S384 (constant S_ .f32 0x7F800000#32))) (broadcastInDim S384 ![] bcast_S_S384 (constant S_ .f32 0x00000000#32)) (res_main_call0_v1_0 V0))))))) = fun j : (S1x384 : Shape).Idx => ((P.dlam (j 1) : ℝ) : EReal) := by
  funext j
  idx_vars j
  have h0 : (res_main_call0_v0 V0 : FVec Ideal S384 .f32) (ix1 j1) = ((-P.lam j1 : ℝ) : EReal) := by
    pointwise [res_main_call0_v0]
    simp only [Q.lam _, ← EReal.coe_neg]
  pointwise []
  rw [h0, rsoft Q, bits_top, if_neg (EReal.coe_ne_top _), if_neg (EReal.coe_ne_top _)]
  simp only [r63 Q _ _, r164 Q _ _, sel_ge, zero_at, coe_sum, coe_ite, Finset.univ_unique, Finset.sum_singleton, ← EReal.coe_zero, ← EReal.coe_one, ← EReal.coe_mul, ← EReal.coe_add, ← EReal.coe_sub, ← EReal.coe_neg, Ideal.exp_coe, Ideal.tanh_coe, bits_half, bits_two, bits_three, bits_eight, bits_k1, bits_k2]
  rw [Real.exp_sub, Real.exp_log (by positivity), Args.dlam, Args.dsp]
  congr 1; ring

--RESULTS
end Cert.LruBwdRefIdeal.Value
-- ==== Proof.LruPre.lean ====
module

public import proofs.«01_k».proof.Proof.LruHost
public import proofs.«01_k».proof.Proof.LruRef
public import proofs.«01_k».proof.Proof.Gen.Pre_finite_lru_args
public import Idealize.ShloMosaic.Lib.ReduceAll

@[expose] public section

set_option maxRecDepth 16384

noncomputable section

/-! From the precondition: the arguments are real numbers, and what the two programs start from are the same. -/
namespace Cert.LruBwdIdeal.Value

open Idealize.ShloMosaic Idealize.ShloMosaic.TcCoe
open Cert.LruBwdIdeal Cert.LruBwdIdeal.Gen Cert.Lru

theorem fin_of {x : EReal} (h : Ideal.cmp .olt (max x (-x)) (Ideal.ofBits .f32 0x7F800000#32) = 1#1) : x = ((x.toReal : ℝ) : EReal) := by
  rw [bits_top] at h
  have h' : max x (-x) < ⊤ := by
    by_contra hc
    simp [Ideal.cmp, hc] at h
  refine (EReal.coe_toReal ?_ ?_).symm
  · rintro rfl; simp at h'
  · rintro rfl; simp at h'

theorem ne_of {x : EReal} (h : Ideal.cmp .ogt (max x (-x)) (Ideal.ofBits .f32 0x00000000#32) = 1#1) : x ≠ 0 := by
  rintro rfl
  rw [bits_zero] at h
  simp [Ideal.cmp] at h

instance : Subsingleton Cert.Pre_finite_lru_args.S_.Idx := ⟨fun a b => funext fun i => i.elim0⟩

/-- What the precondition says of every entry. -/
theorem entries {a0 : FVec Ideal S8192x768 .f32} {a1 : FVec Ideal S4x384 .f32} {a2 : FVec Ideal S384 .f32} {a3 : FVec Ideal S384x384 .f32}
    {a4 : FVec Ideal S384 .f32} {a5 : FVec Ideal S384x384 .f32} {a6 a7 : FVec Ideal S384 .f32} {a8 : FVec Ideal S8192x384 .f32}
    (h : Cert.Pre_finite_lru_args.fn (F := Ideal) a0 a1 a2 a3 a4 a5 a6 a7 a8 = fun _ => 1#1) :
    (∀ i, a0 i = (((a0 i).toReal : ℝ) : EReal)) ∧ (∀ i, a1 i = (((a1 i).toReal : ℝ) : EReal)) ∧ (∀ i, a2 i = (((a2 i).toReal : ℝ) : EReal)) ∧
      (∀ i, a3 i = (((a3 i).toReal : ℝ) : EReal)) ∧ (∀ i, a4 i = (((a4 i).toReal : ℝ) : EReal)) ∧ (∀ i, a5 i = (((a5 i).toReal : ℝ) : EReal)) ∧
      (∀ i, a6 i = (((a6 i).toReal : ℝ) : EReal)) ∧ (∀ i, a7 i = (((a7 i).toReal : ℝ) : EReal)) ∧ (∀ i, a8 i = (((a8 i).toReal : ℝ) : EReal)) ∧
      ∀ i, a7 i ≠ 0 := by
  have e := congrFun h ix0
  dsimp only [Cert.Pre_finite_lru_args.fn, Cert.Pre_finite_lru_args.fn_part1, Cert.Pre_finite_lru_args.fn_part2] at e
  obtain ⟨e, en⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨e0, e8⟩ := IntOp.andi_eq_one.1 e
  exact ⟨fun i => fin_of (Host.reduce_andi_all _ _ _ _ _ e0 i), fun i => fin_of (Host.reduce_andi_all _ _ _ _ _ e1 i),
    fun i => fin_of (Host.reduce_andi_all _ _ _ _ _ e2 i), fun i => fin_of (Host.reduce_andi_all _ _ _ _ _ e3 i),
    fun i => fin_of (Host.reduce_andi_all _ _ _ _ _ e4 i), fun i => fin_of (Host.reduce_andi_all _ _ _ _ _ e5 i),
    fun i => fin_of (Host.reduce_andi_all _ _ _ _ _ e6 i), fun i => fin_of (Host.reduce_andi_all _ _ _ _ _ e7 i),
    fun i => fin_of (Host.reduce_andi_all _ _ _ _ _ e8 i), fun i => ne_of (Host.reduce_andi_all _ _ _ _ _ en i)⟩

variable (m : (ℓ : Loc nD τ sig) → Buf (Elt Ideal) ℓ) (c : Dev nD)

/-- The kernel's arguments. -/
abbrev M0 : FVec Ideal S8192x768 .f32 := m ((c : Thread nD τ).loc main_arg0)
@[inherit_doc M0] abbrev M1 : FVec Ideal S4x384 .f32 := m ((c : Thread nD τ).loc main_arg1)
@[inherit_doc M0] abbrev M2 : FVec Ideal S384 .f32 := m ((c : Thread nD τ).loc main_arg2)
@[inherit_doc M0] abbrev M3 : FVec Ideal S384x384 .f32 := m ((c : Thread nD τ).loc main_arg3)
@[inherit_doc M0] abbrev M4 : FVec Ideal S384 .f32 := m ((c : Thread nD τ).loc main_arg4)
@[inherit_doc M0] abbrev M5 : FVec Ideal S384x384 .f32 := m ((c : Thread nD τ).loc main_arg5)
@[inherit_doc M0] abbrev M6 : FVec Ideal S384 .f32 := m ((c : Thread nD τ).loc main_arg6)
@[inherit_doc M0] abbrev M7 : FVec Ideal S384 .f32 := m ((c : Thread nD τ).loc main_arg7)
@[inherit_doc M0] abbrev M8 : FVec Ideal S8192x384 .f32 := m ((c : Thread nD τ).loc main_arg8)

/-- The arguments as real numbers, and the gelu's two constants. -/
def args : Args where
  x t w := if h : t < 8192 then (M0 m c (ix2 ⟨t, h⟩ ⟨w.val, by omega⟩)).toReal else 0
  gate t w := if h : t < 8192 then (M0 m c (ix2 ⟨t, h⟩ ⟨384 + w.val, by omega⟩)).toReal else 0
  dO t w := if h : t < 8192 then (M8 m c (ix2 ⟨t, h⟩ w)).toReal else 0
  cw k w := (M1 m c (ix2 k w)).toReal
  cb w := (M2 m c (ix1 w)).toReal
  wa k w := (M3 m c (ix2 k w)).toReal
  ba w := (M4 m c (ix1 w)).toReal
  wx k w := (M5 m c (ix2 k w)).toReal
  bx w := (M6 m c (ix1 w)).toReal
  lam w := (M7 m c (ix1 w)).toReal
  c1 := k1
  c2 := k2

variable {m c}

/-- The reference starts from the real arguments. -/
theorem hasR {V0 : Valuation Cert.LruBwdRefIdeal.τ Cert.LruBwdRefIdeal.sig (Elt Ideal)}
    (h : Cert.Pre_finite_lru_args.fn (F := Ideal) (M0 m c) (M1 m c) (M2 m c) (M3 m c) (M4 m c) (M5 m c) (M6 m c) (M7 m c) (M8 m c) = fun _ => 1#1)
    (h0 : V0 (Proc.devRef .tc Cert.LruBwdRefIdeal.main_arg0) = M0 m c)
    (h1 : V0 (Proc.devRef .tc Cert.LruBwdRefIdeal.main_arg1) = M1 m c)
    (h2 : V0 (Proc.devRef .tc Cert.LruBwdRefIdeal.main_arg2) = M2 m c)
    (h3 : V0 (Proc.devRef .tc Cert.LruBwdRefIdeal.main_arg3) = M3 m c)
    (h4 : V0 (Proc.devRef .tc Cert.LruBwdRefIdeal.main_arg4) = M4 m c)
    (h5 : V0 (Proc.devRef .tc Cert.LruBwdRefIdeal.main_arg5) = M5 m c)
    (h6 : V0 (Proc.devRef .tc Cert.LruBwdRefIdeal.main_arg6) = M6 m c)
    (h7 : V0 (Proc.devRef .tc Cert.LruBwdRefIdeal.main_arg7) = M7 m c)
    (h8 : V0 (Proc.devRef .tc Cert.LruBwdRefIdeal.main_arg8) = M8 m c) :
    Cert.LruBwdRefIdeal.Value.HasR V0 (args m c) := by
  obtain ⟨e0, e1, e2, e3, e4, e5, e6, e7, e8, en⟩ := entries h
  constructor
  · rfl
  · rfl
  · intro w hw
    refine en (ix1 w) ?_
    rw [e7 (ix1 w), show (M7 m c (ix1 w)).toReal = 0 from hw, EReal.coe_zero]
  · intro t w
    rw [Cert.LruBwdRefIdeal.Value.A0, h0, args]
    dsimp only
    rw [dif_pos t.isLt]; exact e0 _
  · intro t w
    rw [Cert.LruBwdRefIdeal.Value.A0, h0, args]
    dsimp only
    rw [dif_pos t.isLt]; exact e0 _
  · intro k w; rw [Cert.LruBwdRefIdeal.Value.A1, h1]; exact e1 _
  · intro w; rw [Cert.LruBwdRefIdeal.Value.A2, h2]; exact e2 _
  · intro k w; rw [Cert.LruBwdRefIdeal.Value.A3, h3]; exact e3 _
  · intro w; rw [Cert.LruBwdRefIdeal.Value.A4, h4]; exact e4 _
  · intro k w; rw [Cert.LruBwdRefIdeal.Value.A5, h5]; exact e5 _
  · intro w; rw [Cert.LruBwdRefIdeal.Value.A6, h6]; exact e6 _
  · intro w; rw [Cert.LruBwdRefIdeal.Value.A7, h7]; exact e7 _
  · intro t w
    rw [Cert.LruBwdRefIdeal.Value.A8, h8, args]
    dsimp only
    rw [dif_pos t.isLt]; exact e8 _

/-- The kernel's call starts from them, and from the state that they give. -/
theorem has {V0 : Valuation Cert.LruBwdRefIdeal.τ Cert.LruBwdRefIdeal.sig (Elt Ideal)}
    (h0 : V0 (Proc.devRef .tc Cert.LruBwdRefIdeal.main_arg0) = M0 m c)
    (h1 : V0 (Proc.devRef .tc Cert.LruBwdRefIdeal.main_arg1) = M1 m c)
    (h2 : V0 (Proc.devRef .tc Cert.LruBwdRefIdeal.main_arg2) = M2 m c)
    (h3 : V0 (Proc.devRef .tc Cert.LruBwdRefIdeal.main_arg3) = M3 m c)
    (h4 : V0 (Proc.devRef .tc Cert.LruBwdRefIdeal.main_arg4) = M4 m c)
    (h5 : V0 (Proc.devRef .tc Cert.LruBwdRefIdeal.main_arg5) = M5 m c)
    (h6 : V0 (Proc.devRef .tc Cert.LruBwdRefIdeal.main_arg6) = M6 m c)
    (h7 : V0 (Proc.devRef .tc Cert.LruBwdRefIdeal.main_arg7) = M7 m c)
    (h8 : V0 (Proc.devRef .tc Cert.LruBwdRefIdeal.main_arg8) = M8 m c)
    {P : Args} (Q : Cert.LruBwdRefIdeal.Value.HasR V0 P) : Has m P c := by
  obtain ⟨c1, c2, ln, x, gate, cw, cb, wa, ba, wx, bx, lam, dO⟩ := id Q
  rw [Cert.LruBwdRefIdeal.Value.A0, h0] at x gate
  rw [Cert.LruBwdRefIdeal.Value.A1, h1] at cw
  rw [Cert.LruBwdRefIdeal.Value.A2, h2] at cb
  rw [Cert.LruBwdRefIdeal.Value.A3, h3] at wa
  rw [Cert.LruBwdRefIdeal.Value.A4, h4] at ba
  rw [Cert.LruBwdRefIdeal.Value.A5, h5] at wx
  rw [Cert.LruBwdRefIdeal.Value.A6, h6] at bx
  rw [Cert.LruBwdRefIdeal.Value.A7, h7] at lam
  rw [Cert.LruBwdRefIdeal.Value.A8, h8] at dO
  refine Has.mk c1 c2 ln ?_ ?_ ?_ ?_ ?_ ?_ ?_ ?_ ?_ ?_ ?_
  · rw [HL, V_main_arg0]; exact x
  · rw [HL, V_main_arg0]; exact gate
  · rw [host_v87 h0 h1 h2 h3 h4 h5 h6 h7]; exact Cert.LruBwdRefIdeal.Value.r97 Q
  · rw [CW, V_main_arg1]; exact cw
  · rw [host_v88]; intro z w; pointwise []; exact cb w
  · rw [WA, V_main_arg3]; exact wa
  · rw [host_v89]; intro z w; pointwise []; exact ba w
  · rw [WX, V_main_arg5]; exact wx
  · rw [host_v90]; intro z w; pointwise []; exact bx w
  · rw [host_v91]; intro z w; pointwise []; exact lam w
  · rw [DO, V_main_arg8]; exact dO

end Cert.LruBwdIdeal.Value
-- ==== Proof.LruLeave.lean ====
module

public import proofs.«01_k».proof.Proof.LruPoint

@[expose] public section

set_option maxRecDepth 16384
set_option pp.maxSteps 60

noncomputable section

/-! What a grid point leaves, by the payloads of its loads. -/
namespace Cert.LruBwdIdeal.Value

open Idealize.ShloMosaic Idealize.ShloMosaic.TcCoe Idealize.SL.Sem
open Cert.LruBwdIdeal Cert.LruBwdIdeal.Gen Cert.Lru

variable (m : (ℓ : Loc nD τ sig) → Buf (Elt Ideal) ℓ) (c : Dev nD) (t : Fin cfg0.N)

/-- What the block after this one left. -/
abbrev past : Left Ideal := outsAt0 m c (t.val - 1) (lt_of_le_of_lt (Nat.sub_le _ _) t.isLt)

/-- The loads of a point that has a block after it. -/
abbrev ldsB : Lds := lds m c t (View.ld (Val := Elt Ideal) (S := S8x384) (e' := .f32) (past m c t).2.2.2.2.2.2.2.2.1 (Rect.unit ![0, 0] ![1, 384] inb_S8x384_S1x384_0_0)) (past m c t).2.2.2.2.2.2.2.2.2

/-- The loads of the last block. -/
abbrev ldsA : Lds := lds m c t (View.ld (Val := Elt Ideal) (S := S8x384) (e' := .f32) (k0_pay3 (F := Ideal)) (Rect.unit ![0, 0] ![1, 384] inb_S8x384_S1x384_0_0)) (k0_pay4 (F := Ideal))

theorem dhl_B (h : ¬ t.val % 16 = 0) : (outsAt0 m c t.val t.isLt).1 =
    View.canon [⟨Rect.unit ![0, 384] ![512, 384] inb_S512x768_S512x384_0_384, k0_pay2 (F := Ideal) (ldsB m c t).v190⟩, ⟨Rect.unit ![0, 0] ![512, 384] inb_S512x768_S512x384_0_0, k0_pay1 (F := Ideal) (ldsB m c t).v476⟩] := by
  obtain ⟨L, hL⟩ : ∃ L, L = ldsB m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (past m c t).2.2.2.2.2.2.2.2.1 (Rect.unit ![0, 0] ![1, 384] inb_S8x384_S1x384_0_0) = L.v194 := by rw [hL, lds_v194]
  have h402 : (past m c t).2.2.2.2.2.2.2.2.2 = L.v402 := by rw [hL, lds_v402]
  clear hL
  rw [outsAt0_B m c t h]; unfold leftB; frame_out
  try rw [hv7]
  try rw [hv4]
  try rw [hv152]
  try rw [hv290]
  try rw [read_unread_whole, h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem dcw_B (h : ¬ t.val % 16 = 0) : (outsAt0 m c t.val t.isLt).2.1 =
    k0_pay106 (F := Ideal) (ldsB m c t).v375 (ldsB m c t).v404 (ldsB m c t).v405 (ldsB m c t).v435 (ldsB m c t).v456 (ldsB m c t).v457 (past m c t).2.1 := by
  obtain ⟨L, hL⟩ : ∃ L, L = ldsB m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (past m c t).2.2.2.2.2.2.2.2.1 (Rect.unit ![0, 0] ![1, 384] inb_S8x384_S1x384_0_0) = L.v194 := by rw [hL, lds_v194]
  have h402 : (past m c t).2.2.2.2.2.2.2.2.2 = L.v402 := by rw [hL, lds_v402]
  clear hL
  rw [outsAt0_B m c t h]; unfold leftB; frame_out
  try rw [hv7]
  try rw [hv4]
  try rw [hv152]
  try rw [hv290]
  try rw [read_unread_whole, h194]
  rw [ext_rows, ext_tail]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem dcb_B (h : ¬ t.val % 16 = 0) : (outsAt0 m c t.val t.isLt).2.2.1 =
    k0_pay96 (F := Ideal) (ldsB m c t).v375 (past m c t).2.2.1 := by
  obtain ⟨L, hL⟩ : ∃ L, L = ldsB m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (past m c t).2.2.2.2.2.2.2.2.1 (Rect.unit ![0, 0] ![1, 384] inb_S8x384_S1x384_0_0) = L.v194 := by rw [hL, lds_v194]
  have h402 : (past m c t).2.2.2.2.2.2.2.2.2 = L.v402 := by rw [hL, lds_v402]
  clear hL
  rw [outsAt0_B m c t h]; unfold leftB; frame_out
  try rw [hv7]
  try rw [hv4]
  try rw [hv152]
  try rw [hv290]
  try rw [read_unread_whole, h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem dwa_B (h : ¬ t.val % 16 = 0) : (outsAt0 m c t.val t.isLt).2.2.2.1 =
    k0_pay91 (F := Ideal) (ldsB m c t).v72 (ldsB m c t).v79 (ldsB m c t).v86 (ldsB m c t).v339 (past m c t).2.2.2.1 := by
  obtain ⟨L, hL⟩ : ∃ L, L = ldsB m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (past m c t).2.2.2.2.2.2.2.2.1 (Rect.unit ![0, 0] ![1, 384] inb_S8x384_S1x384_0_0) = L.v194 := by rw [hL, lds_v194]
  have h402 : (past m c t).2.2.2.2.2.2.2.2.2 = L.v402 := by rw [hL, lds_v402]
  clear hL
  rw [outsAt0_B m c t h]; unfold leftB; frame_out
  try rw [hv7]
  try rw [hv4]
  try rw [hv152]
  try rw [hv290]
  try rw [read_unread_whole, h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem dba_B (h : ¬ t.val % 16 = 0) : (outsAt0 m c t.val t.isLt).2.2.2.2.1 =
    k0_pay92 (F := Ideal) (ldsB m c t).v79 (ldsB m c t).v86 (ldsB m c t).v339 (past m c t).2.2.2.2.1 := by
  obtain ⟨L, hL⟩ : ∃ L, L = ldsB m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (past m c t).2.2.2.2.2.2.2.2.1 (Rect.unit ![0, 0] ![1, 384] inb_S8x384_S1x384_0_0) = L.v194 := by rw [hL, lds_v194]
  have h402 : (past m c t).2.2.2.2.2.2.2.2.2 = L.v402 := by rw [hL, lds_v402]
  clear hL
  rw [outsAt0_B m c t h]; unfold leftB; frame_out
  try rw [hv7]
  try rw [hv4]
  try rw [hv152]
  try rw [hv290]
  try rw [read_unread_whole, h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem dwx_B (h : ¬ t.val % 16 = 0) : (outsAt0 m c t.val t.isLt).2.2.2.2.2.1 =
    k0_pay93 (F := Ideal) (ldsB m c t).v355 (past m c t).2.2.2.2.2.1 := by
  obtain ⟨L, hL⟩ : ∃ L, L = ldsB m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (past m c t).2.2.2.2.2.2.2.2.1 (Rect.unit ![0, 0] ![1, 384] inb_S8x384_S1x384_0_0) = L.v194 := by rw [hL, lds_v194]
  have h402 : (past m c t).2.2.2.2.2.2.2.2.2 = L.v402 := by rw [hL, lds_v402]
  clear hL
  rw [outsAt0_B m c t h]; unfold leftB; frame_out
  try rw [hv7]
  try rw [hv4]
  try rw [hv152]
  try rw [hv290]
  try rw [read_unread_whole, h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem dbx_B (h : ¬ t.val % 16 = 0) : (outsAt0 m c t.val t.isLt).2.2.2.2.2.2.1 =
    k0_pay94 (F := Ideal) (ldsB m c t).v349 (past m c t).2.2.2.2.2.2.1 := by
  obtain ⟨L, hL⟩ : ∃ L, L = ldsB m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (past m c t).2.2.2.2.2.2.2.2.1 (Rect.unit ![0, 0] ![1, 384] inb_S8x384_S1x384_0_0) = L.v194 := by rw [hL, lds_v194]
  have h402 : (past m c t).2.2.2.2.2.2.2.2.2 = L.v402 := by rw [hL, lds_v402]
  clear hL
  rw [outsAt0_B m c t h]; unfold leftB; frame_out
  try rw [hv7]
  try rw [hv4]
  try rw [hv152]
  try rw [hv290]
  try rw [read_unread_whole, h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem dlam_B (h : ¬ t.val % 16 = 0) : (outsAt0 m c t.val t.isLt).2.2.2.2.2.2.2.1 =
    k0_pay95 (F := Ideal) (ldsB m c t).v337 (past m c t).2.2.2.2.2.2.2.1 := by
  obtain ⟨L, hL⟩ : ∃ L, L = ldsB m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (past m c t).2.2.2.2.2.2.2.2.1 (Rect.unit ![0, 0] ![1, 384] inb_S8x384_S1x384_0_0) = L.v194 := by rw [hL, lds_v194]
  have h402 : (past m c t).2.2.2.2.2.2.2.2.2 = L.v402 := by rw [hL, lds_v402]
  clear hL
  rw [outsAt0_B m c t h]; unfold leftB; frame_out
  try rw [hv7]
  try rw [hv4]
  try rw [hv152]
  try rw [hv290]
  try rw [read_unread_whole, h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem cg_B (h : ¬ t.val % 16 = 0) : (outsAt0 m c t.val t.isLt).2.2.2.2.2.2.2.2.1 =
    k0_pay76 (F := Ideal) (ldsB m c t).v131 rowNo (ldsB m c t).v245 (ldsB m c t).v248 (k0_pay73 rowNo) (ldsB m c t).v251 := by
  obtain ⟨L, hL⟩ : ∃ L, L = ldsB m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (past m c t).2.2.2.2.2.2.2.2.1 (Rect.unit ![0, 0] ![1, 384] inb_S8x384_S1x384_0_0) = L.v194 := by rw [hL, lds_v194]
  have h402 : (past m c t).2.2.2.2.2.2.2.2.2 = L.v402 := by rw [hL, lds_v402]
  clear hL
  rw [outsAt0_B m c t h]; unfold leftB; frame_out
  try rw [hv7]
  try rw [hv4]
  try rw [hv152]
  try rw [hv290]
  try rw [read_unread_whole, h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem cd_B (h : ¬ t.val % 16 = 0) : (outsAt0 m c t.val t.isLt).2.2.2.2.2.2.2.2.2 =
    k0_pay105 (F := Ideal) (ldsB m c t).v375 := by
  obtain ⟨L, hL⟩ : ∃ L, L = ldsB m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (past m c t).2.2.2.2.2.2.2.2.1 (Rect.unit ![0, 0] ![1, 384] inb_S8x384_S1x384_0_0) = L.v194 := by rw [hL, lds_v194]
  have h402 : (past m c t).2.2.2.2.2.2.2.2.2 = L.v402 := by rw [hL, lds_v402]
  clear hL
  rw [outsAt0_B m c t h]; unfold leftB; frame_out
  try rw [hv7]
  try rw [hv4]
  try rw [hv152]
  try rw [hv290]
  try rw [read_unread_whole, h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem dhl_A (h : t.val % 16 = 0) : (outsAt0 m c t.val t.isLt).1 =
    View.canon [⟨Rect.unit ![0, 384] ![512, 384] inb_S512x768_S512x384_0_384, k0_pay2 (F := Ideal) (ldsA m c t).v190⟩, ⟨Rect.unit ![0, 0] ![512, 384] inb_S512x768_S512x384_0_0, k0_pay1 (F := Ideal) (ldsA m c t).v476⟩] := by
  obtain ⟨L, hL⟩ : ∃ L, L = ldsA m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (k0_pay3 (F := Ideal)) (Rect.unit ![0, 0] ![1, 384] inb_S8x384_S1x384_0_0) = L.v194 := by rw [hL, lds_v194]
  have h402 : (k0_pay4 (F := Ideal)) = L.v402 := by rw [hL, lds_v402]
  clear hL
  rw [outsAt0_A m c t h]; unfold leftA; frame_out [View.readCov_fill]
  try rw [hv7]
  try rw [hv4]
  try rw [hv152]
  try rw [hv290]
  try rw [h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem dcw_A (h : t.val % 16 = 0) : (outsAt0 m c t.val t.isLt).2.1 =
    k0_pay106 (F := Ideal) (ldsA m c t).v375 (ldsA m c t).v404 (ldsA m c t).v405 (ldsA m c t).v435 (ldsA m c t).v456 (ldsA m c t).v457 (k0_pay5 (F := Ideal)) := by
  obtain ⟨L, hL⟩ : ∃ L, L = ldsA m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (k0_pay3 (F := Ideal)) (Rect.unit ![0, 0] ![1, 384] inb_S8x384_S1x384_0_0) = L.v194 := by rw [hL, lds_v194]
  have h402 : (k0_pay4 (F := Ideal)) = L.v402 := by rw [hL, lds_v402]
  clear hL
  rw [outsAt0_A m c t h]; unfold leftA; frame_out [View.readCov_fill]
  try rw [hv7]
  try rw [hv4]
  try rw [hv152]
  try rw [hv290]
  try rw [h194]
  rw [ext_rows, ext_tail]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem dcb_A (h : t.val % 16 = 0) : (outsAt0 m c t.val t.isLt).2.2.1 =
    k0_pay96 (F := Ideal) (ldsA m c t).v375 (k0_pay6 (F := Ideal)) := by
  obtain ⟨L, hL⟩ : ∃ L, L = ldsA m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (k0_pay3 (F := Ideal)) (Rect.unit ![0, 0] ![1, 384] inb_S8x384_S1x384_0_0) = L.v194 := by rw [hL, lds_v194]
  have h402 : (k0_pay4 (F := Ideal)) = L.v402 := by rw [hL, lds_v402]
  clear hL
  rw [outsAt0_A m c t h]; unfold leftA; frame_out [View.readCov_fill]
  try rw [hv7]
  try rw [hv4]
  try rw [hv152]
  try rw [hv290]
  try rw [h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem dwa_A (h : t.val % 16 = 0) : (outsAt0 m c t.val t.isLt).2.2.2.1 =
    k0_pay91 (F := Ideal) (ldsA m c t).v72 (ldsA m c t).v79 (ldsA m c t).v86 (ldsA m c t).v339 (k0_pay7 (F := Ideal)) := by
  obtain ⟨L, hL⟩ : ∃ L, L = ldsA m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (k0_pay3 (F := Ideal)) (Rect.unit ![0, 0] ![1, 384] inb_S8x384_S1x384_0_0) = L.v194 := by rw [hL, lds_v194]
  have h402 : (k0_pay4 (F := Ideal)) = L.v402 := by rw [hL, lds_v402]
  clear hL
  rw [outsAt0_A m c t h]; unfold leftA; frame_out [View.readCov_fill]
  try rw [hv7]
  try rw [hv4]
  try rw [hv152]
  try rw [hv290]
  try rw [h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem dba_A (h : t.val % 16 = 0) : (outsAt0 m c t.val t.isLt).2.2.2.2.1 =
    k0_pay92 (F := Ideal) (ldsA m c t).v79 (ldsA m c t).v86 (ldsA m c t).v339 (k0_pay8 (F := Ideal)) := by
  obtain ⟨L, hL⟩ : ∃ L, L = ldsA m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (k0_pay3 (F := Ideal)) (Rect.unit ![0, 0] ![1, 384] inb_S8x384_S1x384_0_0) = L.v194 := by rw [hL, lds_v194]
  have h402 : (k0_pay4 (F := Ideal)) = L.v402 := by rw [hL, lds_v402]
  clear hL
  rw [outsAt0_A m c t h]; unfold leftA; frame_out [View.readCov_fill]
  try rw [hv7]
  try rw [hv4]
  try rw [hv152]
  try rw [hv290]
  try rw [h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem dwx_A (h : t.val % 16 = 0) : (outsAt0 m c t.val t.isLt).2.2.2.2.2.1 =
    k0_pay93 (F := Ideal) (ldsA m c t).v355 (k0_pay9 (F := Ideal)) := by
  obtain ⟨L, hL⟩ : ∃ L, L = ldsA m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (k0_pay3 (F := Ideal)) (Rect.unit ![0, 0] ![1, 384] inb_S8x384_S1x384_0_0) = L.v194 := by rw [hL, lds_v194]
  have h402 : (k0_pay4 (F := Ideal)) = L.v402 := by rw [hL, lds_v402]
  clear hL
  rw [outsAt0_A m c t h]; unfold leftA; frame_out [View.readCov_fill]
  try rw [hv7]
  try rw [hv4]
  try rw [hv152]
  try rw [hv290]
  try rw [h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem dbx_A (h : t.val % 16 = 0) : (outsAt0 m c t.val t.isLt).2.2.2.2.2.2.1 =
    k0_pay94 (F := Ideal) (ldsA m c t).v349 (k0_pay10 (F := Ideal)) := by
  obtain ⟨L, hL⟩ : ∃ L, L = ldsA m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (k0_pay3 (F := Ideal)) (Rect.unit ![0, 0] ![1, 384] inb_S8x384_S1x384_0_0) = L.v194 := by rw [hL, lds_v194]
  have h402 : (k0_pay4 (F := Ideal)) = L.v402 := by rw [hL, lds_v402]
  clear hL
  rw [outsAt0_A m c t h]; unfold leftA; frame_out [View.readCov_fill]
  try rw [hv7]
  try rw [hv4]
  try rw [hv152]
  try rw [hv290]
  try rw [h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem dlam_A (h : t.val % 16 = 0) : (outsAt0 m c t.val t.isLt).2.2.2.2.2.2.2.1 =
    k0_pay95 (F := Ideal) (ldsA m c t).v337 (k0_pay11 (F := Ideal)) := by
  obtain ⟨L, hL⟩ : ∃ L, L = ldsA m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (k0_pay3 (F := Ideal)) (Rect.unit ![0, 0] ![1, 384] inb_S8x384_S1x384_0_0) = L.v194 := by rw [hL, lds_v194]
  have h402 : (k0_pay4 (F := Ideal)) = L.v402 := by rw [hL, lds_v402]
  clear hL
  rw [outsAt0_A m c t h]; unfold leftA; frame_out [View.readCov_fill]
  try rw [hv7]
  try rw [hv4]
  try rw [hv152]
  try rw [hv290]
  try rw [h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem cg_A (h : t.val % 16 = 0) : (outsAt0 m c t.val t.isLt).2.2.2.2.2.2.2.2.1 =
    k0_pay76 (F := Ideal) (ldsA m c t).v131 rowNo (ldsA m c t).v245 (ldsA m c t).v248 (k0_pay73 rowNo) (ldsA m c t).v251 := by
  obtain ⟨L, hL⟩ : ∃ L, L = ldsA m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (k0_pay3 (F := Ideal)) (Rect.unit ![0, 0] ![1, 384] inb_S8x384_S1x384_0_0) = L.v194 := by rw [hL, lds_v194]
  have h402 : (k0_pay4 (F := Ideal)) = L.v402 := by rw [hL, lds_v402]
  clear hL
  rw [outsAt0_A m c t h]; unfold leftA; frame_out [View.readCov_fill]
  try rw [hv7]
  try rw [hv4]
  try rw [hv152]
  try rw [hv290]
  try rw [h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

theorem cd_A (h : t.val % 16 = 0) : (outsAt0 m c t.val t.isLt).2.2.2.2.2.2.2.2.2 =
    k0_pay105 (F := Ideal) (ldsA m c t).v375 := by
  obtain ⟨L, hL⟩ : ∃ L, L = ldsA m c t := ⟨_, rfl⟩
  rw [← hL]
  have hi : grid0.coords t = L.i := by rw [hL, lds_i]
  have hv4 : View.ld (Val := Elt Ideal) (S := S8x768) (e' := .f32) (iblk m c 1 t) (Rect.unit ![0, 0] ![8, 384] inb_S8x768_S8x384_0_0) = L.v4 := by rw [hL, lds_v4]; rfl
  have hv7 : View.ld (Val := Elt Ideal) (S := S512x768) (e' := .f32) (iblk m c 0 t) (Rect.unit ![0, 0] ![512, 384] inb_S512x768_S512x384_0_0) = L.v7 := by rw [hL, lds_v7]; rfl
  have hv8 : iblk m c 4 t = L.v8 := by rw [hL, lds_v8]
  have hv60 : iblk m c 5 t = L.v60 := by rw [hL, lds_v60]
  have hv64 : iblk m c 6 t = L.v64 := by rw [hL, lds_v64]
  have hv65 : iblk m c 7 t = L.v65 := by rw [hL, lds_v65]
  have hv67 : iblk m c 8 t = L.v67 := by rw [hL, lds_v67]
  have hv68 : iblk m c 9 t = L.v68 := by rw [hL, lds_v68]
  have hv70 : iblk m c 10 t = L.v70 := by rw [hL, lds_v70]
  have hv152 : View.ld (Val := Elt Ideal) (S := S512x768) (e' := .f32) (iblk m c 0 t) (Rect.unit ![0, 384] ![512, 384] inb_S512x768_S512x384_0_384) = L.v152 := by rw [hL, lds_v152]; rfl
  have hv150 : iblk m c 2 t = L.v150 := by rw [hL, lds_v150]
  have hv171 : iblk m c 11 t = L.v171 := by rw [hL, lds_v171]
  have hv290 : View.ld (Val := Elt Ideal) (S := S8x384) (e' := .f32) (iblk m c 3 t) (Rect.unit ![7, 0] ![1, 384] inb_S8x384_S1x384_7_0) = L.v290 := by rw [hL, lds_v290]; rfl
  have h404 : L.v404 = L.v7 := by rw [hL, lds_v404, lds_v7]
  have h405 : L.v405 = k0_pay12 (F := Ideal) L.i L.v4 := by rw [hL, lds_v405, lds_i, lds_v4]
  have h194 : View.ld (Val := Elt Ideal) (S := S8x384) (e' := .f32) (k0_pay3 (F := Ideal)) (Rect.unit ![0, 0] ![1, 384] inb_S8x384_S1x384_0_0) = L.v194 := by rw [hL, lds_v194]
  have h402 : (k0_pay4 (F := Ideal)) = L.v402 := by rw [hL, lds_v402]
  clear hL
  rw [outsAt0_A m c t h]; unfold leftA; frame_out [View.readCov_fill]
  try rw [hv7]
  try rw [hv4]
  try rw [hv152]
  try rw [hv290]
  try rw [h194]
  simp only [read_unread_whole, Lds.v6, Lds.v31, Lds.v32, Lds.v63, Lds.v69, Lds.v71, Lds.v72, Lds.v73, Lds.v76, Lds.v79, Lds.v86, Lds.v87, Lds.v88, Lds.v94, Lds.v98, Lds.v101, Lds.v103, Lds.v105, Lds.v107, Lds.v116, Lds.v117, Lds.v119, Lds.v122, Lds.v124, Lds.v128, Lds.v131, Lds.v132, Lds.v137, Lds.v140, Lds.v142, Lds.v146, Lds.v148, Lds.v149, Lds.v151, Lds.v154, Lds.v156, Lds.v157, Lds.v162, Lds.v190, Lds.v197, Lds.v202, Lds.v206, Lds.v245, Lds.v248, Lds.v251, Lds.v281, Lds.v293, Lds.v303, Lds.v337, Lds.v339, Lds.v342, Lds.v349, Lds.v355, Lds.v375, Lds.v408, Lds.v409, Lds.v435, Lds.v449, Lds.v456, Lds.v457, Lds.v476, h404, h405, rowNo, hi, hv4, hv7, hv8, hv60, hv64, hv65, hv67, hv68, hv70, hv152, hv150, hv171, hv290, h194, h402]

end Cert.LruBwdIdeal.Value

end
-- ==== Proof.LruSteps.lean ====
module

public import proofs.«01_k».proof.Proof.LruLeave

@[expose] public section

set_option maxRecDepth 16384

noncomputable section

/-! The blocks in order: what each hands to the one before it, what their sums are, and what the arrays hold when all are done. -/
namespace Cert.LruBwdIdeal.Value

open Idealize.ShloMosaic Idealize.ShloMosaic.TcCoe Idealize.SL.Sem
open Cert.LruBwdIdeal Cert.LruBwdIdeal.Gen Cert.Lru

variable {m : (ℓ : Loc nD τ sig) → Buf (Elt Ideal) ℓ} {c : Dev nD} {P : Args}

/-- The sixteen blocks of 512 rows, last block first, are all the rows. -/
theorem blocks (F : ℕ → ℝ) : ∑ s : Fin cfg0.N, ((∑ r : Fin 512, F (512 * (15 - s.val) + r.val) : ℝ) : EReal) = ((∑ t : Fin 8192, F t.val : ℝ) : EReal) := by
  have h16 : ∀ f : ℕ → EReal, ∑ s : Fin cfg0.N, f s.val = ∑ s : Fin 16, f s.val := fun f => by
    rw [Finset.sum_fin_eq_sum_range, Finset.sum_fin_eq_sum_range, show cfg0.N = 16 from N_0]
  refine (h16 (fun s => ((∑ r : Fin 512, F (512 * (15 - s) + r.val) : ℝ) : EReal))).trans ?_
  rw [coe_sum]
  congr 1
  rw [← Equiv.sum_comp Fin.revPerm]
  refine Fin.sum_mul_add_congr (L := 8192) (S := 16) (n := 512) fun s k hl => ?_
  show F (512 * (15 - (Fin.rev s).val) + k.val) = F (s.val * 512 + k.val)
  congr 1
  rw [Fin.val_rev]
  omega

theorem zero3 (r : Fin 8) (w : Fin 384) : k0_pay3 (F := Ideal) (ix2 r w) = 0 := by pointwise [k0_pay3]
theorem zero4 (r : Fin 8) (w : Fin 384) : k0_pay4 (F := Ideal) (ix2 r w) = 0 := by pointwise [k0_pay4]
theorem zero5 (r : Fin 4) (w : Fin 384) : k0_pay5 (F := Ideal) (ix2 r w) = 0 := by pointwise [k0_pay5]
theorem zero6 (r : Fin 1) (w : Fin 384) : k0_pay6 (F := Ideal) (ix2 r w) = 0 := by pointwise [k0_pay6]
theorem zero7 (r : Fin 384) (w : Fin 384) : k0_pay7 (F := Ideal) (ix2 r w) = 0 := by pointwise [k0_pay7]
theorem zero8 (r : Fin 1) (w : Fin 384) : k0_pay8 (F := Ideal) (ix2 r w) = 0 := by pointwise [k0_pay8]
theorem zero9 (r : Fin 384) (w : Fin 384) : k0_pay9 (F := Ideal) (ix2 r w) = 0 := by pointwise [k0_pay9]
theorem zero10 (r : Fin 1) (w : Fin 384) : k0_pay10 (F := Ideal) (ix2 r w) = 0 := by pointwise [k0_pay10]
theorem zero11 (r : Fin 1) (w : Fin 384) : k0_pay11 (F := Ideal) (ix2 r w) = 0 := by pointwise [k0_pay11]

/-- The rows of `dhl` that a block leaves. -/
theorem tile {L : Lds} {R : ℕ} (H : L.At P R) (r : Fin 512) (w : Fin 768) :
    (View.canon ([⟨Rect.unit ![0, 384] ![512, 384] inb_S512x768_S512x384_0_384, k0_pay2 (F := Ideal) L.v190⟩, ⟨Rect.unit ![0, 0] ![512, 384] inb_S512x768_S512x384_0_0, k0_pay1 (F := Ideal) L.v476⟩] : List (View.Piece (Elt Ideal) S512x768 .bf16))) (ix2 r w) =
      ((P.dhl (R + r.val) w : ℝ) : EReal) := by
  unfold Args.dhl
  by_cases hw : w.val < 384
  · rw [dif_pos hw]
    rw [show ix2 r w = (Rect.unit (s := S512x768) ![0, 0] ![512, 384] inb_S512x768_S512x384_0_0).emb (ix2 r (⟨w.val, hw⟩ : Fin 384)) from by blk_ext]
    refine (View.canon_cons_of_not_mem _ _ ?_).trans ((View.canon_cons_emb _ _ _ _).trans ?_)
    · rw [Rect.mem_set_unit]
      intro h
      have h1 := (h 1).1
      simp at h1
      omega
    · have := H.w476 r ⟨w.val, hw⟩
      pointwise [k0_pay1]
      exact this
  · rw [dif_neg hw]
    rw [show ix2 r w = (Rect.unit (s := S512x768) ![0, 384] ![512, 384] inb_S512x768_S512x384_0_384).emb (ix2 r (⟨w.val - 384, by omega⟩ : Fin 384)) from by blk_ext]
    refine (View.canon_cons_emb _ _ _ _).trans ?_
    have := H.w190 r ⟨w.val - 384, by omega⟩
    pointwise [k0_pay2]
    exact this

variable (Q : Has m P c)
include Q

theorem at_A (t : Fin cfg0.N) (h : t.val % 16 = 0) : (ldsA m c t).At P (512 * (15 - t.val)) := by
  have ht : t.val = 0 := by have := lt16 t; omega
  refine lds_at Q (fun z w => ?_) (fun r w => ?_)
  · refine (View.ld_unit_apply_of (S := S8x384) (Val := Elt Ideal) (e := .f32) (k0_pay3 (F := Ideal)) ![0, 0] ![1, 384] inb_S8x384_S1x384_0_0 (ix2 z w) (ix2 0 w) (fun a => by fin_cases a <;> simp)).trans ?_
    rw [zero3, ht]
    show (0 : EReal) = ((Real.exp (P.la 8192 w) * P.g 8192 w : ℝ) : EReal)
    rw [P.g_end, mul_zero, EReal.coe_zero]
  · rw [zero4, ht]
    show (0 : EReal) = ((P.dxc (512 * 15 + 512 + r.val) w : ℝ) : EReal)
    rw [Args.dxc, if_neg (by omega), EReal.coe_zero]

/-- What a block hands to the one before it. -/
theorem handed : ∀ (n : ℕ) (h : n < cfg0.N), Is (φ := .f32) (outsAt0 m c n h).2.2.2.2.2.2.2.2.1 (fun _ w => Cg P (512 * (15 - n)) w) ∧
    Is (φ := .f32) (outsAt0 m c n h).2.2.2.2.2.2.2.2.2 (fun r w => P.dxc (512 * (15 - n) + r) w)
  | 0, h => by
    have H := at_A Q ⟨0, h⟩ rfl
    have e1 := cg_A m c ⟨0, h⟩ rfl
    have e2 := cd_A m c ⟨0, h⟩ rfl
    constructor
    · rw [e1]; exact H.carry
    · rw [e2]; exact H.head
  | n + 1, h => by
    obtain ⟨i1, i2⟩ := handed n (Nat.lt_of_succ_lt h)
    have h16 := lt16 ⟨n + 1, h⟩
    have hm : ¬ (n + 1) % 16 = 0 := by dsimp only at h16; omega
    have hR : 512 * (15 - (n + 1)) + 512 = 512 * (15 - n) := by dsimp only at h16; omega
    have H : (ldsB m c ⟨n + 1, h⟩).At P (512 * (15 - (n + 1))) := by
      refine lds_at Q (fun z w => ?_) (fun r w => ?_)
      · refine (View.ld_unit_apply_of (outsAt0 m c n (Nat.lt_of_succ_lt h)).2.2.2.2.2.2.2.2.1 ![0, 0] ![1, 384] inb_S8x384_S1x384_0_0 (ix2 z w) (ix2 0 w) (fun a => by fin_cases a <;> simp)).trans ?_
        rw [i1]
        show ((Cg P (512 * (15 - n)) w : ℝ) : EReal) = ((Cg P (512 * (15 - (n + 1)) + 512) w : ℝ) : EReal)
        rw [hR]
      · refine (i2 r w).trans ?_
        show ((P.dxc (512 * (15 - n) + r.val) w : ℝ) : EReal) = ((P.dxc (512 * (15 - (n + 1)) + 512 + r.val) w : ℝ) : EReal)
        rw [hR]
    have e1 := cg_B m c ⟨n + 1, h⟩ hm
    have e2 := cd_B m c ⟨n + 1, h⟩ hm
    constructor
    · rw [e1]; exact H.carry
    · rw [e2]; exact H.head

theorem at_B (t : Fin cfg0.N) (h : ¬ t.val % 16 = 0) : (ldsB m c t).At P (512 * (15 - t.val)) := by
  have h16 := lt16 t
  have h0 : t.val ≠ 0 := fun e => h (by rw [e])
  obtain ⟨i1, i2⟩ := handed Q (t.val - 1) (lt_of_le_of_lt (Nat.sub_le _ _) t.isLt)
  have hR : 512 * (15 - t.val) + 512 = 512 * (15 - (t.val - 1)) := by omega
  refine lds_at Q (fun z w => ?_) (fun r w => ?_)
  · refine (View.ld_unit_apply_of (past m c t).2.2.2.2.2.2.2.2.1 ![0, 0] ![1, 384] inb_S8x384_S1x384_0_0 (ix2 z w) (ix2 0 w) (fun a => by fin_cases a <;> simp)).trans ?_
    rw [i1, hR]
  · refine (i2 r w).trans ?_
    show ((P.dxc (512 * (15 - (t.val - 1)) + r.val) w : ℝ) : EReal) = ((P.dxc (512 * (15 - t.val) + 512 + r.val) w : ℝ) : EReal)
    rw [hR]

theorem dhl_point (t : Fin cfg0.N) (r : Fin 512) (w : Fin 768) : (outsAt0 m c t.val t.isLt).1 (ix2 r w) = ((P.dhl (512 * (15 - t.val) + r.val) w : ℝ) : EReal) := by
  by_cases h : t.val % 16 = 0
  · rw [dhl_A m c t h]; exact tile (at_A Q t h) r w
  · rw [dhl_B m c t h]; exact tile (at_B Q t h) r w

theorem dcw_acc (k : Fin 4) (w : Fin 384) : (outsAt0 m c t0_15.val t0_15.isLt).2.1 (ix2 k w) = ((P.dcw k w : ℝ) : EReal) := by
  rw [Pipeline.eq_sum_fin_of_reset_step_apply_last (ι := Fin 4 × Fin 384) (fun n h i => ((outsAt0 m c n h).2.1 (ix2 i.1 i.2) : EReal)) 16 (fun _ => 0)
    (fun t i => ((∑ r : Fin 512, (fun t => P.dxc t i.2 * P.xp (t + i.1.val) i.2) (512 * (15 - t.val) + r.val) : ℝ) : EReal))
    (fun t h i => by
      dsimp only
      rw [dcw_A m c t h, (at_A Q t h).cw, zero5])
    (fun t h i => by
      dsimp only
      rw [dcw_B m c t h, (at_B Q t h).cw])
    (le_of_eq N_0) t0_15 rfl (k, w), zero_add]
  refine (blocks (fun t => P.dxc t w * P.xp (t + k.val) w)).trans ?_
  rfl

theorem dcb_acc (k : Fin 1) (w : Fin 384) : (outsAt0 m c t0_15.val t0_15.isLt).2.2.1 (ix2 k w) = ((P.dcb w : ℝ) : EReal) := by
  rw [Pipeline.eq_sum_fin_of_reset_step_apply_last (ι := Fin 1 × Fin 384) (fun n h i => ((outsAt0 m c n h).2.2.1 (ix2 i.1 i.2) : EReal)) 16 (fun _ => 0)
    (fun t i => ((∑ r : Fin 512, (fun t => P.dxc t i.2) (512 * (15 - t.val) + r.val) : ℝ) : EReal))
    (fun t h i => by
      dsimp only
      rw [dcb_A m c t h, (at_A Q t h).cb, zero6])
    (fun t h i => by
      dsimp only
      rw [dcb_B m c t h, (at_B Q t h).cb])
    (le_of_eq N_0) t0_15 rfl (k, w), zero_add]
  refine (blocks (fun t => P.dxc t w)).trans ?_
  rfl

theorem dwa_acc (k : Fin 384) (w : Fin 384) : (outsAt0 m c t0_15.val t0_15.isLt).2.2.2.1 (ix2 k w) = ((P.dwa k w : ℝ) : EReal) := by
  rw [Pipeline.eq_sum_fin_of_reset_step_apply_last (ι := Fin 384 × Fin 384) (fun n h i => ((outsAt0 m c n h).2.2.2.1 (ix2 i.1 i.2) : EReal)) 16 (fun _ => 0)
    (fun t i => ((∑ r : Fin 512, (fun t => P.dza t i.2 * P.xc t i.1) (512 * (15 - t.val) + r.val) : ℝ) : EReal))
    (fun t h i => by
      dsimp only
      rw [dwa_A m c t h, (at_A Q t h).wa, zero7])
    (fun t h i => by
      dsimp only
      rw [dwa_B m c t h, (at_B Q t h).wa])
    (le_of_eq N_0) t0_15 rfl (k, w), zero_add]
  refine (blocks (fun t => P.dza t w * P.xc t k)).trans ?_
  rfl

theorem dba_acc (k : Fin 1) (w : Fin 384) : (outsAt0 m c t0_15.val t0_15.isLt).2.2.2.2.1 (ix2 k w) = ((P.dba w : ℝ) : EReal) := by
  rw [Pipeline.eq_sum_fin_of_reset_step_apply_last (ι := Fin 1 × Fin 384) (fun n h i => ((outsAt0 m c n h).2.2.2.2.1 (ix2 i.1 i.2) : EReal)) 16 (fun _ => 0)
    (fun t i => ((∑ r : Fin 512, (fun t => P.dza t i.2) (512 * (15 - t.val) + r.val) : ℝ) : EReal))
    (fun t h i => by
      dsimp only
      rw [dba_A m c t h, (at_A Q t h).ba, zero8])
    (fun t h i => by
      dsimp only
      rw [dba_B m c t h, (at_B Q t h).ba])
    (le_of_eq N_0) t0_15 rfl (k, w), zero_add]
  refine (blocks (fun t => P.dza t w)).trans ?_
  rfl

theorem dwx_acc (k : Fin 384) (w : Fin 384) : (outsAt0 m c t0_15.val t0_15.isLt).2.2.2.2.2.1 (ix2 k w) = ((P.dwx k w : ℝ) : EReal) := by
  rw [Pipeline.eq_sum_fin_of_reset_step_apply_last (ι := Fin 384 × Fin 384) (fun n h i => ((outsAt0 m c n h).2.2.2.2.2.1 (ix2 i.1 i.2) : EReal)) 16 (fun _ => 0)
    (fun t i => ((∑ r : Fin 512, (fun t => P.dzx t i.2 * P.xc t i.1) (512 * (15 - t.val) + r.val) : ℝ) : EReal))
    (fun t h i => by
      dsimp only
      rw [dwx_A m c t h, (at_A Q t h).wx, zero9])
    (fun t h i => by
      dsimp only
      rw [dwx_B m c t h, (at_B Q t h).wx])
    (le_of_eq N_0) t0_15 rfl (k, w), zero_add]
  refine (blocks (fun t => P.dzx t w * P.xc t k)).trans ?_
  rfl

theorem dbx_acc (k : Fin 1) (w : Fin 384) : (outsAt0 m c t0_15.val t0_15.isLt).2.2.2.2.2.2.1 (ix2 k w) = ((P.dbx w : ℝ) : EReal) := by
  rw [Pipeline.eq_sum_fin_of_reset_step_apply_last (ι := Fin 1 × Fin 384) (fun n h i => ((outsAt0 m c n h).2.2.2.2.2.2.1 (ix2 i.1 i.2) : EReal)) 16 (fun _ => 0)
    (fun t i => ((∑ r : Fin 512, (fun t => P.dzx t i.2) (512 * (15 - t.val) + r.val) : ℝ) : EReal))
    (fun t h i => by
      dsimp only
      rw [dbx_A m c t h, (at_A Q t h).bx, zero10])
    (fun t h i => by
      dsimp only
      rw [dbx_B m c t h, (at_B Q t h).bx])
    (le_of_eq N_0) t0_15 rfl (k, w), zero_add]
  refine (blocks (fun t => P.dzx t w)).trans ?_
  rfl

theorem dlam_acc (k : Fin 1) (w : Fin 384) : (outsAt0 m c t0_15.val t0_15.isLt).2.2.2.2.2.2.2.1 (ix2 k w) = ((P.dlam w : ℝ) : EReal) := by
  rw [Pipeline.eq_sum_fin_of_reset_step_apply_last (ι := Fin 1 × Fin 384) (fun n h i => ((outsAt0 m c n h).2.2.2.2.2.2.2.1 (ix2 i.1 i.2) : EReal)) 16 (fun _ => 0)
    (fun t i => ((∑ r : Fin 512, (fun t => 8 * P.ra t i.2 * P.dla t i.2 * P.dsp i.2) (512 * (15 - t.val) + r.val) : ℝ) : EReal))
    (fun t h i => by
      dsimp only
      rw [dlam_A m c t h, (at_A Q t h).lam, zero11]; simp only [Finset.sum_mul])
    (fun t h i => by
      dsimp only
      rw [dlam_B m c t h, (at_B Q t h).lam]; simp only [Finset.sum_mul])
    (le_of_eq N_0) t0_15 rfl (k, w), zero_add]
  refine (blocks (fun t => 8 * P.ra t w * P.dla t w * P.dsp w)).trans ?_
  rw [Args.dlam, Finset.sum_mul]

end Cert.LruBwdIdeal.Value

end
-- ==== Proof.LruFrame.lean ====
/- The frame of the recurrence's gradient kernel, with what its outputs hold named point by point. -/
module

public import proofs.«01_k».proof.Proof.LruOuts

@[expose] public section

set_option maxRecDepth 16384

noncomputable section

namespace Cert.LruBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before position `n`: the two carried scratch buffers at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.1) ∗ owns (c : Thread nD τ) scM0_1 fullShare ((outsAt0 m c n hn).2.2.2.2.2.2.2.2.2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.1) ∗ owns (c : Thread nD τ) scM0_1 fullShare ((outsAt0 m c n hn).2.2.2.2.2.2.2.2.2) ∗ (∃ d, owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.1) ∗ owns (c : Thread nD τ) scM0_1 fullShare ((outsAt0 m c (n - 1) (by omega)).2.2.2.2.2.2.2.2.2) ∗ (∃ d, owns (c : Thread nD τ) scM0_2 fullShare d)) ∗ (∃ r, prngReg c r)) := by
  cases n with
  | zero => exact absurd rfl hz
  | succ n => rfl

/-- The proof data: each input window at its block, each output at what its point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨18, _⟩ => (outsAt0 m c t.val t.isLt).2.2.2.2.2.2.1
    | ⟨19, _⟩ => (outsAt0 m c t.val t.isLt).2.2.2.2.2.2.2.1
    | ⟨_ + 20, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]
theorem after0_17 (c : Dev nD) (t : Fin cfg0.N) : (dats m 0 c).after 17 t = (outsAt0 m c t.val t.isLt).2.2.2.2.2.1 := by dsimp only [dats]
theorem after0_18 (c : Dev nD) (t : Fin cfg0.N) : (dats m 0 c).after 18 t = (outsAt0 m c t.val t.isLt).2.2.2.2.2.2.1 := by dsimp only [dats]
theorem after0_19 (c : Dev nD) (t : Fin cfg0.N) : (dats m 0 c).after 19 t = (outsAt0 m c t.val t.isLt).2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_13_B (c : Dev nD) (t : Fin cfg0.N) (h0 : ¬t.val % 16 = 0) (d) :
    (dats m 0 c).before 13 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 13 rfl t (by omega) (Bool.eq_false_iff.mpr fun h => by have := (flush0_13 _).mp h; dsimp only at this; omega)
    (fun _ => rfl) (fun _ _ => rfl)]
  dsimp only [dats]
theorem before0_14_B (c : Dev nD) (t : Fin cfg0.N) (h0 : ¬t.val % 16 = 0) (d) :
    (dats m 0 c).before 14 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 14 rfl t (by omega) (Bool.eq_false_iff.mpr fun h => by have := (flush0_14 _).mp h; dsimp only at this; omega)
    (fun _ => rfl) (fun _ _ => rfl)]
  dsimp only [dats]
theorem before0_15_B (c : Dev nD) (t : Fin cfg0.N) (h0 : ¬t.val % 16 = 0) (d) :
    (dats m 0 c).before 15 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 15 rfl t (by omega) (Bool.eq_false_iff.mpr fun h => by have := (flush0_15 _).mp h; dsimp only at this; omega)
    (fun _ => rfl) (fun _ _ => rfl)]
  dsimp only [dats]
theorem before0_16_B (c : Dev nD) (t : Fin cfg0.N) (h0 : ¬t.val % 16 = 0) (d) :
    (dats m 0 c).before 16 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dats]
theorem before0_17_B (c : Dev nD) (t : Fin cfg0.N) (h0 : ¬t.val % 16 = 0) (d) :
    (dats m 0 c).before 17 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]
theorem before0_18_B (c : Dev nD) (t : Fin cfg0.N) (h0 : ¬t.val % 16 = 0) (d) :
    (dats m 0 c).before 18 t d = (outsAt0 m c (t.val - 1) (Nat.lt_of_le_of_lt (Nat.sub_le _ _) t.isLt)).2.2.2.2.2.2.1 := by
  have hN : t.val < 16 := lt_of_lt_of_eq t.isLt (show cfg0.N = 16 from N_0)
  rw [Dat.before_out_kept _ 18 rfl t (by omega) (Bool.eq_false_iff.mpr fun h => by have := (flush0_18 _).mp h; dsimp only at this; omega)
    (fun _ => rfl) (fun _ _ => rfl)]
  dsimp only [dats]
theorem before0_19_B (c : Dev nD) (t : Fin cfg0.N) (h0 : ¬t.val % 16 = 0) (d) :
    (dats m 0 c).before 19 t d = (outsAt0 m c (t.val - 1) (Nat.lt_of_le_of_lt (Nat.sub_le _ _) t.isLt)).2.2.2.2.2.2.2.1 := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl)]
  dsimp only [dats]

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 16000000 in
/-- The body at any point, by the two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold leftA out0_A_12 out0_A_13 out0_A_14 out0_A_15 out0_A_16 out0_A_17 out0_A_18 out0_A_19 sout0_A_0 sout0_A_1; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      isplitl [HS1]; · iexact HS1
      isplitl [HS2]; · iexact HS2
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%es0, HS0⟩, ⟨%es1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _)
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H19
      ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_13_B m c t h0, before0_14_B m c t h0, before0_15_B m c t h0, before0_16_B m c t h0, before0_17_B m c t h0, before0_18_B m c t h0, before0_19_B m c t h0]
      unfold leftB out0_B_12 out0_B_13 out0_B_14 out0_B_15 out0_B_16 out0_B_17 out0_B_18 out0_B_19 sout0_B_0 sout0_B_1; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _ _ _ _).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [HS0]; · iexact HS0
      isplitl [HS1]; · iexact HS1
      isplitl [HS2]; · iexact HS2
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%es0, HS0⟩, ⟨%es1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H19
      ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame, at any number system. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.LruBwdIdeal.Gen

end
-- ==== Proof.LruTotal.lean ====
module

public import proofs.«01_k».proof.Proof.LruSteps
public import proofs.«01_k».proof.Proof.LruFrame

@[expose] public section

set_option maxRecDepth 16384

noncomputable section

/-! What the results hold when all blocks are done. -/
namespace Cert.LruBwdIdeal.Value

open Idealize.ShloMosaic Idealize.ShloMosaic.TcCoe Idealize.SL.Sem
open Cert.LruBwdIdeal Cert.LruBwdIdeal.Gen Cert.Lru

variable {m : (ℓ : Loc nD τ sig) → Buf (Elt Ideal) ℓ} {c : Dev nD} {P : Args}

/-- The arrays of the results. -/
def D12 (P : Args) : FVec Ideal S8192x768 .bf16 := fun j => ((P.dhl (j 0).val (j 1) : ℝ) : EReal)
@[inherit_doc D12] def D13 (P : Args) : FVec Ideal S4x384 .f32 := fun j => ((P.dcw (j 0) (j 1) : ℝ) : EReal)
@[inherit_doc D12] def D14 (P : Args) : FVec Ideal S1x384 .f32 := fun j => ((P.dcb (j 1) : ℝ) : EReal)
@[inherit_doc D12] def D15 (P : Args) : FVec Ideal S384x384 .f32 := fun j => ((P.dwa (j 0) (j 1) : ℝ) : EReal)
@[inherit_doc D12] def D16 (P : Args) : FVec Ideal S1x384 .f32 := fun j => ((P.dba (j 1) : ℝ) : EReal)
@[inherit_doc D12] def D17 (P : Args) : FVec Ideal S384x384 .f32 := fun j => ((P.dwx (j 0) (j 1) : ℝ) : EReal)
@[inherit_doc D12] def D18 (P : Args) : FVec Ideal S1x384 .f32 := fun j => ((P.dbx (j 1) : ℝ) : EReal)
@[inherit_doc D12] def D19 (P : Args) : FVec Ideal S1x384 .f32 := fun j => ((P.dlam (j 1) : ℝ) : EReal)

theorem idxC : ∀ t : Fin cfg0.N, win0_13.index t = ![0, 0] ∧ win0_14.index t = ![0, 0] ∧ win0_15.index t = ![0, 0] ∧ win0_16.index t = ![0, 0] ∧
    win0_17.index t = ![0, 0] ∧ win0_18.index t = ![0, 0] ∧ win0_19.index t = ![0, 0] :=
  (by decide +kernel : ∀ t : Fin grid0.N, _)

variable (Q : Has m P c)
include Q

theorem final12 : (dats m 0 c).arrAt 12 (cfgs 0).N = D12 P := by
  refine (dats m 0 c).arrAt_eq_of_covers 12 _ (by decide +kernel) fun t hf y => ?_
  have e : win0_12.index t = _ := (idxA t).2.2.2.2.2.1
  blk_simp; rw [after0_12]
  obtain ⟨r, hr⟩ : ∃ r : Fin 512, r.val = (y 0 : ℕ) := ⟨⟨(y 0 : ℕ), (y 0).isLt⟩, rfl⟩
  obtain ⟨w, hw⟩ : ∃ w : Fin 768, w.val = (y 1 : ℕ) := ⟨⟨(y 1 : ℕ), (y 1).isLt⟩, rfl⟩
  have hy : y = ix2 r w := by blk_ext
  have he : (win0_12.blk t).view.emb y = ix2 ⟨512 * (15 - t.val) + r.val, by omega⟩ w := by blk_ext [e]
  rw [he]
  exact (congrArg (outsAt0 m c t.val t.isLt).1 hy).trans (dhl_point Q t r w)

theorem final13 : (dats m 0 c).arrAt 13 (cfgs 0).N = D13 P := by
  refine (dats m 0 c).arrAt_eq_of_covers 13 _ (by decide +kernel) fun t hf y => ?_
  have ht : t = t0_15 := Fin.ext (by have h := (flush0_13 t).mp hf; have := lt16 t; show t.val = 15; omega)
  subst ht
  have e : win0_13.index t0_15 = _ := (idxC t0_15).1
  blk_simp; rw [after0_13]
  obtain ⟨r, hr⟩ : ∃ r : Fin 4, r.val = (y 0 : ℕ) := ⟨⟨(y 0 : ℕ), (y 0).isLt⟩, rfl⟩
  obtain ⟨w, hw⟩ : ∃ w : Fin 384, w.val = (y 1 : ℕ) := ⟨⟨(y 1 : ℕ), (y 1).isLt⟩, rfl⟩
  have hy : y = ix2 r w := by blk_ext
  have he : (win0_13.blk t0_15).view.emb y = ix2 r w := by blk_ext [e]
  rw [he]
  exact (congrArg (outsAt0 m c t0_15.val t0_15.isLt).2.1 hy).trans (dcw_acc Q r w)

theorem final14 : (dats m 0 c).arrAt 14 (cfgs 0).N = D14 P := by
  refine (dats m 0 c).arrAt_eq_of_covers 14 _ (by decide +kernel) fun t hf y => ?_
  have ht : t = t0_15 := Fin.ext (by have h := (flush0_14 t).mp hf; have := lt16 t; show t.val = 15; omega)
  subst ht
  have e : win0_14.index t0_15 = _ := (idxC t0_15).2.1
  blk_simp; rw [after0_14]
  obtain ⟨r, hr⟩ : ∃ r : Fin 1, r.val = (y 0 : ℕ) := ⟨⟨(y 0 : ℕ), (y 0).isLt⟩, rfl⟩
  obtain ⟨w, hw⟩ : ∃ w : Fin 384, w.val = (y 1 : ℕ) := ⟨⟨(y 1 : ℕ), (y 1).isLt⟩, rfl⟩
  have hy : y = ix2 r w := by blk_ext
  have he : (win0_14.blk t0_15).view.emb y = ix2 r w := by blk_ext [e]
  rw [he]
  exact (congrArg (outsAt0 m c t0_15.val t0_15.isLt).2.2.1 hy).trans (dcb_acc Q r w)

theorem final15 : (dats m 0 c).arrAt 15 (cfgs 0).N = D15 P := by
  refine (dats m 0 c).arrAt_eq_of_covers 15 _ (by decide +kernel) fun t hf y => ?_
  have ht : t = t0_15 := Fin.ext (by have h := (flush0_15 t).mp hf; have := lt16 t; show t.val = 15; omega)
  subst ht
  have e : win0_15.index t0_15 = _ := (idxC t0_15).2.2.1
  blk_simp; rw [after0_15]
  obtain ⟨r, hr⟩ : ∃ r : Fin 384, r.val = (y 0 : ℕ) := ⟨⟨(y 0 : ℕ), (y 0).isLt⟩, rfl⟩
  obtain ⟨w, hw⟩ : ∃ w : Fin 384, w.val = (y 1 : ℕ) := ⟨⟨(y 1 : ℕ), (y 1).isLt⟩, rfl⟩
  have hy : y = ix2 r w := by blk_ext
  have he : (win0_15.blk t0_15).view.emb y = ix2 r w := by blk_ext [e]
  rw [he]
  exact (congrArg (outsAt0 m c t0_15.val t0_15.isLt).2.2.2.1 hy).trans (dwa_acc Q r w)

theorem final16 : (dats m 0 c).arrAt 16 (cfgs 0).N = D16 P := by
  refine (dats m 0 c).arrAt_eq_of_covers 16 _ (by decide +kernel) fun t hf y => ?_
  have ht : t = t0_15 := Fin.ext (by have h := (flush0_16 t).mp hf; have := lt16 t; show t.val = 15; omega)
  subst ht
  have e : win0_16.index t0_15 = _ := (idxC t0_15).2.2.2.1
  blk_simp; rw [after0_16]
  obtain ⟨r, hr⟩ : ∃ r : Fin 1, r.val = (y 0 : ℕ) := ⟨⟨(y 0 : ℕ), (y 0).isLt⟩, rfl⟩
  obtain ⟨w, hw⟩ : ∃ w : Fin 384, w.val = (y 1 : ℕ) := ⟨⟨(y 1 : ℕ), (y 1).isLt⟩, rfl⟩
  have hy : y = ix2 r w := by blk_ext
  have he : (win0_16.blk t0_15).view.emb y = ix2 r w := by blk_ext [e]
  rw [he]
  exact (congrArg (outsAt0 m c t0_15.val t0_15.isLt).2.2.2.2.1 hy).trans (dba_acc Q r w)

theorem final17 : (dats m 0 c).arrAt 17 (cfgs 0).N = D17 P := by
  refine (dats m 0 c).arrAt_eq_of_covers 17 _ (by decide +kernel) fun t hf y => ?_
  have ht : t = t0_15 := Fin.ext (by have h := (flush0_17 t).mp hf; have := lt16 t; show t.val = 15; omega)
  subst ht
  have e : win0_17.index t0_15 = _ := (idxC t0_15).2.2.2.2.1
  blk_simp; rw [after0_17]
  obtain ⟨r, hr⟩ : ∃ r : Fin 384, r.val = (y 0 : ℕ) := ⟨⟨(y 0 : ℕ), (y 0).isLt⟩, rfl⟩
  obtain ⟨w, hw⟩ : ∃ w : Fin 384, w.val = (y 1 : ℕ) := ⟨⟨(y 1 : ℕ), (y 1).isLt⟩, rfl⟩
  have hy : y = ix2 r w := by blk_ext
  have he : (win0_17.blk t0_15).view.emb y = ix2 r w := by blk_ext [e]
  rw [he]
  exact (congrArg (outsAt0 m c t0_15.val t0_15.isLt).2.2.2.2.2.1 hy).trans (dwx_acc Q r w)

theorem final18 : (dats m 0 c).arrAt 18 (cfgs 0).N = D18 P := by
  refine (dats m 0 c).arrAt_eq_of_covers 18 _ (by decide +kernel) fun t hf y => ?_
  have ht : t = t0_15 := Fin.ext (by have h := (flush0_18 t).mp hf; have := lt16 t; show t.val = 15; omega)
  subst ht
  have e : win0_18.index t0_15 = _ := (idxC t0_15).2.2.2.2.2.1
  blk_simp; rw [after0_18]
  obtain ⟨r, hr⟩ : ∃ r : Fin 1, r.val = (y 0 : ℕ) := ⟨⟨(y 0 : ℕ), (y 0).isLt⟩, rfl⟩
  obtain ⟨w, hw⟩ : ∃ w : Fin 384, w.val = (y 1 : ℕ) := ⟨⟨(y 1 : ℕ), (y 1).isLt⟩, rfl⟩
  have hy : y = ix2 r w := by blk_ext
  have he : (win0_18.blk t0_15).view.emb y = ix2 r w := by blk_ext [e]
  rw [he]
  exact (congrArg (outsAt0 m c t0_15.val t0_15.isLt).2.2.2.2.2.2.1 hy).trans (dbx_acc Q r w)

theorem final19 : (dats m 0 c).arrAt 19 (cfgs 0).N = D19 P := by
  refine (dats m 0 c).arrAt_eq_of_covers 19 _ (by decide +kernel) fun t hf y => ?_
  have ht : t = t0_15 := Fin.ext (by have h := (flush0_19 t).mp hf; have := lt16 t; show t.val = 15; omega)
  subst ht
  have e : win0_19.index t0_15 = _ := (idxC t0_15).2.2.2.2.2.2
  blk_simp; rw [after0_19]
  obtain ⟨r, hr⟩ : ∃ r : Fin 1, r.val = (y 0 : ℕ) := ⟨⟨(y 0 : ℕ), (y 0).isLt⟩, rfl⟩
  obtain ⟨w, hw⟩ : ∃ w : Fin 384, w.val = (y 1 : ℕ) := ⟨⟨(y 1 : ℕ), (y 1).isLt⟩, rfl⟩
  have hy : y = ix2 r w := by blk_ext
  have he : (win0_19.blk t0_15).view.emb y = ix2 r w := by blk_ext [e]
  rw [he]
  exact (congrArg (outsAt0 m c t0_15.val t0_15.isLt).2.2.2.2.2.2.2.1 hy).trans (dlam_acc Q r w)

end Cert.LruBwdIdeal.Value

end
-- ==== Proof.LruEq.lean ====
module

public import proofs.«01_k».proof.Proof.LruPre
public import proofs.«01_k».proof.Proof.LruTotal

@[expose] public section

set_option maxRecDepth 16384

noncomputable section

/-! Both programs leave the eight gradients of the recurrence. -/
namespace Cert.LruBwdIdeal.Value

open Idealize.ShloMosaic Idealize.ShloMosaic.TcCoe Idealize.SL.Sem
open Cert.LruBwdIdeal Cert.LruBwdIdeal.Gen Cert.Lru

/-- The kernel leaves the gradients of the real arguments. -/
theorem run_grads (m : (ℓ : Loc nD τ sig) → Buf (Elt Ideal) ℓ) (ρ : Dev nD → PrngReg) (P : Dev nD → Args) (Q : ∀ c, Has m (P c) c) :
    θ_run defs (onTc (τ := τ) (main (F := Ideal))) ⟨m, fun _ => 0, ρ⟩ fun r => ∀ c : Dev nD,
      r.2.mem ((c.tc : Thread nD τ).loc main_v92_0) = D12 (P c) ∧
      r.2.mem ((c.tc : Thread nD τ).loc main_v92_1) = D13 (P c) ∧
      r.2.mem ((c.tc : Thread nD τ).loc main_v92_2) = D14 (P c) ∧
      r.2.mem ((c.tc : Thread nD τ).loc main_v92_3) = D15 (P c) ∧
      r.2.mem ((c.tc : Thread nD τ).loc main_v92_4) = D16 (P c) ∧
      r.2.mem ((c.tc : Thread nD τ).loc main_v92_5) = D17 (P c) ∧
      r.2.mem ((c.tc : Thread nD τ).loc main_v92_6) = D18 (P c) ∧
      r.2.mem ((c.tc : Thread nD τ).loc main_v92_7) = D19 (P c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h.1 c).1 12).trans (final12 (Q c)), ((h.1 c).1 13).trans (final13 (Q c)), ((h.1 c).1 14).trans (final14 (Q c)), ((h.1 c).1 15).trans (final15 (Q c)), ((h.1 c).1 16).trans (final16 (Q c)), ((h.1 c).1 17).trans (final17 (Q c)), ((h.1 c).1 18).trans (final18 (Q c)), ((h.1 c).1 19).trans (final19 (Q c)), h.2 c⟩)
    (θ_run_and (run_main m ρ) (unchanged m ρ))

end Cert.LruBwdIdeal.Value

namespace Cert.LruBwdRefIdeal.Value

open Idealize.ShloMosaic Idealize.ShloMosaic.TcCoe Idealize.SL.Sem Idealize.ShloMosaic.StableHlo
open Cert.LruBwdRefIdeal Cert.LruBwdRefIdeal.Gen Cert.Lru

/-- The reference leaves them too. -/
theorem run_grads (m : (ℓ : Loc nD τ sig) → Buf (Elt Ideal) ℓ) (ρ : Dev nD → PrngReg) (P : Dev nD → Args) (Q : ∀ c, HasR (launchContents m c) (P c)) :
    θ_run defs (onTc (τ := τ) (main (F := Ideal))) ⟨m, fun _ => 0, ρ⟩ fun r => ∀ c : Dev nD,
      r.2.mem ((c.tc : Thread nD τ).loc main_v239) = Cert.LruBwdIdeal.Value.D12 (P c) ∧
      r.2.mem ((c.tc : Thread nD τ).loc main_v234) = Cert.LruBwdIdeal.Value.D13 (P c) ∧
      r.2.mem ((c.tc : Thread nD τ).loc main_v240) = Cert.LruBwdIdeal.Value.D14 (P c) ∧
      r.2.mem ((c.tc : Thread nD τ).loc main_v187) = Cert.LruBwdIdeal.Value.D15 (P c) ∧
      r.2.mem ((c.tc : Thread nD τ).loc main_v241) = Cert.LruBwdIdeal.Value.D16 (P c) ∧
      r.2.mem ((c.tc : Thread nD τ).loc main_v179) = Cert.LruBwdIdeal.Value.D17 (P c) ∧
      r.2.mem ((c.tc : Thread nD τ).loc main_v242) = Cert.LruBwdIdeal.Value.D18 (P c) ∧
      r.2.mem ((c.tc : Thread nD τ).loc main_v243) = Cert.LruBwdIdeal.Value.D19 (P c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ?_) (run (F := Ideal) m ρ)
  obtain ⟨e0, e1, e2, e3, e4, e5, e6, e7, e⟩ := h c
  exact ⟨e0.trans (s239 (Q c)), e1.trans (s234 (Q c)), e2.trans (s240 (Q c)), e3.trans (s187 (Q c)), e4.trans (s241 (Q c)), e5.trans (s179 (Q c)), e6.trans (s242 (Q c)), e7.trans (s243 (Q c)), e⟩

end Cert.LruBwdRefIdeal.Value
-- ==== Proof.FfnRuns.lean ====
/- The conditions of the feed-forward gradient kernel's body, its staging buffers, and what one point computes. -/
module

public import proofs.«01_k».proof.Proof.Gen.FfnBwdIdeal.Frame
public import proofs.«01_k».proof.Proof.Gen.FfnBwdIdeal.Skeleton
public import Idealize.ShloMosaic.Lib.Pipeline.ValueKit.Acc
public import Idealize.ShloMosaic.Lib.Claim

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the points ≡ 0 (mod 4) — by arithmetic of the point. -/
theorem hcond0_1 : ∀ t : Fin cfg0.N, cond0_1 (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points ≡ 3 (mod 4) — by arithmetic of the point. -/
theorem hcond0_2 : ∀ t : Fin cfg0.N, cond0_2 (grid0.coords t) ↔ t.val % 4 = 3 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x768 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x768 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x1x384x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x768 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x768 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S512x1024 .f32 := Memref.whole cc0_scratch0
abbrev scM0_1 : Memref sig .tc .vmem S512x1024 .bf16 := Memref.whole cc0_scratch1
/-- The scratch `arg16` the kernel carries between points, as a view: what it holds is stated through it. -/
abbrev VS0_0 : View sig .tc .vmem S512x1024 .f32 := scM0_0.view
/-- The scratch `arg17` the kernel carries between points, as a view: what it holds is stated through it. -/
abbrev VS0_1 : View sig .tc .vmem S512x1024 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What one point computes -/

/-- The gradient of the sum before the norm, of a block of rows. -/
abbrev dzOf (z dout : Vec F S512x1024 .f32) (lg : Vec F S1x1024 .f32) : Vec F S512x1024 .f32 := k0_pay6 z lg dout
/-- The gradient of the gate's product. -/
abbrev dgOf (gs us : Vec F S512x768 .bf16) (wd : Vec F S2x1x384x1024 .bf16) (yb : Vec F S512x1024 .bf16) : Vec F S512x768 .bf16 := k0_pay19 gs us yb wd
/-- The gradient of the other product. -/
abbrev duOf (gs : Vec F S512x768 .bf16) (wd : Vec F S2x1x384x1024 .bf16) (yb : Vec F S512x1024 .bf16) : Vec F S512x768 .bf16 := k0_pay1 (k0_pay16 gs) (k0_pay17 yb wd) (k0_pay18 gs)
/-- The running gradient of the rows, a block of hidden columns later. -/
abbrev accOf (gs us : Vec F S512x768 .bf16) (wg wu : Vec F S1x1024x768 .bf16) (wd : Vec F S2x1x384x1024 .bf16) (yb : Vec F S512x1024 .bf16) (acc : Vec F S512x1024 .f32) : Vec F S512x1024 .f32 :=
  k0_pay2 (k0_pay16 gs) (k0_pay17 yb wd) (k0_pay18 gs) (k0_pay19 gs us yb wd) acc wg wu

/-- The whole of a buffer is every index of it. -/
theorem mem_whole {s : Shape} {off : Fin s.rank → ℕ} (inb : ∀ a, off a + s.size a ≤ s.size a) (h : ∀ a, off a = 0) (y : s.Idx) :
    y ∈ (Rect.unit off s.size inb).set := by
  rw [Rect.mem_set_unit]
  intro a
  rw [h a]
  exact ⟨Nat.zero_le _, by rw [Nat.zero_add]; exact (y a).isLt⟩

/-- A buffer read back after a store of the whole of it holds what was stored. -/
theorem read_last {Val : EltTy → Type} [∀ e, Nonempty (Val e)] {sg : RefSig} {κ : Kind} {sp : Space} {s : Shape} {e : EltTy} (v : View sg κ sp s e) (f : v.ty.Contents Val)
    {off : Fin s.rank → ℕ} (inb : ∀ a, off a + s.size a ≤ s.size a)
    (w : s.Idx → Val e) (L : List (View.Piece Val s e)) (h : ∀ a, off a = 0) :
    v.read Val (v.writes Val f ((⟨Rect.unit off s.size inb, w⟩ : View.Piece Val s e) :: L)) = w := by
  have hc : ∀ y, ∃ p ∈ ((⟨Rect.unit off s.size inb, w⟩ : View.Piece Val s e) :: L), y ∈ p.1.set := fun y => ⟨_, List.mem_cons_self, mem_whole inb h y⟩
  rw [View.read_writes_eq_canon v f _ hc]
  exact View.canon_cons_unit_lit inb w L h

end Cert.FfnBwdIdeal.Gen

end
-- ==== Proof.FfnRunA.lean ====
/- The body of the feed-forward gradient kernel at the first point. -/
module

public import proofs.«01_k».proof.Proof.FfnRuns

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point: what it finds, and what it leaves. -/
theorem ffn_run_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x768 .bf16) (harg4 : arg4.IsWhole) (arg5 : Memref sig .tc .vmem S512x768 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S2x1x384x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .bf16) (harg17 : arg17.IsWhole) (hc0 : cond0_0 i) (hc1 : cond0_1 i) (hc2 : ¬cond0_2 i)
    (x0 : Vec F S512x1024 .f32) (x1 : Vec F S512x1024 .f32) (x2 : Vec F S512x768 .bf16) (x3 : Vec F S512x768 .bf16) (x4 : Vec F S1x1024x768 .bf16) (x5 : Vec F S1x1024x768 .bf16) (x6 : Vec F S2x1x384x1024 .bf16) (x7 : Vec F S1x1024 .f32) (y8 : Vec F S512x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare (dgOf x2 x3 x6 (k0_pay14 (dzOf x0 x1 x7))) ∗ owns (c : Thread nD τ) arg12 fullShare (duOf x2 x6 (k0_pay14 (dzOf x0 x1 x7))) ∗ owns (c : Thread nD τ) arg13 fullShare (k0_pay13 (dzOf x0 x1 x7)) ∗ owns (c : Thread nD τ) arg14 fullShare (k0_pay11 (k0_pay7 x0 x1) (k0_pay9 (F := F))) ∗ owns (c : Thread nD τ) arg15 fullShare (k0_pay12 (k0_pay8 x1) (k0_pay10 (F := F))) ∗ owns (c : Thread nD τ) arg16 fullShare (accOf x2 x3 x4 x5 x6 (k0_pay14 (dzOf x0 x1 x7)) (k0_pay15 (dzOf x0 x1 x7))) ∗ owns (c : Thread nD τ) arg17 fullShare (k0_pay14 (dzOf x0 x1 x7))) -∗ K ⟨⟩))
      ⊢ wp frame (wpE (defs₀ (F := F)) Variants.none c none) E (cc0_ffn1_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_ffn1_bwd_eq_skeleton]; unfold cc0_ffn1_bwd_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%ds0, %fs0, -, Hs0⟩, ⟨%ds1, %fs1, -, Hs1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; refine (read_last _ _ _ _ _ (by decide)).trans ?_; frame_out
    isplitl [H10]
    · iexists _; isplitr; swap; · iexact H10
      ipureintro; refine (read_last _ _ _ _ _ (by decide)).trans ?_; frame_out
    isplitl [H11]
    · iexists _; isplitr; swap; · iexact H11
      ipureintro; refine (read_last _ _ _ _ _ (by decide)).trans ?_; frame_out
    isplitl [H12]
    · iexists _; isplitr; swap; · iexact H12
      ipureintro; refine (read_last _ _ _ _ _ (by decide)).trans ?_; frame_out
    isplitl [H13]
    · iexists _; isplitr; swap; · iexact H13
      ipureintro; refine (read_last _ _ _ _ _ (by decide)).trans ?_; frame_out
    isplitl [Hs0]
    · iexists _; isplitr; swap; · iexact Hs0
      ipureintro; refine (read_last _ _ _ _ _ (by decide)).trans ?_; frame_out
    iexists _; isplitr; swap; · iexact Hs1
    ipureintro; refine (read_last _ _ _ _ _ (by decide)).trans ?_; frame_out

end Cert.FfnBwdIdeal.Gen

end
-- ==== Proof.FfnRunB.lean ====
/- The body of the feed-forward gradient kernel at an inner block of hidden columns. -/
module

public import proofs.«01_k».proof.Proof.FfnRuns

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an inner block of hidden columns: what it finds, and what it leaves. -/
theorem ffn_run_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x768 .bf16) (harg4 : arg4.IsWhole) (arg5 : Memref sig .tc .vmem S512x768 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S2x1x384x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .bf16) (harg17 : arg17.IsWhole) (hc0 : ¬cond0_0 i) (hc1 : ¬cond0_1 i) (hc2 : ¬cond0_2 i)
    (x0 : Vec F S512x1024 .f32) (x1 : Vec F S512x1024 .f32) (x2 : Vec F S512x768 .bf16) (x3 : Vec F S512x768 .bf16) (x4 : Vec F S1x1024x768 .bf16) (x5 : Vec F S1x1024x768 .bf16) (x6 : Vec F S2x1x384x1024 .bf16) (x7 : Vec F S1x1024 .f32) (y8 : Vec F S512x1024 .f32) (y11 : Vec F S512x1024 .bf16) (y12 : Vec F S1x1024 .f32) (y13 : Vec F S1x1024 .f32) (ys0 : Vec F S512x1024 .f32) (ys1 : Vec F S512x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ (∃ d, owns (c : Thread nD τ) arg11 fullShare d) ∗ (∃ d, owns (c : Thread nD τ) arg12 fullShare d) ∗ owns (c : Thread nD τ) arg13 fullShare y11 ∗ owns (c : Thread nD τ) arg14 fullShare y12 ∗ owns (c : Thread nD τ) arg15 fullShare y13 ∗ owns (c : Thread nD τ) arg16 fullShare ys0 ∗ owns (c : Thread nD τ) arg17 fullShare ys1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare (dgOf x2 x3 x6 ys1) ∗ owns (c : Thread nD τ) arg12 fullShare (duOf x2 x6 ys1) ∗ owns (c : Thread nD τ) arg13 fullShare y11 ∗ owns (c : Thread nD τ) arg14 fullShare y12 ∗ owns (c : Thread nD τ) arg15 fullShare y13 ∗ owns (c : Thread nD τ) arg16 fullShare (accOf x2 x3 x4 x5 x6 ys1 ys0) ∗ owns (c : Thread nD τ) arg17 fullShare ys1) -∗ K ⟨⟩))
      ⊢ wp frame (wpE (defs₀ (F := F)) Variants.none c none) E (cc0_ffn1_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_ffn1_bwd_eq_skeleton]; unfold cc0_ffn1_bwd_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, ⟨%fs0, %hfs0, Hs0⟩, ⟨%fs1, %hfs1, Hs1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hf11; obtain rfl := harg14.eq_unread hf12; obtain rfl := harg15.eq_unread hf13; obtain rfl := harg16.eq_unread hfs0; obtain rfl := harg17.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; refine (read_last _ _ _ _ _ (by decide)).trans ?_; frame_out
    isplitl [H10]
    · iexists _; isplitr; swap; · iexact H10
      ipureintro; refine (read_last _ _ _ _ _ (by decide)).trans ?_; frame_out
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [Hs0]
    · iexists _; isplitr; swap; · iexact Hs0
      ipureintro; refine (read_last _ _ _ _ _ (by decide)).trans ?_; frame_out
    iexists _; isplitr; · ipureintro; exact harg17.read_unread _
    iexact Hs1

end Cert.FfnBwdIdeal.Gen

end
-- ==== Proof.FfnRunC.lean ====
/- The body of the feed-forward gradient kernel at the last block of hidden columns. -/
module

public import proofs.«01_k».proof.Proof.FfnRuns

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last block of hidden columns: what it finds, and what it leaves. -/
theorem ffn_run_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x768 .bf16) (harg4 : arg4.IsWhole) (arg5 : Memref sig .tc .vmem S512x768 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S2x1x384x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .bf16) (harg17 : arg17.IsWhole) (hc0 : ¬cond0_0 i) (hc1 : ¬cond0_1 i) (hc2 : cond0_2 i)
    (x0 : Vec F S512x1024 .f32) (x1 : Vec F S512x1024 .f32) (x2 : Vec F S512x768 .bf16) (x3 : Vec F S512x768 .bf16) (x4 : Vec F S1x1024x768 .bf16) (x5 : Vec F S1x1024x768 .bf16) (x6 : Vec F S2x1x384x1024 .bf16) (x7 : Vec F S1x1024 .f32) (y11 : Vec F S512x1024 .bf16) (y12 : Vec F S1x1024 .f32) (y13 : Vec F S1x1024 .f32) (ys0 : Vec F S512x1024 .f32) (ys1 : Vec F S512x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare y11 ∗ owns (c : Thread nD τ) arg14 fullShare y12 ∗ owns (c : Thread nD τ) arg15 fullShare y13 ∗ owns (c : Thread nD τ) arg16 fullShare ys0 ∗ owns (c : Thread nD τ) arg17 fullShare ys1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (accOf x2 x3 x4 x5 x6 ys1 ys0) ∗ owns (c : Thread nD τ) arg11 fullShare (dgOf x2 x3 x6 ys1) ∗ owns (c : Thread nD τ) arg12 fullShare (duOf x2 x6 ys1) ∗ owns (c : Thread nD τ) arg13 fullShare y11 ∗ owns (c : Thread nD τ) arg14 fullShare y12 ∗ owns (c : Thread nD τ) arg15 fullShare y13 ∗ owns (c : Thread nD τ) arg16 fullShare (accOf x2 x3 x4 x5 x6 ys1 ys0) ∗ owns (c : Thread nD τ) arg17 fullShare ys1) -∗ K ⟨⟩))
      ⊢ wp frame (wpE (defs₀ (F := F)) Variants.none c none) E (cc0_ffn1_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_ffn1_bwd_eq_skeleton]; unfold cc0_ffn1_bwd_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%fs0, %hfs0, Hs0⟩, ⟨%fs1, %hfs1, Hs1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hf11; obtain rfl := harg14.eq_unread hf12; obtain rfl := harg15.eq_unread hf13; obtain rfl := harg16.eq_unread hfs0; obtain rfl := harg17.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro; refine (read_last _ _ _ _ _ (by decide)).trans ?_; frame_out
    isplitl [H9]
    · iexists _; isplitr; swap; · iexact H9
      ipureintro; refine (read_last _ _ _ _ _ (by decide)).trans ?_; frame_out
    isplitl [H10]
    · iexists _; isplitr; swap; · iexact H10
      ipureintro; refine (read_last _ _ _ _ _ (by decide)).trans ?_; frame_out
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [Hs0]
    · iexists _; isplitr; swap; · iexact Hs0
      ipureintro; refine (read_last _ _ _ _ _ (by decide)).trans ?_; frame_out
    iexists _; isplitr; · ipureintro; exact harg17.read_unread _
    iexact Hs1

end Cert.FfnBwdIdeal.Gen

end
-- ==== Proof.FfnRunD.lean ====
/- The body of the feed-forward gradient kernel at the first block of hidden columns of a later block of rows. -/
module

public import proofs.«01_k».proof.Proof.FfnRuns

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first block of hidden columns of a later block of rows: what it finds, and what it leaves. -/
theorem ffn_run_D (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x768 .bf16) (harg4 : arg4.IsWhole) (arg5 : Memref sig .tc .vmem S512x768 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S2x1x384x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .bf16) (harg17 : arg17.IsWhole) (hc0 : ¬cond0_0 i) (hc1 : cond0_1 i) (hc2 : ¬cond0_2 i)
    (x0 : Vec F S512x1024 .f32) (x1 : Vec F S512x1024 .f32) (x2 : Vec F S512x768 .bf16) (x3 : Vec F S512x768 .bf16) (x4 : Vec F S1x1024x768 .bf16) (x5 : Vec F S1x1024x768 .bf16) (x6 : Vec F S2x1x384x1024 .bf16) (x7 : Vec F S1x1024 .f32) (y8 : Vec F S512x1024 .f32) (y12 : Vec F S1x1024 .f32) (y13 : Vec F S1x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare y12 ∗ owns (c : Thread nD τ) arg15 fullShare y13 ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare (dgOf x2 x3 x6 (k0_pay14 (dzOf x0 x1 x7))) ∗ owns (c : Thread nD τ) arg12 fullShare (duOf x2 x6 (k0_pay14 (dzOf x0 x1 x7))) ∗ owns (c : Thread nD τ) arg13 fullShare (k0_pay13 (dzOf x0 x1 x7)) ∗ owns (c : Thread nD τ) arg14 fullShare (k0_pay11 (k0_pay7 x0 x1) y12) ∗ owns (c : Thread nD τ) arg15 fullShare (k0_pay12 (k0_pay8 x1) y13) ∗ owns (c : Thread nD τ) arg16 fullShare (accOf x2 x3 x4 x5 x6 (k0_pay14 (dzOf x0 x1 x7)) (k0_pay15 (dzOf x0 x1 x7))) ∗ owns (c : Thread nD τ) arg17 fullShare (k0_pay14 (dzOf x0 x1 x7))) -∗ K ⟨⟩))
      ⊢ wp frame (wpE (defs₀ (F := F)) Variants.none c none) E (cc0_ffn1_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_ffn1_bwd_eq_skeleton]; unfold cc0_ffn1_bwd_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%ds0, %fs0, -, Hs0⟩, ⟨%ds1, %fs1, -, Hs1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hf12; obtain rfl := harg15.eq_unread hf13
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; refine (read_last _ _ _ _ _ (by decide)).trans ?_; frame_out
    isplitl [H10]
    · iexists _; isplitr; swap; · iexact H10
      ipureintro; refine (read_last _ _ _ _ _ (by decide)).trans ?_; frame_out
    isplitl [H11]
    · iexists _; isplitr; swap; · iexact H11
      ipureintro; refine (read_last _ _ _ _ _ (by decide)).trans ?_; frame_out
    isplitl [H12]
    · iexists _; isplitr; swap; · iexact H12
      ipureintro; refine (read_last _ _ _ _ _ (by decide)).trans ?_; frame_out
    isplitl [H13]
    · iexists _; isplitr; swap; · iexact H13
      ipureintro; refine (read_last _ _ _ _ _ (by decide)).trans ?_; frame_out
    isplitl [Hs0]
    · iexists _; isplitr; swap; · iexact Hs0
      ipureintro; refine (read_last _ _ _ _ _ (by decide)).trans ?_; frame_out
    iexists _; isplitr; swap; · iexact Hs1
    ipureintro; refine (read_last _ _ _ _ _ (by decide)).trans ?_; frame_out

end Cert.FfnBwdIdeal.Gen

end
-- ==== Proof.FfnState.lean ====
/- What the feed-forward gradient kernel carries from point to point, and what its windows hold before each. -/
module

public import proofs.«01_k».proof.Proof.FfnRunA
public import proofs.«01_k».proof.Proof.FfnRunB
public import proofs.«01_k».proof.Proof.FfnRunC
public import proofs.«01_k».proof.Proof.FfnRunD

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves for the next: the running gradient of the rows, the rows' gradient as the products take it,
    that gradient as it is written out, and the two running sums over the blocks of rows. -/
structure St (F : FTy → Type) where
  acc : Vec F S512x1024 .f32
  yb : Vec F S512x1024 .bf16
  dy : Vec F S512x1024 .bf16
  lg : Vec F S1x1024 .f32
  lb : Vec F S1x1024 .f32

/-- The state after point `n`. -/
def st (c : Dev nD) : (n : ℕ) → n < cfg0.N → St F
  | 0, h => ⟨(accOf (iblk m c 2 ⟨0, h⟩) (iblk m c 3 ⟨0, h⟩) (iblk m c 4 ⟨0, h⟩) (iblk m c 5 ⟨0, h⟩) (iblk m c 6 ⟨0, h⟩) (k0_pay14 (dzOf (iblk m c 0 ⟨0, h⟩) (iblk m c 1 ⟨0, h⟩) (iblk m c 7 ⟨0, h⟩))) (k0_pay15 (dzOf (iblk m c 0 ⟨0, h⟩) (iblk m c 1 ⟨0, h⟩) (iblk m c 7 ⟨0, h⟩)))), (k0_pay14 (dzOf (iblk m c 0 ⟨0, h⟩) (iblk m c 1 ⟨0, h⟩) (iblk m c 7 ⟨0, h⟩))), k0_pay13 (dzOf (iblk m c 0 ⟨0, h⟩) (iblk m c 1 ⟨0, h⟩) (iblk m c 7 ⟨0, h⟩)), k0_pay11 (k0_pay7 (iblk m c 0 ⟨0, h⟩) (iblk m c 1 ⟨0, h⟩)) k0_pay9, k0_pay12 (k0_pay8 (iblk m c 1 ⟨0, h⟩)) k0_pay10⟩
  | n + 1, h =>
    if (n + 1) % 4 = 0 then
      ⟨(accOf (iblk m c 2 ⟨n + 1, h⟩) (iblk m c 3 ⟨n + 1, h⟩) (iblk m c 4 ⟨n + 1, h⟩) (iblk m c 5 ⟨n + 1, h⟩) (iblk m c 6 ⟨n + 1, h⟩) (k0_pay14 (dzOf (iblk m c 0 ⟨n + 1, h⟩) (iblk m c 1 ⟨n + 1, h⟩) (iblk m c 7 ⟨n + 1, h⟩))) (k0_pay15 (dzOf (iblk m c 0 ⟨n + 1, h⟩) (iblk m c 1 ⟨n + 1, h⟩) (iblk m c 7 ⟨n + 1, h⟩)))), (k0_pay14 (dzOf (iblk m c 0 ⟨n + 1, h⟩) (iblk m c 1 ⟨n + 1, h⟩) (iblk m c 7 ⟨n + 1, h⟩))), k0_pay13 (dzOf (iblk m c 0 ⟨n + 1, h⟩) (iblk m c 1 ⟨n + 1, h⟩) (iblk m c 7 ⟨n + 1, h⟩)), k0_pay11 (k0_pay7 (iblk m c 0 ⟨n + 1, h⟩) (iblk m c 1 ⟨n + 1, h⟩)) (st c n (Nat.lt_of_succ_lt h)).lg, k0_pay12 (k0_pay8 (iblk m c 1 ⟨n + 1, h⟩)) (st c n (Nat.lt_of_succ_lt h)).lb⟩
    else
      ⟨(accOf (iblk m c 2 ⟨n + 1, h⟩) (iblk m c 3 ⟨n + 1, h⟩) (iblk m c 4 ⟨n + 1, h⟩) (iblk m c 5 ⟨n + 1, h⟩) (iblk m c 6 ⟨n + 1, h⟩) (st c n (Nat.lt_of_succ_lt h)).yb (st c n (Nat.lt_of_succ_lt h)).acc), (st c n (Nat.lt_of_succ_lt h)).yb, (st c n (Nat.lt_of_succ_lt h)).dy, (st c n (Nat.lt_of_succ_lt h)).lg, (st c n (Nat.lt_of_succ_lt h)).lb⟩

/-- The state before a point that is not the first. -/
abbrev pr (c : Dev nD) (t : Fin cfg0.N) : St F := st m c (t.val - 1) (Nat.lt_of_le_of_lt (Nat.sub_le _ _) t.isLt)

theorem st_A (c : Dev nD) (t : Fin cfg0.N) (h : t.val = 0) : st m c t.val t.isLt = ⟨(accOf (iblk m c 2 t) (iblk m c 3 t) (iblk m c 4 t) (iblk m c 5 t) (iblk m c 6 t) (k0_pay14 (dzOf (iblk m c 0 t) (iblk m c 1 t) (iblk m c 7 t))) (k0_pay15 (dzOf (iblk m c 0 t) (iblk m c 1 t) (iblk m c 7 t)))), (k0_pay14 (dzOf (iblk m c 0 t) (iblk m c 1 t) (iblk m c 7 t))), k0_pay13 (dzOf (iblk m c 0 t) (iblk m c 1 t) (iblk m c 7 t)), k0_pay11 (k0_pay7 (iblk m c 0 t) (iblk m c 1 t)) k0_pay9, k0_pay12 (k0_pay8 (iblk m c 1 t)) k0_pay10⟩ := by
  obtain ⟨n, hn⟩ := t
  dsimp only at h; subst h
  rfl

theorem st_D (c : Dev nD) (t : Fin cfg0.N) (h : t.val ≠ 0) (h4 : t.val % 4 = 0) : st m c t.val t.isLt = ⟨(accOf (iblk m c 2 t) (iblk m c 3 t) (iblk m c 4 t) (iblk m c 5 t) (iblk m c 6 t) (k0_pay14 (dzOf (iblk m c 0 t) (iblk m c 1 t) (iblk m c 7 t))) (k0_pay15 (dzOf (iblk m c 0 t) (iblk m c 1 t) (iblk m c 7 t)))), (k0_pay14 (dzOf (iblk m c 0 t) (iblk m c 1 t) (iblk m c 7 t))), k0_pay13 (dzOf (iblk m c 0 t) (iblk m c 1 t) (iblk m c 7 t)), k0_pay11 (k0_pay7 (iblk m c 0 t) (iblk m c 1 t)) (pr m c t).lg, k0_pay12 (k0_pay8 (iblk m c 1 t)) (pr m c t).lb⟩ := by
  obtain ⟨n, hn⟩ := t
  cases n with
  | zero => exact absurd rfl h
  | succ n => exact if_pos h4

theorem st_B (c : Dev nD) (t : Fin cfg0.N) (h4 : ¬ t.val % 4 = 0) : st m c t.val t.isLt = ⟨(accOf (iblk m c 2 t) (iblk m c 3 t) (iblk m c 4 t) (iblk m c 5 t) (iblk m c 6 t) (pr m c t).yb (pr m c t).acc), (pr m c t).yb, (pr m c t).dy, (pr m c t).lg, (pr m c t).lb⟩ := by
  obtain ⟨n, hn⟩ := t
  cases n with
  | zero => exact absurd rfl h4
  | succ n => exact if_neg h4

/-- The invariant before position `n`: the two scratch buffers at what the point before left. -/
def PhiS (c : Dev nD) : (n : ℕ) → n ≤ cfg0.N → sProp 𝕄
  | 0, _ => Pipeline.ΦA spec0 c
  | n + 1, hn => iprop(iprop(owns (c : Thread nD τ) scM0_0 fullShare (st m c n hn).acc ∗ owns (c : Thread nD τ) scM0_1 fullShare (st m c n hn).yb) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (st m c n hn).acc ∗ owns (c : Thread nD τ) scM0_1 fullShare (st m c n hn).yb) ∗ (∃ r, prngReg c r)) := rfl

theorem PhiS_pos (c : Dev nD) (n : ℕ) (h : n ≤ cfg0.N) (hz : n ≠ 0) :
    PhiS m c n h = iprop(iprop(owns (c : Thread nD τ) scM0_0 fullShare (st m c (n - 1) (by omega)).acc ∗ owns (c : Thread nD τ) scM0_1 fullShare (st m c (n - 1) (by omega)).yb) ∗ (∃ r, prngReg c r)) := by
  cases n with
  | zero => exact absurd rfl hz
  | succ n => rfl

/-- The proof data: each input window at its block, each output at what its point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (st m c t.val t.isLt).acc
    | ⟨9, _⟩ => dgOf (iblk m c 2 t) (iblk m c 3 t) (iblk m c 6 t) (st m c t.val t.isLt).yb
    | ⟨10, _⟩ => duOf (iblk m c 2 t) (iblk m c 6 t) (st m c t.val t.isLt).yb
    | ⟨11, _⟩ => (st m c t.val t.isLt).dy
    | ⟨12, _⟩ => (st m c t.val t.isLt).lg
    | ⟨13, _⟩ => (st m c t.val t.isLt).lb
    | ⟨_ + 14, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (st m c t.val t.isLt).acc := by dsimp only [dats]
theorem after0_9 (c : Dev nD) (t : Fin cfg0.N) : (dats m 0 c).after 9 t = dgOf (iblk m c 2 t) (iblk m c 3 t) (iblk m c 6 t) (st m c t.val t.isLt).yb := by dsimp only [dats]
theorem after0_10 (c : Dev nD) (t : Fin cfg0.N) : (dats m 0 c).after 10 t = duOf (iblk m c 2 t) (iblk m c 6 t) (st m c t.val t.isLt).yb := by dsimp only [dats]
theorem after0_11 (c : Dev nD) (t : Fin cfg0.N) : (dats m 0 c).after 11 t = (st m c t.val t.isLt).dy := by dsimp only [dats]
theorem after0_12 (c : Dev nD) (t : Fin cfg0.N) : (dats m 0 c).after 12 t = (st m c t.val t.isLt).lg := by dsimp only [dats]
theorem after0_13 (c : Dev nD) (t : Fin cfg0.N) : (dats m 0 c).after 13 t = (st m c t.val t.isLt).lb := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem idle0_8 (t : Fin cfg0.N) (h : ¬ cond0_2 (grid0.coords t)) : cfg0.idle 8 (cfg0.grid.coords t) = true := by
  change (!(k0_cond3 (grid0.coords t) == 1#1)) = true
  rw [Bool.not_eq_true', beq_eq_false_iff_ne]
  exact h

theorem live0_8 (t : Fin cfg0.N) (h : cond0_2 (grid0.coords t)) : cfg0.idle 8 (cfg0.grid.coords t) = false := by
  change (!(k0_cond3 (grid0.coords t) == 1#1)) = false
  rw [Bool.not_eq_false', beq_iff_eq]
  exact h

theorem idle0_11 (t : Fin cfg0.N) (h : ¬ cond0_1 (grid0.coords t)) : cfg0.idle 11 (cfg0.grid.coords t) = true := by
  change (!(k0_cond2 (grid0.coords t) == 1#1)) = true
  rw [Bool.not_eq_true', beq_eq_false_iff_ne]
  exact h

theorem live0_11 (t : Fin cfg0.N) (h : cond0_1 (grid0.coords t)) : cfg0.idle 11 (cfg0.grid.coords t) = false := by
  change (!(k0_cond2 (grid0.coords t) == 1#1)) = false
  rw [Bool.not_eq_false', beq_iff_eq]
  exact h

theorem idle0_12 (t : Fin cfg0.N) (h : ¬ cond0_1 (grid0.coords t)) : cfg0.idle 12 (cfg0.grid.coords t) = true := by
  change (!(k0_cond1 (grid0.coords t) == 1#1) && !(k0_cond2 (grid0.coords t) == 1#1)) = true
  rw [Bool.and_eq_true, Bool.not_eq_true', Bool.not_eq_true', beq_eq_false_iff_ne, beq_eq_false_iff_ne]
  exact ⟨fun hc => h ((hcond0_1 t).mpr (by have := (hcond0_0 t).mp hc; omega)), h⟩

theorem live0_12 (t : Fin cfg0.N) (h : cond0_1 (grid0.coords t)) : cfg0.idle 12 (cfg0.grid.coords t) = false := by
  change (!(k0_cond1 (grid0.coords t) == 1#1) && !(k0_cond2 (grid0.coords t) == 1#1)) = false
  rw [Bool.and_eq_false_iff, Bool.not_eq_false', Bool.not_eq_false', beq_iff_eq, beq_iff_eq]
  exact Or.inr h

theorem idle0_13 (t : Fin cfg0.N) (h : ¬ cond0_1 (grid0.coords t)) : cfg0.idle 13 (cfg0.grid.coords t) = true := by
  change (!(k0_cond1 (grid0.coords t) == 1#1) && !(k0_cond2 (grid0.coords t) == 1#1)) = true
  rw [Bool.and_eq_true, Bool.not_eq_true', Bool.not_eq_true', beq_eq_false_iff_ne, beq_eq_false_iff_ne]
  exact ⟨fun hc => h ((hcond0_1 t).mpr (by have := (hcond0_0 t).mp hc; omega)), h⟩

theorem live0_13 (t : Fin cfg0.N) (h : cond0_1 (grid0.coords t)) : cfg0.idle 13 (cfg0.grid.coords t) = false := by
  change (!(k0_cond1 (grid0.coords t) == 1#1) && !(k0_cond2 (grid0.coords t) == 1#1)) = false
  rw [Bool.and_eq_false_iff, Bool.not_eq_false', Bool.not_eq_false', beq_iff_eq, beq_iff_eq]
  exact Or.inr h

/-- Between its stores the window's buffer keeps what the last one left. -/
theorem found0_11 (c : Dev nD) : ∀ (n : ℕ) (hn : n < cfg0.N), n % 4 ≠ 0 → ∀ d, (dats m 0 c).before 11 ⟨n, hn⟩ d = (pr m c ⟨n, hn⟩).dy := by
  intro n
  induction n using Nat.strong_induction_on with
  | _ n ih =>
    intro hn h d
    have hN : n < 64 := lt_of_lt_of_eq hn (show cfg0.N = 64 from N_0)
    have h0 : n ≠ 0 := by omega
    rw [Dat.before_of_pos _ 11 ⟨n, hn⟩ h0 rfl d, if_neg (fun hf => by have := (flush0_11 _).mp hf; dsimp only at this; omega)]
    dsimp only
    by_cases h4 : (n - 1) % 4 = 0
    · unfold Dat.left
      rw [live0_11 ⟨n - 1, by omega⟩ ((hcond0_1 ⟨n - 1, by omega⟩).mpr h4)]
      exact after0_11 m c ⟨n - 1, by omega⟩
    · unfold Dat.left
      rw [idle0_11 ⟨n - 1, by omega⟩ (fun hc => h4 ((hcond0_1 ⟨n - 1, by omega⟩).mp hc))]
      exact (ih (n - 1) (by omega) (by omega) (by omega) d).trans (congrArg St.dy (st_B m c ⟨n - 1, by omega⟩ h4)).symm

/-- Between its stores the window's buffer keeps what the last one left. -/
theorem found0_12 (c : Dev nD) : ∀ (n : ℕ) (hn : n < cfg0.N), n ≠ 0 → ∀ d, (dats m 0 c).before 12 ⟨n, hn⟩ d = (pr m c ⟨n, hn⟩).lg := by
  intro n
  induction n using Nat.strong_induction_on with
  | _ n ih =>
    intro hn h d
    have hN : n < 64 := lt_of_lt_of_eq hn (show cfg0.N = 64 from N_0)
    have h0 : n ≠ 0 := by omega
    rw [Dat.before_of_pos _ 12 ⟨n, hn⟩ h0 rfl d, if_neg (fun hf => by have := (flush0_12 _).mp hf; dsimp only at this; omega)]
    dsimp only
    by_cases h4 : (n - 1) % 4 = 0
    · unfold Dat.left
      rw [live0_12 ⟨n - 1, by omega⟩ ((hcond0_1 ⟨n - 1, by omega⟩).mpr h4)]
      exact after0_12 m c ⟨n - 1, by omega⟩
    · unfold Dat.left
      rw [idle0_12 ⟨n - 1, by omega⟩ (fun hc => h4 ((hcond0_1 ⟨n - 1, by omega⟩).mp hc))]
      exact (ih (n - 1) (by omega) (by omega) (by omega) d).trans (congrArg St.lg (st_B m c ⟨n - 1, by omega⟩ h4)).symm

/-- Between its stores the window's buffer keeps what the last one left. -/
theorem found0_13 (c : Dev nD) : ∀ (n : ℕ) (hn : n < cfg0.N), n ≠ 0 → ∀ d, (dats m 0 c).before 13 ⟨n, hn⟩ d = (pr m c ⟨n, hn⟩).lb := by
  intro n
  induction n using Nat.strong_induction_on with
  | _ n ih =>
    intro hn h d
    have hN : n < 64 := lt_of_lt_of_eq hn (show cfg0.N = 64 from N_0)
    have h0 : n ≠ 0 := by omega
    rw [Dat.before_of_pos _ 13 ⟨n, hn⟩ h0 rfl d, if_neg (fun hf => by have := (flush0_13 _).mp hf; dsimp only at this; omega)]
    dsimp only
    by_cases h4 : (n - 1) % 4 = 0
    · unfold Dat.left
      rw [live0_13 ⟨n - 1, by omega⟩ ((hcond0_1 ⟨n - 1, by omega⟩).mpr h4)]
      exact after0_13 m c ⟨n - 1, by omega⟩
    · unfold Dat.left
      rw [idle0_13 ⟨n - 1, by omega⟩ (fun hc => h4 ((hcond0_1 ⟨n - 1, by omega⟩).mp hc))]
      exact (ih (n - 1) (by omega) (by omega) (by omega) d).trans (congrArg St.lb (st_B m c ⟨n - 1, by omega⟩ h4)).symm

end Cert.FfnBwdIdeal.Gen

end
-- ==== Proof.FfnMath.lean ====
module

public import proofs.«01_k».proof.Proof.LruLift

@[expose] public section

set_option maxRecDepth 16384

noncomputable section

/-! The gradients of the gated feed-forward layer and its norm, over the reals. -/
namespace Cert.Ffn

open Idealize.ShloMosaic Cert.Lru

/-- The two constants, as the reals that their words are. -/
def kAl : ℝ := (Ideal.ofBits .f32 0x3FB504F3#32).toReal
@[inherit_doc kAl] def kEp : ℝ := (Ideal.ofBits .f32 0x3727C5AC#32).toReal

theorem bits_al : Ideal.ofBits .f32 0x3FB504F3#32 = ((kAl : ℝ) : EReal) := by
  rw [kAl]; simp [Ideal.ofBits, Ideal.ieee, -EReal.coe_mul]
theorem bits_ep : Ideal.ofBits .f32 0x3727C5AC#32 = ((kEp : ℝ) : EReal) := by
  rw [kEp]; simp [Ideal.ofBits, Ideal.ieee, -EReal.coe_mul]
theorem kEp_pos : 0 < kEp := by
  rw [kEp]; simp [Ideal.ofBits, Ideal.ieee, -EReal.coe_mul]
theorem bits_1024 : Ideal.ofBits .f32 0x44800000#32 = ((1024 : ℝ) : EReal) := by
  simp [Ideal.ofBits, Ideal.ieee, -EReal.coe_mul]; norm_num
theorem bits_neg_half : Ideal.ofBits .f32 0xBF000000#32 = ((-2⁻¹ : ℝ) : EReal) := by
  simp [Ideal.ofBits, Ideal.ieee, -EReal.coe_mul]; norm_num

theorem rsqrt_real {a : ℝ} (h : 0 < a) : Ideal.rsqrt (a : EReal) = (((Real.sqrt a)⁻¹ : ℝ) : EReal) := by
  rw [Ideal.rsqrt_coe, if_neg (not_lt.mpr h.le), if_neg h.ne']

theorem one_exp (z : ℝ) : 1 + Real.exp z ≠ 0 := by positivity

/-- The arguments: the layer's input, its three matrices, the norm's scale, the gradient of the norm's output, and two constants. -/
structure Args where
  x : ℕ → ℕ → ℝ
  wg : ℕ → ℕ → ℝ
  wu : ℕ → ℕ → ℝ
  wd : ℕ → ℕ → ℝ
  lg : ℕ → ℝ
  ct : ℕ → ℕ → ℝ

namespace Args

variable (P : Args)

/-- The gate's product. -/
def g (r k : ℕ) : ℝ := ∑ a : Fin 1024, P.x r a * P.wg a k
/-- The other product. -/
def u (r k : ℕ) : ℝ := ∑ a : Fin 1024, P.x r a * P.wu a k
/-- The gate's logistic. -/
def s (r k : ℕ) : ℝ := (1 + Real.exp (-P.g r k))⁻¹
/-- What is normed: the scaled input and half the layer's output. -/
def z (r w : ℕ) : ℝ := kAl * P.x r w + 2⁻¹ * ∑ k : Fin 2816, P.g r k * P.s r k * P.u r k * P.wd k w
/-- A row's mean. -/
def mu (r : ℕ) : ℝ := (∑ w : Fin 1024, P.z r w) * 1024⁻¹
/-- The distance from it. -/
def d (r w : ℕ) : ℝ := P.z r w - P.mu r
/-- A row's variance, with the norm's constant. -/
def v (r : ℕ) : ℝ := (∑ w : Fin 1024, P.d r w * P.d r w) * 1024⁻¹ + kEp
/-- One over its root. -/
def rs (r : ℕ) : ℝ := (Real.sqrt (P.v r))⁻¹
/-- The normed row. -/
def n (r w : ℕ) : ℝ := P.d r w * P.rs r
/-- Its gradient. -/
def dn (r w : ℕ) : ℝ := P.ct r w * P.lg w
/-- The gradient of what is normed. -/
def dz (r w : ℕ) : ℝ :=
  P.rs r * (P.dn r w - (∑ w : Fin 1024, P.dn r w) * 1024⁻¹ - P.n r w * ((∑ w : Fin 1024, P.dn r w * P.n r w) * 1024⁻¹))
/-- The gradient of the layer's output. -/
def dy (r w : ℕ) : ℝ := 2⁻¹ * P.dz r w
/-- The gradient of the gated product. -/
def da (r k : ℕ) : ℝ := ∑ w : Fin 1024, P.dy r w * P.wd k w
/-- The gradient of the gate's product. -/
def dg (r k : ℕ) : ℝ := P.da r k * P.u r k * (P.s r k * (1 + P.g r k * (1 - P.s r k)))
/-- The gradient of the other product. -/
def du (r k : ℕ) : ℝ := P.da r k * (P.g r k * P.s r k)
/-- The gradient of the layer's input. -/
def dx (r w : ℕ) : ℝ := kAl * P.dz r w + ∑ k : Fin 2816, P.du r k * P.wu w k + ∑ k : Fin 2816, P.dg r k * P.wg w k
/-- The gradient of the norm's scale. -/
def dlg (w : ℕ) : ℝ := ∑ r : Fin 8192, P.ct r w * P.n r w
/-- The gradient of the norm's offset. -/
def dlb (w : ℕ) : ℝ := ∑ r : Fin 8192, P.ct r w

variable {P}

theorem v_pos (r : ℕ) : 0 < P.v r :=
  add_pos_of_nonneg_of_pos (mul_nonneg (Finset.sum_nonneg fun _ _ => mul_self_nonneg _) (by norm_num)) kEp_pos

theorem rs_sq (r : ℕ) : P.rs r * P.rs r = (P.v r)⁻¹ := by
  rw [rs, ← mul_inv, Real.mul_self_sqrt (v_pos r).le]

theorem sum_d (r : ℕ) : ∑ w : Fin 1024, P.d r w = 0 := by
  simp only [d, Finset.sum_sub_distrib, Finset.sum_const, Finset.card_univ, Fintype.card_fin, mu, nsmul_eq_mul]
  push_cast; ring

/-- The gradient of what is normed, as the derivative of mean and variance has it. -/
theorem dz_ref (r w : ℕ) :
    P.dn r w * P.rs r + (∑ w : Fin 1024, P.d r w * P.dn r w) * (-2⁻¹ * (P.rs r * (P.v r)⁻¹)) * 1024⁻¹ * (2 * P.d r w)
      + (∑ w : Fin 1024, -(P.dn r w * P.rs r) + ∑ w' : Fin 1024, -((∑ w : Fin 1024, P.d r w * P.dn r w) * (-2⁻¹ * (P.rs r * (P.v r)⁻¹)) * 1024⁻¹ * (2 * P.d r w'))) * 1024⁻¹
      = P.dz r w := by
  have e1 : ∑ w' : Fin 1024, -((∑ w : Fin 1024, P.d r w * P.dn r w) * (-2⁻¹ * (P.rs r * (P.v r)⁻¹)) * 1024⁻¹ * (2 * P.d r w')) = 0 := by
    rw [Finset.sum_neg_distrib, ← Finset.mul_sum, ← Finset.mul_sum, sum_d]; ring
  have e2 : ∑ w : Fin 1024, -(P.dn r w * P.rs r) = -((∑ w : Fin 1024, P.dn r w) * P.rs r) := by
    rw [Finset.sum_neg_distrib, Finset.sum_mul]
  have e3 : ∑ w : Fin 1024, P.dn r w * P.n r w = (∑ w : Fin 1024, P.d r w * P.dn r w) * P.rs r := by
    rw [Finset.sum_mul]; refine Finset.sum_congr rfl fun w _ => ?_; rw [n]; ring
  rw [e1, e2, dz, e3, n, ← rs_sq]; ring

end Args

/-- A device's 352 hidden columns, padded to 384. -/
def pc {M : Type} [Zero M] (f : ℕ → M) (k : ℕ) : M := if k % 384 < 352 then f (k / 384 * 352 + k % 384) else 0

theorem pc_mul {M : Type} [MulZeroClass M] (f h : ℕ → M) (k : ℕ) : pc f k * pc h k = pc (fun k => f k * h k) k := by
  unfold pc; split
  · rfl
  · exact mul_zero _

theorem sum_pc {M : Type} [AddCommMonoid M] (f : ℕ → M) : ∑ k : Fin 3072, pc f k = ∑ k : Fin 2816, f k := by
  have e1 : ∑ k : Fin (8 * 384), pc f k = ∑ p : Fin 8 × Fin 384, pc f (p.2.val + 384 * p.1.val) :=
    (Equiv.sum_comp finProdFinEquiv (fun k : Fin (8 * 384) => pc f k.val)).symm
  have e2 : ∑ k : Fin (8 * 352), f k = ∑ p : Fin 8 × Fin 352, f (p.2.val + 352 * p.1.val) :=
    (Equiv.sum_comp finProdFinEquiv (fun k : Fin (8 * 352) => f k.val)).symm
  refine e1.trans (Eq.trans ?_ e2.symm)
  rw [Fintype.sum_prod_type, Fintype.sum_prod_type]
  refine Finset.sum_congr rfl fun a _ => ?_
  refine (Fin.sum_univ_add (a := 352) (b := 32) (fun j : Fin (352 + 32) => pc f (j.val + 384 * a.val))).trans ?_
  rw [Finset.sum_eq_zero (s := (Finset.univ : Finset (Fin 32))) (fun j _ => ?_), add_zero]
  · refine Finset.sum_congr rfl fun j _ => ?_
    have hj := j.isLt
    have ha : (j.val + 384 * a.val) % 384 = j.val := by omega
    have hb : (j.val + 384 * a.val) / 384 = a.val := by omega
    show pc f (j.val + 384 * a.val) = _
    rw [pc, ha, hb, if_pos hj]; dsimp only; congr 1; omega
  · have hj := j.isLt
    have ha : (352 + j.val + 384 * a.val) % 384 = 352 + j.val := by omega
    show pc f (352 + j.val + 384 * a.val) = 0
    rw [pc, ha, if_neg (by omega)]

/-- A sum over blocks. -/
theorem sum_blocks {M : Type} [AddCommMonoid M] (f : ℕ → M) (b n : ℕ) : ∑ i ∈ Finset.range b, ∑ j : Fin n, f (n * i + j) = ∑ k : Fin (b * n), f k := by
  rw [← Fin.sum_univ_eq_sum_range (fun i => ∑ j : Fin n, f (n * i + j)) b]
  rw [← Equiv.sum_comp finProdFinEquiv (fun k : Fin (b * n) => f k.val), Fintype.sum_prod_type]
  refine Finset.sum_congr rfl fun a _ => Finset.sum_congr rfl fun j _ => ?_
  congr 1; exact Nat.add_comm _ _

end Cert.Ffn

end
-- ==== Proof.FfnRef.lean ====
module

public import proofs.«01_k».proof.Proof.FfnMath
public import proofs.«01_k».proof.Proof.Gen.FfnBwdRefIdeal.Run
public import Idealize.ShloMosaic.Lib.Pointwise

@[expose] public section

set_option maxRecDepth 16384

noncomputable section

namespace Cert.Ffn

open Idealize.ShloMosaic

/-- The array holds the real function. -/
abbrev Is {n k : ℕ} {φ : FTy} (x : FVec Ideal ⟨2, ![n, k]⟩ φ) (f : ℕ → ℕ → ℝ) : Prop :=
  ∀ (r : Fin n) (w : Fin k), x (ix2 r w) = ((f r.val w.val : ℝ) : EReal)

end Cert.Ffn

/-! The reference's arrays as the real functions of `Cert.Ffn`. -/
namespace Cert.FfnBwdRefIdeal.Value

open Idealize.ShloMosaic Idealize.ShloMosaic.TcCoe
open Cert.FfnBwdRefIdeal Cert.FfnBwdRefIdeal.Gen Cert.Ffn
open Cert.Lru (div_real coe_sum coe_ite bits_one bits_zero bits_half bits_two)

variable (V0 : Valuation τ sig (Elt Ideal))

/-- The reference's arguments. -/
abbrev A0 : FVec Ideal S8192x1024 .f32 := V0 (Proc.devRef .tc main_arg0)
@[inherit_doc A0] abbrev A1 : FVec Ideal S1024x2816 .f32 := V0 (Proc.devRef .tc main_arg1)
@[inherit_doc A0] abbrev A2 : FVec Ideal S1024x2816 .f32 := V0 (Proc.devRef .tc main_arg2)
@[inherit_doc A0] abbrev A3 : FVec Ideal S2816x1024 .f32 := V0 (Proc.devRef .tc main_arg3)
@[inherit_doc A0] abbrev A4 : FVec Ideal S1x1024 .f32 := V0 (Proc.devRef .tc main_arg4)
@[inherit_doc A0] abbrev A5 : FVec Ideal S8192x1024 .f32 := V0 (Proc.devRef .tc main_arg5)

/-- The reference's arguments are the real ones. -/
structure HasR (P : Args) : Prop where
  x : Is (A0 V0) P.x
  wg : Is (A1 V0) P.wg
  wu : Is (A2 V0) P.wu
  wd : Is (A3 V0) P.wd
  lg : Is (A4 V0) (fun _ => P.lg)
  ct : Is (A5 V0) P.ct

variable {V0} {P : Args}

/-- The gate's product. -/
theorem r4 (Q : HasR V0 P) : Is (n := 8192) (k := 2816) (φ := .f32) (res_main_v4 V0) P.g := by
  intro r w
  pointwise [res_main_v4, res_main_v0]
  simp only [Q.x _ _, Q.wg _ _, coe_sum, bits_zero, ← EReal.coe_mul, ← EReal.coe_add, add_zero]
  rfl

/-- The other product. -/
theorem r7 (Q : HasR V0 P) : Is (n := 8192) (k := 2816) (φ := .f32) (res_main_v7 V0) P.u := by
  intro r w
  pointwise [res_main_v7, res_main_v0]
  simp only [Q.x _ _, Q.wu _ _, coe_sum, bits_zero, ← EReal.coe_mul, ← EReal.coe_add, add_zero]
  rfl

/-- The logistic. -/
theorem r5_2 (Q : HasR V0 P) : Is (n := 8192) (k := 2816) (φ := .f32) (res_main_v5_2 V0) P.s := by
  intro r w
  pointwise [res_main_v5_2]
  simp only [r4 Q _ _, bits_one, ← EReal.coe_zero, ← EReal.coe_one, ← EReal.coe_mul, ← EReal.coe_add, ← EReal.coe_sub, ← EReal.coe_neg, Ideal.exp_coe]
  rw [div_real (one_exp _), one_mul]; rfl

theorem r5_0 (Q : HasR V0 P) : Is (n := 8192) (k := 2816) (φ := .f32) (res_main_v5_0 V0) (fun r k => P.g r k * P.s r k) := by
  intro r w
  pointwise [res_main_v5_0]
  simp only [r4 Q _ _, r5_2 Q _ _, ← EReal.coe_mul]

/-- What is normed. -/
theorem r15 (Q : HasR V0 P) : Is (n := 8192) (k := 1024) (φ := .f32) (res_main_v15 V0) P.z := by
  intro r w
  pointwise [res_main_v15]
  simp only [r5_0 Q _ _, r7 Q _ _, Q.x _ _, Q.wd _ _, coe_sum, bits_zero, bits_al, bits_half, ← EReal.coe_mul, ← EReal.coe_add, add_zero]
  rfl

/-- A row's mean. -/
theorem r19 (Q : HasR V0 P) : Is (n := 8192) (k := 1) (φ := .f32) (res_main_v19 V0) (fun r _ => P.mu r) := by
  intro r w
  pointwise [res_main_v19]
  simp only [r15 Q _ _, coe_sum, bits_zero, bits_1024, ← EReal.coe_zero, ← EReal.coe_mul, ← EReal.coe_add, add_zero, zero_add]
  rw [div_real (by norm_num)]; rfl

/-- The distance from it. -/
theorem r21 (Q : HasR V0 P) : Is (n := 8192) (k := 1024) (φ := .f32) (res_main_v21 V0) P.d := by
  intro r w
  pointwise [res_main_v21]
  simp only [r15 Q _ _, r19 Q _ _, ← EReal.coe_sub]
  rfl
@[inherit_doc r21] theorem r30 (Q : HasR V0 P) : Is (n := 8192) (k := 1024) (φ := .f32) (res_main_v30 V0) P.d := r21 Q

/-- A row's variance. -/
theorem r32 (Q : HasR V0 P) : Is (n := 8192) (k := 1) (φ := .f32) (res_main_v32 V0) (fun r _ => P.v r) := by
  intro r w
  pointwise [res_main_v32]
  simp only [r21 Q _ _, coe_sum, bits_zero, bits_1024, bits_ep, ← EReal.coe_zero, ← EReal.coe_mul, ← EReal.coe_add, add_zero, zero_add]
  rw [div_real (by norm_num), ← EReal.coe_add]; rfl

theorem r33 (Q : HasR V0 P) : Is (n := 8192) (k := 1) (φ := .f32) (res_main_v33 V0) (fun r _ => P.rs r) := by
  intro r w
  pointwise [res_main_v33]
  rw [r32 Q _ _, rsqrt_real (Args.v_pos _)]; rfl

theorem r38 (Q : HasR V0 P) : Is (n := 8192) (k := 1024) (φ := .f32) (res_main_v38 V0) P.n := by
  intro r w
  pointwise [res_main_v38]
  simp only [r30 Q _ _, r33 Q _ _, ← EReal.coe_mul]
  rfl

theorem r43 (Q : HasR V0 P) : Is (n := 8192) (k := 1024) (φ := .f32) (res_main_v43 V0) P.ct := by
  intro r w
  pointwise [res_main_v43]
  exact Q.ct _ _

theorem r50 (Q : HasR V0 P) : Is (n := 8192) (k := 1024) (φ := .f32) (res_main_v50 V0) P.dn := by
  intro r w
  pointwise [res_main_v50]
  simp only [r43 Q _ _, Q.lg _ _, ← EReal.coe_mul]
  rfl

theorem r55 (Q : HasR V0 P) : Is (n := 8192) (k := 1024) (φ := .f32) (res_main_v55 V0) (fun r w => P.dn r w * P.rs r) := by
  intro r w
  pointwise [res_main_v55]
  simp only [r50 Q _ _, r33 Q _ _, ← EReal.coe_mul]

theorem r64 (Q : HasR V0 P) : Is (n := 8192) (k := 1024) (φ := .f32) (res_main_v64 V0)
    (fun r w => (∑ w : Fin 1024, P.d r w * P.dn r w) * (-2⁻¹ * (P.rs r * (P.v r)⁻¹)) * 1024⁻¹ * (2 * P.d r w)) := by
  intro r w
  pointwise [res_main_v64]
  simp only [r30 Q _ _, r50 Q _ _, r33 Q _ _, r32 Q _ _, r21 Q _ _, div_real (Args.v_pos _).ne', div_real (show (1024 : ℝ) ≠ 0 by norm_num), coe_sum, Finset.univ_unique, Finset.sum_singleton, bits_zero, bits_1024, bits_neg_half, bits_two, ← EReal.coe_zero, ← EReal.coe_mul, ← EReal.coe_add, add_zero, zero_add]

theorem r74 (Q : HasR V0 P) : Is (n := 8192) (k := 1024) (φ := .f32) (res_main_v74 V0) P.dz := by
  intro r w
  pointwise [res_main_v74]
  simp only [r55 Q _ _, r64 Q _ _, div_real (show (1024 : ℝ) ≠ 0 by norm_num), coe_sum, Finset.univ_unique, Finset.sum_singleton, bits_zero, bits_1024, ← EReal.coe_zero, ← EReal.coe_mul, ← EReal.coe_add, ← EReal.coe_neg, add_zero, zero_add]
  exact congrArg _ (Args.dz_ref r.val w.val)

theorem r76 (Q : HasR V0 P) : Is (n := 8192) (k := 1024) (φ := .f32) (res_main_v76 V0) P.dy := by
  intro r w
  pointwise [res_main_v76]
  simp only [r74 Q _ _, bits_half, ← EReal.coe_mul]
  rfl

theorem r77 (Q : HasR V0 P) : Is (n := 8192) (k := 2816) (φ := .f32) (res_main_v77 V0) P.da := by
  intro r w
  pointwise [res_main_v77]
  simp only [r76 Q _ _, Q.wd _ _, coe_sum, ← EReal.coe_mul]
  rfl

theorem r80 (Q : HasR V0 P) : Is (n := 8192) (k := 2816) (φ := .f32) (res_main_v80 V0) P.du := by
  intro r w
  pointwise [res_main_v80]
  simp only [r77 Q _ _, r5_0 Q _ _, ← EReal.coe_mul]
  congr 1; rw [Args.du]; ring

theorem r81 (Q : HasR V0 P) : Is (n := 8192) (k := 2816) (φ := .f32) (res_main_v81 V0) (fun r k => P.da r k * P.u r k) := by
  intro r w
  pointwise [res_main_v81]
  simp only [r77 Q _ _, r7 Q _ _, ← EReal.coe_mul]

theorem r84 (Q : HasR V0 P) : Is (n := 8192) (k := 2816) (φ := .f32) (res_main_v84 V0) P.dg := by
  intro r w
  pointwise [res_main_v84]
  simp only [r81 Q _ _, r4 Q _ _, r5_2 Q _ _, bits_one, ← EReal.coe_one, ← EReal.coe_mul, ← EReal.coe_add, ← EReal.coe_sub]
  congr 1; rw [Args.dg]; ring

end Cert.FfnBwdRefIdeal.Value
-- ==== Proof.FfnPay.lean ====
module

public import proofs.«01_k».proof.Proof.FfnRef
public import proofs.«01_k».proof.Proof.FfnRuns

@[expose] public section

set_option maxRecDepth 16384

noncomputable section

/-! The values of one block of rows and one block of padded hidden columns. -/
namespace Cert.FfnBwdIdeal.Value

open Idealize.ShloMosaic Idealize.ShloMosaic.TcCoe
open Cert.FfnBwdIdeal Cert.FfnBwdIdeal.Gen Cert.Ffn
open Cert.Lru (div_real coe_sum coe_ite bits_one bits_zero bits_half bits_two)

variable {P : Args} {R K : ℕ}

section Rows

variable {z ct : FVec Ideal S512x1024 .f32} {lg : FVec Ideal S1x1024 .f32}
  (hz : Is z (fun r w => P.z (R + r) w)) (hc : Is ct (fun r w => P.ct (R + r) w)) (hl : Is lg (fun _ => P.lg))
include hz

theorem p3 : Is (k0_pay3 z) (fun r w => P.d (R + r) w) := by
  intro r w
  pointwise [k0_pay3]
  simp only [hz _ _, coe_sum, div_real (show (1024 : ℝ) ≠ 0 by norm_num), bits_zero, bits_1024, ← EReal.coe_zero, ← EReal.coe_sub, ← EReal.coe_mul, ← EReal.coe_add, add_zero, zero_add]
  rfl

theorem p4 : Is (n := 512) (k := 1) (k0_pay4 z) (fun r _ => P.rs (R + r)) := by
  intro r w
  pointwise [k0_pay4]
  simp only [p3 hz _ _, coe_sum, div_real (show (1024 : ℝ) ≠ 0 by norm_num), bits_zero, bits_1024, bits_ep, ← EReal.coe_zero, ← EReal.coe_sub, ← EReal.coe_mul, ← EReal.coe_add, add_zero, zero_add]
  exact rsqrt_real (Args.v_pos (P := P) (R + r.val))

theorem p5 : Is (k0_pay5 z) (fun r w => P.n (R + r) w) := by
  intro r w
  pointwise [k0_pay5]
  simp only [p3 hz _ _, p4 hz _ _, ← EReal.coe_mul]
  rfl

include hc

theorem p7 (o : Fin 1) (w : Fin 1024) : k0_pay7 (F := Ideal) z ct (ix2 o w) = ((∑ r : Fin 512, P.ct (R + r.val) w.val * P.n (R + r.val) w.val : ℝ) : EReal) := by
  pointwise [k0_pay7]
  simp only [p5 hz _ _, hc _ _, coe_sum, bits_zero, ← EReal.coe_zero, ← EReal.coe_mul, ← EReal.coe_add, add_zero, zero_add]

include hl

theorem p6 : Is (n := 512) (k := 1024) (φ := .f32) (dzOf (F := Ideal) z ct lg) (fun r w => P.dz (R + r) w) := by
  intro r w
  pointwise [dzOf, k0_pay6]
  simp only [p4 hz _ _, p5 hz _ _, hc _ _, hl _ _, coe_sum, div_real (show (1024 : ℝ) ≠ 0 by norm_num), bits_zero, bits_1024, ← EReal.coe_zero, ← EReal.coe_sub, ← EReal.coe_mul, ← EReal.coe_add, add_zero, zero_add]
  rfl

omit hz hl in
theorem p8 (o : Fin 1) (w : Fin 1024) : k0_pay8 (F := Ideal) ct (ix2 o w) = ((∑ r : Fin 512, P.ct (R + r.val) w.val : ℝ) : EReal) := by
  pointwise [k0_pay8]
  simp only [hc _ _, coe_sum, bits_zero, ← EReal.coe_zero, ← EReal.coe_add, add_zero, zero_add]

theorem p13 : Is (k0_pay13 (F := Ideal) (dzOf (F := Ideal) z ct lg)) (fun r w => P.dy (R + r) w) := by
  intro r w
  pointwise [k0_pay13]
  simp only [p6 hz hc hl _ _, bits_half, ← EReal.coe_mul]
  rfl

theorem p14 : Is (k0_pay14 (F := Ideal) (dzOf (F := Ideal) z ct lg)) (fun r w => P.dy (R + r) w) := by
  intro r w
  pointwise [k0_pay14]
  exact p13 hz hc hl _ _

theorem p15 : Is (k0_pay15 (F := Ideal) (dzOf (F := Ideal) z ct lg)) (fun r w => kAl * P.dz (R + r) w) := by
  intro r w
  pointwise [k0_pay15]
  simp only [p6 hz hc hl _ _, bits_al, ← EReal.coe_mul]

end Rows

theorem p9 (o : Fin 1) (w : Fin 1024) : k0_pay9 (F := Ideal) (ix2 o w) = ((0 : ℝ) : EReal) := by
  pointwise [k0_pay9]
  exact EReal.coe_zero.symm
theorem p10 (o : Fin 1) (w : Fin 1024) : k0_pay10 (F := Ideal) (ix2 o w) = ((0 : ℝ) : EReal) := by
  pointwise [k0_pay10]
  exact EReal.coe_zero.symm

section Columns

variable {gs us : FVec Ideal S512x768 .bf16} {yb : FVec Ideal S512x1024 .bf16} {wd : FVec Ideal S2x1x384x1024 .bf16}
  {wg wu : FVec Ideal S1x1024x768 .bf16} {acc : FVec Ideal S512x1024 .f32} {A : ℕ → ℕ → ℝ}
  (hg : Is gs (fun r k => pc (P.g (R + r)) (K + k))) (hu : Is us (fun r k => pc (P.u (R + r)) (K + k)))
  (hy : Is yb (fun r w => P.dy (R + r) w))
  (hd : ∀ (d : Fin 2) (o : Fin 1) (j : Fin 384) (w : Fin 1024), wd (ix4 d o j w) = ((pc (fun k => P.wd k w.val) (K + (384 * d.val + j.val)) : ℝ) : EReal))
  (hwg : ∀ (o : Fin 1) (a : Fin 1024) (k : Fin 768), wg (ix3 o a k) = ((pc (P.wg a.val) (K + k.val) : ℝ) : EReal))
  (hwu : ∀ (o : Fin 1) (a : Fin 1024) (k : Fin 768), wu (ix3 o a k) = ((pc (P.wu a.val) (K + k.val) : ℝ) : EReal))
  (ha : Is acc A)

theorem da_pc (r k : ℕ) : ∑ w : Fin 1024, P.dy r w * pc (fun k => P.wd k w.val) k = pc (P.da r) k := by
  unfold pc; split
  · rfl
  · simp

theorem dg_pc (r k : ℕ) : pc (P.da r) k * pc (P.u r) k * ((1 + Real.exp (-pc (P.g r) k))⁻¹ * (1 + pc (P.g r) k * (1 - (1 + Real.exp (-pc (P.g r) k))⁻¹))) = pc (P.dg r) k := by
  unfold pc; split
  · rfl
  · rw [zero_mul, zero_mul]

theorem du_pc (r k : ℕ) : pc (P.da r) k * (pc (P.g r) k * (1 + Real.exp (-pc (P.g r) k))⁻¹) = pc (P.du r) k := by
  unfold pc; split
  · rfl
  · rw [zero_mul]

include hg in
theorem p16 : Is (k0_pay16 gs) (fun r k => pc (P.g (R + r)) (K + k)) := by
  intro r w
  pointwise [k0_pay16]
  exact hg _ _

include hg in
theorem p18 : Is (k0_pay18 gs) (fun r k => (1 + Real.exp (-pc (P.g (R + r)) (K + k)))⁻¹) := by
  intro r w
  pointwise [k0_pay18]
  simp only [p16 hg _ _, bits_one, bits_zero, ← EReal.coe_zero, ← EReal.coe_one, ← EReal.coe_mul, ← EReal.coe_add, ← EReal.coe_sub, ← EReal.coe_neg, Ideal.exp_coe, zero_sub]
  rw [div_real (one_exp _), one_mul]

include hy hd in
theorem p17 : Is (k0_pay17 yb wd) (fun r k => pc (P.da (R + r)) (K + k)) := by
  intro r k
  pointwise [k0_pay17]
  simp only [hy _ _, hd _ _ _ _, coe_sum, bits_zero, ← EReal.coe_zero, ← EReal.coe_mul, ← EReal.coe_add, add_zero, zero_add]
  refine congrArg _ ((Finset.sum_congr rfl fun w _ => ?_).trans (da_pc _ _))
  have e : 384 * (k.val / 384) + k.val % 384 = k.val := by omega
  simp only [e]

include hg hu hy hd in
theorem p19 : Is (n := 512) (k := 768) (φ := .bf16) (dgOf (F := Ideal) gs us wd yb) (fun r k => pc (P.dg (R + r)) (K + k)) := by
  intro r k
  pointwise [dgOf, k0_pay19]
  simp only [p16 hg _ _, p17 hy hd _ _, p18 hg _ _, hu _ _, bits_one, ← EReal.coe_one, ← EReal.coe_mul, ← EReal.coe_add, ← EReal.coe_sub]
  exact congrArg _ (dg_pc _ _)

include hg hy hd in
theorem p1 : Is (n := 512) (k := 768) (φ := .bf16) (duOf (F := Ideal) gs wd yb) (fun r k => pc (P.du (R + r)) (K + k)) := by
  intro r k
  pointwise [duOf, k0_pay1]
  simp only [p16 hg _ _, p17 hy hd _ _, p18 hg _ _, ← EReal.coe_mul]
  exact congrArg _ (du_pc _ _)

include hg hu hy hd hwg hwu ha in
theorem p2 : Is (n := 512) (k := 1024) (φ := .f32) (accOf (F := Ideal) gs us wg wu wd yb acc) (fun r w => A r w +
    (∑ j : Fin 768, pc (fun k => P.dg (R + r) k * P.wg w k) (K + j.val) + ∑ j : Fin 768, pc (fun k => P.du (R + r) k * P.wu w k) (K + j.val))) := by
  intro r w
  have h19 := p19 hg hu hy hd
  have h1 := p1 hg hy hd
  unfold dgOf at h19
  unfold duOf at h1
  pointwise [accOf, k0_pay2]
  simp only [h19 _ _, h1 _ _, hwg _ _ _, hwu _ _ _, ha _ _, coe_sum, bits_zero, ← EReal.coe_zero, ← EReal.coe_mul, ← EReal.coe_add, add_zero, zero_add, pc_mul]

end Columns

end Cert.FfnBwdIdeal.Value
-- ==== Proof.FfnBlocks.lean ====
module

public import Idealize.ShloMosaic.Lib.Pipeline.ValueKit
public import Idealize.ShloMosaic.Lib.Pipeline.ReadBack
public import proofs.«01_k».proof.Proof.FfnState
public import proofs.«01_k».proof.Proof.FfnPay

@[expose] public section

set_option maxRecDepth 16384

noncomputable section

/-! What a grid point loads. -/
namespace Cert.FfnBwdIdeal.Value

open Idealize.ShloMosaic Idealize.ShloMosaic.TcCoe Idealize.SL.Sem
open Cert.FfnBwdIdeal Cert.FfnBwdIdeal.Gen Cert.Ffn

variable (m : (ℓ : Loc nD τ sig) → Buf (Elt Ideal) ℓ)

theorem idxA : ∀ t : Fin cfg0.N, win0_0.index t = ![t.val / 4, 0] ∧ win0_1.index t = ![t.val / 4, 0] ∧ win0_2.index t = ![t.val / 4, t.val % 4] ∧
    win0_3.index t = ![t.val / 4, t.val % 4] ∧ win0_4.index t = ![0, 0, t.val % 4] ∧ win0_5.index t = ![1, 0, t.val % 4] ∧
    win0_6.index t = ![t.val % 4, 0, 0, 0] ∧ win0_7.index t = ![0, 0] :=
  (by decide +kernel : ∀ t : Fin grid0.N, _)
theorem idxB : ∀ t : Fin cfg0.N, win0_8.index t = ![t.val / 4, 0] ∧ win0_9.index t = ![t.val / 4, t.val % 4] ∧ win0_10.index t = ![t.val / 4, t.val % 4] ∧
    win0_11.index t = ![t.val / 4, 0] ∧ win0_12.index t = ![0, 0] ∧ win0_13.index t = ![0, 0] :=
  (by decide +kernel : ∀ t : Fin grid0.N, _)

theorem lt64 (t : Fin cfg0.N) : t.val < 64 := lt_of_lt_of_eq t.isLt N_0

/-- The arrays that the call is given. -/
abbrev ZZ (c : Dev nD) : FVec Ideal S8192x1024 .f32 := V m c main_v25
@[inherit_doc ZZ] abbrev CT (c : Dev nD) : FVec Ideal S8192x1024 .f32 := V m c main_arg5
@[inherit_doc ZZ] abbrev GS (c : Dev nD) : FVec Ideal S8192x3072 .bf16 := V m c main_v29
@[inherit_doc ZZ] abbrev US (c : Dev nD) : FVec Ideal S8192x3072 .bf16 := V m c main_v33
@[inherit_doc ZZ] abbrev WW (c : Dev nD) : FVec Ideal S2x1024x3072 .bf16 := V m c main_v11
@[inherit_doc ZZ] abbrev WD (c : Dev nD) : FVec Ideal S8x1x384x1024 .bf16 := V m c main_v15
@[inherit_doc ZZ] abbrev LG (c : Dev nD) : FVec Ideal S1x1024 .f32 := V m c main_arg4

/-- They hold the real arrays, the hidden columns padded. -/
structure Has (P : Args) (c : Dev nD) : Prop where
  z : Is (ZZ m c) P.z
  ct : Is (CT m c) P.ct
  g : Is (GS m c) (fun r k => pc (P.g r) k)
  u : Is (US m c) (fun r k => pc (P.u r) k)
  wg : ∀ (a : Fin 1024) (k : Fin 3072), WW m c (ix3 0 a k) = ((pc (P.wg a.val) k.val : ℝ) : EReal)
  wu : ∀ (a : Fin 1024) (k : Fin 3072), WW m c (ix3 1 a k) = ((pc (P.wu a.val) k.val : ℝ) : EReal)
  wd : ∀ (d : Fin 8) (o : Fin 1) (j : Fin 384) (w : Fin 1024), WD m c (ix4 d o j w) = ((pc (fun k => P.wd k w.val) (384 * d.val + j.val) : ℝ) : EReal)
  lg : Is (LG m c) (fun _ => P.lg)

theorem at_ext {α : Type} (f : S2x1024x3072.Idx → α) (i j : S2x1024x3072.Idx) (h : ∀ a : Fin 3, (i a).val = (j a).val) : f i = f j := by
  have e : i = j := funext fun a => Fin.ext (h a)
  rw [e]

section Blocks

variable (c : Dev nD) (t : Fin cfg0.N)

theorem b0 (r : Fin 512) (w : Fin 1024) : iblk m c 0 t (ix2 r w) = ZZ m c (ix2 ⟨512 * (t.val / 4) + r.val, by have := lt64 t; omega⟩ w) := by
  show ZZ m c ((win0_0.blk t).view.emb (ix2 r w)) = _
  have e := (idxA t).1
  congr 1
  blk_ext [e]
theorem b1 (r : Fin 512) (w : Fin 1024) : iblk m c 1 t (ix2 r w) = CT m c (ix2 ⟨512 * (t.val / 4) + r.val, by have := lt64 t; omega⟩ w) := by
  show CT m c ((win0_1.blk t).view.emb (ix2 r w)) = _
  have e := (idxA t).2.1
  congr 1
  blk_ext [e]
theorem b2 (r : Fin 512) (k : Fin 768) : iblk m c 2 t (ix2 r k) = GS m c (ix2 ⟨512 * (t.val / 4) + r.val, by have := lt64 t; omega⟩ ⟨768 * (t.val % 4) + k.val, by omega⟩) := by
  show GS m c ((win0_2.blk t).view.emb (ix2 r k)) = _
  have e := (idxA t).2.2.1
  congr 1
  blk_ext [e]
theorem b3 (r : Fin 512) (k : Fin 768) : iblk m c 3 t (ix2 r k) = US m c (ix2 ⟨512 * (t.val / 4) + r.val, by have := lt64 t; omega⟩ ⟨768 * (t.val % 4) + k.val, by omega⟩) := by
  show US m c ((win0_3.blk t).view.emb (ix2 r k)) = _
  have e := (idxA t).2.2.2.1
  congr 1
  blk_ext [e]
theorem b6 (d : Fin 2) (o : Fin 1) (j : Fin 384) (w : Fin 1024) : iblk m c 6 t (ix4 d o j w) = WD m c (ix4 ⟨2 * (t.val % 4) + d.val, by omega⟩ o j w) := by
  show WD m c ((win0_6.blk t).view.emb (ix4 d o j w)) = _
  have e := (idxA t).2.2.2.2.2.2.1
  congr 1
  blk_ext [e]
theorem b7 (o : Fin 1) (w : Fin 1024) : iblk m c 7 t (ix2 o w) = LG m c (ix2 o w) := by
  show LG m c ((win0_7.blk t).view.emb (ix2 o w)) = _
  have e := (idxA t).2.2.2.2.2.2.2
  congr 1
  blk_ext [e]

end Blocks

end Cert.FfnBwdIdeal.Value
-- ==== Proof.FfnHost.lean ====
module

public import proofs.«01_k».proof.Proof.FfnBlocks
public import Idealize.ShloMosaic.Lib.StableHlo.ReadAt

@[expose] public section

set_option maxRecDepth 16384
set_option maxHeartbeats 1000000

noncomputable section

/-! What the kernel program's host lines leave for the call, as expressions in the arguments. -/
namespace Cert.FfnBwdIdeal.Value

open Idealize.ShloMosaic Idealize.ShloMosaic.TcCoe
open Cert.FfnBwdIdeal Cert.FfnBwdIdeal.Gen Cert.Ffn

variable (m : (ℓ : Loc nD τ sig) → Buf (Elt Ideal) ℓ) (c : Dev nD)

/-- The kernel's arguments. -/
abbrev M0 : FVec Ideal S8192x1024 .f32 := m ((c : Thread nD τ).loc main_arg0)
@[inherit_doc M0] abbrev M1 : FVec Ideal S1024x2816 .f32 := m ((c : Thread nD τ).loc main_arg1)
@[inherit_doc M0] abbrev M2 : FVec Ideal S1024x2816 .f32 := m ((c : Thread nD τ).loc main_arg2)
@[inherit_doc M0] abbrev M3 : FVec Ideal S2816x1024 .f32 := m ((c : Thread nD τ).loc main_arg3)
@[inherit_doc M0] abbrev M4 : FVec Ideal S1x1024 .f32 := m ((c : Thread nD τ).loc main_arg4)
@[inherit_doc M0] abbrev M5 : FVec Ideal S8192x1024 .f32 := m ((c : Thread nD τ).loc main_arg5)

/-- A product with the layer's input. -/
def hostMul (x : FVec Ideal S8192x1024 .f32) (w : FVec Ideal S1024x2816 .f32) : FVec Ideal S8192x2816 .f32 :=
  Host.dotGeneral dot_S8192x1024_S1024x2816_S8192x2816_1_0_0_1_n_n none x w
/-- The layer's hidden columns, padded device by device. -/
def hostPad (g : FVec Ideal S8192x2816 .f32) : FVec Ideal S8192x3072 .bf16 :=
  truncf .bf16 (shapeCast _ (pad S8192x8x384 ![0, 0, 0] ![0, 0, 32] ![0, 0, 0] (shapeCast _ g shapeCasts_S8192x2816_S8192x8x352) (sitofp .f32 (constantI S_ 32 0#32)) pads_S8192x8x352_S8192x8x384_000_000_0320 h_S_) shapeCasts_S8192x8x384_S8192x3072) bitsLt_bf16_f32
/-- What is normed. -/
def hostZ (x : FVec Ideal S8192x1024 .f32) (g u : FVec Ideal S8192x2816 .f32) (d : FVec Ideal S2816x1024 .f32) : FVec Ideal S8192x1024 .f32 :=
  addf (mulf (broadcastInDim S8192x1024 ![] bcast_S_S8192x1024 (constant S_ .f32 0x3FB504F3#32)) x)
    (mulf (broadcastInDim S8192x1024 ![] bcast_S_S8192x1024 (constant S_ .f32 0x3F000000#32))
      (Host.dotGeneral dot_S8192x2816_S2816x1024_S8192x1024_1_0_0_1_n_n none
        (mulf (mulf g (Host.divf (broadcastInDim S8192x2816 ![] bcast_S_S8192x2816 (constant S_ .f32 0x3F800000#32))
          (addf (broadcastInDim S8192x2816 ![] bcast_S_S8192x2816 (constant S_ .f32 0x3F800000#32)) (Host.exp (Host.negf g))))) u) d))
/-- A matrix's columns, device by device, padded. -/
def hostW (w : FVec Ideal S1024x2816 .f32) : FVec Ideal S8x1x1024x384 .f32 :=
  broadcastInDim S8x1x1024x384 ![0, 2, 3] bcast_S8x1024x384_S8x1x1024x384_0_2_3 (pad S8x1024x384 ![0, 0, 0] ![0, 0, 32] ![0, 0, 0]
    (transpose S8x1024x352 [1, 0, 2] (shapeCast _ w shapeCasts_S1024x2816_S1024x8x352) transposes_S1024x8x352_S8x1024x352_1_0_2) (sitofp .f32 (constantI S_ 32 0#32)) pads_S8x1024x352_S8x1024x384_000_000_0320 h_S_)
/-- Two of them one after the other. -/
def cat (a b : FVec Ideal S8x1x1024x384 .f32) : FVec Ideal S8x2x1024x384 .f32 :=
  concatenate S8x2x1024x384 1 [⟨S8x1x1024x384, a⟩, ⟨S8x1x1024x384, b⟩] concatenates_S8x1x1024x384_S8x1x1024x384_S8x2x1024x384_d1
theorem cat_eq : (fun (a b : FVec Ideal S8x1x1024x384 .f32) =>
    concatenate S8x2x1024x384 1 [⟨S8x1x1024x384, a⟩, ⟨S8x1x1024x384, b⟩] concatenates_S8x1x1024x384_S8x1x1024x384_S8x2x1024x384_d1) = cat := rfl
/-- The two matrices side by side. -/
def hostWW (a b : FVec Ideal S8x1x1024x384 .f32) : FVec Ideal S2x1024x3072 .bf16 :=
  shapeCast _ (transpose S2x1024x8x384 [1, 2, 0, 3] (truncf .bf16 (cat a b) bitsLt_bf16_f32) transposes_S8x2x1024x384_S2x1024x8x384_1_2_0_3) shapeCasts_S2x1024x8x384_S2x1024x3072
/-- The third matrix's rows, device by device, padded. -/
def hostWD (w : FVec Ideal S2816x1024 .f32) : FVec Ideal S8x1x384x1024 .bf16 :=
  truncf .bf16 (broadcastInDim S8x1x384x1024 ![0, 2, 3] bcast_S8x384x1024_S8x1x384x1024_0_2_3 (pad S8x384x1024 ![0, 0, 0] ![0, 32, 0] ![0, 0, 0]
    (shapeCast _ w shapeCasts_S2816x1024_S8x352x1024) (sitofp .f32 (constantI S_ 32 0#32)) pads_S8x352x1024_S8x384x1024_000_0320_000 h_S_)) bitsLt_bf16_f32

theorem host_z : ZZ m c = hostZ (M0 m c) (hostMul (M0 m c) (M1 m c)) (hostMul (M0 m c) (M2 m c)) (M3 m c) := by
  simp only [ZZ, GS, US, WW, WD, cat_eq, V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil, StableHlo.TRef.nullary, StableHlo.TRef.ternary, StableHlo.TRef.binary, StableHlo.TRef.unary, StableHlo.TRef.toBuf, StableHlo.TRef.ofBuf, cast_eq]
  after_reads_simp
  exact rfl

theorem host_g : GS m c = hostPad (hostMul (M0 m c) (M1 m c)) := by
  simp only [ZZ, GS, US, WW, WD, cat_eq, V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil, StableHlo.TRef.nullary, StableHlo.TRef.ternary, StableHlo.TRef.binary, StableHlo.TRef.unary, StableHlo.TRef.toBuf, StableHlo.TRef.ofBuf, cast_eq]
  after_reads_simp
  exact rfl

theorem host_u : US m c = hostPad (hostMul (M0 m c) (M2 m c)) := by
  simp only [ZZ, GS, US, WW, WD, cat_eq, V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil, StableHlo.TRef.nullary, StableHlo.TRef.ternary, StableHlo.TRef.binary, StableHlo.TRef.unary, StableHlo.TRef.toBuf, StableHlo.TRef.ofBuf, cast_eq]
  after_reads_simp
  exact rfl

theorem host_w : WW m c = hostWW (hostW (M1 m c)) (hostW (M2 m c)) := by
  simp only [ZZ, GS, US, WW, WD, cat_eq, V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil, StableHlo.TRef.nullary, StableHlo.TRef.ternary, StableHlo.TRef.binary, StableHlo.TRef.unary, StableHlo.TRef.toBuf, StableHlo.TRef.ofBuf, cast_eq]
  after_reads_simp
  exact rfl

theorem host_d : WD m c = hostWD (M3 m c) := by
  simp only [ZZ, GS, US, WW, WD, cat_eq, V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil, StableHlo.TRef.nullary, StableHlo.TRef.ternary, StableHlo.TRef.binary, StableHlo.TRef.unary, StableHlo.TRef.toBuf, StableHlo.TRef.ofBuf, cast_eq]
  after_reads_simp
  exact rfl

end Cert.FfnBwdIdeal.Value
-- ==== Proof.FfnHostVal.lean ====
module

public import proofs.«01_k».proof.Proof.FfnHost
public import Idealize.ShloMosaic.Lib.Pointwise

@[expose] public section

set_option maxRecDepth 16384

noncomputable section

/-! What the host lines leave for the call, as real functions of the arguments. -/
namespace Cert.FfnBwdIdeal.Value

open Idealize.ShloMosaic Idealize.ShloMosaic.TcCoe
open Cert.FfnBwdIdeal Cert.FfnBwdIdeal.Gen Cert.Ffn
open Cert.Lru (div_real coe_sum coe_ite bits_one bits_zero bits_half bits_two)

theorem is_mul {x : FVec Ideal S8192x1024 .f32} {w : FVec Ideal S1024x2816 .f32} {X W : ℕ → ℕ → ℝ} (hx : Is x X) (hw : Is w W) :
    Is (hostMul x w) (fun r k => ∑ a : Fin 1024, X r a * W a k) := by
  intro r k
  pointwise [hostMul]
  simp only [hx _ _, hw _ _, coe_sum, ← EReal.coe_mul]

theorem is_z {x : FVec Ideal S8192x1024 .f32} {g u : FVec Ideal S8192x2816 .f32} {d : FVec Ideal S2816x1024 .f32} {X G U D : ℕ → ℕ → ℝ}
    (hx : Is x X) (hg : Is g G) (hu : Is u U) (hd : Is d D) :
    Is (hostZ x g u d) (fun r w => kAl * X r w + 2⁻¹ * ∑ k : Fin 2816, G r k * (1 + Real.exp (-G r k))⁻¹ * U r k * D k w) := by
  intro r k
  pointwise [hostZ]
  simp only [hx _ _, hg _ _, hu _ _, hd _ _, bits_al, bits_half, bits_one, ← EReal.coe_one, ← EReal.coe_neg, Ideal.exp_coe, ← EReal.coe_add, div_real (one_exp _), one_mul, coe_sum, ← EReal.coe_mul]

theorem pad_zero : (FloatOps.sitofp FTy.f32 0#32 : Ideal .f32) = ((0 : ℝ) : EReal) := by
  simp [FloatOps.sitofp]

theorem is_pad {g : FVec Ideal S8192x2816 .f32} {G : ℕ → ℕ → ℝ} (hg : Is g G) : Is (hostPad g) (fun r k => pc (G r) k) := by
  intro r k
  pointwise [hostPad]
  rw [pc]
  by_cases h : k.val % 384 < 352
  · rw [dif_pos ⟨by omega, h⟩, if_pos h]; exact hg _ _
  · rw [dif_neg (fun e => h e.2), if_neg h]; exact pad_zero

theorem is_w {w : FVec Ideal S1024x2816 .f32} {W : ℕ → ℕ → ℝ} (hw : Is w W) (d : Fin 8) (o : Fin 1) (a : Fin 1024) (j : Fin 384) :
    hostW w (ix4 d o a j) = ((pc (W a.val) (384 * d.val + j.val) : ℝ) : EReal) := by
  pointwise [hostW]
  have e : (384 * d.val + j.val) % 384 = j.val := by omega
  have e' : (384 * d.val + j.val) / 384 = d.val := by omega
  rw [pc, e, e']
  by_cases h : j.val < 352
  · rw [dif_pos h, if_pos h]; exact hw _ _
  · rw [dif_neg h, if_neg h]; exact pad_zero

theorem is_wd {w : FVec Ideal S2816x1024 .f32} {W : ℕ → ℕ → ℝ} (hw : Is w W) (d : Fin 8) (o : Fin 1) (j : Fin 384) (a : Fin 1024) :
    hostWD w (ix4 d o j a) = ((pc (fun k => W k a.val) (384 * d.val + j.val) : ℝ) : EReal) := by
  pointwise [hostWD]
  have e : (384 * d.val + j.val) % 384 = j.val := by omega
  have e' : (384 * d.val + j.val) / 384 = d.val := by omega
  rw [pc, e, e']
  by_cases h : j.val < 352
  · rw [dif_pos h, if_pos h]; exact hw _ _
  · rw [dif_neg h, if_neg h]; exact pad_zero

theorem is_w0 {x y : FVec Ideal S1024x2816 .f32} {X : ℕ → ℕ → ℝ} (hx : Is x X) (a : Fin 1024) (k : Fin 3072) :
    hostWW (hostW x) (hostW y) (ix3 0 a k) = ((pc (X a.val) k.val : ℝ) : EReal) := by
  have e : 384 * (k.val / 384) + k.val % 384 = k.val := by omega
  have h := is_w hx ⟨k.val / 384, by omega⟩ 0 a ⟨k.val % 384, by omega⟩
  rw [e] at h
  generalize hostW x = p at h ⊢
  generalize hostW y = q
  pointwise [hostWW, cat]
  exact h

theorem is_w1 {x y : FVec Ideal S1024x2816 .f32} {Y : ℕ → ℕ → ℝ} (hy : Is y Y) (a : Fin 1024) (k : Fin 3072) :
    hostWW (hostW x) (hostW y) (ix3 1 a k) = ((pc (Y a.val) k.val : ℝ) : EReal) := by
  have e : 384 * (k.val / 384) + k.val % 384 = k.val := by omega
  have h := is_w hy ⟨k.val / 384, by omega⟩ 0 a ⟨k.val % 384, by omega⟩
  rw [e] at h
  generalize hostW x = p
  generalize hostW y = q at h ⊢
  pointwise [hostWW, cat]
  exact h

/-- What the call is given, from the real arguments. -/
theorem has_of {m : (ℓ : Loc nD τ sig) → Buf (Elt Ideal) ℓ} {c : Dev nD} {P : Args} (h0 : Is (M0 m c) P.x) (h1 : Is (M1 m c) P.wg) (h2 : Is (M2 m c) P.wu)
    (h3 : Is (M3 m c) P.wd) (h4 : Is (M4 m c) (fun _ => P.lg)) (h5 : Is (M5 m c) P.ct) : Has m P c := by
  constructor
  · rw [host_z]; exact is_z h0 (is_mul h0 h1) (is_mul h0 h2) h3
  · rw [show CT m c = M5 m c from V_main_arg5 m c]; exact h5
  · rw [host_g]; exact is_pad (is_mul h0 h1)
  · rw [host_u]; exact is_pad (is_mul h0 h2)
  · rw [host_w]; exact is_w0 h1
  · rw [host_w]; exact is_w1 h2
  · rw [host_d]; exact is_wd h3
  · rw [show LG m c = M4 m c from V_main_arg4 m c]; exact h4

end Cert.FfnBwdIdeal.Value
-- ==== Proof.FfnPre.lean ====
module

public import proofs.«01_k».proof.Proof.FfnHostVal
public import proofs.«01_k».proof.Proof.Gen.Pre_finite_ffn
public import Idealize.ShloMosaic.Lib.ReduceAll

@[expose] public section

set_option maxRecDepth 16384

noncomputable section

/-! From the precondition: the arguments are real numbers. -/
namespace Cert.FfnBwdIdeal.Value

open Idealize.ShloMosaic Idealize.ShloMosaic.TcCoe
open Cert.FfnBwdIdeal Cert.FfnBwdIdeal.Gen Cert.Ffn

/-- A number whose magnitude is below infinity is real. -/
theorem real_of {x : EReal} (h : Ideal.cmp .olt (max x (-x)) (Ideal.ofBits .f32 0x7F800000#32) = 1#1) : x = ((x.toReal : ℝ) : EReal) := by
  rw [Cert.Lru.bits_top] at h
  have h' : max x (-x) < ⊤ := lt_of_not_ge fun hc => by simp [Ideal.cmp, not_lt.mpr hc] at h
  exact (EReal.coe_toReal (fun e => by simp [e] at h') (fun e => by simp [e] at h')).symm

instance : Subsingleton Cert.Pre_finite_ffn.S_.Idx := ⟨fun a b => funext fun i => i.elim0⟩

/-- What the precondition says of every entry. -/
theorem entries {a0 : FVec Ideal S8192x1024 .f32} {a1 a2 : FVec Ideal S1024x2816 .f32} {a3 : FVec Ideal S2816x1024 .f32}
    {a4 : FVec Ideal S1x1024 .f32} {a5 : FVec Ideal S8192x1024 .f32}
    (h : Cert.Pre_finite_ffn.fn (F := Ideal) a0 a1 a2 a3 a4 a5 = fun _ => 1#1) :
    (∀ i, a0 i = (((a0 i).toReal : ℝ) : EReal)) ∧ (∀ i, a1 i = (((a1 i).toReal : ℝ) : EReal)) ∧ (∀ i, a2 i = (((a2 i).toReal : ℝ) : EReal)) ∧
      (∀ i, a3 i = (((a3 i).toReal : ℝ) : EReal)) ∧ (∀ i, a4 i = (((a4 i).toReal : ℝ) : EReal)) ∧ ∀ i, a5 i = (((a5 i).toReal : ℝ) : EReal) := by
  have e := congrFun h ix0
  dsimp only [Cert.Pre_finite_ffn.fn, Cert.Pre_finite_ffn.fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => real_of (Host.reduce_andi_all _ _ _ _ _ e0 i), fun i => real_of (Host.reduce_andi_all _ _ _ _ _ e1 i),
    fun i => real_of (Host.reduce_andi_all _ _ _ _ _ e2 i), fun i => real_of (Host.reduce_andi_all _ _ _ _ _ e3 i),
    fun i => real_of (Host.reduce_andi_all _ _ _ _ _ e4 i), fun i => real_of (Host.reduce_andi_all _ _ _ _ _ e5 i)⟩

/-- An array's entries as real numbers. -/
def reals {n k : ℕ} {φ : FTy} (x : FVec Ideal ⟨2, ![n, k]⟩ φ) (r w : ℕ) : ℝ :=
  if h : r < n ∧ w < k then EReal.toReal (x (ix2 ⟨r, h.1⟩ ⟨w, h.2⟩)) else 0

theorem is_reals {n k : ℕ} {φ : FTy} {x : FVec Ideal ⟨2, ![n, k]⟩ φ} (h : ∀ i, x i = ((EReal.toReal (x i) : ℝ) : EReal)) : Is x (reals x) := by
  intro r w
  rw [reals, dif_pos ⟨r.isLt, w.isLt⟩]
  exact h _

variable (m : (ℓ : Loc nD τ sig) → Buf (Elt Ideal) ℓ) (c : Dev nD)

/-- The arguments as real numbers. -/
def args : Args where
  x := reals (M0 m c)
  wg := reals (M1 m c)
  wu := reals (M2 m c)
  wd := reals (M3 m c)
  lg := reals (M4 m c) 0
  ct := reals (M5 m c)

variable {m c}

theorem is_args (h : Cert.Pre_finite_ffn.fn (F := Ideal) (M0 m c) (M1 m c) (M2 m c) (M3 m c) (M4 m c) (M5 m c) = fun _ => 1#1) :
    Is (M0 m c) (args m c).x ∧ Is (M1 m c) (args m c).wg ∧ Is (M2 m c) (args m c).wu ∧ Is (M3 m c) (args m c).wd ∧
      Is (M4 m c) (fun _ => (args m c).lg) ∧ Is (M5 m c) (args m c).ct := by
  obtain ⟨e0, e1, e2, e3, e4, e5⟩ := entries h
  refine ⟨is_reals e0, is_reals e1, is_reals e2, is_reals e3, fun r w => ?_, is_reals e5⟩
  obtain rfl := Subsingleton.elim r 0
  exact is_reals e4 0 w

end Cert.FfnBwdIdeal.Value
-- ==== Proof.FfnStacked.lean ====
module

public import Idealize.ShloMosaic.Lib.Pipeline.ValueKit
public import Idealize.ShloMosaic.Lib.Pipeline.ReadBack
public import proofs.«01_k».proof.Proof.FfnState
public import proofs.«01_k».proof.Proof.FfnBlocks

@[expose] public section

set_option maxRecDepth 16384

noncomputable section

/-! What a grid point loads. -/
namespace Cert.FfnBwdIdeal.Value

open Idealize.ShloMosaic Idealize.ShloMosaic.TcCoe Idealize.SL.Sem
open Cert.FfnBwdIdeal Cert.FfnBwdIdeal.Gen Cert.Ffn

variable (m : (ℓ : Loc nD τ sig) → Buf (Elt Ideal) ℓ) (c : Dev nD) (t : Fin cfg0.N)

theorem h4 (y : S1x1024x768.Idx) (a : Fin 3) : ((win0_4.blk t).view.emb y a).val = win0_4.index t a * S1x1024x768.size a + (y a).val :=
  ValueKit.view_emb_slice_whole_unit_val main_v11 _ _ _ _ a
theorem q4 : iblk m c 4 t = (win0_4.blk t).view.read (Elt Ideal) (V m c main_v11) := rfl
theorem s4 (v : FVec Ideal S2x1024x3072 .bf16) (y : S1x1024x768.Idx) : (win0_4.blk t).view.read (Elt Ideal) v y = v ((win0_4.blk t).view.emb y) := rfl
theorem w4 (o : Fin 1) (a : Fin 1024) (k : Fin 768) (h) : ∀ i : Fin 3, win0_4.index t i * S1x1024x768.size i + ((ix3 o a k : S1x1024x768.Idx) i).val = ((ix3 0 a ⟨768 * (t.val % 4) + k.val, h⟩ : S2x1024x3072.Idx) i).val := by
  have e := (idxA t).2.2.2.2.1
  have e0 : win0_4.index t 0 = 0 := congrFun e 0
  have e1 : win0_4.index t 1 = 0 := congrFun e 1
  have e2 : win0_4.index t 2 = t.val % 4 := congrFun e 2
  have s0 : S1x1024x768.size 0 = 1 := rfl
  have s2 : S1x1024x768.size 2 = 768 := rfl
  have p0 : ((ix3 o a k : S1x1024x768.Idx) 0).val = o.val := rfl
  have p1 : ((ix3 o a k : S1x1024x768.Idx) 1).val = a.val := rfl
  have p2 : ((ix3 o a k : S1x1024x768.Idx) 2).val = k.val := rfl
  have q0 : ((ix3 0 a ⟨768 * (t.val % 4) + k.val, h⟩ : S2x1024x3072.Idx) 0).val = 0 := rfl
  have q1 : ((ix3 0 a ⟨768 * (t.val % 4) + k.val, h⟩ : S2x1024x3072.Idx) 1).val = a.val := rfl
  have q2 : ((ix3 0 a ⟨768 * (t.val % 4) + k.val, h⟩ : S2x1024x3072.Idx) 2).val = 768 * (t.val % 4) + k.val := rfl
  refine (Fin.forall_fin_succ.2 ⟨?_, Fin.forall_fin_succ.2 ⟨?_, Fin.forall_fin_succ.2 ⟨?_, fun i => i.elim0⟩⟩⟩)
  · refine Eq.trans ?_ q0.symm
    refine Eq.trans (congrArg₂ (· + ·) (congrArg₂ (· * ·) e0 s0) p0) ?_
    show _ = _
    omega
  · refine Eq.trans ?_ q1.symm
    refine Eq.trans (congrArg₂ (· + ·) (congrArg (· * _) e1) p1) ?_
    rw [Nat.zero_mul, Nat.zero_add]
  · refine Eq.trans ?_ q2.symm
    refine Eq.trans (congrArg₂ (· + ·) (congrArg₂ (· * ·) e2 s2) p2) ?_
    rw [Nat.mul_comm]
theorem v4 (v : FVec Ideal S2x1024x3072 .bf16) (o : Fin 1) (a : Fin 1024) (k : Fin 768) (h) : (win0_4.blk t).view.read (Elt Ideal) v (ix3 o a k : S1x1024x768.Idx) = v (ix3 0 a ⟨768 * (t.val % 4) + k.val, h⟩) :=
  (s4 t v (ix3 o a k)).trans (at_ext v _ _ (fun i => (h4 t (ix3 o a k) i).trans (w4 t o a k h i)))
theorem b4 (o : Fin 1) (a : Fin 1024) (k : Fin 768) : iblk m c 4 t (ix3 o a k : S1x1024x768.Idx) = WW m c (ix3 0 a ⟨768 * (t.val % 4) + k.val, by omega⟩) := by
  rw [q4 m c t]
  exact v4 t (V m c main_v11) o a k (by omega)
theorem h5 (y : S1x1024x768.Idx) (a : Fin 3) : ((win0_5.blk t).view.emb y a).val = win0_5.index t a * S1x1024x768.size a + (y a).val :=
  ValueKit.view_emb_slice_whole_unit_val main_v11 _ _ _ _ a
theorem q5 : iblk m c 5 t = (win0_5.blk t).view.read (Elt Ideal) (V m c main_v11) := rfl
theorem s5 (v : FVec Ideal S2x1024x3072 .bf16) (y : S1x1024x768.Idx) : (win0_5.blk t).view.read (Elt Ideal) v y = v ((win0_5.blk t).view.emb y) := rfl
theorem w5 (o : Fin 1) (a : Fin 1024) (k : Fin 768) (h) : ∀ i : Fin 3, win0_5.index t i * S1x1024x768.size i + ((ix3 o a k : S1x1024x768.Idx) i).val = ((ix3 1 a ⟨768 * (t.val % 4) + k.val, h⟩ : S2x1024x3072.Idx) i).val := by
  have e := (idxA t).2.2.2.2.2.1
  have e0 : win0_5.index t 0 = 1 := congrFun e 0
  have e1 : win0_5.index t 1 = 0 := congrFun e 1
  have e2 : win0_5.index t 2 = t.val % 4 := congrFun e 2
  have s0 : S1x1024x768.size 0 = 1 := rfl
  have s2 : S1x1024x768.size 2 = 768 := rfl
  have p0 : ((ix3 o a k : S1x1024x768.Idx) 0).val = o.val := rfl
  have p1 : ((ix3 o a k : S1x1024x768.Idx) 1).val = a.val := rfl
  have p2 : ((ix3 o a k : S1x1024x768.Idx) 2).val = k.val := rfl
  have q0 : ((ix3 1 a ⟨768 * (t.val % 4) + k.val, h⟩ : S2x1024x3072.Idx) 0).val = 1 := rfl
  have q1 : ((ix3 1 a ⟨768 * (t.val % 4) + k.val, h⟩ : S2x1024x3072.Idx) 1).val = a.val := rfl
  have q2 : ((ix3 1 a ⟨768 * (t.val % 4) + k.val, h⟩ : S2x1024x3072.Idx) 2).val = 768 * (t.val % 4) + k.val := rfl
  refine (Fin.forall_fin_succ.2 ⟨?_, Fin.forall_fin_succ.2 ⟨?_, Fin.forall_fin_succ.2 ⟨?_, fun i => i.elim0⟩⟩⟩)
  · refine Eq.trans ?_ q0.symm
    refine Eq.trans (congrArg₂ (· + ·) (congrArg₂ (· * ·) e0 s0) p0) ?_
    show _ = _
    omega
  · refine Eq.trans ?_ q1.symm
    refine Eq.trans (congrArg₂ (· + ·) (congrArg (· * _) e1) p1) ?_
    rw [Nat.zero_mul, Nat.zero_add]
  · refine Eq.trans ?_ q2.symm
    refine Eq.trans (congrArg₂ (· + ·) (congrArg₂ (· * ·) e2 s2) p2) ?_
    rw [Nat.mul_comm]
theorem v5 (v : FVec Ideal S2x1024x3072 .bf16) (o : Fin 1) (a : Fin 1024) (k : Fin 768) (h) : (win0_5.blk t).view.read (Elt Ideal) v (ix3 o a k : S1x1024x768.Idx) = v (ix3 1 a ⟨768 * (t.val % 4) + k.val, h⟩) :=
  (s5 t v (ix3 o a k)).trans (at_ext v _ _ (fun i => (h5 t (ix3 o a k) i).trans (w5 t o a k h i)))
theorem b5 (o : Fin 1) (a : Fin 1024) (k : Fin 768) : iblk m c 5 t (ix3 o a k : S1x1024x768.Idx) = WW m c (ix3 1 a ⟨768 * (t.val % 4) + k.val, by omega⟩) := by
  rw [q5 m c t]
  exact v5 t (V m c main_v11) o a k (by omega)

end Cert.FfnBwdIdeal.Value
-- ==== Proof.FfnPoint.lean ====
module

public import proofs.«01_k».proof.Proof.FfnStacked

@[expose] public section

set_option maxRecDepth 16384

noncomputable section

/-! What a grid point leaves. -/
namespace Cert.FfnBwdIdeal.Value

open Idealize.ShloMosaic Idealize.ShloMosaic.TcCoe Idealize.SL.Sem
open Cert.FfnBwdIdeal Cert.FfnBwdIdeal.Gen Cert.Ffn

/-- The running sums take a block's. -/
theorem l11 (x y : FVec Ideal S1x1024 .f32) (o : Fin 1) (w : Fin 1024) {a b : ℝ} (hx : x (ix2 o w) = (a : EReal)) (hy : y (ix2 o w) = (b : EReal)) :
    k0_pay11 (F := Ideal) x y (ix2 o w) = ((b + a : ℝ) : EReal) := by
  pointwise [k0_pay11]
  rw [hx, hy, EReal.coe_add]
@[inherit_doc l11] theorem l12 (x y : FVec Ideal S1x1024 .f32) (o : Fin 1) (w : Fin 1024) {a b : ℝ} (hx : x (ix2 o w) = (a : EReal)) (hy : y (ix2 o w) = (b : EReal)) :
    k0_pay12 (F := Ideal) x y (ix2 o w) = ((b + a : ℝ) : EReal) := by
  pointwise [k0_pay12]
  rw [hx, hy, EReal.coe_add]

section Points

variable {m : (ℓ : Loc nD τ sig) → Buf (Elt Ideal) ℓ} {c : Dev nD} {P : Args} (Q : Has m P c) (t : Fin cfg0.N)
include Q

theorem hz : Is (n := 512) (k := 1024) (φ := .f32) (iblk m c 0 t) (fun r w => P.z (512 * (t.val / 4) + r) w) := fun r w => (b0 m c t r w).trans (Q.z _ _)
theorem hc : Is (n := 512) (k := 1024) (φ := .f32) (iblk m c 1 t) (fun r w => P.ct (512 * (t.val / 4) + r) w) := fun r w => (b1 m c t r w).trans (Q.ct _ _)
theorem hg : Is (n := 512) (k := 768) (φ := .bf16) (iblk m c 2 t) (fun r k => pc (P.g (512 * (t.val / 4) + r)) (768 * (t.val % 4) + k)) := fun r w => (b2 m c t r w).trans (Q.g _ _)
theorem hu : Is (n := 512) (k := 768) (φ := .bf16) (iblk m c 3 t) (fun r k => pc (P.u (512 * (t.val / 4) + r)) (768 * (t.val % 4) + k)) := fun r w => (b3 m c t r w).trans (Q.u _ _)
theorem hl : Is (n := 1) (k := 1024) (φ := .f32) (iblk m c 7 t) (fun _ => P.lg) := fun r w => (b7 m c t r w).trans (Q.lg _ _)
theorem hwg (o : Fin 1) (a : Fin 1024) (k : Fin 768) : iblk m c 4 t (ix3 o a k) = ((pc (P.wg a.val) (768 * (t.val % 4) + k.val) : ℝ) : EReal) := by
  obtain rfl := Subsingleton.elim o 0
  exact (b4 m c t 0 a k).trans (Q.wg _ _)
theorem hwu (o : Fin 1) (a : Fin 1024) (k : Fin 768) : iblk m c 5 t (ix3 o a k) = ((pc (P.wu a.val) (768 * (t.val % 4) + k.val) : ℝ) : EReal) := by
  obtain rfl := Subsingleton.elim o 0
  exact (b5 m c t 0 a k).trans (Q.wu _ _)
theorem hd (d : Fin 2) (o : Fin 1) (j : Fin 384) (w : Fin 1024) : iblk m c 6 t (ix4 d o j w) = ((pc (fun k => P.wd k w.val) (768 * (t.val % 4) + (384 * d.val + j.val)) : ℝ) : EReal) :=
  (b6 m c t d o j w).trans ((Q.wd _ _ _ _).trans (congrArg (fun n => ((pc (fun k => P.wd k w.val) n : ℝ) : EReal)) (by show 384 * (2 * (t.val % 4) + d.val) + j.val = _; omega)))

/-- One block of padded hidden columns adds this to the gradient of the layer's input. -/
def blkSum (P : Args) (r w f : ℕ) : ℝ :=
  ∑ j : Fin 768, pc (fun k => P.dg r k * P.wg w k) (768 * f + j.val) + ∑ j : Fin 768, pc (fun k => P.du r k * P.wu w k) (768 * f + j.val)

omit Q in
/-- What the state holds after a point. -/
structure Good (P : Args) (n : ℕ) (s : St Ideal) : Prop where
  acc : Is (n := 512) (k := 1024) (φ := .f32) s.acc (fun r w => kAl * P.dz (512 * (n / 4) + r) w + ∑ f ∈ Finset.range (n % 4 + 1), blkSum P (512 * (n / 4) + r) w f)
  yb : Is (n := 512) (k := 1024) (φ := .bf16) s.yb (fun r w => P.dy (512 * (n / 4) + r) w)
  dy : Is (n := 512) (k := 1024) (φ := .bf16) s.dy (fun r w => P.dy (512 * (n / 4) + r) w)
  lg : Is (n := 1) (k := 1024) (φ := .f32) s.lg (fun _ w => ∑ b ∈ Finset.range (n / 4 + 1), ∑ r : Fin 512, P.ct (512 * b + r.val) w * P.n (512 * b + r.val) w)
  lb : Is (n := 1) (k := 1024) (φ := .f32) s.lb (fun _ w => ∑ b ∈ Finset.range (n / 4 + 1), ∑ r : Fin 512, P.ct (512 * b + r.val) w)

theorem good : ∀ (n : ℕ) (h : n < cfg0.N), Good P n (st m c n h) := by
  intro n
  induction n with
  | zero =>
    intro h
    rw [show st m c 0 h = _ from st_A m c ⟨0, h⟩ rfl]
    have hz := hz Q ⟨0, h⟩
    have hc := hc Q ⟨0, h⟩
    have hl := hl Q ⟨0, h⟩
    have y := p14 hz hc hl
    constructor
    · intro r w
      refine (p2 (hg Q ⟨0, h⟩) (hu Q ⟨0, h⟩) y (hd Q ⟨0, h⟩) (hwg Q ⟨0, h⟩) (hwu Q ⟨0, h⟩) (p15 hz hc hl) r w).trans (congrArg _ ?_)
      show _ = _ + ∑ f ∈ Finset.range 1, _
      rw [Finset.sum_range_one]; rfl
    · exact y
    · exact p13 hz hc hl
    · intro o w
      exact (l11 _ _ o w (p7 hz hc o w) (p9 o w)).trans (congrArg _ (by dsimp only; rw [zero_add, Nat.zero_div, Finset.sum_range_one]))
    · intro o w
      exact (l12 _ _ o w (p8 hc o w) (p10 o w)).trans (congrArg _ (by dsimp only; rw [zero_add, Nat.zero_div, Finset.sum_range_one]))
  | succ n ih =>
    intro h
    have G := ih (Nat.lt_of_succ_lt h)
    have h64 := lt64 ⟨n + 1, h⟩
    dsimp only at h64
    by_cases h4 : (n + 1) % 4 = 0
    · rw [show st m c (n + 1) h = _ from st_D m c ⟨n + 1, h⟩ (Nat.succ_ne_zero n) h4]
      have hz := hz Q ⟨n + 1, h⟩
      have hc := hc Q ⟨n + 1, h⟩
      have hl := hl Q ⟨n + 1, h⟩
      have y := p14 hz hc hl
      have eb : (n + 1) / 4 = n / 4 + 1 := by omega
      constructor
      · intro r w
        refine (p2 (hg Q ⟨n + 1, h⟩) (hu Q ⟨n + 1, h⟩) y (hd Q ⟨n + 1, h⟩) (hwg Q ⟨n + 1, h⟩) (hwu Q ⟨n + 1, h⟩) (p15 hz hc hl) r w).trans (congrArg _ ?_)
        dsimp only
        rw [h4, Finset.sum_range_one]; rfl
      · exact y
      · exact p13 hz hc hl
      · intro o w
        refine (l11 _ _ o w (p7 hz hc o w) (G.lg o w)).trans (congrArg _ ?_)
        dsimp only
        rw [eb, Finset.sum_range_succ _ (n / 4 + 1)]
      · intro o w
        refine (l12 _ _ o w (p8 hc o w) (G.lb o w)).trans (congrArg _ ?_)
        dsimp only
        rw [eb, Finset.sum_range_succ _ (n / 4 + 1)]
    · rw [show st m c (n + 1) h = _ from st_B m c ⟨n + 1, h⟩ h4]
      have eb : (n + 1) / 4 = n / 4 := by omega
      have ef : (n + 1) % 4 = n % 4 + 1 := by omega
      have y : Is (n := 512) (k := 1024) (φ := .bf16) (pr m c ⟨n + 1, h⟩).yb (fun r w => P.dy (512 * ((n + 1) / 4) + r) w) := by rw [eb]; exact G.yb
      have a : Is (n := 512) (k := 1024) (φ := .f32) (pr m c ⟨n + 1, h⟩).acc (fun r w => kAl * P.dz (512 * ((n + 1) / 4) + r) w + ∑ f ∈ Finset.range (n % 4 + 1), blkSum P (512 * ((n + 1) / 4) + r) w f) := by rw [eb]; exact G.acc
      constructor
      · intro r w
        refine (p2 (hg Q ⟨n + 1, h⟩) (hu Q ⟨n + 1, h⟩) y (hd Q ⟨n + 1, h⟩) (hwg Q ⟨n + 1, h⟩) (hwu Q ⟨n + 1, h⟩) a r w).trans (congrArg _ ?_)
        dsimp only
        rw [ef, Finset.sum_range_succ _ (n % 4 + 1), ← add_assoc _ _ (blkSum _ _ _ _)]; rfl
      · exact y
      · rw [eb]; exact G.dy
      · rw [eb]; exact G.lg
      · rw [eb]; exact G.lb

end Points

end Cert.FfnBwdIdeal.Value
-- ==== Proof.FfnTotal.lean ====
module

public import proofs.«01_k».proof.Proof.FfnPoint

@[expose] public section

set_option maxRecDepth 16384

noncomputable section

/-! What the results hold when all blocks are done. -/
namespace Cert.FfnBwdIdeal.Value

open Idealize.ShloMosaic Idealize.ShloMosaic.TcCoe Idealize.SL.Sem
open Cert.FfnBwdIdeal Cert.FfnBwdIdeal.Gen Cert.Ffn

/-- The arrays of the results. -/
def D8 (P : Args) : FVec Ideal S8192x1024 .f32 := fun j => ((P.dx (j 0).val (j 1).val : ℝ) : EReal)
@[inherit_doc D8] def D9 (P : Args) : FVec Ideal S8192x3072 .bf16 := fun j => ((pc (P.dg (j 0).val) (j 1).val : ℝ) : EReal)
@[inherit_doc D8] def D10 (P : Args) : FVec Ideal S8192x3072 .bf16 := fun j => ((pc (P.du (j 0).val) (j 1).val : ℝ) : EReal)
@[inherit_doc D8] def D11 (P : Args) : FVec Ideal S8192x1024 .bf16 := fun j => ((P.dy (j 0).val (j 1).val : ℝ) : EReal)
@[inherit_doc D8] def D12 (P : Args) : FVec Ideal S1x1024 .f32 := fun j => ((P.dlg (j 1).val : ℝ) : EReal)
@[inherit_doc D8] def D13 (P : Args) : FVec Ideal S1x1024 .f32 := fun j => ((P.dlb (j 1).val : ℝ) : EReal)

/-- Four blocks of padded columns are all columns. -/
theorem sum_blk (P : Args) (r w : ℕ) : kAl * P.dz r w + ∑ f ∈ Finset.range 4, blkSum P r w f = P.dx r w := by
  simp only [blkSum, Finset.sum_add_distrib]
  rw [sum_blocks (fun k => pc (fun k => P.dg r k * P.wg w k) k) 4 768, sum_blocks (fun k => pc (fun k => P.du r k * P.wu w k) k) 4 768]
  rw [show (∑ k : Fin (4 * 768), pc (fun k => P.dg r k * P.wg w k) k.val) = _ from sum_pc _, show (∑ k : Fin (4 * 768), pc (fun k => P.du r k * P.wu w k) k.val) = _ from sum_pc _]
  rw [Args.dx]; ring

variable {m : (ℓ : Loc nD τ sig) → Buf (Elt Ideal) ℓ} {c : Dev nD} {P : Args} (Q : Has m P c)
include Q

theorem final8 : (dats m 0 c).arrAt 8 (cfgs 0).N = D8 P := by
  refine (dats m 0 c).arrAt_eq_of_covers 8 _ (by decide +kernel) fun t hf y => ?_
  have e : win0_8.index t = _ := (idxB t).1
  have h64 := lt64 t
  have h3 : t.val % 4 = 3 := (flush0_8 t).mp hf
  blk_simp; rw [after0_8]
  obtain ⟨r, hr⟩ : ∃ r : Fin 512, r.val = (y 0 : ℕ) := ⟨⟨(y 0 : ℕ), (y 0).isLt⟩, rfl⟩
  obtain ⟨w, hw⟩ : ∃ w : Fin 1024, w.val = (y 1 : ℕ) := ⟨⟨(y 1 : ℕ), (y 1).isLt⟩, rfl⟩
  have hy : y = ix2 r w := by blk_ext
  have he : (win0_8.blk t).view.emb y = ix2 ⟨512 * (t.val / 4) + r.val, by omega⟩ w := by blk_ext [e]
  rw [he]
  refine (congrArg (st m c t.val t.isLt).acc hy).trans ?_
  refine ((good Q t.val t.isLt).acc r w).trans (congrArg _ ?_)
  rw [h3]; exact sum_blk P _ _

theorem final9 : (dats m 0 c).arrAt 9 (cfgs 0).N = D9 P := by
  refine (dats m 0 c).arrAt_eq_of_covers 9 _ (by decide +kernel) fun t hf y => ?_
  have e : win0_9.index t = _ := (idxB t).2.1
  have h64 := lt64 t
  blk_simp; rw [after0_9]
  obtain ⟨r, hr⟩ : ∃ r : Fin 512, r.val = (y 0 : ℕ) := ⟨⟨(y 0 : ℕ), (y 0).isLt⟩, rfl⟩
  obtain ⟨w, hw⟩ : ∃ w : Fin 768, w.val = (y 1 : ℕ) := ⟨⟨(y 1 : ℕ), (y 1).isLt⟩, rfl⟩
  have hy : y = ix2 r w := by blk_ext
  have he : (win0_9.blk t).view.emb y = ix2 ⟨512 * (t.val / 4) + r.val, by omega⟩ ⟨768 * (t.val % 4) + w.val, by omega⟩ := by blk_ext [e]
  rw [he]
  refine (congrArg (dgOf (F := Ideal) (iblk m c 2 t) (iblk m c 3 t) (iblk m c 6 t) (st m c t.val t.isLt).yb) hy).trans ?_
  exact p19 (hg Q t) (hu Q t) (good Q t.val t.isLt).yb (hd Q t) r w

theorem final10 : (dats m 0 c).arrAt 10 (cfgs 0).N = D10 P := by
  refine (dats m 0 c).arrAt_eq_of_covers 10 _ (by decide +kernel) fun t hf y => ?_
  have e : win0_10.index t = _ := (idxB t).2.2.1
  have h64 := lt64 t
  blk_simp; rw [after0_10]
  obtain ⟨r, hr⟩ : ∃ r : Fin 512, r.val = (y 0 : ℕ) := ⟨⟨(y 0 : ℕ), (y 0).isLt⟩, rfl⟩
  obtain ⟨w, hw⟩ : ∃ w : Fin 768, w.val = (y 1 : ℕ) := ⟨⟨(y 1 : ℕ), (y 1).isLt⟩, rfl⟩
  have hy : y = ix2 r w := by blk_ext
  have he : (win0_10.blk t).view.emb y = ix2 ⟨512 * (t.val / 4) + r.val, by omega⟩ ⟨768 * (t.val % 4) + w.val, by omega⟩ := by blk_ext [e]
  rw [he]
  refine (congrArg (duOf (F := Ideal) (iblk m c 2 t) (iblk m c 6 t) (st m c t.val t.isLt).yb) hy).trans ?_
  exact p1 (hg Q t) (good Q t.val t.isLt).yb (hd Q t) r w

theorem final11 : (dats m 0 c).arrAt 11 (cfgs 0).N = D11 P := by
  refine (dats m 0 c).arrAt_eq_of_covers 11 _ (by decide +kernel) fun t hf y => ?_
  have e : win0_11.index t = _ := (idxB t).2.2.2.1
  have h64 := lt64 t
  blk_simp; rw [after0_11]
  obtain ⟨r, hr⟩ : ∃ r : Fin 512, r.val = (y 0 : ℕ) := ⟨⟨(y 0 : ℕ), (y 0).isLt⟩, rfl⟩
  obtain ⟨w, hw⟩ : ∃ w : Fin 1024, w.val = (y 1 : ℕ) := ⟨⟨(y 1 : ℕ), (y 1).isLt⟩, rfl⟩
  have hy : y = ix2 r w := by blk_ext
  have he : (win0_11.blk t).view.emb y = ix2 ⟨512 * (t.val / 4) + r.val, by omega⟩ w := by blk_ext [e]
  rw [he]
  refine (congrArg (st m c t.val t.isLt).dy hy).trans ?_
  exact (good Q t.val t.isLt).dy r w

theorem final12 : (dats m 0 c).arrAt 12 (cfgs 0).N = D12 P := by
  refine (dats m 0 c).arrAt_eq_of_covers 12 _ (by decide +kernel) fun t hf y => ?_
  have e : win0_12.index t = _ := (idxB t).2.2.2.2.1
  have h64 := lt64 t
  have h3 : t.val % 64 = 63 := (flush0_12 t).mp hf
  blk_simp; rw [after0_12]
  obtain ⟨r, hr⟩ : ∃ r : Fin 1, r.val = (y 0 : ℕ) := ⟨⟨(y 0 : ℕ), (y 0).isLt⟩, rfl⟩
  obtain ⟨w, hw⟩ : ∃ w : Fin 1024, w.val = (y 1 : ℕ) := ⟨⟨(y 1 : ℕ), (y 1).isLt⟩, rfl⟩
  have hy : y = ix2 r w := by blk_ext
  have he : (win0_12.blk t).view.emb y = ix2 r w := by blk_ext [e]
  rw [he]
  refine (congrArg (st m c t.val t.isLt).lg hy).trans ?_
  refine ((good Q t.val t.isLt).lg r w).trans (congrArg _ ?_)
  rw [show t.val / 4 + 1 = 16 by omega]
  exact sum_blocks (fun k => P.ct k w.val * P.n k w.val) 16 512

theorem final13 : (dats m 0 c).arrAt 13 (cfgs 0).N = D13 P := by
  refine (dats m 0 c).arrAt_eq_of_covers 13 _ (by decide +kernel) fun t hf y => ?_
  have e : win0_13.index t = _ := (idxB t).2.2.2.2.2
  have h64 := lt64 t
  have h3 : t.val % 64 = 63 := (flush0_13 t).mp hf
  blk_simp; rw [after0_13]
  obtain ⟨r, hr⟩ : ∃ r : Fin 1, r.val = (y 0 : ℕ) := ⟨⟨(y 0 : ℕ), (y 0).isLt⟩, rfl⟩
  obtain ⟨w, hw⟩ : ∃ w : Fin 1024, w.val = (y 1 : ℕ) := ⟨⟨(y 1 : ℕ), (y 1).isLt⟩, rfl⟩
  have hy : y = ix2 r w := by blk_ext
  have he : (win0_13.blk t).view.emb y = ix2 r w := by blk_ext [e]
  rw [he]
  refine (congrArg (st m c t.val t.isLt).lb hy).trans ?_
  refine ((good Q t.val t.isLt).lb r w).trans (congrArg _ ?_)
  rw [show t.val / 4 + 1 = 16 by omega]
  exact sum_blocks (fun k => P.ct k w.val) 16 512

end Cert.FfnBwdIdeal.Value
-- ==== Proof.FfnFrame.lean ====
/- The frame of the feed-forward gradient kernel, with what its outputs hold named point by point. -/
module

public import proofs.«01_k».proof.Proof.FfnState

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- What the body leaves: an output it does not store at a point, as it found it. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (match cfg0.idle 8 (cfg0.grid.coords t) with
      | true =>
        match (cfg0.win 8).flush t with
        | false => iprop(∃ d, owns (c : Thread nD τ) (ms0_8 t) fullShare ((dats m 0 c).before 8 t d))
        | true => owns (c : Thread nD τ) (ms0_8 t) fullShare ((dats m 0 c).after 8 t)
      | false => owns (c : Thread nD τ) (ms0_8 t) fullShare ((dats m 0 c).after 8 t))
    ∗ owns (c : Thread nD τ) (ms0_9 t) fullShare ((dats m 0 c).after 9 t)
    ∗ owns (c : Thread nD τ) (ms0_10 t) fullShare ((dats m 0 c).after 10 t)
    ∗ (match cfg0.idle 11 (cfg0.grid.coords t) with
      | true =>
        match (cfg0.win 11).flush t with
        | false => iprop(∃ d, owns (c : Thread nD τ) (ms0_11 t) fullShare ((dats m 0 c).before 11 t d))
        | true => owns (c : Thread nD τ) (ms0_11 t) fullShare ((dats m 0 c).after 11 t)
      | false => owns (c : Thread nD τ) (ms0_11 t) fullShare ((dats m 0 c).after 11 t))
    ∗ (match cfg0.idle 12 (cfg0.grid.coords t) with
      | true =>
        match (cfg0.win 12).flush t with
        | false => iprop(∃ d, owns (c : Thread nD τ) (ms0_12 t) fullShare ((dats m 0 c).before 12 t d))
        | true => owns (c : Thread nD τ) (ms0_12 t) fullShare ((dats m 0 c).after 12 t)
      | false => owns (c : Thread nD τ) (ms0_12 t) fullShare ((dats m 0 c).after 12 t))
    ∗ (match cfg0.idle 13 (cfg0.grid.coords t) with
      | true =>
        match (cfg0.win 13).flush t with
        | false => iprop(∃ d, owns (c : Thread nD τ) (ms0_13 t) fullShare ((dats m 0 c).before 13 t d))
        | true => owns (c : Thread nD τ) (ms0_13 t) fullShare ((dats m 0 c).after 13 t)
      | false => owns (c : Thread nD τ) (ms0_13 t) fullShare ((dats m 0 c).after 13 t)))

set_option maxHeartbeats 16000000 in
/-- The body at the first point. -/
theorem body_A (c : Dev nD) (t : Fin cfg0.N) (h : t.val = 0) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hP : bodyPost m c t =
    iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare ((dats m 0 c).before 8 t d))
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))
 := by
    unfold bodyPost
    rw [idle0_8 t (fun hc => by have := (hcond0_2 t).mp hc; omega), live0_11 t ((hcond0_1 t).mpr (by omega)), live0_12 t ((hcond0_1 t).mpr (by omega))]
    simp only [(show (cfg0.win 8).flush t = false from Bool.eq_false_iff.mpr fun hf => by have := (flush0_8 t).mp hf; omega)]
  rw [hP]
  rw [show (dats m 0 c).owesAt () t.succ = (dats m 0 c).owesAt () t.castSucc from rfl,
    after0_0, after0_1, after0_2, after0_3, after0_4, after0_5, after0_6, after0_7, after0_9, after0_10, after0_11, after0_12, after0_13]
  rw [show (dats m 0 c).Φ t.succ = PhiS m c (t.val + 1) t.isLt from rfl, PhiS_succ, st_A m c t h]
  unfold bodyAt0
  unfold bodyPre
  simp only [before0_0, before0_1, before0_2, before0_3, before0_4, before0_5, before0_6, before0_7]
  rw [PhiS_castSucc m c t, PhiS_zero m c _ _ h, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (ffn_run_A c (grid0.coords t) _ _ _ _ _ _ _ _ _ _ _ _ _ _ _ _ _ _ _ _ _ _ _ _ _ _ _ _ _ _ _ _ ((hcond0_0 t).mpr (by omega)) ((hcond0_1 t).mpr (by omega)) (fun hc => by have := (hcond0_2 t).mp hc; omega) (iblk m c 0 t) (iblk m c 1 t) (iblk m c 2 t) (iblk m c 3 t) (iblk m c 4 t) (iblk m c 5 t) (iblk m c 6 t) (iblk m c 7 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexact H9
  isplitl [H10]; · iexact H10
  isplitl [H11]; · iexact H11
  isplitl [H12]; · iexact H12
  iexact H13

set_option maxHeartbeats 16000000 in
/-- The body at the first block of hidden columns of a later block of rows. -/
theorem body_D (c : Dev nD) (t : Fin cfg0.N) (h : t.val ≠ 0) (h4 : t.val % 4 = 0) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hP : bodyPost m c t =
    iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare ((dats m 0 c).before 8 t d))
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))
 := by
    unfold bodyPost
    rw [idle0_8 t (fun hc => by have := (hcond0_2 t).mp hc; omega), live0_11 t ((hcond0_1 t).mpr (by omega)), live0_12 t ((hcond0_1 t).mpr (by omega))]
    simp only [(show (cfg0.win 8).flush t = false from Bool.eq_false_iff.mpr fun hf => by have := (flush0_8 t).mp hf; omega)]
  rw [hP]
  rw [show (dats m 0 c).owesAt () t.succ = (dats m 0 c).owesAt () t.castSucc from rfl,
    after0_0, after0_1, after0_2, after0_3, after0_4, after0_5, after0_6, after0_7, after0_9, after0_10, after0_11, after0_12, after0_13]
  rw [show (dats m 0 c).Φ t.succ = PhiS m c (t.val + 1) t.isLt from rfl, PhiS_succ, st_D m c t h h4]
  unfold bodyAt0
  unfold bodyPre
  simp only [before0_0, before0_1, before0_2, before0_3, before0_4, before0_5, before0_6, before0_7]
  simp only [show ∀ d, (dats m 0 c).before 12 t d = _ from found0_12 m c t.val t.isLt (by omega)]
  simp only [show ∀ d, (dats m 0 c).before 13 t d = _ from found0_13 m c t.val t.isLt (by omega)]
  rw [PhiS_castSucc m c t, PhiS_pos m c _ _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (ffn_run_D c (grid0.coords t) _ _ _ _ _ _ _ _ _ _ _ _ _ _ _ _ _ _ _ _ _ _ _ _ _ _ _ _ _ _ _ _ (fun hc => by have := (hcond0_0 t).mp hc; omega) ((hcond0_1 t).mpr (by omega)) (fun hc => by have := (hcond0_2 t).mp hc; omega) (iblk m c 0 t) (iblk m c 1 t) (iblk m c 2 t) (iblk m c 3 t) (iblk m c 4 t) (iblk m c 5 t) (iblk m c 6 t) (iblk m c 7 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexact H12
  isplitl [H13]; · iexact H13
  isplitl [HS0]; · iexists _; iexact HS0
  isplitl [HS1]; · iexists _; iexact HS1
  iintro ⟨H0, H1, H2, H3, H4, H5, H6, H7, H8, H9, H10, H11, H12, H13, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexact H9
  isplitl [H10]; · iexact H10
  isplitl [H11]; · iexact H11
  isplitl [H12]; · iexact H12
  iexact H13

set_option maxHeartbeats 16000000 in
/-- The body at an inner block of hidden columns. -/
theorem body_B (c : Dev nD) (t : Fin cfg0.N) (h4 : ¬ t.val % 4 = 0) (h3 : ¬ t.val % 4 = 3) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hP : bodyPost m c t =
    iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare ((dats m 0 c).before 8 t d))
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))
 := by
    unfold bodyPost
    rw [idle0_8 t (fun hc => by have := (hcond0_2 t).mp hc; omega), idle0_11 t (fun hc => by have := (hcond0_1 t).mp hc; omega), idle0_12 t (fun hc => by have := (hcond0_1 t).mp hc; omega)]
    simp only [(show (cfg0.win 8).flush t = false from Bool.eq_false_iff.mpr fun hf => by have := (flush0_8 t).mp hf; omega), (show (cfg0.win 11).flush t = false from Bool.eq_false_iff.mpr fun hf => by have := (flush0_11 t).mp hf; omega), (show (cfg0.win 12).flush t = false from Bool.eq_false_iff.mpr fun hf => by have := (flush0_12 t).mp hf; omega), (show (cfg0.win 13).flush t = false from Bool.eq_false_iff.mpr fun hf => by have := (flush0_13 t).mp hf; omega)]
  rw [hP]
  rw [show (dats m 0 c).owesAt () t.succ = (dats m 0 c).owesAt () t.castSucc from rfl,
    after0_0, after0_1, after0_2, after0_3, after0_4, after0_5, after0_6, after0_7, after0_9, after0_10]
  rw [show (dats m 0 c).Φ t.succ = PhiS m c (t.val + 1) t.isLt from rfl, PhiS_succ, st_B m c t h4]
  unfold bodyAt0
  unfold bodyPre
  simp only [before0_0, before0_1, before0_2, before0_3, before0_4, before0_5, before0_6, before0_7]
  simp only [show ∀ d, (dats m 0 c).before 11 t d = _ from found0_11 m c t.val t.isLt (by omega)]
  simp only [show ∀ d, (dats m 0 c).before 12 t d = _ from found0_12 m c t.val t.isLt (by omega)]
  simp only [show ∀ d, (dats m 0 c).before 13 t d = _ from found0_13 m c t.val t.isLt (by omega)]
  rw [PhiS_castSucc m c t, PhiS_pos m c _ _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (ffn_run_B c (grid0.coords t) _ _ _ _ _ _ _ _ _ _ _ _ _ _ _ _ _ _ _ _ _ _ _ _ _ _ _ _ _ _ _ _ (fun hc => by have := (hcond0_0 t).mp hc; omega) (fun hc => by have := (hcond0_1 t).mp hc; omega) (fun hc => by have := (hcond0_2 t).mp hc; omega) (iblk m c 0 t) (iblk m c 1 t) (iblk m c 2 t) (iblk m c 3 t) (iblk m c 4 t) (iblk m c 5 t) (iblk m c 6 t) (iblk m c 7 t) _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexact H9
  isplitl [H10]; · iexact H10
  isplitl [H11]; · iexists d11; iexact H11
  isplitl [H12]; · iexists d12; iexact H12
  iexists d13; iexact H13

set_option maxHeartbeats 16000000 in
/-- The body at the last block of hidden columns. -/
theorem body_C (c : Dev nD) (t : Fin cfg0.N) (h3 : t.val % 4 = 3) (hl : ¬ t.val % 64 = 63) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hP : bodyPost m c t =
    iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare ((dats m 0 c).before 12 t d))
    ∗ (∃ d, owns (c : Thread nD τ) (ms0_13 t) fullShare ((dats m 0 c).before 13 t d)))
 := by
    unfold bodyPost
    rw [live0_8 t ((hcond0_2 t).mpr (by omega)), idle0_11 t (fun hc => by have := (hcond0_1 t).mp hc; omega), idle0_12 t (fun hc => by have := (hcond0_1 t).mp hc; omega)]
    simp only [(show (cfg0.win 11).flush t = true from (flush0_11 t).mpr (by omega)), (show (cfg0.win 12).flush t = false from Bool.eq_false_iff.mpr fun hf => by have := (flush0_12 t).mp hf; omega), (show (cfg0.win 13).flush t = false from Bool.eq_false_iff.mpr fun hf => by have := (flush0_13 t).mp hf; omega)]
  rw [hP]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ, st_B m c t (by omega)]
  unfold bodyAt0
  unfold bodyPre
  simp only [before0_0, before0_1, before0_2, before0_3, before0_4, before0_5, before0_6, before0_7]
  simp only [show ∀ d, (dats m 0 c).before 11 t d = _ from found0_11 m c t.val t.isLt (by omega)]
  simp only [show ∀ d, (dats m 0 c).before 12 t d = _ from found0_12 m c t.val t.isLt (by omega)]
  simp only [show ∀ d, (dats m 0 c).before 13 t d = _ from found0_13 m c t.val t.isLt (by omega)]
  rw [PhiS_castSucc m c t, PhiS_pos m c _ _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (ffn_run_C c (grid0.coords t) _ _ _ _ _ _ _ _ _ _ _ _ _ _ _ _ _ _ _ _ _ _ _ _ _ _ _ _ _ _ _ _ (fun hc => by have := (hcond0_0 t).mp hc; omega) (fun hc => by have := (hcond0_1 t).mp hc; omega) ((hcond0_2 t).mpr (by omega)) (iblk m c 0 t) (iblk m c 1 t) (iblk m c 2 t) (iblk m c 3 t) (iblk m c 4 t) (iblk m c 5 t) (iblk m c 6 t) (iblk m c 7 t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d12; iexact H12
  iexists d13; iexact H13

set_option maxHeartbeats 16000000 in
/-- The body at the last point. -/
theorem body_E (c : Dev nD) (t : Fin cfg0.N) (h3 : t.val % 64 = 63) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hP : bodyPost m c t =
    iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))
 := by
    unfold bodyPost
    rw [live0_8 t ((hcond0_2 t).mpr (by omega)), idle0_11 t (fun hc => by have := (hcond0_1 t).mp hc; omega), idle0_12 t (fun hc => by have := (hcond0_1 t).mp hc; omega)]
    simp only [(show (cfg0.win 11).flush t = true from (flush0_11 t).mpr (by omega)), (show (cfg0.win 12).flush t = true from (flush0_12 t).mpr (by omega)), (show (cfg0.win 13).flush t = true from (flush0_13 t).mpr (by omega))]
  rw [hP]
  rw [show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.succ = PhiS m c (t.val + 1) t.isLt from rfl, PhiS_succ, st_B m c t (by omega)]
  unfold bodyAt0
  unfold bodyPre
  simp only [before0_0, before0_1, before0_2, before0_3, before0_4, before0_5, before0_6, before0_7]
  simp only [show ∀ d, (dats m 0 c).before 11 t d = _ from found0_11 m c t.val t.isLt (by omega)]
  simp only [show ∀ d, (dats m 0 c).before 12 t d = _ from found0_12 m c t.val t.isLt (by omega)]
  simp only [show ∀ d, (dats m 0 c).before 13 t d = _ from found0_13 m c t.val t.isLt (by omega)]
  rw [PhiS_castSucc m c t, PhiS_pos m c _ _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (ffn_run_C c (grid0.coords t) _ _ _ _ _ _ _ _ _ _ _ _ _ _ _ _ _ _ _ _ _ _ _ _ _ _ _ _ _ _ _ _ (fun hc => by have := (hcond0_0 t).mp hc; omega) (fun hc => by have := (hcond0_1 t).mp hc; omega) ((hcond0_2 t).mpr (by omega)) (iblk m c 0 t) (iblk m c 1 t) (iblk m c 2 t) (iblk m c 3 t) (iblk m c 4 t) (iblk m c 5 t) (iblk m c 6 t) (iblk m c 7 t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h4 : t.val % 4 = 0
  · by_cases h : t.val = 0
    · exact body_A m c t h
    · exact body_D m c t h h4
  · by_cases h3 : t.val % 4 = 3
    · by_cases hl : t.val % 64 = 63
      · exact body_E m c t hl
      · exact body_C m c t h3 hl
    · exact body_B m c t h4 h3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame, at any number system. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnBwdIdeal.Gen

end
-- ==== Proof.FfnRefOut.lean ====
module

public import proofs.«01_k».proof.Proof.FfnRef

@[expose] public section

set_option maxRecDepth 16384

noncomputable section

/-! The reference's six results. -/
namespace Cert.FfnBwdRefIdeal.Value

open Idealize.ShloMosaic Idealize.ShloMosaic.TcCoe
open Cert.FfnBwdRefIdeal Cert.FfnBwdRefIdeal.Gen Cert.Ffn
open Cert.Lru (div_real coe_sum coe_ite bits_one bits_zero bits_half bits_two)

variable {V0 : Valuation τ sig (Elt Ideal)} {P : Args}

theorem pad_zero : (FloatOps.sitofp FTy.f32 0#32 : Ideal .f32) = ((0 : ℝ) : EReal) := by
  simp [FloatOps.sitofp]

theorem s86 (Q : HasR V0 P) : (addf (addf (mulf (broadcastInDim S8192x1024 ![] bcast_S_S8192x1024 (constant S_ .f32 0x3FB504F3#32)) (res_main_v74 V0 : FVec Ideal S8192x1024 .f32)) (Host.dotGeneral (F := Ideal) (φ₁ := .f32) (φ₂ := .f32) dot_S8192x2816_S1024x2816_S8192x1024_1_1_0_0_n_n none (res_main_v80 V0 : FVec Ideal S8192x2816 .f32) (A2 V0))) (Host.dotGeneral (F := Ideal) (φ₁ := .f32) (φ₂ := .f32) dot_S8192x2816_S1024x2816_S8192x1024_1_1_0_0_n_n none (res_main_v84 V0 : FVec Ideal S8192x2816 .f32) (A1 V0)) : FVec Ideal S8192x1024 .f32) = fun j : (S8192x1024 : Shape).Idx => ((P.dx (j 0).val (j 1).val : ℝ) : EReal) := by
  funext j
  idx_vars j
  pointwise []
  simp only [r74 Q _ _, r80 Q _ _, r84 Q _ _, Q.wg _ _, Q.wu _ _, coe_sum, bits_al, bits_zero, Finset.univ_unique, Finset.sum_singleton, ← EReal.coe_mul, ← EReal.coe_add, ← EReal.coe_zero, add_zero, zero_add]
  rfl

theorem s90 (Q : HasR V0 P) : (truncf .bf16 (shapeCast _ (pad S8192x8x384 ![0, 0, 0] ![0, 0, 32] ![0, 0, 0] (shapeCast _ (res_main_v84 V0 : FVec Ideal S8192x2816 .f32) shapeCasts_S8192x2816_S8192x8x352) (sitofp .f32 (constantI S_ 32 0#32)) pads_S8192x8x352_S8192x8x384_000_000_0320 h_S_) shapeCasts_S8192x8x384_S8192x3072) bitsLt_bf16_f32 : FVec Ideal S8192x3072 .bf16) = fun j : (S8192x3072 : Shape).Idx => ((pc (P.dg (j 0).val) (j 1).val : ℝ) : EReal) := by
  funext j
  idx_vars j
  pointwise []
  rw [pc]
  by_cases h : j1.val % 384 < 352
  · rw [dif_pos ⟨by omega, h⟩, if_pos h]; exact r84 Q _ _
  · rw [dif_neg (fun e => h e.2), if_neg h]; exact pad_zero

theorem s94 (Q : HasR V0 P) : (truncf .bf16 (shapeCast _ (pad S8192x8x384 ![0, 0, 0] ![0, 0, 32] ![0, 0, 0] (shapeCast _ (res_main_v80 V0 : FVec Ideal S8192x2816 .f32) shapeCasts_S8192x2816_S8192x8x352) (sitofp .f32 (constantI S_ 32 0#32)) pads_S8192x8x352_S8192x8x384_000_000_0320 h_S_) shapeCasts_S8192x8x384_S8192x3072) bitsLt_bf16_f32 : FVec Ideal S8192x3072 .bf16) = fun j : (S8192x3072 : Shape).Idx => ((pc (P.du (j 0).val) (j 1).val : ℝ) : EReal) := by
  funext j
  idx_vars j
  pointwise []
  rw [pc]
  by_cases h : j1.val % 384 < 352
  · rw [dif_pos ⟨by omega, h⟩, if_pos h]; exact r80 Q _ _
  · rw [dif_neg (fun e => h e.2), if_neg h]; exact pad_zero

theorem s95 (Q : HasR V0 P) : (truncf .bf16 (res_main_v76 V0 : FVec Ideal S8192x1024 .f32) bitsLt_bf16_f32 : FVec Ideal S8192x1024 .bf16) = fun j : (S8192x1024 : Shape).Idx => ((P.dy (j 0).val (j 1).val : ℝ) : EReal) := by
  funext j
  idx_vars j
  pointwise []
  exact r76 Q _ _

theorem s48 (Q : HasR V0 P) : (shapeCast _ (Host.reduceAdd (mulf (res_main_v38 V0 : FVec Ideal S8192x1024 .f32) (res_main_v43 V0 : FVec Ideal S8192x1024 .f32)) (constant S_ .f32 0x00000000#32) reducesTo_S8192x1024_S1024_d0 h_S_) shapeCasts_S1024_S1x1024 : FVec Ideal S1x1024 .f32) = fun j : (S1x1024 : Shape).Idx => ((P.dlg (j 1).val : ℝ) : EReal) := by
  funext j
  idx_vars j
  pointwise []
  simp only [r38 Q _ _, r43 Q _ _, coe_sum, bits_al, bits_zero, Finset.univ_unique, Finset.sum_singleton, ← EReal.coe_mul, ← EReal.coe_add, ← EReal.coe_zero, add_zero, zero_add]
  exact congrArg _ (Finset.sum_congr rfl fun _ _ => mul_comm _ _)

theorem s45 (Q : HasR V0 P) : (shapeCast _ (Host.reduceAdd (A5 V0) (constant S_ .f32 0x00000000#32) reducesTo_S8192x1024_S1024_d0 h_S_) shapeCasts_S1024_S1x1024 : FVec Ideal S1x1024 .f32) = fun j : (S1x1024 : Shape).Idx => ((P.dlb (j 1).val : ℝ) : EReal) := by
  funext j
  idx_vars j
  pointwise []
  simp only [Q.ct _ _, coe_sum, bits_al, bits_zero, Finset.univ_unique, Finset.sum_singleton, ← EReal.coe_mul, ← EReal.coe_add, ← EReal.coe_zero, add_zero, zero_add]
  rfl

end Cert.FfnBwdRefIdeal.Value
-- ==== Proof.FfnEq.lean ====
module

public import proofs.«01_k».proof.Proof.FfnPre
public import proofs.«01_k».proof.Proof.FfnTotal
public import proofs.«01_k».proof.Proof.FfnFrame
public import proofs.«01_k».proof.Proof.FfnRefOut

@[expose] public section

set_option maxRecDepth 16384
set_option maxHeartbeats 4000000

noncomputable section

/-! Both programs leave the gradients of the layer's input, of its two products, of its output, and of the norm's parameters. -/
namespace Cert.FfnBwdIdeal.Value

open Idealize.ShloMosaic Idealize.ShloMosaic.TcCoe Idealize.SL.Sem
open Cert.FfnBwdIdeal Cert.FfnBwdIdeal.Gen Cert.Ffn

/-- The kernel leaves the gradients of the real arguments. -/
theorem run_grads (m : (ℓ : Loc nD τ sig) → Buf (Elt Ideal) ℓ) (ρ : Dev nD → PrngReg) (P : Dev nD → Args) (Q : ∀ c, Has m (P c) c) :
    θ_run defs (onTc (τ := τ) (main (F := Ideal))) ⟨m, fun _ => 0, ρ⟩ fun r => ∀ c : Dev nD,
      r.2.mem ((c.tc : Thread nD τ).loc main_v34_0) = D8 (P c) ∧
      r.2.mem ((c.tc : Thread nD τ).loc main_v34_1) = D9 (P c) ∧
      r.2.mem ((c.tc : Thread nD τ).loc main_v34_2) = D10 (P c) ∧
      r.2.mem ((c.tc : Thread nD τ).loc main_v34_3) = D11 (P c) ∧
      r.2.mem ((c.tc : Thread nD τ).loc main_v34_4) = D12 (P c) ∧
      r.2.mem ((c.tc : Thread nD τ).loc main_v34_5) = D13 (P c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 8).trans (final8 (Q c)), ((h.1 c).1 9).trans (final9 (Q c)), ((h.1 c).1 10).trans (final10 (Q c)), ((h.1 c).1 11).trans (final11 (Q c)), ((h.1 c).1 12).trans (final12 (Q c)), ((h.1 c).1 13).trans (final13 (Q c)), h.2 c⟩)
    (θ_run_and (run_main m ρ) (unchanged m ρ))

end Cert.FfnBwdIdeal.Value

namespace Cert.FfnBwdRefIdeal.Value

open Idealize.ShloMosaic Idealize.ShloMosaic.TcCoe Idealize.SL.Sem Idealize.ShloMosaic.StableHlo
open Cert.FfnBwdRefIdeal Cert.FfnBwdRefIdeal.Gen Cert.Ffn

/-- The reference leaves them too. -/
theorem run_grads (m : (ℓ : Loc nD τ sig) → Buf (Elt Ideal) ℓ) (ρ : Dev nD → PrngReg) (P : Dev nD → Args) (Q : ∀ c, HasR (launchContents m c) (P c)) :
    θ_run defs (onTc (τ := τ) (main (F := Ideal))) ⟨m, fun _ => 0, ρ⟩ fun r => ∀ c : Dev nD,
      r.2.mem ((c.tc : Thread nD τ).loc main_v86) = Cert.FfnBwdIdeal.Value.D8 (P c) ∧
      r.2.mem ((c.tc : Thread nD τ).loc main_v90) = Cert.FfnBwdIdeal.Value.D9 (P c) ∧
      r.2.mem ((c.tc : Thread nD τ).loc main_v94) = Cert.FfnBwdIdeal.Value.D10 (P c) ∧
      r.2.mem ((c.tc : Thread nD τ).loc main_v95) = Cert.FfnBwdIdeal.Value.D11 (P c) ∧
      r.2.mem ((c.tc : Thread nD τ).loc main_v48) = Cert.FfnBwdIdeal.Value.D12 (P c) ∧
      r.2.mem ((c.tc : Thread nD τ).loc main_v45) = Cert.FfnBwdIdeal.Value.D13 (P c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_) (run (F := Ideal) m ρ)
  obtain ⟨e0, e1, e2, e3, e4, e5, e⟩ := h c
  exact ⟨e0.trans (s86 (Q c)), e1.trans (s90 (Q c)), e2.trans (s94 (Q c)), e3.trans (s95 (Q c)), e4.trans (s48 (Q c)), e5.trans (s45 (Q c)), e⟩

end Cert.FfnBwdRefIdeal.Value
-- ==== Proof.FfnDd.lean ====
module

public import proofs.«01_k».proof.Proof.Gen.FfnDdIdeal.Frame
public import proofs.«01_k».proof.Proof.Gen.FfnDdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

/-! The gradient of a feed-forward layer's output matrix: eight blocks of rows, summed. -/
namespace Cert.FfnDdIdeal.Value

open Idealize.ShloMosaic Idealize.ShloMosaic.TcCoe Idealize.SL.Sem
open Cert.FfnDdIdeal Cert.FfnDdIdeal.Gen

variable (m : (ℓ : Loc nD τ sig) → Buf (Elt Ideal) ℓ)

theorem hzero (j) : k0_pay1 (F := Ideal) j = 0 := by pointwise [k0_pay1]

theorem hpay (acc : FVec Ideal S3072x1024 .f32) (x : FVec Ideal S1024x3072 .bf16) (y : FVec Ideal S1024x1024 .bf16) (j) :
    k0_pay2 (F := Ideal) acc x y j = acc j + ∑ k : Fin 1024, x (ix2 k (j 0)) * y (ix2 k (j 1)) := by
  pointwise [k0_pay2]

theorem hout (acc : FVec Ideal S3072x1024 .f32) (o : Fin 1) (r : Fin 3072) (w : Fin 1024) : k0_pay3 (F := Ideal) acc (ix3 o r w) = acc (ix2 r w) := by
  pointwise [k0_pay3]

theorem idx : ∀ t : Fin cfg0.N, win0_0.index t = ![t.val, 0] ∧ win0_1.index t = ![t.val, 0] ∧ win0_2.index t = ![0, 0, 0] :=
  (by decide +kernel : ∀ t : Fin grid0.N, _)

/-- The reference's result as a term over its two arguments. -/
abbrev REF (a : FVec Ideal Cert.FfnDdRefIdeal.S8192x2816 .f32) (dy : FVec Ideal Cert.FfnDdRefIdeal.S8192x1024 .f32) :
    FVec Ideal Cert.FfnDdRefIdeal.S1x3072x1024 .bf16 :=
  truncf .bf16 (shapeCast _ (pad Cert.FfnDdRefIdeal.S8x384x1024 ![0, 0, 0] ![0, 32, 0] ![0, 0, 0] (shapeCast _ (transpose Cert.FfnDdRefIdeal.S2816x1024 [1, 0] (Host.dotGeneral Cert.FfnDdRefIdeal.dot_S8192x1024_S8192x2816_S1024x2816_0_0_1_1_n_n none dy a) Cert.FfnDdRefIdeal.Gen.transposes_S1024x2816_S2816x1024_1_0) Cert.FfnDdRefIdeal.Gen.shapeCasts_S2816x1024_S8x352x1024) (sitofp .f32 (constantI Cert.FfnDdRefIdeal.S_ 32 0#32)) Cert.FfnDdRefIdeal.Gen.pads_S8x352x1024_S8x384x1024_000_0320_000 Cert.FfnDdRefIdeal.Gen.h_S_) Cert.FfnDdRefIdeal.Gen.shapeCasts_S8x384x1024_S1x3072x1024) bitsLt_bf16_f32

/-- The reference's result at an index. -/
theorem ref_at (a : FVec Ideal Cert.FfnDdRefIdeal.S8192x2816 .f32) (dy : FVec Ideal Cert.FfnDdRefIdeal.S8192x1024 .f32) (o : Fin 1) (r : Fin 3072) (w : Fin 1024) :
    REF a dy (ix3 o r w) = if h : r.val % 384 < 352 then ∑ l : Fin 8192, a (ix2 l ⟨r.val / 384 * 352 + r.val % 384, by omega⟩) * dy (ix2 l w) else 0 := by
  pointwise [REF]
  by_cases h : r.val % 384 < 352
  · rw [dif_pos (by omega), dif_pos h]
    exact Finset.sum_congr rfl fun l _ => mul_comm _ _
  · rw [dif_neg (by omega), dif_neg h]
    show ((((0 : ℤ) : ℝ)) : EReal) = 0
    simp

/-- The hidden rows, the output's derivative, and both as the kernel is given them. -/
abbrev A (c : Dev nD) : FVec Ideal S8192x2816 .f32 := m ((c : Thread nD τ).loc main_arg0)
@[inherit_doc A] abbrev DY (c : Dev nD) : FVec Ideal S8192x1024 .f32 := m ((c : Thread nD τ).loc main_arg1)
@[inherit_doc A] abbrev AP (c : Dev nD) : FVec Ideal S8192x3072 .bf16 := V m c main_v3
@[inherit_doc A] abbrev DB (c : Dev nD) : FVec Ideal S8192x1024 .bf16 := V m c main_v4

/-- The columns padded on the host: a device's 352 columns become 384. -/
theorem ap_eq (c : Dev nD) : AP m c = truncf .bf16 (shapeCast S8192x3072 (pad S8192x8x384 ![0, 0, 0] ![0, 0, 32] ![0, 0, 0]
    (shapeCast S8192x8x352 (A m c) shapeCasts_S8192x2816_S8192x8x352) (sitofp .f32 (constantI S_ 32 0#32))
    pads_S8192x8x352_S8192x8x384_000_000_0320 h_S_) shapeCasts_S8192x8x384_S8192x3072) bitsLt_bf16_f32 := by
  simp only [AP, V, hostOps0, hostOps0_1, hostOps0_2, List.flatten_cons, List.flatten_nil, List.cons_append, List.nil_append, List.append_nil,
    StableHlo.TRef.binary, StableHlo.TRef.unary, StableHlo.TRef.toBuf, StableHlo.TRef.ofBuf, cast_eq]
  after_results <;> rfl

/-- The second operand is the derivative. -/
theorem db_eq (c : Dev nD) : DB m c = truncf .bf16 (DY m c) bitsLt_bf16_f32 := by
  simp only [DB, V, hostOps0, hostOps0_1, hostOps0_2, List.flatten_cons, List.flatten_nil, List.cons_append, List.nil_append, List.append_nil,
    StableHlo.TRef.binary, StableHlo.TRef.unary, StableHlo.TRef.toBuf, StableHlo.TRef.ofBuf, cast_eq]
  after_results <;> rfl

/-- The first operand as the kernel is given it, at an index. -/
theorem a_at (c : Dev nD) (l : Fin 8192) (r : Fin 3072) :
    AP m c (ix2 l r) = if h : r.val % 384 < 352 then A m c (ix2 l ⟨r.val / 384 * 352 + r.val % 384, by omega⟩) else 0 := by
  rw [ap_eq]
  pointwise []
  by_cases h : r.val % 384 < 352
  · rw [dif_pos (by omega), dif_pos h]
  · rw [dif_neg (by omega), dif_neg h]
    show ((((0 : ℤ) : ℝ)) : EReal) = 0
    simp

theorem dy_at (c : Dev nD) (l : Fin 8192) (w : Fin 1024) : DB m c (ix2 l w) = DY m c (ix2 l w) := by
  rw [db_eq]
  pointwise []

/-- The accumulator after the last point is the whole product. -/
theorem acc_eq (c : Dev nD) (j) : (outsAt0 m c t0_7.val t0_7.isLt).2 j = ∑ l : Fin 8192, AP m c (ix2 l (j 0)) * DB m c (ix2 l (j 1)) := by
  rw [Pipeline.eq_sum_fin_of_reset_step_apply_last (fun n h => (outsAt0 m c n h).2) 8 (fun _ => 0) _
    (fun t h j => by rw [outsAt0_A m c t h (by omega)]; frame_out; rw [hpay, hzero])
    (fun t h j => by
      by_cases h1 : t.val % 8 = 7
      · rw [outsAt0_C m c t h h1]; frame_out; rw [hpay]; rw [read_unread_whole]
      · rw [outsAt0_B m c t h h1]; frame_out; rw [hpay]; rw [read_unread_whole])
    (le_of_eq N_0) t0_7 rfl j, zero_add]
  refine Fin.sum_mul_add_congr (L := 8192) (S := 8) (n := 1024) fun s k hl => ?_
  have e0 : win0_0.index s = _ := (idx ⟨s.val, lt_of_lt_of_eq s.isLt N_0.symm⟩).1
  have e1 : win0_1.index s = _ := (idx ⟨s.val, lt_of_lt_of_eq s.isLt N_0.symm⟩).2.1
  idx_vars j
  blk_point [iblk, V, e0, e1]

/-- What the last point stores is the accumulator. -/
theorem out_eq (c : Dev nD) (o : Fin 1) (r : Fin 3072) (w : Fin 1024) :
    (outsAt0 m c t0_7.val t0_7.isLt).1 (ix3 o r w) = (outsAt0 m c t0_7.val t0_7.isLt).2 (ix2 r w) := by
  rw [outsAt0_C m c t0_7 (by decide) (by decide)]
  frame_out
  rw [hout]

/-- What the last point leaves in the result's block is the reference's result. -/
theorem point (c : Dev nD) (o : Fin 1) (r : Fin 3072) (w : Fin 1024) :
    (outsAt0 m c t0_7.val t0_7.isLt).1 (ix3 o r w) = REF (A m c) (DY m c) (ix3 o r w) := by
  rw [out_eq, acc_eq, ref_at]
  by_cases h : r.val % 384 < 352
  · rw [dif_pos h]
    exact Finset.sum_congr rfl fun l _ => congrArg₂ (· * ·) ((a_at m c l r).trans (dif_pos h)) (dy_at m c l w)
  · rw [dif_neg h]
    refine Finset.sum_eq_zero fun l _ => ?_
    exact (congrArg (· * DB m c (ix2 l w)) ((a_at m c l r).trans (dif_neg h))).trans (zero_mul _)

/-- The result's array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have ht : t = t0_7 := Fin.ext (by have h := (flush0_2 t).mp hf; have := t.isLt; have := (show cfg0.N = 8 from N_0); show t.val = 7; omega)
  subst ht
  blk_simp; rw [after0_2]
  obtain ⟨o, ho⟩ : ∃ o : Fin 1, o.val = (y 0 : ℕ) := ⟨⟨(y 0 : ℕ), (y 0).isLt⟩, rfl⟩
  obtain ⟨r, hr⟩ : ∃ r : Fin 3072, r.val = (y 1 : ℕ) := ⟨⟨(y 1 : ℕ), (y 1).isLt⟩, rfl⟩
  obtain ⟨w, hw⟩ : ∃ w : Fin 1024, w.val = (y 2 : ℕ) := ⟨⟨(y 2 : ℕ), (y 2).isLt⟩, rfl⟩
  have hy : y = ix3 o r w := by blk_ext
  have he : (win0_2.blk t0_7).view.emb y = ix3 o r w := by blk_ext [idx t0_7]
  rw [he, hy]
  exact point m c o r w

end Cert.FfnDdIdeal.Value

end
-- ==== Proof.FwdMath.lean ====
module

public import proofs.«01_k».proof.Proof.FfnMath

@[expose] public section

noncomputable section

/-! The gated feed-forward layer and its norm, over the extended reals. -/
namespace Cert.Fwd

open Idealize.ShloMosaic Cert.Ffn

/-- The four constants, as the words that they are. -/
def al : EReal := Ideal.ofBits .f32 0x3FB504F3#32
@[inherit_doc al] def hf : EReal := Ideal.ofBits .f32 0x3F000000#32
@[inherit_doc al] def ep : EReal := Ideal.ofBits .f32 0x3727C5AC#32
@[inherit_doc al] def wid : EReal := Ideal.ofBits .f32 0x44800000#32

/-- The arguments: the layer's input, its three matrices, the norm's scale and offset. -/
structure Args where
  x : ℕ → ℕ → EReal
  wg : ℕ → ℕ → EReal
  wu : ℕ → ℕ → EReal
  wd : ℕ → ℕ → EReal
  lg : ℕ → EReal
  lb : ℕ → EReal

/-- A row's distance from its mean. -/
def dist (z : ℕ → ℕ → EReal) (r w : ℕ) : EReal := z r w - Ideal.div (∑ w : Fin 1024, z r w) wid
/-- A row normed, scaled and shifted. -/
def norm (z : ℕ → ℕ → EReal) (g b : ℕ → EReal) (r w : ℕ) : EReal :=
  dist z r w * Ideal.rsqrt (Ideal.div (∑ w : Fin 1024, dist z r w * dist z r w) wid + ep) * g w + b w

namespace Args

variable (P : Args)

/-- The gate's product. -/
def g (r k : ℕ) : EReal := ∑ a : Fin 1024, P.x r a * P.wg a k
/-- The other product. -/
def u (r k : ℕ) : EReal := ∑ a : Fin 1024, P.x r a * P.wu a k
/-- The hidden values. -/
def a (r k : ℕ) : EReal := P.g r k * Ideal.div 1 (1 + Ideal.exp (-P.g r k)) * P.u r k
/-- What is normed: the scaled input and half the layer's output. -/
def z (r w : ℕ) : EReal := al * P.x r w + hf * ∑ k : Fin 2816, P.a r k * P.wd k w
/-- The normed row. -/
def o : ℕ → ℕ → EReal := norm P.z P.lg P.lb

variable {P}

theorem g_pc (r k : ℕ) : ∑ a : Fin 1024, P.x r a * pc (P.wg a) k = pc (P.g r) k := by
  unfold pc; split
  · rfl
  · simp

theorem u_pc (r k : ℕ) : ∑ a : Fin 1024, P.x r a * pc (P.wu a) k = pc (P.u r) k := by
  unfold pc; split
  · rfl
  · simp

theorem a_pc (r k : ℕ) : pc (P.g r) k * Ideal.div 1 (1 + Ideal.exp (-pc (P.g r) k)) * pc (P.u r) k = pc (P.a r) k := by
  unfold pc; split
  · rfl
  · rw [mul_zero]

end Args

theorem hf_eq : hf = ((2⁻¹ : ℝ) : EReal) := Cert.Lru.bits_half

/-- A half of a sum is the sum of the halves. -/
theorem hf_sum {ι : Type} (s : Finset ι) (f : ι → EReal) : ∑ i ∈ s, hf * f i = hf * ∑ i ∈ s, f i := by
  have h0 : 0 ≤ hf := by rw [hf_eq]; exact_mod_cast (by norm_num : (0 : ℝ) ≤ 2⁻¹)
  have h1 : hf ≠ ⊤ := by rw [hf_eq]; exact EReal.coe_ne_top _
  classical
  induction s using Finset.induction_on with
  | empty => simp
  | insert a s ha ih => rw [Finset.sum_insert ha, Finset.sum_insert ha, ih, EReal.left_distrib_of_nonneg_of_ne_top h0 h1]

/-- A block of columns' part of a row of the layer's output, halved. -/
def part (P : Args) (r w i : ℕ) : EReal := hf * ∑ j : Fin 768, pc (fun k => P.a r k * P.wd k w) (768 * i + j.val)

/-- Four blocks of padded columns are all columns. -/
theorem parts (P : Args) (r w : ℕ) : ∑ i ∈ Finset.range 4, part P r w i = hf * ∑ k : Fin 2816, P.a r k * P.wd k w := by
  simp only [part]
  rw [hf_sum, sum_blocks (fun k => pc (fun k => P.a r k * P.wd k w) k) 4 768,
    show (∑ k : Fin (4 * 768), pc (fun k => P.a r k * P.wd k w) k.val) = _ from sum_pc _]

/-- The second layer's arguments: also the embedding's rows, its gate's matrix and its own. -/
structure Args2 extends Args where
  pl : ℕ → ℕ → EReal
  pg : ℕ → ℕ → EReal
  pp : ℕ → ℕ → EReal

namespace Args2

variable (P : Args2)

/-- The gated embedding. -/
def e (r w : ℕ) : EReal := Ideal.div 1 (1 + Ideal.exp (-∑ a : Fin 1024, P.x r a * P.pg a w)) * ∑ b : Fin 256, P.pl r b * P.pp b w
/-- What the second layer norms. -/
def z (r w : ℕ) : EReal := P.toArgs.z r w + P.e r w
/-- The second layer's normed row. -/
def o : ℕ → ℕ → EReal := norm P.z P.lg P.lb

end Args2

/-- The array holds the function. -/
abbrev Holds {n k : ℕ} {φ : FTy} (x : FVec Ideal ⟨2, ![n, k]⟩ φ) (f : ℕ → ℕ → EReal) : Prop :=
  ∀ (r : Fin n) (w : Fin k), x (ix2 r w) = f r.val w.val

/-- An array as a function of two numbers, zero outside. -/
def ext {n k : ℕ} {φ : FTy} (x : FVec Ideal ⟨2, ![n, k]⟩ φ) (r w : ℕ) : EReal := if h : r < n ∧ w < k then x (ix2 ⟨r, h.1⟩ ⟨w, h.2⟩) else 0

theorem holds_ext {n k : ℕ} {φ : FTy} (x : FVec Ideal ⟨2, ![n, k]⟩ φ) : Holds x (ext x) := fun r w => by
  rw [ext, dif_pos ⟨r.isLt, w.isLt⟩]

end Cert.Fwd
-- ==== Proof.FwdPay.lean ====
module

public import proofs.«01_k».proof.Proof.FwdMath
public import proofs.«01_k».proof.Proof.Gen.FfnFwdIdeal.Frame
public import Idealize.ShloMosaic.Lib.Pointwise

@[expose] public section

set_option maxRecDepth 16384

noncomputable section

/-! The values of one block of rows and one block of padded hidden columns. -/
namespace Cert.FfnFwdIdeal.Value

open Idealize.ShloMosaic Idealize.ShloMosaic.TcCoe
open Cert.FfnFwdIdeal Cert.FfnFwdIdeal.Gen Cert.Ffn Cert.Fwd

variable {P : Cert.Fwd.Args} {R K : ℕ}

theorem p3 {x : FVec Ideal S512x1024 .f32} (hx : Holds x (fun r w => P.x (R + r) w)) : Holds (k0_pay3 x) (fun r w => P.x (R + r) w) := by
  intro r w
  pointwise [k0_pay3]
  exact hx _ _

theorem p4 {x : FVec Ideal S512x1024 .f32} (hx : Holds x (fun r w => P.x (R + r) w)) : Holds (k0_pay4 x) (fun r w => al * P.x (R + r) w) := by
  intro r w
  pointwise [k0_pay4]
  rw [hx _ _]; rfl

section Columns

variable {xb : FVec Ideal S512x1024 .bf16} {wd : FVec Ideal S2x1x384x1024 .bf16} {wg wu : FVec Ideal S1x1024x768 .bf16} {acc : FVec Ideal S512x1024 .f32}
  {A : ℕ → ℕ → EReal}
  (hx : Holds xb (fun r w => P.x (R + r) w))
  (hd : ∀ (d : Fin 2) (o : Fin 1) (j : Fin 384) (w : Fin 1024), wd (ix4 d o j w) = pc (fun k => P.wd k w.val) (K + (384 * d.val + j.val)))
  (hwg : ∀ (o : Fin 1) (a : Fin 1024) (k : Fin 768), wg (ix3 o a k) = pc (P.wg a.val) (K + k.val))
  (hwu : ∀ (o : Fin 1) (a : Fin 1024) (k : Fin 768), wu (ix3 o a k) = pc (P.wu a.val) (K + k.val))
  (ha : Holds acc A)

include hx hwg in
theorem p5 : Holds (k0_pay5 xb wg) (fun r k => pc (P.g (R + r)) (K + k)) := by
  intro r k
  pointwise [k0_pay5]
  simp only [hx _ _, hwg _ _ _]
  exact Cert.Fwd.Args.g_pc _ _

include hx hwu in
theorem p6 : Holds (k0_pay6 xb wu) (fun r k => pc (P.u (R + r)) (K + k)) := by
  intro r k
  pointwise [k0_pay6]
  simp only [hx _ _, hwu _ _ _]
  exact Cert.Fwd.Args.u_pc _ _

include hx hwg in
theorem p7 : Holds (k0_pay7 xb wg) (fun r k => pc (P.g (R + r)) (K + k)) := by
  intro r k
  pointwise [k0_pay7]
  exact p5 hx hwg _ _

include hx hwu in
theorem p8 : Holds (k0_pay8 xb wu) (fun r k => pc (P.u (R + r)) (K + k)) := by
  intro r k
  pointwise [k0_pay8]
  exact p6 hx hwu _ _

include hx hwg hwu in
theorem p9 : Holds (k0_pay9 xb wg wu) (fun r k => pc (P.a (R + r)) (K + k)) := by
  intro r k
  pointwise [k0_pay9]
  rw [p5 hx hwg _ _, p6 hx hwu _ _, zero_sub]
  exact Cert.Fwd.Args.a_pc _ _

include hx hwg hwu hd ha in
theorem p1 : Holds (k0_pay1 (k0_pay9 xb wg wu) acc wd) (fun r w => A r w + hf * ∑ j : Fin 768, pc (fun k => P.a (R + r) k * P.wd k w) (K + j.val)) := by
  intro r w
  have h9 := p9 hx hwg hwu
  pointwise [k0_pay1]
  simp only [h9 _ _, hd _ _ _ _, ha _ _]
  refine congrArg (A r.val w.val + hf * ·) (Finset.sum_congr rfl fun k _ => ?_)
  have e : 384 * (k.val / 384) + k.val % 384 = k.val := by omega
  simp only [e, pc_mul]

end Columns

theorem p2 {f : ℕ → ℕ → EReal} {g b : ℕ → EReal} {z : FVec Ideal S512x1024 .f32} {lg lb : FVec Ideal S1x1024 .f32} (hz : Holds z (fun r w => f (R + r) w))
    (hg : Holds lg (fun _ => g)) (hb : Holds lb (fun _ => b)) : Holds (k0_pay2 z lg lb) (fun r w => norm f g b (R + r) w) := by
  intro r w
  pointwise [k0_pay2]
  simp only [hz _ _, hg _ _, hb _ _]
  rfl

/-- One point's new sum. -/
abbrev accOf (xb : FVec Ideal S512x1024 .bf16) (acc : FVec Ideal S512x1024 .f32) (wg wu : FVec Ideal S1x1024x768 .bf16) (wd : FVec Ideal S2x1x384x1024 .bf16) : FVec Ideal S512x1024 .f32 :=
  k0_pay1 (k0_pay9 xb wg wu) acc wd

/-- The three matrices' blocks at a block of columns. -/
structure Loads (P : Cert.Fwd.Args) (f : ℕ) (wg wu : FVec Ideal S1x1024x768 .bf16) (wd : FVec Ideal S2x1x384x1024 .bf16) : Prop where
  g : ∀ (o : Fin 1) (a : Fin 1024) (k : Fin 768), wg (ix3 o a k) = pc (P.wg a.val) (768 * f + k.val)
  u : ∀ (o : Fin 1) (a : Fin 1024) (k : Fin 768), wu (ix3 o a k) = pc (P.wu a.val) (768 * f + k.val)
  d : ∀ (d : Fin 2) (o : Fin 1) (j : Fin 384) (w : Fin 1024), wd (ix4 d o j w) = pc (fun k => P.wd k w.val) (768 * f + (384 * d.val + j.val))

/-- What is right of the two carried arrays after a point, where the sum began as `b`. -/
structure Good (P : Cert.Fwd.Args) (b : ℕ → ℕ → EReal) (n : ℕ) (acc : FVec Ideal S512x1024 .f32) (xb : FVec Ideal S512x1024 .bf16) : Prop where
  acc : Holds acc (fun r w => b (512 * (n / 4) + r) w + ∑ i ∈ Finset.range (n % 4 + 1), part P (512 * (n / 4) + r) w i)
  xb : Holds xb (fun r w => P.x (512 * (n / 4) + r) w)

section Points

variable {b : ℕ → ℕ → EReal} {t : ℕ} {acc : FVec Ideal S512x1024 .f32} {xb : FVec Ideal S512x1024 .bf16} {wg wu : FVec Ideal S1x1024x768 .bf16} {wd : FVec Ideal S2x1x384x1024 .bf16}

/-- A row block's first point. -/
theorem good_first (h0 : t % 4 = 0) (L : Loads P (t % 4) wg wu wd) (hx : Holds xb (fun r w => P.x (512 * (t / 4) + r) w)) (ha : Holds acc (fun r w => b (512 * (t / 4) + r) w)) :
    Good P b t (accOf xb acc wg wu wd) xb := by
  refine ⟨fun r w => ?_, hx⟩
  refine (p1 hx L.d L.g L.u ha r w).trans ?_
  simp only [h0, Nat.zero_add, Finset.sum_range_one]; rfl

/-- A later point of it. -/
theorem good_next (n : ℕ) (hn : t = n + 1) (h0 : ¬t % 4 = 0) (L : Loads P (t % 4) wg wu wd) (G : Good P b n acc xb) : Good P b t (accOf xb acc wg wu wd) xb := by
  have e : n / 4 = t / 4 := by omega
  have e1 : n % 4 + 1 = t % 4 := by omega
  have hx : Holds xb (fun r w => P.x (512 * (t / 4) + r) w) := e ▸ G.xb
  refine ⟨fun r w => ?_, hx⟩
  refine (p1 hx L.d L.g L.u G.acc r w).trans ?_
  simp only [e, e1, Finset.sum_range_succ, add_assoc]; rfl

end Points

end Cert.FfnFwdIdeal.Value
-- ==== Proof.FwdBlocks.lean ====
module

public import Idealize.ShloMosaic.Lib.Pipeline.ValueKit
public import Idealize.ShloMosaic.Lib.Pipeline.ReadBack
public import proofs.«01_k».proof.Proof.FwdPay

@[expose] public section

set_option maxRecDepth 16384

noncomputable section

/-! What a grid point loads. -/
namespace Cert.FfnFwdIdeal.Value

open Idealize.ShloMosaic Idealize.ShloMosaic.TcCoe Idealize.SL.Sem
open Cert.FfnFwdIdeal Cert.FfnFwdIdeal.Gen Cert.Ffn Cert.Fwd

variable (m : (ℓ : Loc nD τ sig) → Buf (Elt Ideal) ℓ)

theorem idxA : ∀ t : Fin cfg0.N, win0_0.index t = ![t.val / 4, 0] ∧ win0_1.index t = ![0, 0, t.val % 4] ∧ win0_2.index t = ![1, 0, t.val % 4] ∧
    win0_3.index t = ![t.val % 4, 0, 0, 0] ∧ win0_4.index t = ![0, 0] ∧ win0_5.index t = ![0, 0] :=
  (by decide +kernel : ∀ t : Fin grid0.N, _)
theorem idxB : ∀ t : Fin cfg0.N, win0_6.index t = ![t.val / 4, 0] ∧ win0_7.index t = ![t.val / 4, 0] ∧ win0_8.index t = ![t.val / 4, t.val % 4] ∧
    win0_9.index t = ![t.val / 4, t.val % 4] ∧ win0_10.index t = ![t.val / 4, t.val % 4] :=
  (by decide +kernel : ∀ t : Fin grid0.N, _)

theorem lt64 (t : Fin cfg0.N) : t.val < 64 := lt_of_lt_of_eq t.isLt N_0

/-- The arrays that the call is given. -/
abbrev XX (c : Dev nD) : FVec Ideal S8192x1024 .f32 := V m c main_arg0
@[inherit_doc XX] abbrev WW (c : Dev nD) : FVec Ideal S2x1024x3072 .bf16 := V m c main_v11
@[inherit_doc XX] abbrev WD (c : Dev nD) : FVec Ideal S8x1x384x1024 .bf16 := V m c main_v15
@[inherit_doc XX] abbrev LG (c : Dev nD) : FVec Ideal S1x1024 .f32 := V m c main_arg4
@[inherit_doc XX] abbrev LB (c : Dev nD) : FVec Ideal S1x1024 .f32 := V m c main_arg5

/-- They hold the arguments, the hidden columns padded. -/
structure Has (P : Cert.Fwd.Args) (c : Dev nD) : Prop where
  x : Holds (XX m c) P.x
  wg : ∀ (a : Fin 1024) (k : Fin 3072), WW m c (ix3 0 a k) = pc (P.wg a.val) k.val
  wu : ∀ (a : Fin 1024) (k : Fin 3072), WW m c (ix3 1 a k) = pc (P.wu a.val) k.val
  wd : ∀ (d : Fin 8) (o : Fin 1) (j : Fin 384) (w : Fin 1024), WD m c (ix4 d o j w) = pc (fun k => P.wd k w.val) (384 * d.val + j.val)
  lg : Holds (LG m c) (fun _ => P.lg)
  lb : Holds (LB m c) (fun _ => P.lb)

theorem at_ext {α : Type} (f : S2x1024x3072.Idx → α) (i j : S2x1024x3072.Idx) (h : ∀ a : Fin 3, (i a).val = (j a).val) : f i = f j := by
  have e : i = j := funext fun a => Fin.ext (h a)
  rw [e]

/-- The place of an entry of a stacked matrix's block, coordinate by coordinate. -/
theorem coords {s : Fin 2} {f k : ℕ} {h : 768 * f + k < 3072} {e : Fin 3 → ℕ} (e0 : e 0 = s.val) (e1 : e 1 = 0) (e2 : e 2 = f) (o : Fin 1) (a : Fin 1024)
    (hk : k < 768) : ∀ i : Fin 3, e i * S1x1024x768.size i + ((ix3 o a ⟨k, hk⟩ : S1x1024x768.Idx) i).val = ((ix3 s a ⟨768 * f + k, h⟩ : S2x1024x3072.Idx) i).val := by
  have s0 : S1x1024x768.size 0 = 1 := rfl
  have s2 : S1x1024x768.size 2 = 768 := rfl
  have p0 : ((ix3 o a ⟨k, hk⟩ : S1x1024x768.Idx) 0).val = o.val := rfl
  have p1 : ((ix3 o a ⟨k, hk⟩ : S1x1024x768.Idx) 1).val = a.val := rfl
  have p2 : ((ix3 o a ⟨k, hk⟩ : S1x1024x768.Idx) 2).val = k := rfl
  have q0 : ((ix3 s a ⟨768 * f + k, h⟩ : S2x1024x3072.Idx) 0).val = s.val := rfl
  have q1 : ((ix3 s a ⟨768 * f + k, h⟩ : S2x1024x3072.Idx) 1).val = a.val := rfl
  have q2 : ((ix3 s a ⟨768 * f + k, h⟩ : S2x1024x3072.Idx) 2).val = 768 * f + k := rfl
  refine (Fin.forall_fin_succ.2 ⟨?_, Fin.forall_fin_succ.2 ⟨?_, Fin.forall_fin_succ.2 ⟨?_, fun i => i.elim0⟩⟩⟩)
  · refine Eq.trans ?_ q0.symm
    refine Eq.trans (congrArg₂ (· + ·) (congrArg₂ (· * ·) e0 s0) p0) ?_
    show _ = _
    omega
  · refine Eq.trans ?_ q1.symm
    refine Eq.trans (congrArg₂ (· + ·) (congrArg (· * _) e1) p1) ?_
    rw [Nat.zero_mul, Nat.zero_add]
  · refine Eq.trans ?_ q2.symm
    refine Eq.trans (congrArg₂ (· + ·) (congrArg₂ (· * ·) e2 s2) p2) ?_
    rw [Nat.mul_comm]

section Blocks

variable (c : Dev nD) (t : Fin cfg0.N)

theorem b0 (r : Fin 512) (w : Fin 1024) : iblk m c 0 t (ix2 r w) = XX m c (ix2 ⟨512 * (t.val / 4) + r.val, by have := lt64 t; omega⟩ w) := by
  show XX m c ((win0_0.blk t).view.emb (ix2 r w)) = _
  have e := (idxA t).1
  congr 1
  blk_ext [e]
theorem b3 (d : Fin 2) (o : Fin 1) (j : Fin 384) (w : Fin 1024) : iblk m c 3 t (ix4 d o j w) = WD m c (ix4 ⟨2 * (t.val % 4) + d.val, by omega⟩ o j w) := by
  show WD m c ((win0_3.blk t).view.emb (ix4 d o j w)) = _
  have e := (idxA t).2.2.2.1
  congr 1
  blk_ext [e]
theorem b4 (o : Fin 1) (w : Fin 1024) : iblk m c 4 t (ix2 o w) = LG m c (ix2 o w) := by
  show LG m c ((win0_4.blk t).view.emb (ix2 o w)) = _
  have e := (idxA t).2.2.2.2.1
  congr 1
  blk_ext [e]
theorem b5 (o : Fin 1) (w : Fin 1024) : iblk m c 5 t (ix2 o w) = LB m c (ix2 o w) := by
  show LB m c ((win0_5.blk t).view.emb (ix2 o w)) = _
  have e := (idxA t).2.2.2.2.2
  congr 1
  blk_ext [e]

theorem h1 (y : S1x1024x768.Idx) (a : Fin 3) : ((win0_1.blk t).view.emb y a).val = win0_1.index t a * S1x1024x768.size a + (y a).val :=
  ValueKit.view_emb_slice_whole_unit_val main_v11 _ _ _ _ a
theorem q1 : iblk m c 1 t = (win0_1.blk t).view.read (Elt Ideal) (V m c main_v11) := rfl
theorem s1 (v : FVec Ideal S2x1024x3072 .bf16) (y : S1x1024x768.Idx) : (win0_1.blk t).view.read (Elt Ideal) v y = v ((win0_1.blk t).view.emb y) := rfl
theorem v1 (v : FVec Ideal S2x1024x3072 .bf16) (o : Fin 1) (a : Fin 1024) (k : Fin 768) (h) : (win0_1.blk t).view.read (Elt Ideal) v (ix3 o a k : S1x1024x768.Idx) = v (ix3 0 a ⟨768 * (t.val % 4) + k.val, h⟩) :=
  (s1 t v (ix3 o a k)).trans (at_ext v _ _ (fun i => (h1 t (ix3 o a k) i).trans
    (coords (congrFun (idxA t).2.1 0) (congrFun (idxA t).2.1 1) (congrFun (idxA t).2.1 2) o a k.isLt i)))
theorem b1 (o : Fin 1) (a : Fin 1024) (k : Fin 768) : iblk m c 1 t (ix3 o a k : S1x1024x768.Idx) = WW m c (ix3 0 a ⟨768 * (t.val % 4) + k.val, by omega⟩) := by
  rw [q1 m c t]
  exact v1 t (V m c main_v11) o a k (by omega)

theorem h2 (y : S1x1024x768.Idx) (a : Fin 3) : ((win0_2.blk t).view.emb y a).val = win0_2.index t a * S1x1024x768.size a + (y a).val :=
  ValueKit.view_emb_slice_whole_unit_val main_v11 _ _ _ _ a
theorem q2 : iblk m c 2 t = (win0_2.blk t).view.read (Elt Ideal) (V m c main_v11) := rfl
theorem s2 (v : FVec Ideal S2x1024x3072 .bf16) (y : S1x1024x768.Idx) : (win0_2.blk t).view.read (Elt Ideal) v y = v ((win0_2.blk t).view.emb y) := rfl
theorem v2 (v : FVec Ideal S2x1024x3072 .bf16) (o : Fin 1) (a : Fin 1024) (k : Fin 768) (h) : (win0_2.blk t).view.read (Elt Ideal) v (ix3 o a k : S1x1024x768.Idx) = v (ix3 1 a ⟨768 * (t.val % 4) + k.val, h⟩) :=
  (s2 t v (ix3 o a k)).trans (at_ext v _ _ (fun i => (h2 t (ix3 o a k) i).trans
    (coords (congrFun (idxA t).2.2.1 0) (congrFun (idxA t).2.2.1 1) (congrFun (idxA t).2.2.1 2) o a k.isLt i)))
theorem b2 (o : Fin 1) (a : Fin 1024) (k : Fin 768) : iblk m c 2 t (ix3 o a k : S1x1024x768.Idx) = WW m c (ix3 1 a ⟨768 * (t.val % 4) + k.val, by omega⟩) := by
  rw [q2 m c t]
  exact v2 t (V m c main_v11) o a k (by omega)

end Blocks

section Loads

variable {m} {c : Dev nD} {P : Cert.Fwd.Args} (Q : Has m P c) (t : Fin cfg0.N)
include Q

theorem lx : Holds (n := 512) (k := 1024) (φ := .f32) (iblk m c 0 t) (fun r w => P.x (512 * (t.val / 4) + r) w) := fun r w => (b0 m c t r w).trans (Q.x _ _)
theorem lwg (o : Fin 1) (a : Fin 1024) (k : Fin 768) : iblk m c 1 t (ix3 o a k) = pc (P.wg a.val) (768 * (t.val % 4) + k.val) := (b1 m c t o a k).trans (Q.wg _ _)
theorem lwu (o : Fin 1) (a : Fin 1024) (k : Fin 768) : iblk m c 2 t (ix3 o a k) = pc (P.wu a.val) (768 * (t.val % 4) + k.val) := (b2 m c t o a k).trans (Q.wu _ _)
theorem lwd (d : Fin 2) (o : Fin 1) (j : Fin 384) (w : Fin 1024) : iblk m c 3 t (ix4 d o j w) = pc (fun k => P.wd k w.val) (768 * (t.val % 4) + (384 * d.val + j.val)) :=
  (b3 m c t d o j w).trans ((Q.wd _ _ _ _).trans (congrArg _ (by show 384 * (2 * (t.val % 4) + d.val) + j.val = _; omega)))
theorem loads : Loads P (t.val % 4) (iblk m c 1 t) (iblk m c 2 t) (iblk m c 3 t) := ⟨lwg Q t, lwu Q t, lwd Q t⟩
theorem llg : Holds (n := 1) (k := 1024) (φ := .f32) (iblk m c 4 t) (fun _ => P.lg) := fun r w => (b4 m c t r w).trans (Q.lg _ _)
theorem llb : Holds (n := 1) (k := 1024) (φ := .f32) (iblk m c 5 t) (fun _ => P.lb) := fun r w => (b5 m c t r w).trans (Q.lb _ _)

end Loads

end Cert.FfnFwdIdeal.Value
-- ==== Proof.FwdHost.lean ====
module

public import proofs.«01_k».proof.Proof.FwdBlocks
public import Idealize.ShloMosaic.Lib.StableHlo.ReadAt

@[expose] public section

set_option maxRecDepth 16384
set_option maxHeartbeats 1000000

noncomputable section

/-! What the kernel program's host lines leave for the call. -/
namespace Cert.FfnFwdIdeal.Value

open Idealize.ShloMosaic Idealize.ShloMosaic.TcCoe
open Cert.FfnFwdIdeal Cert.FfnFwdIdeal.Gen Cert.Ffn Cert.Fwd

variable (m : (ℓ : Loc nD τ sig) → Buf (Elt Ideal) ℓ) (c : Dev nD)

/-- The kernel's arguments. -/
abbrev M0 : FVec Ideal S8192x1024 .f32 := m ((c : Thread nD τ).loc main_arg0)
@[inherit_doc M0] abbrev M1 : FVec Ideal S1024x2816 .f32 := m ((c : Thread nD τ).loc main_arg1)
@[inherit_doc M0] abbrev M2 : FVec Ideal S1024x2816 .f32 := m ((c : Thread nD τ).loc main_arg2)
@[inherit_doc M0] abbrev M3 : FVec Ideal S2816x1024 .f32 := m ((c : Thread nD τ).loc main_arg3)
@[inherit_doc M0] abbrev M4 : FVec Ideal S1x1024 .f32 := m ((c : Thread nD τ).loc main_arg4)
@[inherit_doc M0] abbrev M5 : FVec Ideal S1x1024 .f32 := m ((c : Thread nD τ).loc main_arg5)

/-- The same, as functions of two numbers. -/
def args : Cert.Fwd.Args :=
  ⟨ext (M0 m c), ext (M1 m c), ext (M2 m c), ext (M3 m c), ext (M4 m c) 0, ext (M5 m c) 0⟩

/-- A matrix's columns, device by device, padded. -/
def hostW (w : FVec Ideal S1024x2816 .f32) : FVec Ideal S8x1x1024x384 .f32 :=
  broadcastInDim S8x1x1024x384 ![0, 2, 3] bcast_S8x1024x384_S8x1x1024x384_0_2_3 (pad S8x1024x384 ![0, 0, 0] ![0, 0, 32] ![0, 0, 0]
    (transpose S8x1024x352 [1, 0, 2] (shapeCast _ w shapeCasts_S1024x2816_S1024x8x352) transposes_S1024x8x352_S8x1024x352_1_0_2) (sitofp .f32 (constantI S_ 32 0#32)) pads_S8x1024x352_S8x1024x384_000_000_0320 h_S_)
/-- Two of them one after the other. -/
def cat (a b : FVec Ideal S8x1x1024x384 .f32) : FVec Ideal S8x2x1024x384 .f32 :=
  concatenate S8x2x1024x384 1 [⟨S8x1x1024x384, a⟩, ⟨S8x1x1024x384, b⟩] concatenates_S8x1x1024x384_S8x1x1024x384_S8x2x1024x384_d1
theorem cat_eq : (fun (a b : FVec Ideal S8x1x1024x384 .f32) =>
    concatenate S8x2x1024x384 1 [⟨S8x1x1024x384, a⟩, ⟨S8x1x1024x384, b⟩] concatenates_S8x1x1024x384_S8x1x1024x384_S8x2x1024x384_d1) = cat := rfl
/-- The two matrices side by side. -/
def hostWW (a b : FVec Ideal S8x1x1024x384 .f32) : FVec Ideal S2x1024x3072 .bf16 :=
  shapeCast _ (transpose S2x1024x8x384 [1, 2, 0, 3] (truncf .bf16 (cat a b) bitsLt_bf16_f32) transposes_S8x2x1024x384_S2x1024x8x384_1_2_0_3) shapeCasts_S2x1024x8x384_S2x1024x3072
/-- The third matrix's rows, device by device, padded. -/
def hostWD (w : FVec Ideal S2816x1024 .f32) : FVec Ideal S8x1x384x1024 .bf16 :=
  truncf .bf16 (broadcastInDim S8x1x384x1024 ![0, 2, 3] bcast_S8x384x1024_S8x1x384x1024_0_2_3 (pad S8x384x1024 ![0, 0, 0] ![0, 32, 0] ![0, 0, 0]
    (shapeCast _ w shapeCasts_S2816x1024_S8x352x1024) (sitofp .f32 (constantI S_ 32 0#32)) pads_S8x352x1024_S8x384x1024_000_0320_000 h_S_)) bitsLt_bf16_f32

theorem host_w : WW m c = hostWW (hostW (M1 m c)) (hostW (M2 m c)) := by
  simp only [WW, WD, cat_eq, V, hostOps0, hostOps0_1, hostOps0_2, hostOps0_3, hostOps0_4, hostOps0_5, hostOps0_6, List.flatten_cons, List.flatten_nil, List.cons_append, List.nil_append, List.append_nil, StableHlo.TRef.nullary, StableHlo.TRef.ternary, StableHlo.TRef.binary, StableHlo.TRef.unary, StableHlo.TRef.toBuf, StableHlo.TRef.ofBuf, cast_eq]
  after_reads_simp
  exact rfl

theorem host_d : WD m c = hostWD (M3 m c) := by
  simp only [WW, WD, cat_eq, V, hostOps0, hostOps0_1, hostOps0_2, hostOps0_3, hostOps0_4, hostOps0_5, hostOps0_6, List.flatten_cons, List.flatten_nil, List.cons_append, List.nil_append, List.append_nil, StableHlo.TRef.nullary, StableHlo.TRef.ternary, StableHlo.TRef.binary, StableHlo.TRef.unary, StableHlo.TRef.toBuf, StableHlo.TRef.ofBuf, cast_eq]
  after_reads_simp
  exact rfl

theorem pad_zero : (FloatOps.sitofp FTy.f32 0#32 : Ideal .f32) = (0 : EReal) := by
  simp [FloatOps.sitofp]

theorem is_w {w : FVec Ideal S1024x2816 .f32} {W : ℕ → ℕ → EReal} (hw : Holds w W) (d : Fin 8) (o : Fin 1) (a : Fin 1024) (j : Fin 384) :
    hostW w (ix4 d o a j) = pc (W a.val) (384 * d.val + j.val) := by
  pointwise [hostW]
  have e : (384 * d.val + j.val) % 384 = j.val := by omega
  have e' : (384 * d.val + j.val) / 384 = d.val := by omega
  rw [pc, e, e']
  by_cases h : j.val < 352
  · rw [dif_pos h, if_pos h]; exact hw _ _
  · rw [dif_neg h, if_neg h]; exact pad_zero

theorem is_wd {w : FVec Ideal S2816x1024 .f32} {W : ℕ → ℕ → EReal} (hw : Holds w W) (d : Fin 8) (o : Fin 1) (j : Fin 384) (a : Fin 1024) :
    hostWD w (ix4 d o j a) = pc (fun k => W k a.val) (384 * d.val + j.val) := by
  pointwise [hostWD]
  have e : (384 * d.val + j.val) % 384 = j.val := by omega
  have e' : (384 * d.val + j.val) / 384 = d.val := by omega
  rw [pc, e, e']
  by_cases h : j.val < 352
  · rw [dif_pos h, if_pos h]; exact hw _ _
  · rw [dif_neg h, if_neg h]; exact pad_zero

theorem is_w0 {x y : FVec Ideal S1024x2816 .f32} {X : ℕ → ℕ → EReal} (hx : Holds x X) (a : Fin 1024) (k : Fin 3072) :
    hostWW (hostW x) (hostW y) (ix3 0 a k) = pc (X a.val) k.val := by
  have e : 384 * (k.val / 384) + k.val % 384 = k.val := by omega
  have h := is_w hx ⟨k.val / 384, by omega⟩ 0 a ⟨k.val % 384, by omega⟩
  rw [e] at h
  generalize hostW x = p at h ⊢
  generalize hostW y = q
  pointwise [hostWW, cat]
  exact h

theorem is_w1 {x y : FVec Ideal S1024x2816 .f32} {Y : ℕ → ℕ → EReal} (hy : Holds y Y) (a : Fin 1024) (k : Fin 3072) :
    hostWW (hostW x) (hostW y) (ix3 1 a k) = pc (Y a.val) k.val := by
  have e : 384 * (k.val / 384) + k.val % 384 = k.val := by omega
  have h := is_w hy ⟨k.val / 384, by omega⟩ 0 a ⟨k.val % 384, by omega⟩
  rw [e] at h
  generalize hostW x = p
  generalize hostW y = q at h ⊢
  pointwise [hostWW, cat]
  exact h

/-- What the call is given. -/
theorem has : Has m (args m c) c := by
  constructor
  · rw [show XX m c = M0 m c from V_main_arg0 m c]; exact holds_ext _
  · rw [host_w]; exact is_w0 (holds_ext _)
  · rw [host_w]; exact is_w1 (holds_ext _)
  · rw [host_d]; exact is_wd (holds_ext _)
  · rw [show LG m c = M4 m c from V_main_arg4 m c]; exact fun r w => (Subsingleton.elim r 0) ▸ holds_ext _ 0 w
  · rw [show LB m c = M5 m c from V_main_arg5 m c]; exact fun r w => (Subsingleton.elim r 0) ▸ holds_ext _ 0 w

end Cert.FfnFwdIdeal.Value
-- ==== Proof.FwdPoint.lean ====
module

public import proofs.«01_k».proof.Proof.FwdHost

@[expose] public section

set_option maxRecDepth 16384
set_option maxHeartbeats 1000000

noncomputable section

/-! What each point leaves, by induction over the points. -/
namespace Cert.FfnFwdIdeal.Value

open Idealize.ShloMosaic Idealize.ShloMosaic.TcCoe Idealize.SL.Sem
open Cert.FfnFwdIdeal Cert.FfnFwdIdeal.Gen Cert.Ffn Cert.Fwd

section Steps

variable (m : (ℓ : Loc nD τ sig) → Buf (Elt Ideal) ℓ) (c : Dev nD) (t : Fin cfg0.N)

/-- What the point before left of the sum and of the input. -/
abbrev oldA : FVec Ideal S512x1024 .f32 := (outsAt0 m c (t.val - 1) (Nat.lt_of_le_of_lt (Nat.sub_le _ _) t.isLt)).2.2.2.2.2.1
@[inherit_doc oldA] abbrev oldX : FVec Ideal S512x1024 .bf16 := (outsAt0 m c (t.val - 1) (Nat.lt_of_le_of_lt (Nat.sub_le _ _) t.isLt)).2.2.2.2.2.2

theorem acc_A (h0 : t.val % 4 = 0) (h1 : ¬t.val % 4 = 3) :
    (outsAt0 m c t.val t.isLt).2.2.2.2.2.1 = accOf (k0_pay3 (iblk m c 0 t)) (k0_pay4 (iblk m c 0 t)) (iblk m c 1 t) (iblk m c 2 t) (iblk m c 3 t) := by
  rw [outsAt0_A m c t h0 h1]; frame_out
theorem xb_A (h0 : t.val % 4 = 0) (h1 : ¬t.val % 4 = 3) : (outsAt0 m c t.val t.isLt).2.2.2.2.2.2 = k0_pay3 (iblk m c 0 t) := by
  rw [outsAt0_A m c t h0 h1]; frame_out
theorem g_A (h0 : t.val % 4 = 0) (h1 : ¬t.val % 4 = 3) : (outsAt0 m c t.val t.isLt).2.2.1 = k0_pay7 (k0_pay3 (iblk m c 0 t)) (iblk m c 1 t) := by
  rw [outsAt0_A m c t h0 h1]; frame_out
theorem u_A (h0 : t.val % 4 = 0) (h1 : ¬t.val % 4 = 3) : (outsAt0 m c t.val t.isLt).2.2.2.1 = k0_pay8 (k0_pay3 (iblk m c 0 t)) (iblk m c 2 t) := by
  rw [outsAt0_A m c t h0 h1]; frame_out
theorem a_A (h0 : t.val % 4 = 0) (h1 : ¬t.val % 4 = 3) : (outsAt0 m c t.val t.isLt).2.2.2.2.1 = k0_pay9 (k0_pay3 (iblk m c 0 t)) (iblk m c 1 t) (iblk m c 2 t) := by
  rw [outsAt0_A m c t h0 h1]; frame_out

theorem acc_B (h0 : ¬t.val % 4 = 0) (h1 : ¬t.val % 4 = 3) :
    (outsAt0 m c t.val t.isLt).2.2.2.2.2.1 = accOf (oldX m c t) (oldA m c t) (iblk m c 1 t) (iblk m c 2 t) (iblk m c 3 t) := by
  rw [outsAt0_B m c t h0 h1]; frame_out; simp only [read_unread_whole]
theorem xb_B (h0 : ¬t.val % 4 = 0) (h1 : ¬t.val % 4 = 3) : (outsAt0 m c t.val t.isLt).2.2.2.2.2.2 = oldX m c t := by
  rw [outsAt0_B m c t h0 h1]; dsimp only [sout0_B_1]
theorem g_B (h0 : ¬t.val % 4 = 0) (h1 : ¬t.val % 4 = 3) : (outsAt0 m c t.val t.isLt).2.2.1 = k0_pay7 (oldX m c t) (iblk m c 1 t) := by
  rw [outsAt0_B m c t h0 h1]; frame_out; simp only [read_unread_whole]
theorem u_B (h0 : ¬t.val % 4 = 0) (h1 : ¬t.val % 4 = 3) : (outsAt0 m c t.val t.isLt).2.2.2.1 = k0_pay8 (oldX m c t) (iblk m c 2 t) := by
  rw [outsAt0_B m c t h0 h1]; frame_out; simp only [read_unread_whole]
theorem a_B (h0 : ¬t.val % 4 = 0) (h1 : ¬t.val % 4 = 3) : (outsAt0 m c t.val t.isLt).2.2.2.2.1 = k0_pay9 (oldX m c t) (iblk m c 1 t) (iblk m c 2 t) := by
  rw [outsAt0_B m c t h0 h1]; frame_out; simp only [read_unread_whole]

theorem acc_C (h0 : ¬t.val % 4 = 0) (h1 : t.val % 4 = 3) :
    (outsAt0 m c t.val t.isLt).2.2.2.2.2.1 = accOf (oldX m c t) (oldA m c t) (iblk m c 1 t) (iblk m c 2 t) (iblk m c 3 t) := by
  rw [outsAt0_C m c t h0 h1]; frame_out; simp only [read_unread_whole]
theorem xb_C (h0 : ¬t.val % 4 = 0) (h1 : t.val % 4 = 3) : (outsAt0 m c t.val t.isLt).2.2.2.2.2.2 = oldX m c t := by
  rw [outsAt0_C m c t h0 h1]; dsimp only [sout0_C_1]
theorem g_C (h0 : ¬t.val % 4 = 0) (h1 : t.val % 4 = 3) : (outsAt0 m c t.val t.isLt).2.2.1 = k0_pay7 (oldX m c t) (iblk m c 1 t) := by
  rw [outsAt0_C m c t h0 h1]; frame_out; simp only [read_unread_whole]
theorem u_C (h0 : ¬t.val % 4 = 0) (h1 : t.val % 4 = 3) : (outsAt0 m c t.val t.isLt).2.2.2.1 = k0_pay8 (oldX m c t) (iblk m c 2 t) := by
  rw [outsAt0_C m c t h0 h1]; frame_out; simp only [read_unread_whole]
theorem a_C (h0 : ¬t.val % 4 = 0) (h1 : t.val % 4 = 3) : (outsAt0 m c t.val t.isLt).2.2.2.2.1 = k0_pay9 (oldX m c t) (iblk m c 1 t) (iblk m c 2 t) := by
  rw [outsAt0_C m c t h0 h1]; frame_out; simp only [read_unread_whole]
theorem z_C (h0 : ¬t.val % 4 = 0) (h1 : t.val % 4 = 3) :
    (outsAt0 m c t.val t.isLt).1 = accOf (oldX m c t) (oldA m c t) (iblk m c 1 t) (iblk m c 2 t) (iblk m c 3 t) := by
  rw [outsAt0_C m c t h0 h1]; frame_out; simp only [read_unread_whole]
theorem o_C (h0 : ¬t.val % 4 = 0) (h1 : t.val % 4 = 3) :
    (outsAt0 m c t.val t.isLt).2.1 = k0_pay2 (accOf (oldX m c t) (oldA m c t) (iblk m c 1 t) (iblk m c 2 t) (iblk m c 3 t)) (iblk m c 4 t) (iblk m c 5 t) := by
  rw [outsAt0_C m c t h0 h1]; frame_out; simp only [read_unread_whole]

end Steps

variable {m : (ℓ : Loc nD τ sig) → Buf (Elt Ideal) ℓ} {c : Dev nD} {P : Cert.Fwd.Args} (Q : Has m P c)
include Q

/-- A row block's first point. -/
theorem first (t : Fin cfg0.N) (h0 : t.val % 4 = 0) :
    Good P (fun r w => al * P.x r w) t.val (accOf (k0_pay3 (iblk m c 0 t)) (k0_pay4 (iblk m c 0 t)) (iblk m c 1 t) (iblk m c 2 t) (iblk m c 3 t)) (k0_pay3 (iblk m c 0 t)) :=
  good_first h0 (loads Q t) (p3 (lx Q t)) (p4 (lx Q t))

/-- After every point the two carried arrays are right. -/
theorem good : ∀ (n : ℕ) (hn : n < cfg0.N), Good P (fun r w => al * P.x r w) n (outsAt0 m c n hn).2.2.2.2.2.1 (outsAt0 m c n hn).2.2.2.2.2.2
  | 0, hn => by
    have h1 : ¬(0 : ℕ) % 4 = 3 := by decide
    rw [acc_A m c ⟨0, hn⟩ rfl h1, xb_A m c ⟨0, hn⟩ rfl h1]
    exact first Q ⟨0, hn⟩ rfl
  | n + 1, hn => by
    have G := good n (Nat.lt_of_succ_lt hn)
    by_cases h0 : (n + 1) % 4 = 0
    · have h1 : ¬(n + 1) % 4 = 3 := by omega
      rw [acc_A m c ⟨n + 1, hn⟩ h0 h1, xb_A m c ⟨n + 1, hn⟩ h0 h1]
      exact first Q ⟨n + 1, hn⟩ h0
    · by_cases h1 : (n + 1) % 4 = 3
      · rw [acc_C m c ⟨n + 1, hn⟩ h0 h1, xb_C m c ⟨n + 1, hn⟩ h0 h1]
        exact good_next n rfl h0 (loads Q ⟨n + 1, hn⟩) G
      · rw [acc_B m c ⟨n + 1, hn⟩ h0 h1, xb_B m c ⟨n + 1, hn⟩ h0 h1]
        exact good_next n rfl h0 (loads Q ⟨n + 1, hn⟩) G

/-- Before a row block's later points the carried input is right. -/
theorem old_x (t : Fin cfg0.N) (h0 : ¬t.val % 4 = 0) : Holds (oldX m c t) (fun r w => P.x (512 * (t.val / 4) + r) w) := by
  have e : (t.val - 1) / 4 = t.val / 4 := by omega
  exact e ▸ (good Q (t.val - 1) (Nat.lt_of_le_of_lt (Nat.sub_le _ _) t.isLt)).xb

theorem g_at (t : Fin cfg0.N) : Holds (n := 512) (k := 768) (φ := .bf16) (outsAt0 m c t.val t.isLt).2.2.1 (fun r k => pc (P.g (512 * (t.val / 4) + r)) (768 * (t.val % 4) + k)) := by
  by_cases h0 : t.val % 4 = 0
  · rw [g_A m c t h0 (by omega)]; exact p7 (p3 (lx Q t)) (lwg Q t)
  · by_cases h1 : t.val % 4 = 3
    · rw [g_C m c t h0 h1]; exact p7 (old_x Q t h0) (lwg Q t)
    · rw [g_B m c t h0 h1]; exact p7 (old_x Q t h0) (lwg Q t)

theorem u_at (t : Fin cfg0.N) : Holds (n := 512) (k := 768) (φ := .bf16) (outsAt0 m c t.val t.isLt).2.2.2.1 (fun r k => pc (P.u (512 * (t.val / 4) + r)) (768 * (t.val % 4) + k)) := by
  by_cases h0 : t.val % 4 = 0
  · rw [u_A m c t h0 (by omega)]; exact p8 (p3 (lx Q t)) (lwu Q t)
  · by_cases h1 : t.val % 4 = 3
    · rw [u_C m c t h0 h1]; exact p8 (old_x Q t h0) (lwu Q t)
    · rw [u_B m c t h0 h1]; exact p8 (old_x Q t h0) (lwu Q t)

theorem a_at (t : Fin cfg0.N) : Holds (n := 512) (k := 768) (φ := .bf16) (outsAt0 m c t.val t.isLt).2.2.2.2.1 (fun r k => pc (P.a (512 * (t.val / 4) + r)) (768 * (t.val % 4) + k)) := by
  by_cases h0 : t.val % 4 = 0
  · rw [a_A m c t h0 (by omega)]; exact p9 (p3 (lx Q t)) (lwg Q t) (lwu Q t)
  · by_cases h1 : t.val % 4 = 3
    · rw [a_C m c t h0 h1]; exact p9 (old_x Q t h0) (lwg Q t) (lwu Q t)
    · rw [a_B m c t h0 h1]; exact p9 (old_x Q t h0) (lwg Q t) (lwu Q t)

/-- At a row block's last point the sum is what is normed. -/
theorem z_at (t : Fin cfg0.N) (h1 : t.val % 4 = 3) :
    Holds (accOf (oldX m c t) (oldA m c t) (iblk m c 1 t) (iblk m c 2 t) (iblk m c 3 t)) (fun r w => P.z (512 * (t.val / 4) + r) w) := by
  intro r w
  have h0 : ¬t.val % 4 = 0 := by omega
  refine ((good_next (t.val - 1) (by omega) h0 (loads Q t) (good Q (t.val - 1) (Nat.lt_of_le_of_lt (Nat.sub_le _ _) t.isLt))).acc r w).trans ?_
  rw [h1]
  exact congrArg (al * _ + ·) (parts P _ _)

theorem o_at (t : Fin cfg0.N) (h1 : t.val % 4 = 3) : Holds (n := 512) (k := 1024) (φ := .f32) (outsAt0 m c t.val t.isLt).2.1 (fun r w => P.o (512 * (t.val / 4) + r) w) := by
  rw [o_C m c t (by omega) h1]
  exact p2 (z_at Q t h1) (llg Q t) (llb Q t)

end Cert.FfnFwdIdeal.Value
-- ==== Proof.FwdTotal.lean ====
module

public import proofs.«01_k».proof.Proof.FwdPoint
public import Idealize.ShloMosaic.Lib.Pipeline.ValueKit

@[expose] public section

set_option maxRecDepth 16384

noncomputable section

/-! What the results hold when all blocks are done. -/
namespace Cert.FfnFwdIdeal.Value

open Idealize.ShloMosaic Idealize.ShloMosaic.TcCoe Idealize.SL.Sem
open Cert.FfnFwdIdeal Cert.FfnFwdIdeal.Gen Cert.Ffn Cert.Fwd

/-- The arrays of the results: what is normed, the normed rows, the two hidden products and the hidden values. -/
def D6 (P : Cert.Fwd.Args) : FVec Ideal S8192x1024 .f32 := fun j => P.z (j 0).val (j 1).val
@[inherit_doc D6] def D7 (P : Cert.Fwd.Args) : FVec Ideal S8192x1024 .f32 := fun j => P.o (j 0).val (j 1).val
@[inherit_doc D6] def D8 (P : Cert.Fwd.Args) : FVec Ideal S8192x3072 .bf16 := fun j => pc (P.g (j 0).val) (j 1).val
@[inherit_doc D6] def D9 (P : Cert.Fwd.Args) : FVec Ideal S8192x3072 .bf16 := fun j => pc (P.u (j 0).val) (j 1).val
@[inherit_doc D6] def D10 (P : Cert.Fwd.Args) : FVec Ideal S8192x3072 .bf16 := fun j => pc (P.a (j 0).val) (j 1).val

variable {m : (ℓ : Loc nD τ sig) → Buf (Elt Ideal) ℓ} {c : Dev nD} {P : Cert.Fwd.Args} (Q : Has m P c)
include Q

theorem total6 : (dats m 0 c).arrAt 6 (cfgs 0).N = D6 P := by
  refine (dats m 0 c).arrAt_eq_of_covers 6 _ (by decide +kernel) fun t hf y => ?_
  have e : win0_6.index t = _ := (idxB t).1
  have h64 := lt64 t
  have h3 : t.val % 4 = 3 := (flush0_6 t).mp hf
  blk_simp; rw [after0_6]
  obtain ⟨r, hr⟩ : ∃ r : Fin 512, r.val = (y 0 : ℕ) := ⟨⟨(y 0 : ℕ), (y 0).isLt⟩, rfl⟩
  obtain ⟨w, hw⟩ : ∃ w : Fin 1024, w.val = (y 1 : ℕ) := ⟨⟨(y 1 : ℕ), (y 1).isLt⟩, rfl⟩
  have hy : y = ix2 r w := by blk_ext
  have he : (win0_6.blk t).view.emb y = ix2 ⟨512 * (t.val / 4) + r.val, by omega⟩ w := by blk_ext [e]
  rw [he]
  refine (congrArg (outsAt0 m c t.val t.isLt).1 hy).trans ?_
  rw [z_C m c t (by omega) h3]
  exact z_at Q t h3 r w

theorem total7 : (dats m 0 c).arrAt 7 (cfgs 0).N = D7 P := by
  refine (dats m 0 c).arrAt_eq_of_covers 7 _ (by decide +kernel) fun t hf y => ?_
  have e : win0_7.index t = _ := (idxB t).2.1
  have h64 := lt64 t
  have h3 : t.val % 4 = 3 := (flush0_7 t).mp hf
  blk_simp; rw [after0_7]
  obtain ⟨r, hr⟩ : ∃ r : Fin 512, r.val = (y 0 : ℕ) := ⟨⟨(y 0 : ℕ), (y 0).isLt⟩, rfl⟩
  obtain ⟨w, hw⟩ : ∃ w : Fin 1024, w.val = (y 1 : ℕ) := ⟨⟨(y 1 : ℕ), (y 1).isLt⟩, rfl⟩
  have hy : y = ix2 r w := by blk_ext
  have he : (win0_7.blk t).view.emb y = ix2 ⟨512 * (t.val / 4) + r.val, by omega⟩ w := by blk_ext [e]
  rw [he]
  refine (congrArg (outsAt0 m c t.val t.isLt).2.1 hy).trans ?_
  exact o_at Q t h3 r w

theorem total8 : (dats m 0 c).arrAt 8 (cfgs 0).N = D8 P := by
  refine (dats m 0 c).arrAt_eq_of_covers 8 _ (by decide +kernel) fun t hf y => ?_
  have e : win0_8.index t = _ := (idxB t).2.2.1
  have h64 := lt64 t
  blk_simp; rw [after0_8]
  obtain ⟨r, hr⟩ : ∃ r : Fin 512, r.val = (y 0 : ℕ) := ⟨⟨(y 0 : ℕ), (y 0).isLt⟩, rfl⟩
  obtain ⟨w, hw⟩ : ∃ w : Fin 768, w.val = (y 1 : ℕ) := ⟨⟨(y 1 : ℕ), (y 1).isLt⟩, rfl⟩
  have hy : y = ix2 r w := by blk_ext
  have he : (win0_8.blk t).view.emb y = ix2 ⟨512 * (t.val / 4) + r.val, by omega⟩ ⟨768 * (t.val % 4) + w.val, by omega⟩ := by blk_ext [e]
  rw [he]
  refine (congrArg (outsAt0 m c t.val t.isLt).2.2.1 hy).trans ?_
  exact g_at Q t r w

theorem total9 : (dats m 0 c).arrAt 9 (cfgs 0).N = D9 P := by
  refine (dats m 0 c).arrAt_eq_of_covers 9 _ (by decide +kernel) fun t hf y => ?_
  have e : win0_9.index t = _ := (idxB t).2.2.2.1
  have h64 := lt64 t
  blk_simp; rw [after0_9]
  obtain ⟨r, hr⟩ : ∃ r : Fin 512, r.val = (y 0 : ℕ) := ⟨⟨(y 0 : ℕ), (y 0).isLt⟩, rfl⟩
  obtain ⟨w, hw⟩ : ∃ w : Fin 768, w.val = (y 1 : ℕ) := ⟨⟨(y 1 : ℕ), (y 1).isLt⟩, rfl⟩
  have hy : y = ix2 r w := by blk_ext
  have he : (win0_9.blk t).view.emb y = ix2 ⟨512 * (t.val / 4) + r.val, by omega⟩ ⟨768 * (t.val % 4) + w.val, by omega⟩ := by blk_ext [e]
  rw [he]
  refine (congrArg (outsAt0 m c t.val t.isLt).2.2.2.1 hy).trans ?_
  exact u_at Q t r w

theorem total10 : (dats m 0 c).arrAt 10 (cfgs 0).N = D10 P := by
  refine (dats m 0 c).arrAt_eq_of_covers 10 _ (by decide +kernel) fun t hf y => ?_
  have e : win0_10.index t = _ := (idxB t).2.2.2.2
  have h64 := lt64 t
  blk_simp; rw [after0_10]
  obtain ⟨r, hr⟩ : ∃ r : Fin 512, r.val = (y 0 : ℕ) := ⟨⟨(y 0 : ℕ), (y 0).isLt⟩, rfl⟩
  obtain ⟨w, hw⟩ : ∃ w : Fin 768, w.val = (y 1 : ℕ) := ⟨⟨(y 1 : ℕ), (y 1).isLt⟩, rfl⟩
  have hy : y = ix2 r w := by blk_ext
  have he : (win0_10.blk t).view.emb y = ix2 ⟨512 * (t.val / 4) + r.val, by omega⟩ ⟨768 * (t.val % 4) + w.val, by omega⟩ := by blk_ext [e]
  rw [he]
  refine (congrArg (outsAt0 m c t.val t.isLt).2.2.2.2.1 hy).trans ?_
  exact a_at Q t r w

end Cert.FfnFwdIdeal.Value
-- ==== Proof.FwdRef.lean ====
module

public import proofs.«01_k».proof.Proof.FwdMath
public import proofs.«01_k».proof.Proof.Gen.FfnFwdRefIdeal.Run
public import Idealize.ShloMosaic.Lib.Pointwise

@[expose] public section

set_option maxRecDepth 16384
set_option maxHeartbeats 1000000

noncomputable section

/-! What the reference computes. -/
namespace Cert.FfnFwdRefIdeal.Value

open Idealize.ShloMosaic Idealize.ShloMosaic.TcCoe
open Cert.FfnFwdRefIdeal Cert.FfnFwdRefIdeal.Gen Cert.Ffn Cert.Fwd

variable (x : FVec Ideal S8192x1024 .f32) (w v : FVec Ideal S1024x2816 .f32) (y : FVec Ideal S2816x1024 .f32)

/-- A hidden product. -/
def refG : FVec Ideal S8192x2816 .f32 := Host.dotGeneral (F := Ideal) (φ₁ := .f32) (φ₂ := .f32) dot_S8192x1024_S1024x2816_S8192x2816_1_0_0_1_n_n none x w
/-- The hidden values. -/
def refA : FVec Ideal S8192x2816 .f32 :=
  mulf (mulf (refG x w) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (refG x w)))))) (refG x v)
/-- What is normed. -/
def refZ : FVec Ideal S8192x1024 .f32 :=
  addf (mulf (broadcastInDim S8192x1024 ![] bcast_S_S8192x1024 (constant S_ .f32 0x3FB504F3#32)) x) (mulf (broadcastInDim S8192x1024 ![] bcast_S_S8192x1024 (constant S_ .f32 0x3F000000#32)) (Host.dotGeneral (F := Ideal) (φ₁ := .f32) (φ₂ := .f32) dot_S8192x2816_S2816x1024_S8192x1024_1_0_0_1_n_n none (refA x w v) y))
/-- Every device's columns, padded. -/
def refP (h : FVec Ideal S8192x2816 .f32) : FVec Ideal S8192x3072 .bf16 :=
  truncf .bf16 (shapeCast _ (pad S8192x8x384 ![0, 0, 0] ![0, 0, 32] ![0, 0, 0] (shapeCast _ h shapeCasts_S8192x2816_S8192x8x352) (sitofp .f32 (constantI S_ 32 0#32)) pads_S8192x8x352_S8192x8x384_000_000_0320 h_S_) shapeCasts_S8192x8x384_S8192x3072) bitsLt_bf16_f32

/-- A row's mean. -/
def refM (z : FVec Ideal S8192x1024 .f32) : FVec Ideal S8192x1 .f32 :=
  Host.divf (broadcastInDim S8192x1 ![0] bcast_S8192_S8192x1_0 (Host.reduceAdd (F := Ideal) (φ := .f32) z (constant S_ .f32 0x00000000#32) reducesTo_S8192x1024_S8192_d1 h_S_)) (broadcastInDim S8192x1 ![] bcast_S_S8192x1 (constant S_ .f32 0x44800000#32))
/-- A row's distance from its mean. -/
def refD (z : FVec Ideal S8192x1024 .f32) : FVec Ideal S8192x1024 .f32 :=
  subf z (broadcastInDim S8192x1024 ![0, 1] bcast_S8192x1_S8192x1024_0_1 (refM z))
/-- The normed rows. -/
def refN (z : FVec Ideal S8192x1024 .f32) (g b : FVec Ideal S1x1024 .f32) : FVec Ideal S8192x1024 .f32 :=
  addf (mulf (mulf (refD z) (broadcastInDim S8192x1024 ![0, 1] bcast_S8192x1_S8192x1024_0_1 (Host.rsqrt (addf (refM (mulf (refD z) (refD z))) (broadcastInDim S8192x1 ![] bcast_S_S8192x1 (constant S_ .f32 0x3727C5AC#32))))))
    (broadcastInDim S8192x1024 ![0, 1] bcast_S1x1024_S8192x1024_0_1 g)) (broadcastInDim S8192x1024 ![0, 1] bcast_S1x1024_S8192x1024_0_1 b)

variable {x w v y} {P : Cert.Fwd.Args}

theorem holds_g (hx : Holds x P.x) (hw : Holds w P.wg) : Holds (refG x w) P.g := by
  intro r k
  pointwise [refG]
  simp only [hx _ _, hw _ _]
  rfl

theorem holds_u (hx : Holds x P.x) (hv : Holds v P.wu) : Holds (refG x v) P.u := by
  intro r k
  pointwise [refG]
  simp only [hx _ _, hv _ _]
  rfl

theorem holds_a (hx : Holds x P.x) (hw : Holds w P.wg) (hv : Holds v P.wu) : Holds (refA x w v) P.a := by
  intro r k
  have h1 := holds_g hx hw
  have h2 := holds_u hx hv
  pointwise [refA]
  rw [h1 _ _, h2 _ _]
  rfl

theorem holds_z (hx : Holds x P.x) (hw : Holds w P.wg) (hv : Holds v P.wu) (hy : Holds y P.wd) : Holds (refZ x w v y) P.z := by
  intro r k
  have h1 := holds_a hx hw hv
  pointwise [refZ]
  simp only [h1 _ _, hx _ _, hy _ _]
  rfl

theorem mean_at {z : FVec Ideal S8192x1024 .f32} {f : ℕ → ℕ → EReal} (hz : Holds z f) (r : Fin 8192) (o : Fin 1) :
    refM z (ix2 r o) = Ideal.div (∑ w : Fin 1024, f r.val w.val) wid := by
  pointwise [refM]
  simp only [hz _ _]
  first | rfl | (rw [show Ideal.ofBits FTy.f32 0#32 = 0 from Cert.Lru.bits_zero, zero_add]; rfl)

theorem holds_d {z : FVec Ideal S8192x1024 .f32} {f : ℕ → ℕ → EReal} (hz : Holds z f) : Holds (refD z) (dist f) := by
  intro r w
  have h := mean_at hz
  pointwise [refD]
  rw [h _ _, hz _ _]
  rfl

theorem holds_o {z : FVec Ideal S8192x1024 .f32} {g b : FVec Ideal S1x1024 .f32} {f : ℕ → ℕ → EReal} {lg lb : ℕ → EReal} (hz : Holds z f) (hg : Holds g (fun _ => lg))
    (hb : Holds b (fun _ => lb)) : Holds (refN z g b) (norm f lg lb) := by
  intro r w
  have h := holds_d hz
  have h2 : Holds (mulf (refD z) (refD z)) (fun r w => dist f r w * dist f r w) := fun r w => by
    pointwise []
    rw [h _ _]
  have h3 := mean_at h2
  pointwise [refN]
  rw [h3 _ _, h _ _, hg _ _, hb _ _]
  rfl

/-- The padded array holds the padded function. -/
theorem holds_p {h : FVec Ideal S8192x2816 .f32} {f : ℕ → ℕ → EReal} (hf : Holds h f) : Holds (refP h) (fun r => pc (f r)) := by
  intro r k
  pointwise [refP]
  rw [pc]
  by_cases h : k.val % 384 < 352
  · rw [dif_pos ⟨by omega, h⟩, if_pos h]; exact hf _ _
  · rw [dif_neg (fun e => h e.2), if_neg h]; exact (by simp [FloatOps.sitofp])

end Cert.FfnFwdRefIdeal.Value
-- ==== Proof.FwdEq.lean ====
module

public import proofs.«01_k».proof.Proof.FwdTotal
public import proofs.«01_k».proof.Proof.FwdRef
public import proofs.«01_k».proof.Proof.Gen.FfnFwdIdeal.Value

@[expose] public section

set_option maxRecDepth 16384
set_option maxHeartbeats 4000000

noncomputable section

/-! Both programs leave the layer's normed output, what it normed, its two hidden products and its hidden values. -/
namespace Cert.FfnFwdIdeal.Value

open Idealize.ShloMosaic Idealize.ShloMosaic.TcCoe Idealize.SL.Sem
open Cert.FfnFwdIdeal Cert.FfnFwdIdeal.Gen Cert.Ffn Cert.Fwd

/-- The kernel leaves them. -/
theorem run_layer (m : (ℓ : Loc nD τ sig) → Buf (Elt Ideal) ℓ) (ρ : Dev nD → PrngReg) (P : Dev nD → Cert.Fwd.Args) (Q : ∀ c, Has m (P c) c) :
    θ_run defs (onTc (τ := τ) (main (F := Ideal))) ⟨m, fun _ => 0, ρ⟩ fun r => ∀ c : Dev nD,
      r.2.mem ((c.tc : Thread nD τ).loc main_v16_0) = D6 (P c)
      ∧ r.2.mem ((c.tc : Thread nD τ).loc main_v16_1) = D7 (P c)
      ∧ r.2.mem ((c.tc : Thread nD τ).loc main_v16_2) = D8 (P c)
      ∧ r.2.mem ((c.tc : Thread nD τ).loc main_v16_3) = D9 (P c)
      ∧ r.2.mem ((c.tc : Thread nD τ).loc main_v16_4) = D10 (P c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_) (run_blocks (F := Ideal) m ρ)
  obtain ⟨e0, e1, e2, e3, e4, e⟩ := h c
  exact ⟨e0.trans (total6 (Q c)), e1.trans (total7 (Q c)), e2.trans (total8 (Q c)), e3.trans (total9 (Q c)), e4.trans (total10 (Q c)), e⟩

end Cert.FfnFwdIdeal.Value

namespace Cert.FfnFwdRefIdeal.Value

open Idealize.ShloMosaic Idealize.ShloMosaic.TcCoe Idealize.SL.Sem
open Cert.FfnFwdRefIdeal Cert.FfnFwdRefIdeal.Gen Cert.Ffn Cert.Fwd

/-- The reference's arguments. -/
structure HasR (m : (ℓ : Loc nD τ sig) → Buf (Elt Ideal) ℓ) (P : Cert.Fwd.Args) (c : Dev nD) : Prop where
  x : Holds (n := 8192) (k := 1024) (φ := .f32) (m ((c.tc : Thread nD τ).loc main_arg0)) P.x
  wg : Holds (n := 1024) (k := 2816) (φ := .f32) (m ((c.tc : Thread nD τ).loc main_arg1)) P.wg
  wu : Holds (n := 1024) (k := 2816) (φ := .f32) (m ((c.tc : Thread nD τ).loc main_arg2)) P.wu
  wd : Holds (n := 2816) (k := 1024) (φ := .f32) (m ((c.tc : Thread nD τ).loc main_arg3)) P.wd
  lg : Holds (n := 1) (k := 1024) (φ := .f32) (m ((c.tc : Thread nD τ).loc main_arg4)) (fun _ => P.lg)
  lb : Holds (n := 1) (k := 1024) (φ := .f32) (m ((c.tc : Thread nD τ).loc main_arg5)) (fun _ => P.lb)

/-- An array that holds a function is that function. -/
theorem eq_of_holds {n k : ℕ} {φ : FTy} {x : FVec Ideal ⟨2, ![n, k]⟩ φ} {f : ℕ → ℕ → EReal} (h : Holds x f) : x = fun j => f (j 0).val (j 1).val := by
  funext j
  have e : j = ix2 (j 0) (j 1) := by
    funext i
    refine Fin.cases rfl (fun i => Fin.cases rfl (fun i => i.elim0) i) i
  exact (congrArg x e).trans (h _ _)

variable {m : (ℓ : Loc nD τ sig) → Buf (Elt Ideal) ℓ} {c : Dev nD} {P : Cert.Fwd.Args} (Q : HasR m P c)
include Q

theorem normed : res_main_v31 m c = Cert.FfnFwdIdeal.Value.D7 P :=
  (show res_main_v31 m c = refN (refZ (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg4)) (m ((c.tc : Thread nD τ).loc main_arg5)) from rfl).trans (eq_of_holds (holds_o (holds_z Q.x Q.wg Q.wu Q.wd) Q.lg Q.lb))

omit Q in
/-- The reference leaves them too. -/
theorem run_layer (m : (ℓ : Loc nD τ sig) → Buf (Elt Ideal) ℓ) (ρ : Dev nD → PrngReg) (P : Dev nD → Cert.Fwd.Args) (Q : ∀ c, HasR m (P c) c) :
    θ_run defs (onTc (τ := τ) (main (F := Ideal))) ⟨m, fun _ => 0, ρ⟩ fun r => ∀ c : Dev nD,
      r.2.mem ((c.tc : Thread nD τ).loc main_v9) = Cert.FfnFwdIdeal.Value.D6 (P c)
      ∧ r.2.mem ((c.tc : Thread nD τ).loc main_v31) = Cert.FfnFwdIdeal.Value.D7 (P c)
      ∧ r.2.mem ((c.tc : Thread nD τ).loc main_v35) = Cert.FfnFwdIdeal.Value.D8 (P c)
      ∧ r.2.mem ((c.tc : Thread nD τ).loc main_v39) = Cert.FfnFwdIdeal.Value.D9 (P c)
      ∧ r.2.mem ((c.tc : Thread nD τ).loc main_v43) = Cert.FfnFwdIdeal.Value.D10 (P c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_) (run (F := Ideal) m ρ)
  obtain ⟨e0, e1, e2, e3, e4, e⟩ := h c
  have q := Q c
  exact ⟨e0.trans (eq_of_holds (holds_z q.x q.wg q.wu q.wd)), e1.trans (normed q), e2.trans (eq_of_holds (holds_p (holds_g q.x q.wg))),
    e3.trans (eq_of_holds (holds_p (holds_u q.x q.wu))), e4.trans (eq_of_holds (holds_p (holds_a q.x q.wg q.wu))), e⟩

end Cert.FfnFwdRefIdeal.Value
-- ==== Proof.Fwd2Blocks.lean ====
module

public import Idealize.ShloMosaic.Lib.Pipeline.ValueKit
public import Idealize.ShloMosaic.Lib.Pipeline.ReadBack
public import proofs.«01_k».proof.Proof.FwdBlocks
public import proofs.«01_k».proof.Proof.Gen.FfnFwd2Ideal.Frame

@[expose] public section

set_option maxRecDepth 16384

noncomputable section

/-! What a grid point of the second layer's call loads, and what its first point adds to the sum. -/
namespace Cert.FfnFwd2Ideal.Value

open Idealize.ShloMosaic Idealize.ShloMosaic.TcCoe Idealize.SL.Sem
open Cert.FfnFwd2Ideal Cert.FfnFwd2Ideal.Gen Cert.Ffn Cert.Fwd
open Cert.FfnFwdIdeal.Value (at_ext coords Loads)

variable (m : (ℓ : Loc nD τ sig) → Buf (Elt Ideal) ℓ)

theorem idxA : ∀ t : Fin cfg0.N, win0_0.index t = ![t.val / 4, 0] ∧ win0_1.index t = ![0, 0, t.val % 4] ∧ win0_2.index t = ![1, 0, t.val % 4] ∧
    win0_3.index t = ![t.val % 4, 0, 0, 0] ∧ win0_4.index t = ![0, 0] ∧ win0_5.index t = ![0, 0] :=
  (by decide +kernel : ∀ t : Fin grid0.N, _)
theorem idxC : ∀ t : Fin cfg0.N, win0_6.index t = ![t.val / 4, 0] ∧ win0_7.index t = ![0, 2, 0, 0] ∧ win0_8.index t = ![0, 0] :=
  (by decide +kernel : ∀ t : Fin grid0.N, _)
theorem idxB : ∀ t : Fin cfg0.N, win0_9.index t = ![t.val / 4, 0] ∧ win0_10.index t = ![t.val / 4, 0] ∧ win0_11.index t = ![t.val / 4, t.val % 4] ∧
    win0_12.index t = ![t.val / 4, t.val % 4] ∧ win0_13.index t = ![t.val / 4, t.val % 4] :=
  (by decide +kernel : ∀ t : Fin grid0.N, _)

theorem lt64 (t : Fin cfg0.N) : t.val < 64 := lt_of_lt_of_eq t.isLt N_0

/-- The arrays that the call is given. -/
abbrev XX (c : Dev nD) : FVec Ideal S8192x1024 .f32 := V m c main_arg0
@[inherit_doc XX] abbrev WW (c : Dev nD) : FVec Ideal S2x1024x3072 .bf16 := V m c main_v11
@[inherit_doc XX] abbrev WD (c : Dev nD) : FVec Ideal S8x1x384x1024 .bf16 := V m c main_v15
@[inherit_doc XX] abbrev LG (c : Dev nD) : FVec Ideal S1x1024 .f32 := V m c main_arg7
@[inherit_doc XX] abbrev LB (c : Dev nD) : FVec Ideal S1x1024 .f32 := V m c main_arg8

@[inherit_doc XX] abbrev PL (c : Dev nD) : FVec Ideal S8192x256 .f32 := V m c main_arg1
@[inherit_doc XX] abbrev PR (c : Dev nD) : FVec Ideal S8x3x128x1024 .bf16 := V m c main_v18
@[inherit_doc XX] abbrev PP (c : Dev nD) : FVec Ideal S256x1024 .bf16 := V m c main_v19

/-- They hold the arguments, the hidden columns padded. -/
structure Has (P : Cert.Fwd.Args2) (c : Dev nD) : Prop where
  x : Holds (XX m c) P.x
  wg : ∀ (a : Fin 1024) (k : Fin 3072), WW m c (ix3 0 a k) = pc (P.wg a.val) k.val
  wu : ∀ (a : Fin 1024) (k : Fin 3072), WW m c (ix3 1 a k) = pc (P.wu a.val) k.val
  wd : ∀ (d : Fin 8) (o : Fin 1) (j : Fin 384) (w : Fin 1024), WD m c (ix4 d o j w) = pc (fun k => P.wd k w.val) (384 * d.val + j.val)
  lg : Holds (LG m c) (fun _ => P.lg)
  lb : Holds (LB m c) (fun _ => P.lb)
  pl : Holds (PL m c) P.pl
  pr : ∀ (d : Fin 8) (j : Fin 128) (w : Fin 1024), PR m c (ix4 d 2 j w) = P.pg (128 * d.val + j.val) w.val
  pp : Holds (PP m c) P.pp

section Blocks

variable (c : Dev nD) (t : Fin cfg0.N)

theorem b0 (r : Fin 512) (w : Fin 1024) : iblk m c 0 t (ix2 r w) = XX m c (ix2 ⟨512 * (t.val / 4) + r.val, by have := lt64 t; omega⟩ w) := by
  show XX m c ((win0_0.blk t).view.emb (ix2 r w)) = _
  have e := (idxA t).1
  congr 1
  blk_ext [e]
theorem b3 (d : Fin 2) (o : Fin 1) (j : Fin 384) (w : Fin 1024) : iblk m c 3 t (ix4 d o j w) = WD m c (ix4 ⟨2 * (t.val % 4) + d.val, by omega⟩ o j w) := by
  show WD m c ((win0_3.blk t).view.emb (ix4 d o j w)) = _
  have e := (idxA t).2.2.2.1
  congr 1
  blk_ext [e]
theorem b4 (o : Fin 1) (w : Fin 1024) : iblk m c 4 t (ix2 o w) = LG m c (ix2 o w) := by
  show LG m c ((win0_4.blk t).view.emb (ix2 o w)) = _
  have e := (idxA t).2.2.2.2.1
  congr 1
  blk_ext [e]
theorem b5 (o : Fin 1) (w : Fin 1024) : iblk m c 5 t (ix2 o w) = LB m c (ix2 o w) := by
  show LB m c ((win0_5.blk t).view.emb (ix2 o w)) = _
  have e := (idxA t).2.2.2.2.2
  congr 1
  blk_ext [e]

theorem b6 (r : Fin 512) (b : Fin 256) : iblk m c 6 t (ix2 r b) = PL m c (ix2 ⟨512 * (t.val / 4) + r.val, by have := lt64 t; omega⟩ b) := by
  show PL m c ((win0_6.blk t).view.emb (ix2 r b)) = _
  have e := (idxC t).1
  congr 1
  blk_ext [e]
theorem b7 (d : Fin 8) (o : Fin 1) (j : Fin 128) (w : Fin 1024) : iblk m c 7 t (ix4 d o j w) = PR m c (ix4 d 2 j w) := by
  show PR m c ((win0_7.blk t).view.emb (ix4 d o j w)) = _
  have e := (idxC t).2.1
  have ho : o.val = 0 := by omega
  congr 1
  blk_ext [e, ho]
theorem b8 (r : Fin 256) (w : Fin 1024) : iblk m c 8 t (ix2 r w) = PP m c (ix2 r w) := by
  show PP m c ((win0_8.blk t).view.emb (ix2 r w)) = _
  have e := (idxC t).2.2
  congr 1
  blk_ext [e]

theorem h1 (y : S1x1024x768.Idx) (a : Fin 3) : ((win0_1.blk t).view.emb y a).val = win0_1.index t a * S1x1024x768.size a + (y a).val :=
  ValueKit.view_emb_slice_whole_unit_val main_v11 _ _ _ _ a
theorem q1 : iblk m c 1 t = (win0_1.blk t).view.read (Elt Ideal) (V m c main_v11) := rfl
theorem s1 (v : FVec Ideal S2x1024x3072 .bf16) (y : S1x1024x768.Idx) : (win0_1.blk t).view.read (Elt Ideal) v y = v ((win0_1.blk t).view.emb y) := rfl
theorem v1 (v : FVec Ideal S2x1024x3072 .bf16) (o : Fin 1) (a : Fin 1024) (k : Fin 768) (h) : (win0_1.blk t).view.read (Elt Ideal) v (ix3 o a k : S1x1024x768.Idx) = v (ix3 0 a ⟨768 * (t.val % 4) + k.val, h⟩) :=
  (s1 t v (ix3 o a k)).trans (at_ext v _ _ (fun i => (h1 t (ix3 o a k) i).trans
    (coords (congrFun (idxA t).2.1 0) (congrFun (idxA t).2.1 1) (congrFun (idxA t).2.1 2) o a k.isLt i)))
theorem b1 (o : Fin 1) (a : Fin 1024) (k : Fin 768) : iblk m c 1 t (ix3 o a k : S1x1024x768.Idx) = WW m c (ix3 0 a ⟨768 * (t.val % 4) + k.val, by omega⟩) := by
  rw [q1 m c t]
  exact v1 t (V m c main_v11) o a k (by omega)

theorem h2 (y : S1x1024x768.Idx) (a : Fin 3) : ((win0_2.blk t).view.emb y a).val = win0_2.index t a * S1x1024x768.size a + (y a).val :=
  ValueKit.view_emb_slice_whole_unit_val main_v11 _ _ _ _ a
theorem q2 : iblk m c 2 t = (win0_2.blk t).view.read (Elt Ideal) (V m c main_v11) := rfl
theorem s2 (v : FVec Ideal S2x1024x3072 .bf16) (y : S1x1024x768.Idx) : (win0_2.blk t).view.read (Elt Ideal) v y = v ((win0_2.blk t).view.emb y) := rfl
theorem v2 (v : FVec Ideal S2x1024x3072 .bf16) (o : Fin 1) (a : Fin 1024) (k : Fin 768) (h) : (win0_2.blk t).view.read (Elt Ideal) v (ix3 o a k : S1x1024x768.Idx) = v (ix3 1 a ⟨768 * (t.val % 4) + k.val, h⟩) :=
  (s2 t v (ix3 o a k)).trans (at_ext v _ _ (fun i => (h2 t (ix3 o a k) i).trans
    (coords (congrFun (idxA t).2.2.1 0) (congrFun (idxA t).2.2.1 1) (congrFun (idxA t).2.2.1 2) o a k.isLt i)))
theorem b2 (o : Fin 1) (a : Fin 1024) (k : Fin 768) : iblk m c 2 t (ix3 o a k : S1x1024x768.Idx) = WW m c (ix3 1 a ⟨768 * (t.val % 4) + k.val, by omega⟩) := by
  rw [q2 m c t]
  exact v2 t (V m c main_v11) o a k (by omega)

end Blocks

section Loads

variable {m} {c : Dev nD} {P : Cert.Fwd.Args2} (Q : Has m P c) (t : Fin cfg0.N)
include Q

theorem lx : Holds (n := 512) (k := 1024) (φ := .f32) (iblk m c 0 t) (fun r w => P.x (512 * (t.val / 4) + r) w) := fun r w => (b0 m c t r w).trans (Q.x _ _)
theorem lwg (o : Fin 1) (a : Fin 1024) (k : Fin 768) : iblk m c 1 t (ix3 o a k) = pc (P.wg a.val) (768 * (t.val % 4) + k.val) := (b1 m c t o a k).trans (Q.wg _ _)
theorem lwu (o : Fin 1) (a : Fin 1024) (k : Fin 768) : iblk m c 2 t (ix3 o a k) = pc (P.wu a.val) (768 * (t.val % 4) + k.val) := (b2 m c t o a k).trans (Q.wu _ _)
theorem lwd (d : Fin 2) (o : Fin 1) (j : Fin 384) (w : Fin 1024) : iblk m c 3 t (ix4 d o j w) = pc (fun k => P.wd k w.val) (768 * (t.val % 4) + (384 * d.val + j.val)) :=
  (b3 m c t d o j w).trans ((Q.wd _ _ _ _).trans (congrArg _ (by show 384 * (2 * (t.val % 4) + d.val) + j.val = _; omega)))
theorem loads : Loads P.toArgs (t.val % 4) (iblk m c 1 t) (iblk m c 2 t) (iblk m c 3 t) := ⟨lwg Q t, lwu Q t, lwd Q t⟩
theorem llg : Holds (n := 1) (k := 1024) (φ := .f32) (iblk m c 4 t) (fun _ => P.lg) := fun r w => (b4 m c t r w).trans (Q.lg _ _)
theorem llb : Holds (n := 1) (k := 1024) (φ := .f32) (iblk m c 5 t) (fun _ => P.lb) := fun r w => (b5 m c t r w).trans (Q.lb _ _)

theorem lpl : Holds (n := 512) (k := 256) (φ := .f32) (iblk m c 6 t) (fun r w => P.pl (512 * (t.val / 4) + r) w) := fun r w => (b6 m c t r w).trans (Q.pl _ _)
theorem lpr (d : Fin 8) (o : Fin 1) (j : Fin 128) (w : Fin 1024) : iblk m c 7 t (ix4 d o j w) = P.pg (128 * d.val + j.val) w.val := (b7 m c t d o j w).trans (Q.pr _ _ _)
theorem lpp : Holds (n := 256) (k := 1024) (φ := .bf16) (iblk m c 8 t) P.pp := fun r w => (b8 m c t r w).trans (Q.pp _ _)

end Loads

theorem p4 {P : Cert.Fwd.Args2} {R : ℕ} {x : FVec Ideal S512x1024 .f32} (hx : Holds x (fun r w => P.x (R + r) w)) : Holds (k0_pay4 x) (fun r w => P.x (R + r) w) := by
  intro r w
  pointwise [k0_pay4, k0_pay3]
  exact hx _ _

/-- What the sum begins as. -/
def base (P : Cert.Fwd.Args2) (r w : ℕ) : EReal := al * P.x r w + P.e r w

theorem p5 {P : Cert.Fwd.Args2} {R : ℕ} {x : FVec Ideal S512x1024 .f32} {pr : FVec Ideal S8x1x128x1024 .bf16} {pl : FVec Ideal S512x256 .f32} {pp : FVec Ideal S256x1024 .bf16}
    (hx : Holds x (fun r w => P.x (R + r) w)) (hr : ∀ (d : Fin 8) (o : Fin 1) (j : Fin 128) (w : Fin 1024), pr (ix4 d o j w) = P.pg (128 * d.val + j.val) w.val)
    (hl : Holds pl (fun r w => P.pl (R + r) w)) (hp : Holds pp P.pp) : Holds (k0_pay5 x pr pl pp) (fun r w => base P (R + r) w) := by
  intro r w
  pointwise [k0_pay5, k0_pay3]
  have e : ∀ k : ℕ, 128 * (k / 128) + k % 128 = k := fun k => by omega
  simp only [hx _ _, hr _ _ _ _, hl _ _, hp _ _, e, zero_sub]
  rfl

end Cert.FfnFwd2Ideal.Value
-- ==== Proof.Fwd2Host.lean ====
module

public import proofs.«01_k».proof.Proof.Fwd2Blocks
public import proofs.«01_k».proof.Proof.FwdHost
public import Idealize.ShloMosaic.Lib.StableHlo.ReadAt

@[expose] public section

set_option maxRecDepth 16384
set_option maxHeartbeats 1000000

noncomputable section

/-! What the kernel program's host lines leave for the call. -/
namespace Cert.FfnFwd2Ideal.Value

open Idealize.ShloMosaic Idealize.ShloMosaic.TcCoe
open Cert.FfnFwd2Ideal Cert.FfnFwd2Ideal.Gen Cert.Ffn Cert.Fwd
open Cert.FfnFwdIdeal.Value (hostW hostWW hostWD is_w0 is_w1 is_wd)

variable (m : (ℓ : Loc nD τ sig) → Buf (Elt Ideal) ℓ) (c : Dev nD)

/-- The kernel's arguments. -/
abbrev M0 : FVec Ideal S8192x1024 .f32 := m ((c : Thread nD τ).loc main_arg0)
@[inherit_doc M0] abbrev M1 : FVec Ideal S8192x256 .f32 := m ((c : Thread nD τ).loc main_arg1)
@[inherit_doc M0] abbrev M2 : FVec Ideal S1024x2816 .f32 := m ((c : Thread nD τ).loc main_arg2)
@[inherit_doc M0] abbrev M3 : FVec Ideal S1024x2816 .f32 := m ((c : Thread nD τ).loc main_arg3)
@[inherit_doc M0] abbrev M4 : FVec Ideal S2816x1024 .f32 := m ((c : Thread nD τ).loc main_arg4)
@[inherit_doc M0] abbrev M5 : FVec Ideal S1024x1024 .f32 := m ((c : Thread nD τ).loc main_arg5)
@[inherit_doc M0] abbrev M6 : FVec Ideal S256x1024 .f32 := m ((c : Thread nD τ).loc main_arg6)
@[inherit_doc M0] abbrev M7 : FVec Ideal S1x1024 .f32 := m ((c : Thread nD τ).loc main_arg7)
@[inherit_doc M0] abbrev M8 : FVec Ideal S1x1024 .f32 := m ((c : Thread nD τ).loc main_arg8)

/-- The same, as functions of two numbers. -/
def args : Cert.Fwd.Args2 :=
  ⟨⟨ext (M0 m c), ext (M2 m c), ext (M3 m c), ext (M4 m c), ext (M7 m c) 0, ext (M8 m c) 0⟩, ext (M1 m c), ext (M5 m c), ext (M6 m c)⟩

/-- The gate's matrix as the call takes it: the third of three square ones. -/
def hostR (w : FVec Ideal S1024x1024 .f32) : FVec Ideal S8x3x128x1024 .bf16 :=
  truncf .bf16 (pad S8x3x128x1024 ![0, 2, 0, 0] ![0, 0, 0, 0] ![0, 0, 0, 0] (shapeCast S8x1x128x1024 w shapeCasts_S1024x1024_S8x1x128x1024) (sitofp .f32 (constantI S_ 32 0#32)) pads_S8x1x128x1024_S8x3x128x1024_000_200_000_000 h_S_) bitsLt_bf16_f32

theorem cat_eq : (fun (a b : FVec Ideal S8x1x1024x384 .f32) =>
    concatenate S8x2x1024x384 1 [⟨S8x1x1024x384, a⟩, ⟨S8x1x1024x384, b⟩] concatenates_S8x1x1024x384_S8x1x1024x384_S8x2x1024x384_d1) = Cert.FfnFwdIdeal.Value.cat := rfl

theorem host_w : WW m c = hostWW (hostW (M2 m c)) (hostW (M3 m c)) := by
  simp only [WW, cat_eq, V, hostOps0, hostOps0_1, hostOps0_2, hostOps0_3, hostOps0_4, hostOps0_5, hostOps0_6, hostOps0_7, hostOps0_8, List.flatten_cons, List.flatten_nil, List.cons_append, List.nil_append, List.append_nil, StableHlo.TRef.nullary, StableHlo.TRef.ternary, StableHlo.TRef.binary, StableHlo.TRef.unary, StableHlo.TRef.toBuf, StableHlo.TRef.ofBuf, cast_eq]
  after_reads_simp
  exact rfl

theorem host_d : WD m c = hostWD (M4 m c) := by
  simp only [WD, cat_eq, V, hostOps0, hostOps0_1, hostOps0_2, hostOps0_3, hostOps0_4, hostOps0_5, hostOps0_6, hostOps0_7, hostOps0_8, List.flatten_cons, List.flatten_nil, List.cons_append, List.nil_append, List.append_nil, StableHlo.TRef.nullary, StableHlo.TRef.ternary, StableHlo.TRef.binary, StableHlo.TRef.unary, StableHlo.TRef.toBuf, StableHlo.TRef.ofBuf, cast_eq]
  after_reads_simp
  exact rfl

theorem host_r : PR m c = hostR (M5 m c) := by
  simp only [PR, cat_eq, V, hostOps0, hostOps0_1, hostOps0_2, hostOps0_3, hostOps0_4, hostOps0_5, hostOps0_6, hostOps0_7, hostOps0_8, List.flatten_cons, List.flatten_nil, List.cons_append, List.nil_append, List.append_nil, StableHlo.TRef.nullary, StableHlo.TRef.ternary, StableHlo.TRef.binary, StableHlo.TRef.unary, StableHlo.TRef.toBuf, StableHlo.TRef.ofBuf, cast_eq]
  after_reads_simp
  exact rfl

theorem host_p : PP m c = truncf .bf16 (M6 m c) bitsLt_bf16_f32 := by
  simp only [PP, cat_eq, V, hostOps0, hostOps0_1, hostOps0_2, hostOps0_3, hostOps0_4, hostOps0_5, hostOps0_6, hostOps0_7, hostOps0_8, List.flatten_cons, List.flatten_nil, List.cons_append, List.nil_append, List.append_nil, StableHlo.TRef.nullary, StableHlo.TRef.ternary, StableHlo.TRef.binary, StableHlo.TRef.unary, StableHlo.TRef.toBuf, StableHlo.TRef.ofBuf, cast_eq]
  after_reads_simp

/-- What the call is given. -/
theorem has : Has m (args m c) c := by
  constructor
  · rw [show XX m c = M0 m c from V_main_arg0 m c]; exact holds_ext _
  · rw [host_w]; exact is_w0 (holds_ext _)
  · rw [host_w]; exact is_w1 (holds_ext _)
  · rw [host_d]; exact is_wd (holds_ext _)
  · rw [show LG m c = M7 m c from V_main_arg7 m c]; exact fun r w => (Subsingleton.elim r 0) ▸ holds_ext _ 0 w
  · rw [show LB m c = M8 m c from V_main_arg8 m c]; exact fun r w => (Subsingleton.elim r 0) ▸ holds_ext _ 0 w
  · rw [show PL m c = M1 m c from V_main_arg1 m c]; exact holds_ext _
  · rw [host_r]
    intro d j w
    have h := holds_ext (M5 m c)
    pointwise [hostR]
    rw [h _ _]
    exact congrArg (fun k => ext (M5 m c) k w.val) (by omega : d.val * 128 + j.val = 128 * d.val + j.val)
  · rw [host_p]
    intro r w
    pointwise []
    exact holds_ext (M6 m c) r w

end Cert.FfnFwd2Ideal.Value
-- ==== Proof.Fwd2Point.lean ====
module

public import proofs.«01_k».proof.Proof.Fwd2Host

@[expose] public section

set_option maxRecDepth 16384
set_option maxHeartbeats 1000000

noncomputable section

/-! What each point of the second layer's call leaves, by induction over the points. -/
namespace Cert.FfnFwd2Ideal.Value

open Idealize.ShloMosaic Idealize.ShloMosaic.TcCoe Idealize.SL.Sem
open Cert.FfnFwd2Ideal Cert.FfnFwd2Ideal.Gen Cert.Ffn Cert.Fwd
open Cert.FfnFwdIdeal.Value (accOf Good Loads good_first good_next p7 p8 p9 p2)

section Steps

variable (m : (ℓ : Loc nD τ sig) → Buf (Elt Ideal) ℓ) (c : Dev nD) (t : Fin cfg0.N)

/-- What the point before left of the sum and of the input. -/
abbrev oldA : FVec Ideal S512x1024 .f32 := (outsAt0 m c (t.val - 1) (Nat.lt_of_le_of_lt (Nat.sub_le _ _) t.isLt)).2.2.2.2.2.1
@[inherit_doc oldA] abbrev oldX : FVec Ideal S512x1024 .bf16 := (outsAt0 m c (t.val - 1) (Nat.lt_of_le_of_lt (Nat.sub_le _ _) t.isLt)).2.2.2.2.2.2

theorem acc_A (h0 : t.val % 4 = 0) (h1 : ¬t.val % 4 = 3) :
    (outsAt0 m c t.val t.isLt).2.2.2.2.2.1 = accOf (k0_pay4 (iblk m c 0 t)) (k0_pay5 (iblk m c 0 t) (iblk m c 7 t) (iblk m c 6 t) (iblk m c 8 t)) (iblk m c 1 t) (iblk m c 2 t) (iblk m c 3 t) := by
  rw [outsAt0_A m c t h0 h1]; frame_out; rfl
theorem xb_A (h0 : t.val % 4 = 0) (h1 : ¬t.val % 4 = 3) : (outsAt0 m c t.val t.isLt).2.2.2.2.2.2 = k0_pay4 (iblk m c 0 t) := by
  rw [outsAt0_A m c t h0 h1]; frame_out
theorem g_A (h0 : t.val % 4 = 0) (h1 : ¬t.val % 4 = 3) : (outsAt0 m c t.val t.isLt).2.2.1 = k0_pay8 (k0_pay4 (iblk m c 0 t)) (iblk m c 1 t) := by
  rw [outsAt0_A m c t h0 h1]; frame_out
theorem u_A (h0 : t.val % 4 = 0) (h1 : ¬t.val % 4 = 3) : (outsAt0 m c t.val t.isLt).2.2.2.1 = k0_pay9 (k0_pay4 (iblk m c 0 t)) (iblk m c 2 t) := by
  rw [outsAt0_A m c t h0 h1]; frame_out
theorem a_A (h0 : t.val % 4 = 0) (h1 : ¬t.val % 4 = 3) : (outsAt0 m c t.val t.isLt).2.2.2.2.1 = k0_pay10 (k0_pay4 (iblk m c 0 t)) (iblk m c 1 t) (iblk m c 2 t) := by
  rw [outsAt0_A m c t h0 h1]; frame_out

theorem acc_B (h0 : ¬t.val % 4 = 0) (h1 : ¬t.val % 4 = 3) :
    (outsAt0 m c t.val t.isLt).2.2.2.2.2.1 = accOf (oldX m c t) (oldA m c t) (iblk m c 1 t) (iblk m c 2 t) (iblk m c 3 t) := by
  rw [outsAt0_B m c t h0 h1]; frame_out; simp only [read_unread_whole]; rfl
theorem xb_B (h0 : ¬t.val % 4 = 0) (h1 : ¬t.val % 4 = 3) : (outsAt0 m c t.val t.isLt).2.2.2.2.2.2 = oldX m c t := by
  rw [outsAt0_B m c t h0 h1]; dsimp only [sout0_B_1]
theorem g_B (h0 : ¬t.val % 4 = 0) (h1 : ¬t.val % 4 = 3) : (outsAt0 m c t.val t.isLt).2.2.1 = k0_pay8 (oldX m c t) (iblk m c 1 t) := by
  rw [outsAt0_B m c t h0 h1]; frame_out; simp only [read_unread_whole]
theorem u_B (h0 : ¬t.val % 4 = 0) (h1 : ¬t.val % 4 = 3) : (outsAt0 m c t.val t.isLt).2.2.2.1 = k0_pay9 (oldX m c t) (iblk m c 2 t) := by
  rw [outsAt0_B m c t h0 h1]; frame_out; simp only [read_unread_whole]
theorem a_B (h0 : ¬t.val % 4 = 0) (h1 : ¬t.val % 4 = 3) : (outsAt0 m c t.val t.isLt).2.2.2.2.1 = k0_pay10 (oldX m c t) (iblk m c 1 t) (iblk m c 2 t) := by
  rw [outsAt0_B m c t h0 h1]; frame_out; simp only [read_unread_whole]

theorem acc_C (h0 : ¬t.val % 4 = 0) (h1 : t.val % 4 = 3) :
    (outsAt0 m c t.val t.isLt).2.2.2.2.2.1 = accOf (oldX m c t) (oldA m c t) (iblk m c 1 t) (iblk m c 2 t) (iblk m c 3 t) := by
  rw [outsAt0_C m c t h0 h1]; frame_out; simp only [read_unread_whole]; rfl
theorem xb_C (h0 : ¬t.val % 4 = 0) (h1 : t.val % 4 = 3) : (outsAt0 m c t.val t.isLt).2.2.2.2.2.2 = oldX m c t := by
  rw [outsAt0_C m c t h0 h1]; dsimp only [sout0_C_1]
theorem g_C (h0 : ¬t.val % 4 = 0) (h1 : t.val % 4 = 3) : (outsAt0 m c t.val t.isLt).2.2.1 = k0_pay8 (oldX m c t) (iblk m c 1 t) := by
  rw [outsAt0_C m c t h0 h1]; frame_out; simp only [read_unread_whole]
theorem u_C (h0 : ¬t.val % 4 = 0) (h1 : t.val % 4 = 3) : (outsAt0 m c t.val t.isLt).2.2.2.1 = k0_pay9 (oldX m c t) (iblk m c 2 t) := by
  rw [outsAt0_C m c t h0 h1]; frame_out; simp only [read_unread_whole]
theorem a_C (h0 : ¬t.val % 4 = 0) (h1 : t.val % 4 = 3) : (outsAt0 m c t.val t.isLt).2.2.2.2.1 = k0_pay10 (oldX m c t) (iblk m c 1 t) (iblk m c 2 t) := by
  rw [outsAt0_C m c t h0 h1]; frame_out; simp only [read_unread_whole]
theorem z_C (h0 : ¬t.val % 4 = 0) (h1 : t.val % 4 = 3) :
    (outsAt0 m c t.val t.isLt).1 = accOf (oldX m c t) (oldA m c t) (iblk m c 1 t) (iblk m c 2 t) (iblk m c 3 t) := by
  rw [outsAt0_C m c t h0 h1]; frame_out; simp only [read_unread_whole]; rfl
theorem o_C (h0 : ¬t.val % 4 = 0) (h1 : t.val % 4 = 3) :
    (outsAt0 m c t.val t.isLt).2.1 = k0_pay2 (accOf (oldX m c t) (oldA m c t) (iblk m c 1 t) (iblk m c 2 t) (iblk m c 3 t)) (iblk m c 4 t) (iblk m c 5 t) := by
  rw [outsAt0_C m c t h0 h1]; frame_out; simp only [read_unread_whole]; rfl

end Steps

variable {m : (ℓ : Loc nD τ sig) → Buf (Elt Ideal) ℓ} {c : Dev nD} {P : Cert.Fwd.Args2} (Q : Has m P c)
include Q

/-- A row block's first point. -/
theorem first (t : Fin cfg0.N) (h0 : t.val % 4 = 0) :
    Good P.toArgs (base P) t.val (accOf (k0_pay4 (iblk m c 0 t)) (k0_pay5 (iblk m c 0 t) (iblk m c 7 t) (iblk m c 6 t) (iblk m c 8 t)) (iblk m c 1 t) (iblk m c 2 t) (iblk m c 3 t)) (k0_pay4 (iblk m c 0 t)) :=
  good_first h0 (loads Q t) (p4 (lx Q t)) (p5 (lx Q t) (lpr Q t) (lpl Q t) (lpp Q t))

/-- After every point the two carried arrays are right. -/
theorem good : ∀ (n : ℕ) (hn : n < cfg0.N), Good P.toArgs (base P) n (outsAt0 m c n hn).2.2.2.2.2.1 (outsAt0 m c n hn).2.2.2.2.2.2
  | 0, hn => by
    have h1 : ¬(0 : ℕ) % 4 = 3 := by decide
    rw [acc_A m c ⟨0, hn⟩ rfl h1, xb_A m c ⟨0, hn⟩ rfl h1]
    exact first Q ⟨0, hn⟩ rfl
  | n + 1, hn => by
    have G := good n (Nat.lt_of_succ_lt hn)
    by_cases h0 : (n + 1) % 4 = 0
    · have h1 : ¬(n + 1) % 4 = 3 := by omega
      rw [acc_A m c ⟨n + 1, hn⟩ h0 h1, xb_A m c ⟨n + 1, hn⟩ h0 h1]
      exact first Q ⟨n + 1, hn⟩ h0
    · by_cases h1 : (n + 1) % 4 = 3
      · rw [acc_C m c ⟨n + 1, hn⟩ h0 h1, xb_C m c ⟨n + 1, hn⟩ h0 h1]
        exact good_next n rfl h0 (loads Q ⟨n + 1, hn⟩) G
      · rw [acc_B m c ⟨n + 1, hn⟩ h0 h1, xb_B m c ⟨n + 1, hn⟩ h0 h1]
        exact good_next n rfl h0 (loads Q ⟨n + 1, hn⟩) G

/-- Before a row block's later points the carried input is right. -/
theorem old_x (t : Fin cfg0.N) (h0 : ¬t.val % 4 = 0) : Holds (oldX m c t) (fun r w => P.x (512 * (t.val / 4) + r) w) := by
  have e : (t.val - 1) / 4 = t.val / 4 := by omega
  exact e ▸ (good Q (t.val - 1) (Nat.lt_of_le_of_lt (Nat.sub_le _ _) t.isLt)).xb

theorem g_at (t : Fin cfg0.N) : Holds (n := 512) (k := 768) (φ := .bf16) (outsAt0 m c t.val t.isLt).2.2.1 (fun r k => pc (P.g (512 * (t.val / 4) + r)) (768 * (t.val % 4) + k)) := by
  by_cases h0 : t.val % 4 = 0
  · rw [g_A m c t h0 (by omega)]; exact p7 (P := P.toArgs) (p4 (lx Q t)) (lwg Q t)
  · by_cases h1 : t.val % 4 = 3
    · rw [g_C m c t h0 h1]; exact p7 (P := P.toArgs) (old_x Q t h0) (lwg Q t)
    · rw [g_B m c t h0 h1]; exact p7 (P := P.toArgs) (old_x Q t h0) (lwg Q t)

theorem u_at (t : Fin cfg0.N) : Holds (n := 512) (k := 768) (φ := .bf16) (outsAt0 m c t.val t.isLt).2.2.2.1 (fun r k => pc (P.u (512 * (t.val / 4) + r)) (768 * (t.val % 4) + k)) := by
  by_cases h0 : t.val % 4 = 0
  · rw [u_A m c t h0 (by omega)]; exact p8 (P := P.toArgs) (p4 (lx Q t)) (lwu Q t)
  · by_cases h1 : t.val % 4 = 3
    · rw [u_C m c t h0 h1]; exact p8 (P := P.toArgs) (old_x Q t h0) (lwu Q t)
    · rw [u_B m c t h0 h1]; exact p8 (P := P.toArgs) (old_x Q t h0) (lwu Q t)

theorem a_at (t : Fin cfg0.N) : Holds (n := 512) (k := 768) (φ := .bf16) (outsAt0 m c t.val t.isLt).2.2.2.2.1 (fun r k => pc (P.a (512 * (t.val / 4) + r)) (768 * (t.val % 4) + k)) := by
  by_cases h0 : t.val % 4 = 0
  · rw [a_A m c t h0 (by omega)]; exact p9 (P := P.toArgs) (p4 (lx Q t)) (lwg Q t) (lwu Q t)
  · by_cases h1 : t.val % 4 = 3
    · rw [a_C m c t h0 h1]; exact p9 (P := P.toArgs) (old_x Q t h0) (lwg Q t) (lwu Q t)
    · rw [a_B m c t h0 h1]; exact p9 (P := P.toArgs) (old_x Q t h0) (lwg Q t) (lwu Q t)

/-- At a row block's last point the sum is what is normed. -/
theorem z_at (t : Fin cfg0.N) (h1 : t.val % 4 = 3) :
    Holds (accOf (oldX m c t) (oldA m c t) (iblk m c 1 t) (iblk m c 2 t) (iblk m c 3 t)) (fun r w => P.z (512 * (t.val / 4) + r) w) := by
  intro r w
  have h0 : ¬t.val % 4 = 0 := by omega
  refine ((good_next (t.val - 1) (by omega) h0 (loads Q t) (good Q (t.val - 1) (Nat.lt_of_le_of_lt (Nat.sub_le _ _) t.isLt))).acc r w).trans ?_
  rw [h1]
  exact (congrArg (base P _ _ + ·) (parts P.toArgs _ _)).trans (add_right_comm _ _ _)

theorem o_at (t : Fin cfg0.N) (h1 : t.val % 4 = 3) : Holds (n := 512) (k := 1024) (φ := .f32) (outsAt0 m c t.val t.isLt).2.1 (fun r w => P.o (512 * (t.val / 4) + r) w) := by
  rw [o_C m c t (by omega) h1]
  exact p2 (z_at Q t h1) (llg Q t) (llb Q t)

end Cert.FfnFwd2Ideal.Value
-- ==== Proof.Fwd2Total.lean ====
module

public import proofs.«01_k».proof.Proof.Fwd2Point
public import Idealize.ShloMosaic.Lib.Pipeline.ValueKit

@[expose] public section

set_option maxRecDepth 16384

noncomputable section

/-! What the second layer's results hold when all blocks are done. -/
namespace Cert.FfnFwd2Ideal.Value

open Idealize.ShloMosaic Idealize.ShloMosaic.TcCoe Idealize.SL.Sem
open Cert.FfnFwd2Ideal Cert.FfnFwd2Ideal.Gen Cert.Ffn Cert.Fwd

/-- The arrays of the results: what is normed, the normed rows, the two hidden products and the hidden values. -/
def D9 (P : Cert.Fwd.Args2) : FVec Ideal S8192x1024 .f32 := fun j => P.z (j 0).val (j 1).val
@[inherit_doc D9] def D10 (P : Cert.Fwd.Args2) : FVec Ideal S8192x1024 .f32 := fun j => P.o (j 0).val (j 1).val
@[inherit_doc D9] def D11 (P : Cert.Fwd.Args2) : FVec Ideal S8192x3072 .bf16 := fun j => pc (P.g (j 0).val) (j 1).val
@[inherit_doc D9] def D12 (P : Cert.Fwd.Args2) : FVec Ideal S8192x3072 .bf16 := fun j => pc (P.u (j 0).val) (j 1).val
@[inherit_doc D9] def D13 (P : Cert.Fwd.Args2) : FVec Ideal S8192x3072 .bf16 := fun j => pc (P.a (j 0).val) (j 1).val

variable {m : (ℓ : Loc nD τ sig) → Buf (Elt Ideal) ℓ} {c : Dev nD} {P : Cert.Fwd.Args2} (Q : Has m P c)
include Q

theorem total9 : (dats m 0 c).arrAt 9 (cfgs 0).N = D9 P := by
  refine (dats m 0 c).arrAt_eq_of_covers 9 _ (by decide +kernel) fun t hf y => ?_
  have e : win0_9.index t = _ := (idxB t).1
  have h64 := lt64 t
  have h3 : t.val % 4 = 3 := (flush0_9 t).mp hf
  blk_simp; rw [after0_9]
  obtain ⟨r, hr⟩ : ∃ r : Fin 512, r.val = (y 0 : ℕ) := ⟨⟨(y 0 : ℕ), (y 0).isLt⟩, rfl⟩
  obtain ⟨w, hw⟩ : ∃ w : Fin 1024, w.val = (y 1 : ℕ) := ⟨⟨(y 1 : ℕ), (y 1).isLt⟩, rfl⟩
  have hy : y = ix2 r w := by blk_ext
  have he : (win0_9.blk t).view.emb y = ix2 ⟨512 * (t.val / 4) + r.val, by omega⟩ w := by blk_ext [e]
  rw [he]
  refine (congrArg (outsAt0 m c t.val t.isLt).1 hy).trans ?_
  rw [z_C m c t (by omega) h3]
  exact z_at Q t h3 r w

theorem total10 : (dats m 0 c).arrAt 10 (cfgs 0).N = D10 P := by
  refine (dats m 0 c).arrAt_eq_of_covers 10 _ (by decide +kernel) fun t hf y => ?_
  have e : win0_10.index t = _ := (idxB t).2.1
  have h64 := lt64 t
  have h3 : t.val % 4 = 3 := (flush0_10 t).mp hf
  blk_simp; rw [after0_10]
  obtain ⟨r, hr⟩ : ∃ r : Fin 512, r.val = (y 0 : ℕ) := ⟨⟨(y 0 : ℕ), (y 0).isLt⟩, rfl⟩
  obtain ⟨w, hw⟩ : ∃ w : Fin 1024, w.val = (y 1 : ℕ) := ⟨⟨(y 1 : ℕ), (y 1).isLt⟩, rfl⟩
  have hy : y = ix2 r w := by blk_ext
  have he : (win0_10.blk t).view.emb y = ix2 ⟨512 * (t.val / 4) + r.val, by omega⟩ w := by blk_ext [e]
  rw [he]
  refine (congrArg (outsAt0 m c t.val t.isLt).2.1 hy).trans ?_
  exact o_at Q t h3 r w

theorem total11 : (dats m 0 c).arrAt 11 (cfgs 0).N = D11 P := by
  refine (dats m 0 c).arrAt_eq_of_covers 11 _ (by decide +kernel) fun t hf y => ?_
  have e : win0_11.index t = _ := (idxB t).2.2.1
  have h64 := lt64 t
  blk_simp; rw [after0_11]
  obtain ⟨r, hr⟩ : ∃ r : Fin 512, r.val = (y 0 : ℕ) := ⟨⟨(y 0 : ℕ), (y 0).isLt⟩, rfl⟩
  obtain ⟨w, hw⟩ : ∃ w : Fin 768, w.val = (y 1 : ℕ) := ⟨⟨(y 1 : ℕ), (y 1).isLt⟩, rfl⟩
  have hy : y = ix2 r w := by blk_ext
  have he : (win0_11.blk t).view.emb y = ix2 ⟨512 * (t.val / 4) + r.val, by omega⟩ ⟨768 * (t.val % 4) + w.val, by omega⟩ := by blk_ext [e]
  rw [he]
  refine (congrArg (outsAt0 m c t.val t.isLt).2.2.1 hy).trans ?_
  exact g_at Q t r w

theorem total12 : (dats m 0 c).arrAt 12 (cfgs 0).N = D12 P := by
  refine (dats m 0 c).arrAt_eq_of_covers 12 _ (by decide +kernel) fun t hf y => ?_
  have e : win0_12.index t = _ := (idxB t).2.2.2.1
  have h64 := lt64 t
  blk_simp; rw [after0_12]
  obtain ⟨r, hr⟩ : ∃ r : Fin 512, r.val = (y 0 : ℕ) := ⟨⟨(y 0 : ℕ), (y 0).isLt⟩, rfl⟩
  obtain ⟨w, hw⟩ : ∃ w : Fin 768, w.val = (y 1 : ℕ) := ⟨⟨(y 1 : ℕ), (y 1).isLt⟩, rfl⟩
  have hy : y = ix2 r w := by blk_ext
  have he : (win0_12.blk t).view.emb y = ix2 ⟨512 * (t.val / 4) + r.val, by omega⟩ ⟨768 * (t.val % 4) + w.val, by omega⟩ := by blk_ext [e]
  rw [he]
  refine (congrArg (outsAt0 m c t.val t.isLt).2.2.2.1 hy).trans ?_
  exact u_at Q t r w

theorem total13 : (dats m 0 c).arrAt 13 (cfgs 0).N = D13 P := by
  refine (dats m 0 c).arrAt_eq_of_covers 13 _ (by decide +kernel) fun t hf y => ?_
  have e : win0_13.index t = _ := (idxB t).2.2.2.2
  have h64 := lt64 t
  blk_simp; rw [after0_13]
  obtain ⟨r, hr⟩ : ∃ r : Fin 512, r.val = (y 0 : ℕ) := ⟨⟨(y 0 : ℕ), (y 0).isLt⟩, rfl⟩
  obtain ⟨w, hw⟩ : ∃ w : Fin 768, w.val = (y 1 : ℕ) := ⟨⟨(y 1 : ℕ), (y 1).isLt⟩, rfl⟩
  have hy : y = ix2 r w := by blk_ext
  have he : (win0_13.blk t).view.emb y = ix2 ⟨512 * (t.val / 4) + r.val, by omega⟩ ⟨768 * (t.val % 4) + w.val, by omega⟩ := by blk_ext [e]
  rw [he]
  refine (congrArg (outsAt0 m c t.val t.isLt).2.2.2.2.1 hy).trans ?_
  exact a_at Q t r w

end Cert.FfnFwd2Ideal.Value
-- ==== Proof.Fwd2Eq.lean ====
module

public import proofs.«01_k».proof.Proof.Fwd2Total
public import proofs.«01_k».proof.Proof.FwdRef
public import proofs.«01_k».proof.Proof.FwdEq
public import proofs.«01_k».proof.Proof.Gen.FfnFwd2RefIdeal.Run
public import proofs.«01_k».proof.Proof.Gen.FfnFwd2Ideal.Value

@[expose] public section

set_option maxRecDepth 16384
set_option maxHeartbeats 4000000

noncomputable section

/-! Both programs leave the second layer's normed output, what it normed, its two hidden products and its hidden values. -/
namespace Cert.FfnFwd2Ideal.Value

open Idealize.ShloMosaic Idealize.ShloMosaic.TcCoe Idealize.SL.Sem
open Cert.FfnFwd2Ideal Cert.FfnFwd2Ideal.Gen Cert.Ffn Cert.Fwd

/-- The kernel leaves them. -/
theorem run_layer (m : (ℓ : Loc nD τ sig) → Buf (Elt Ideal) ℓ) (ρ : Dev nD → PrngReg) (P : Dev nD → Cert.Fwd.Args2) (Q : ∀ c, Has m (P c) c) :
    θ_run defs (onTc (τ := τ) (main (F := Ideal))) ⟨m, fun _ => 0, ρ⟩ fun r => ∀ c : Dev nD,
      r.2.mem ((c.tc : Thread nD τ).loc main_v20_0) = D9 (P c)
      ∧ r.2.mem ((c.tc : Thread nD τ).loc main_v20_1) = D10 (P c)
      ∧ r.2.mem ((c.tc : Thread nD τ).loc main_v20_2) = D11 (P c)
      ∧ r.2.mem ((c.tc : Thread nD τ).loc main_v20_3) = D12 (P c)
      ∧ r.2.mem ((c.tc : Thread nD τ).loc main_v20_4) = D13 (P c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ?_) (run_blocks (F := Ideal) m ρ)
  obtain ⟨e0, e1, e2, e3, e4, e⟩ := h c
  exact ⟨e0.trans (total9 (Q c)), e1.trans (total10 (Q c)), e2.trans (total11 (Q c)), e3.trans (total12 (Q c)), e4.trans (total13 (Q c)), e⟩

end Cert.FfnFwd2Ideal.Value

namespace Cert.FfnFwd2RefIdeal.Value

open Idealize.ShloMosaic Idealize.ShloMosaic.TcCoe Idealize.SL.Sem
open Cert.FfnFwd2RefIdeal Cert.FfnFwd2RefIdeal.Gen Cert.Ffn Cert.Fwd
open Cert.FfnFwdRefIdeal.Value (refZ refN refG refA refP holds_g holds_u holds_a holds_z holds_o holds_p eq_of_holds)

/-- The reference's arguments. -/
structure HasR (m : (ℓ : Loc nD τ sig) → Buf (Elt Ideal) ℓ) (P : Cert.Fwd.Args2) (c : Dev nD) : Prop where
  x : Holds (n := 8192) (k := 1024) (φ := .f32) (m ((c.tc : Thread nD τ).loc main_arg0)) P.x
  pl : Holds (n := 8192) (k := 256) (φ := .f32) (m ((c.tc : Thread nD τ).loc main_arg1)) P.pl
  wg : Holds (n := 1024) (k := 2816) (φ := .f32) (m ((c.tc : Thread nD τ).loc main_arg2)) P.wg
  wu : Holds (n := 1024) (k := 2816) (φ := .f32) (m ((c.tc : Thread nD τ).loc main_arg3)) P.wu
  wd : Holds (n := 2816) (k := 1024) (φ := .f32) (m ((c.tc : Thread nD τ).loc main_arg4)) P.wd
  pg : Holds (n := 1024) (k := 1024) (φ := .f32) (m ((c.tc : Thread nD τ).loc main_arg5)) P.pg
  pp : Holds (n := 256) (k := 1024) (φ := .f32) (m ((c.tc : Thread nD τ).loc main_arg6)) P.pp
  lg : Holds (n := 1) (k := 1024) (φ := .f32) (m ((c.tc : Thread nD τ).loc main_arg7)) (fun _ => P.lg)
  lb : Holds (n := 1) (k := 1024) (φ := .f32) (m ((c.tc : Thread nD τ).loc main_arg8)) (fun _ => P.lb)

/-- The gated embedding. -/
def refE (x : FVec Ideal S8192x1024 .f32) (p : FVec Ideal S8192x256 .f32) (g : FVec Ideal S1024x1024 .f32) (w : FVec Ideal S256x1024 .f32) : FVec Ideal S8192x1024 .f32 :=
  mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (Host.dotGeneral (F := Ideal) (φ₁ := .f32) (φ₂ := .f32) dot_S8192x1024_S1024x1024_S8192x1024_1_0_0_1_n_n none x g)))))
    (Host.dotGeneral (F := Ideal) (φ₁ := .f32) (φ₂ := .f32) dot_S8192x256_S256x1024_S8192x1024_1_0_0_1_n_n none p w)

theorem holds_e {P : Cert.Fwd.Args2} {x : FVec Ideal S8192x1024 .f32} {p : FVec Ideal S8192x256 .f32} {g : FVec Ideal S1024x1024 .f32} {w : FVec Ideal S256x1024 .f32}
    (hx : Holds x P.x) (hp : Holds p P.pl) (hg : Holds g P.pg) (hw : Holds w P.pp) : Holds (refE x p g w) P.e := by
  intro r k
  pointwise [refE]
  simp only [hx _ _, hp _ _, hg _ _, hw _ _]
  rfl

variable {m : (ℓ : Loc nD τ sig) → Buf (Elt Ideal) ℓ} {c : Dev nD} {P : Cert.Fwd.Args2} (Q : HasR m P c)
include Q

theorem holds_z2 : Holds (addf (refZ (m ((c.tc : Thread nD τ).loc main_arg0)) (m ((c.tc : Thread nD τ).loc main_arg2)) (m ((c.tc : Thread nD τ).loc main_arg3)) (m ((c.tc : Thread nD τ).loc main_arg4)))
    (refE (m ((c.tc : Thread nD τ).loc main_arg0)) (m ((c.tc : Thread nD τ).loc main_arg1)) (m ((c.tc : Thread nD τ).loc main_arg5)) (m ((c.tc : Thread nD τ).loc main_arg6)))) P.z := fun r w =>
  congrArg₂ (· + ·) (holds_z (P := P.toArgs) Q.x Q.wg Q.wu Q.wd r w) (holds_e (P := P) Q.x Q.pl Q.pg Q.pp r w)

theorem normed : res_main_v41 m c = Cert.FfnFwd2Ideal.Value.D10 P :=
  (show res_main_v41 m c = refN (addf (refZ (m ((c.tc : Thread nD τ).loc main_arg0)) (m ((c.tc : Thread nD τ).loc main_arg2)) (m ((c.tc : Thread nD τ).loc main_arg3)) (m ((c.tc : Thread nD τ).loc main_arg4)))
    (refE (m ((c.tc : Thread nD τ).loc main_arg0)) (m ((c.tc : Thread nD τ).loc main_arg1)) (m ((c.tc : Thread nD τ).loc main_arg5)) (m ((c.tc : Thread nD τ).loc main_arg6))))
    (m ((c.tc : Thread nD τ).loc main_arg7)) (m ((c.tc : Thread nD τ).loc main_arg8)) from rfl).trans (eq_of_holds (holds_o (holds_z2 Q) Q.lg Q.lb))

omit Q in
/-- The reference leaves them too. -/
theorem run_layer (m : (ℓ : Loc nD τ sig) → Buf (Elt Ideal) ℓ) (ρ : Dev nD → PrngReg) (P : Dev nD → Cert.Fwd.Args2) (Q : ∀ c, HasR m (P c) c) :
    θ_run defs (onTc (τ := τ) (main (F := Ideal))) ⟨m, fun _ => 0, ρ⟩ fun r => ∀ c : Dev nD,
      r.2.mem ((c.tc : Thread nD τ).loc main_v19) = Cert.FfnFwd2Ideal.Value.D9 (P c)
      ∧ r.2.mem ((c.tc : Thread nD τ).loc main_v41) = Cert.FfnFwd2Ideal.Value.D10 (P c)
      ∧ r.2.mem ((c.tc : Thread nD τ).loc main_v45) = Cert.FfnFwd2Ideal.Value.D11 (P c)
      ∧ r.2.mem ((c.tc : Thread nD τ).loc main_v49) = Cert.FfnFwd2Ideal.Value.D12 (P c)
      ∧ r.2.mem ((c.tc : Thread nD τ).loc main_v53) = Cert.FfnFwd2Ideal.Value.D13 (P c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ?_) (run (F := Ideal) m ρ)
  obtain ⟨e0, e1, e2, e3, e4, e⟩ := h c
  have q := Q c
  exact ⟨e0.trans (eq_of_holds (holds_z2 q)), e1.trans (normed q), e2.trans (eq_of_holds (holds_p (holds_g (P := (P c).toArgs) q.x q.wg))),
    e3.trans (eq_of_holds (holds_p (holds_u (P := (P c).toArgs) q.x q.wu))), e4.trans (eq_of_holds (holds_p (holds_a (P := (P c).toArgs) q.x q.wg q.wu))), e⟩

end Cert.FfnFwd2RefIdeal.Value
-- ==== Proof.lean ====
module

public import proofs.«01_k».proof.Defs
public import proofs.«01_k».proof.Proof.Gen.FfnDw.Frame
public import proofs.«01_k».proof.Proof.Gen.FfnDwIdeal.Value
public import proofs.«01_k».proof.Proof.Gen.FfnDwRefIdeal.Run
public import proofs.«01_k».proof.Proof.FfnDw
public import proofs.«01_k».proof.Proof.Gen.LruBwd
public import proofs.«01_k».proof.Proof.Gen.LruBwd.Frame.RunB
public import proofs.«01_k».proof.Proof.LruBitsFrame
public import proofs.«01_k».proof.Proof.Gen.LruBwdIdeal.Points
public import proofs.«01_k».proof.Proof.Gen.LruBwdRefIdeal.Run
public import proofs.«01_k».proof.Proof.Gen.Pre_finite_lru_args
public import proofs.«01_k».proof.Proof.LruEq
public import proofs.«01_k».proof.Proof.Gen.FfnBwd
public import proofs.«01_k».proof.Proof.FfnBitsFrame
public import proofs.«01_k».proof.Proof.Gen.FfnBwdIdeal.Points
public import proofs.«01_k».proof.Proof.Gen.FfnBwdRefIdeal.Run
public import proofs.«01_k».proof.Proof.Gen.Pre_finite_ffn
public import proofs.«01_k».proof.Proof.FfnEq
public import proofs.«01_k».proof.Proof.Gen.FfnDd.Frame
public import proofs.«01_k».proof.Proof.Gen.FfnDdIdeal.Value
public import proofs.«01_k».proof.Proof.Gen.FfnDdRefIdeal.Run
public import proofs.«01_k».proof.Proof.FfnDd
public import proofs.«01_k».proof.Proof.Gen.FfnFwd.Frame
public import proofs.«01_k».proof.Proof.Gen.FfnFwdIdeal.Value
public import proofs.«01_k».proof.Proof.Gen.FfnFwdRefIdeal.Run
public import proofs.«01_k».proof.Proof.FwdEq
public import proofs.«01_k».proof.Proof.Gen.FfnFwd2.Frame
public import proofs.«01_k».proof.Proof.Gen.FfnFwd2Ideal.Value
public import proofs.«01_k».proof.Proof.Gen.FfnFwd2RefIdeal.Run
public import proofs.«01_k».proof.Proof.Fwd2Eq
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_FfnDwRefIdeal : quiescent_FfnDwRefIdeal := fun m ρ _ =>
  (θ_run Cert.FfnDwRefIdeal.defs _ _).mono (fun r h => ⟨fun c => (h c).2, sem_eq_zero_of_no_sems (by decide) r.2⟩)
    (Cert.FfnDwRefIdeal.Value.run (F := Ideal) m ρ)

theorem algebraic_FfnDwIdeal_FfnDwRefIdeal : algebraic_FfnDwIdeal_FfnDwRefIdeal := by
  intro m ρ m' ρ' _ hagree
  refine ⟨_, Cert.FfnDwIdeal.Value.run (F := Ideal) m ρ, ?_⟩
  refine (θ_run Cert.FfnDwRefIdeal.defs _ _).mono (fun _ h c => ⟨?_, (h c).2⟩) (Cert.FfnDwRefIdeal.Value.run (F := Ideal) m' ρ')
  rw [(h c).1]
  simp only [hagree c]
  exact ((Cert.FfnDwIdeal.Value.final m c).symm.trans (Cert.FfnDwIdeal.Value.final2 m c))

/-- The recurrence's gradient kernel, at the bits. -/
theorem quiescent_LruBwd : quiescent_LruBwd := fun m ρ _ => Cert.LruBwd.Gen.frame (F := Bits) m ρ

theorem quiescent_LruBwdIdeal : quiescent_LruBwdIdeal := fun m ρ _ => Cert.LruBwdIdeal.Gen.frame (F := Ideal) m ρ

theorem quiescent_LruBwdRefIdeal : quiescent_LruBwdRefIdeal := fun m ρ _ => by
  refine (θ_run Cert.LruBwdRefIdeal.defs _ _).mono (fun r h => ⟨fun c => ?_, sem_eq_zero_of_no_sems (by decide) r.2⟩)
    (Cert.LruBwdRefIdeal.Value.run (F := Ideal) m ρ)
  exact (h c).2.2.2.2.2.2.2.2

theorem algebraic_LruBwd : algebraic_LruBwdIdeal_LruBwdRefIdeal_pre_finite_lru_args := by
  intro m ρ m' ρ' hpre hagree
  have QR : ∀ c, Cert.LruBwdRefIdeal.Value.HasR (StableHlo.launchContents m' c) (Cert.LruBwdIdeal.Value.args m c) := fun c => by
    obtain ⟨h0, h1, h2, h3, h4, h5, h6, h7, h8⟩ := hagree c
    exact Cert.LruBwdIdeal.Value.hasR (hpre c) h0 h1 h2 h3 h4 h5 h6 h7 h8
  have Q : ∀ c, Cert.LruBwdIdeal.Value.Has m (Cert.LruBwdIdeal.Value.args m c) c := fun c => by
    obtain ⟨h0, h1, h2, h3, h4, h5, h6, h7, h8⟩ := hagree c
    exact Cert.LruBwdIdeal.Value.has h0 h1 h2 h3 h4 h5 h6 h7 h8 (QR c)
  exact ⟨_, _, _, _, _, _, _, _, Cert.LruBwdIdeal.Value.run_grads m ρ _ Q, Cert.LruBwdRefIdeal.Value.run_grads m' ρ' _ QR⟩

/-- The feed-forward layer's data gradient kernel, at the bits. -/
theorem quiescent_FfnBwd : quiescent_FfnBwd := fun m ρ _ => Cert.FfnBwd.Gen.frame (F := Bits) m ρ

theorem quiescent_FfnBwdIdeal : quiescent_FfnBwdIdeal := fun m ρ _ => Cert.FfnBwdIdeal.Gen.frame (F := Ideal) m ρ

theorem quiescent_FfnBwdRefIdeal : quiescent_FfnBwdRefIdeal := fun m ρ _ => by
  refine (θ_run Cert.FfnBwdRefIdeal.defs _ _).mono (fun r h => ⟨fun c => ?_, sem_eq_zero_of_no_sems (by decide) r.2⟩)
    (Cert.FfnBwdRefIdeal.Value.run (F := Ideal) m ρ)
  exact (h c).2.2.2.2.2.2

/-- The kernel's six gradients are those of the feed-forward layer with its norm. -/
theorem algebraic_FfnBwd : algebraic_FfnBwdIdeal_FfnBwdRefIdeal_pre_finite_ffn := by
  intro m ρ m' ρ' hpre hagree
  have A := fun c => Cert.FfnBwdIdeal.Value.is_args (hpre c)
  have Q : ∀ c, Cert.FfnBwdIdeal.Value.Has m (Cert.FfnBwdIdeal.Value.args m c) c := fun c =>
    Cert.FfnBwdIdeal.Value.has_of (A c).1 (A c).2.1 (A c).2.2.1 (A c).2.2.2.1 (A c).2.2.2.2.1 (A c).2.2.2.2.2
  have QR : ∀ c, Cert.FfnBwdRefIdeal.Value.HasR (StableHlo.launchContents m' c) (Cert.FfnBwdIdeal.Value.args m c) := fun c => by
    obtain ⟨h0, h1, h2, h3, h4, h5⟩ := hagree c
    obtain ⟨a0, a1, a2, a3, a4, a5⟩ := A c
    exact ⟨fun r w => (congrFun h0 _).trans (a0 r w), fun r w => (congrFun h1 _).trans (a1 r w), fun r w => (congrFun h2 _).trans (a2 r w),
      fun r w => (congrFun h3 _).trans (a3 r w), fun r w => (congrFun h4 _).trans (a4 r w), fun r w => (congrFun h5 _).trans (a5 r w)⟩
  exact ⟨_, _, _, _, _, _, Cert.FfnBwdIdeal.Value.run_grads m ρ _ Q, Cert.FfnBwdRefIdeal.Value.run_grads m' ρ' _ QR⟩

theorem quiescent_FfnDdRefIdeal : quiescent_FfnDdRefIdeal := fun m ρ _ =>
  (θ_run Cert.FfnDdRefIdeal.defs _ _).mono (fun r h => ⟨fun c => (h c).2, sem_eq_zero_of_no_sems (by decide) r.2⟩)
    (Cert.FfnDdRefIdeal.Value.run (F := Ideal) m ρ)

theorem algebraic_FfnDdIdeal_FfnDdRefIdeal : algebraic_FfnDdIdeal_FfnDdRefIdeal := by
  intro m ρ m' ρ' _ hagree
  refine ⟨_, Cert.FfnDdIdeal.Value.run (F := Ideal) m ρ, ?_⟩
  refine (θ_run Cert.FfnDdRefIdeal.defs _ _).mono (fun _ h c => ⟨?_, (h c).2⟩) (Cert.FfnDdRefIdeal.Value.run (F := Ideal) m' ρ')
  rw [(h c).1]
  simp only [hagree c]
  exact ((Cert.FfnDdIdeal.Value.final m c).symm.trans (Cert.FfnDdIdeal.Value.final2 m c))

theorem quiescent_FfnFwdRefIdeal : quiescent_FfnFwdRefIdeal := fun m ρ _ => by
  refine (θ_run Cert.FfnFwdRefIdeal.defs _ _).mono (fun r h => ⟨fun c => ?_, sem_eq_zero_of_no_sems (by decide) r.2⟩)
    (Cert.FfnFwdRefIdeal.Value.run (F := Ideal) m ρ)
  exact (h c).2.2.2.2.2

/-- The feed-forward layer's five results are the reference's. -/
theorem algebraic_FfnFwd : algebraic_FfnFwdIdeal_FfnFwdRefIdeal := by
  intro m ρ m' ρ' _ hagree
  have Q : ∀ c, Cert.FfnFwdIdeal.Value.Has m (Cert.FfnFwdIdeal.Value.args m c) c := fun c => Cert.FfnFwdIdeal.Value.has m c
  have QR : ∀ c, Cert.FfnFwdRefIdeal.Value.HasR m' (Cert.FfnFwdIdeal.Value.args m c) c := fun c => by
    obtain ⟨h0, h1, h2, h3, h4, h5⟩ := hagree c
    exact ⟨fun r w => (congrFun h0 _).trans (Cert.Fwd.holds_ext (Cert.FfnFwdIdeal.Value.M0 m c) r w), fun r w => (congrFun h1 _).trans (Cert.Fwd.holds_ext (Cert.FfnFwdIdeal.Value.M1 m c) r w),
      fun r w => (congrFun h2 _).trans (Cert.Fwd.holds_ext (Cert.FfnFwdIdeal.Value.M2 m c) r w), fun r w => (congrFun h3 _).trans (Cert.Fwd.holds_ext (Cert.FfnFwdIdeal.Value.M3 m c) r w),
      fun r w => (congrFun h4 _).trans (Subsingleton.elim (0 : Fin 1) r ▸ Cert.Fwd.holds_ext (Cert.FfnFwdIdeal.Value.M4 m c) 0 w),
      fun r w => (congrFun h5 _).trans (Subsingleton.elim (0 : Fin 1) r ▸ Cert.Fwd.holds_ext (Cert.FfnFwdIdeal.Value.M5 m c) 0 w)⟩
  exact ⟨_, _, _, _, _, Cert.FfnFwdIdeal.Value.run_layer m ρ _ Q, Cert.FfnFwdRefIdeal.Value.run_layer m' ρ' _ QR⟩

theorem quiescent_FfnFwd2RefIdeal : quiescent_FfnFwd2RefIdeal := fun m ρ _ => by
  refine (θ_run Cert.FfnFwd2RefIdeal.defs _ _).mono (fun r h => ⟨fun c => ?_, sem_eq_zero_of_no_sems (by decide) r.2⟩)
    (Cert.FfnFwd2RefIdeal.Value.run (F := Ideal) m ρ)
  exact (h c).2.2.2.2.2

/-- The second feed-forward layer's five results are the reference's. -/
theorem algebraic_FfnFwd2 : algebraic_FfnFwd2Ideal_FfnFwd2RefIdeal := by
  intro m ρ m' ρ' _ hagree
  have Q : ∀ c, Cert.FfnFwd2Ideal.Value.Has m (Cert.FfnFwd2Ideal.Value.args m c) c := fun c => Cert.FfnFwd2Ideal.Value.has m c
  have QR : ∀ c, Cert.FfnFwd2RefIdeal.Value.HasR m' (Cert.FfnFwd2Ideal.Value.args m c) c := fun c => by
    obtain ⟨h0, h1, h2, h3, h4, h5, h6, h7, h8⟩ := hagree c
    exact ⟨fun r w => (congrFun h0 _).trans (Cert.Fwd.holds_ext (Cert.FfnFwd2Ideal.Value.M0 m c) r w),
      fun r w => (congrFun h1 _).trans (Cert.Fwd.holds_ext (Cert.FfnFwd2Ideal.Value.M1 m c) r w),
      fun r w => (congrFun h2 _).trans (Cert.Fwd.holds_ext (Cert.FfnFwd2Ideal.Value.M2 m c) r w),
      fun r w => (congrFun h3 _).trans (Cert.Fwd.holds_ext (Cert.FfnFwd2Ideal.Value.M3 m c) r w),
      fun r w => (congrFun h4 _).trans (Cert.Fwd.holds_ext (Cert.FfnFwd2Ideal.Value.M4 m c) r w),
      fun r w => (congrFun h5 _).trans (Cert.Fwd.holds_ext (Cert.FfnFwd2Ideal.Value.M5 m c) r w),
      fun r w => (congrFun h6 _).trans (Cert.Fwd.holds_ext (Cert.FfnFwd2Ideal.Value.M6 m c) r w),
      fun r w => (congrFun h7 _).trans (Subsingleton.elim (0 : Fin 1) r ▸ Cert.Fwd.holds_ext (Cert.FfnFwd2Ideal.Value.M7 m c) 0 w),
      fun r w => (congrFun h8 _).trans (Subsingleton.elim (0 : Fin 1) r ▸ Cert.Fwd.holds_ext (Cert.FfnFwd2Ideal.Value.M8 m c) 0 w)⟩
  exact ⟨_, _, _, _, _, Cert.FfnFwd2Ideal.Value.run_layer m ρ _ Q, Cert.FfnFwd2RefIdeal.Value.run_layer m' ρ' _ QR⟩

theorem claim : Cert.Claim := by
  refine ⟨Cert.FfnDw.Gen.facts, Cert.FfnDwIdeal.Gen.facts, Cert.FfnDwRefIdeal.Gen.facts, Cert.LruBwd.Gen.facts, Cert.LruBwdIdeal.Gen.facts,
    Cert.LruBwdRefIdeal.Gen.facts, Cert.FfnBwd.Gen.facts, Cert.FfnBwdIdeal.Gen.facts, Cert.FfnBwdRefIdeal.Gen.facts,
    Cert.FfnDd.Gen.facts, Cert.FfnDdIdeal.Gen.facts, Cert.FfnDdRefIdeal.Gen.facts, Cert.FfnFwd.Gen.facts, Cert.FfnFwdIdeal.Gen.facts, Cert.FfnFwdRefIdeal.Gen.facts,
    Cert.FfnFwd2.Gen.facts, Cert.FfnFwd2Ideal.Gen.facts, Cert.FfnFwd2RefIdeal.Gen.facts,
    Cert.Pre_finite_lru_args.Gen.facts, Cert.Pre_finite_ffn.Gen.facts, ?_⟩
  exact ⟨fun m ρ _ => Cert.FfnDw.Gen.frame m ρ, fun m ρ _ => Cert.FfnDwIdeal.Gen.frame m ρ, quiescent_FfnDwRefIdeal,
    quiescent_LruBwd, quiescent_LruBwdIdeal, fun m ρ _ => quiescent_LruBwdIdeal m ρ trivial, quiescent_LruBwdRefIdeal,
    fun m ρ _ => quiescent_LruBwdRefIdeal m ρ trivial,
    quiescent_FfnBwd, quiescent_FfnBwdIdeal, fun m ρ _ => quiescent_FfnBwdIdeal m ρ trivial, quiescent_FfnBwdRefIdeal,
    fun m ρ _ => quiescent_FfnBwdRefIdeal m ρ trivial,
    fun m ρ _ => Cert.FfnDd.Gen.frame m ρ, fun m ρ _ => Cert.FfnDdIdeal.Gen.frame m ρ, quiescent_FfnDdRefIdeal,
    fun m ρ _ => Cert.FfnFwd.Gen.frame m ρ, fun m ρ _ => Cert.FfnFwdIdeal.Gen.frame m ρ, quiescent_FfnFwdRefIdeal,
    fun m ρ _ => Cert.FfnFwd2.Gen.frame m ρ, fun m ρ _ => Cert.FfnFwd2Ideal.Gen.frame m ρ, quiescent_FfnFwd2RefIdeal,
    (trivial : preserves_FfnDw_FfnDwIdeal), algebraic_FfnDwIdeal_FfnDwRefIdeal,
    (trivial : preserves_LruBwd_LruBwdIdeal), algebraic_LruBwd, (trivial : preserves_FfnBwd_FfnBwdIdeal), algebraic_FfnBwd,
    (trivial : preserves_FfnDd_FfnDdIdeal), algebraic_FfnDdIdeal_FfnDdRefIdeal,
    (trivial : preserves_FfnFwd_FfnFwdIdeal), algebraic_FfnFwd,
    (trivial : preserves_FfnFwd2_FfnFwd2Ideal), algebraic_FfnFwd2⟩

end Cert.Proof

end
